-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DInProj (m : (ℓ : Loc Cert.DInProj.nD Cert.DInProj.τ Cert.DInProj.sig) → Buf (Elt Bits) ℓ) : Prop :=
  True

def Pre_DInProjIdeal (m : (ℓ : Loc Cert.DInProjIdeal.nD Cert.DInProjIdeal.τ Cert.DInProjIdeal.sig) → Buf (Elt Ideal) ℓ) : Prop :=
  True

def Pre_DInProjRefIdeal (m : (ℓ : Loc Cert.DInProjRefIdeal.nD Cert.DInProjRefIdeal.τ Cert.DInProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_GateOut (m : (ℓ : Loc Cert.GateOut.nD Cert.GateOut.τ Cert.GateOut.sig) → Buf (Elt Bits) ℓ) : Prop :=
  True

def Pre_GateOutIdeal (m : (ℓ : Loc Cert.GateOutIdeal.nD Cert.GateOutIdeal.τ Cert.GateOutIdeal.sig) → Buf (Elt Ideal) ℓ) : Prop :=
  True

def Pre_GateOutRefIdeal (m : (ℓ : Loc Cert.GateOutRefIdeal.nD Cert.GateOutRefIdeal.τ Cert.GateOutRefIdeal.sig) → Buf (Elt Ideal) ℓ) : Prop :=
  True

def Pre_DGate (m : (ℓ : Loc Cert.DGate.nD Cert.DGate.τ Cert.DGate.sig) → Buf (Elt Bits) ℓ) : Prop :=
  True

def Pre_DGateIdeal (m : (ℓ : Loc Cert.DGateIdeal.nD Cert.DGateIdeal.τ Cert.DGateIdeal.sig) → Buf (Elt Ideal) ℓ) : Prop :=
  True

def Pre_DGateIdeal_finite_gate [hPre_finite_gate : Cert.Pre_finite_gate.Facts] (m : (ℓ : Loc Cert.DGateIdeal.nD Cert.DGateIdeal.τ Cert.DGateIdeal.sig) → Buf (Elt Ideal) ℓ) : Prop :=
  ∀ c : Dev Cert.DGateIdeal.nD,
    (Cert.Pre_finite_gate.fn (F := Ideal) (m ((c.tc : Thread Cert.DGateIdeal.nD Cert.DGateIdeal.τ).loc Cert.DGateIdeal.main_arg0)) (m ((c.tc : Thread Cert.DGateIdeal.nD Cert.DGateIdeal.τ).loc Cert.DGateIdeal.main_arg1)) (m ((c.tc : Thread Cert.DGateIdeal.nD Cert.DGateIdeal.τ).loc Cert.DGateIdeal.main_arg2)) (m ((c.tc : Thread Cert.DGateIdeal.nD Cert.DGateIdeal.τ).loc Cert.DGateIdeal.main_arg3))) = (fun _ => 1#1)

def Pre_DGateRefIdeal (m : (ℓ : Loc Cert.DGateRefIdeal.nD Cert.DGateRefIdeal.τ Cert.DGateRefIdeal.sig) → Buf (Elt Ideal) ℓ) : Prop :=
  True

def Pre_DGateRefIdeal_finite_gate [hPre_finite_gate : Cert.Pre_finite_gate.Facts] (m : (ℓ : Loc Cert.DGateRefIdeal.nD Cert.DGateRefIdeal.τ Cert.DGateRefIdeal.sig) → Buf (Elt Ideal) ℓ) : Prop :=
  ∀ c : Dev Cert.DGateRefIdeal.nD,
    (Cert.Pre_finite_gate.fn (F := Ideal) (m ((c.tc : Thread Cert.DGateRefIdeal.nD Cert.DGateRefIdeal.τ).loc Cert.DGateRefIdeal.main_arg0)) (m ((c.tc : Thread Cert.DGateRefIdeal.nD Cert.DGateRefIdeal.τ).loc Cert.DGateRefIdeal.main_arg1)) (m ((c.tc : Thread Cert.DGateRefIdeal.nD Cert.DGateRefIdeal.τ).loc Cert.DGateRefIdeal.main_arg2)) (m ((c.tc : Thread Cert.DGateRefIdeal.nD Cert.DGateRefIdeal.τ).loc Cert.DGateRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3)
      ∧ r.2.mem ((c.tc : Thread Cert.DwIn.nD Cert.DwIn.τ).loc Cert.DwIn.main_arg4) = m ((c.tc : Thread Cert.DwIn.nD Cert.DwIn.τ).loc Cert.DwIn.main_arg4)
      ∧ r.2.mem ((c.tc : Thread Cert.DwIn.nD Cert.DwIn.τ).loc Cert.DwIn.main_arg5) = m ((c.tc : Thread Cert.DwIn.nD Cert.DwIn.τ).loc Cert.DwIn.main_arg5)
      ∧ r.2.mem ((c.tc : Thread Cert.DwIn.nD Cert.DwIn.τ).loc Cert.DwIn.main_arg6) = m ((c.tc : Thread Cert.DwIn.nD Cert.DwIn.τ).loc Cert.DwIn.main_arg6)
      ∧ r.2.mem ((c.tc : Thread Cert.DwIn.nD Cert.DwIn.τ).loc Cert.DwIn.main_arg7) = m ((c.tc : Thread Cert.DwIn.nD Cert.DwIn.τ).loc Cert.DwIn.main_arg7)
      ∧ r.2.mem ((c.tc : Thread Cert.DwIn.nD Cert.DwIn.τ).loc Cert.DwIn.main_arg8) = m ((c.tc : Thread Cert.DwIn.nD Cert.DwIn.τ).loc Cert.DwIn.main_arg8)
      ∧ r.2.mem ((c.tc : Thread Cert.DwIn.nD Cert.DwIn.τ).loc Cert.DwIn.main_arg9) = m ((c.tc : Thread Cert.DwIn.nD Cert.DwIn.τ).loc Cert.DwIn.main_arg9)
      ∧ r.2.mem ((c.tc : Thread Cert.DwIn.nD Cert.DwIn.τ).loc Cert.DwIn.main_arg10) = m ((c.tc : Thread Cert.DwIn.nD Cert.DwIn.τ).loc Cert.DwIn.main_arg10))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
      ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5)
      ∧ r.2.mem ((c.tc : Thread Cert.DwInIdeal.nD Cert.DwInIdeal.τ).loc Cert.DwInIdeal.main_arg6) = m ((c.tc : Thread Cert.DwInIdeal.nD Cert.DwInIdeal.τ).loc Cert.DwInIdeal.main_arg6)
      ∧ r.2.mem ((c.tc : Thread Cert.DwInIdeal.nD Cert.DwInIdeal.τ).loc Cert.DwInIdeal.main_arg7) = m ((c.tc : Thread Cert.DwInIdeal.nD Cert.DwInIdeal.τ).loc Cert.DwInIdeal.main_arg7)
      ∧ r.2.mem ((c.tc : Thread Cert.DwInIdeal.nD Cert.DwInIdeal.τ).loc Cert.DwInIdeal.main_arg8) = m ((c.tc : Thread Cert.DwInIdeal.nD Cert.DwInIdeal.τ).loc Cert.DwInIdeal.main_arg8)
      ∧ r.2.mem ((c.tc : Thread Cert.DwInIdeal.nD Cert.DwInIdeal.τ).loc Cert.DwInIdeal.main_arg9) = m ((c.tc : Thread Cert.DwInIdeal.nD Cert.DwInIdeal.τ).loc Cert.DwInIdeal.main_arg9)
      ∧ r.2.mem ((c.tc : Thread Cert.DwInIdeal.nD Cert.DwInIdeal.τ).loc Cert.DwInIdeal.main_arg10) = m ((c.tc : Thread Cert.DwInIdeal.nD Cert.DwInIdeal.τ).loc Cert.DwInIdeal.main_arg10))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3)
      ∧ r.2.mem ((c.tc : Thread Cert.DwInRefIdeal.nD Cert.DwInRefIdeal.τ).loc Cert.DwInRefIdeal.main_arg4) = m ((c.tc : Thread Cert.DwInRefIdeal.nD Cert.DwInRefIdeal.τ).loc Cert.DwInRefIdeal.main_arg4)
      ∧ r.2.mem ((c.tc : Thread Cert.DwInRefIdeal.nD Cert.DwInRefIdeal.τ).loc Cert.DwInRefIdeal.main_arg5) = m ((c.tc : Thread Cert.DwInRefIdeal.nD Cert.DwInRefIdeal.τ).loc Cert.DwInRefIdeal.main_arg5)
      ∧ r.2.mem ((c.tc : Thread Cert.DwInRefIdeal.nD Cert.DwInRefIdeal.τ).loc Cert.DwInRefIdeal.main_arg6) = m ((c.tc : Thread Cert.DwInRefIdeal.nD Cert.DwInRefIdeal.τ).loc Cert.DwInRefIdeal.main_arg6)
      ∧ r.2.mem ((c.tc : Thread Cert.DwInRefIdeal.nD Cert.DwInRefIdeal.τ).loc Cert.DwInRefIdeal.main_arg7) = m ((c.tc : Thread Cert.DwInRefIdeal.nD Cert.DwInRefIdeal.τ).loc Cert.DwInRefIdeal.main_arg7)
      ∧ r.2.mem ((c.tc : Thread Cert.DwInRefIdeal.nD Cert.DwInRefIdeal.τ).loc Cert.DwInRefIdeal.main_arg8) = m ((c.tc : Thread Cert.DwInRefIdeal.nD Cert.DwInRefIdeal.τ).loc Cert.DwInRefIdeal.main_arg8)
      ∧ r.2.mem ((c.tc : Thread Cert.DwInRefIdeal.nD Cert.DwInRefIdeal.τ).loc Cert.DwInRefIdeal.main_arg9) = m ((c.tc : Thread Cert.DwInRefIdeal.nD Cert.DwInRefIdeal.τ).loc Cert.DwInRefIdeal.main_arg9)
      ∧ r.2.mem ((c.tc : Thread Cert.DwInRefIdeal.nD Cert.DwInRefIdeal.τ).loc Cert.DwInRefIdeal.main_arg10) = m ((c.tc : Thread Cert.DwInRefIdeal.nD Cert.DwInRefIdeal.τ).loc Cert.DwInRefIdeal.main_arg10))
      ∧ r.2.sem = fun _ => 0)

def quiescent_DInProj [hDInProj : Cert.DInProj.Facts] : Prop :=
  ∀ (m : (ℓ : Loc Cert.DInProj.nD Cert.DInProj.τ Cert.DInProj.sig) → Buf (Elt Bits) ℓ) (g : Dev Cert.DInProj.nD → PrngReg), Pre_DInProj m →
    θ_run (Cert.DInProj.defs (F := Bits)) (onTc (τ := Cert.DInProj.τ) (Cert.DInProj.main (F := Bits))) ⟨m, fun _ => 0, g⟩ (fun r => (∀ c : Dev Cert.DInProj.nD,
      r.2.mem ((c.tc : Thread Cert.DInProj.nD Cert.DInProj.τ).loc Cert.DInProj.main_arg0) = m ((c.tc : Thread Cert.DInProj.nD Cert.DInProj.τ).loc Cert.DInProj.main_arg0)
      ∧ r.2.mem ((c.tc : Thread Cert.DInProj.nD Cert.DInProj.τ).loc Cert.DInProj.main_arg1) = m ((c.tc : Thread Cert.DInProj.nD Cert.DInProj.τ).loc Cert.DInProj.main_arg1)
      ∧ r.2.mem ((c.tc : Thread Cert.DInProj.nD Cert.DInProj.τ).loc Cert.DInProj.main_arg2) = m ((c.tc : Thread Cert.DInProj.nD Cert.DInProj.τ).loc Cert.DInProj.main_arg2))
      ∧ r.2.sem = fun _ => 0)

def quiescent_DInProjIdeal [hDInProjIdeal : Cert.DInProjIdeal.Facts] : Prop :=
  ∀ (m : (ℓ : Loc Cert.DInProjIdeal.nD Cert.DInProjIdeal.τ Cert.DInProjIdeal.sig) → Buf (Elt Ideal) ℓ) (g : Dev Cert.DInProjIdeal.nD → PrngReg), Pre_DInProjIdeal m →
    θ_run (Cert.DInProjIdeal.defs (F := Ideal)) (onTc (τ := Cert.DInProjIdeal.τ) (Cert.DInProjIdeal.main (F := Ideal))) ⟨m, fun _ => 0, g⟩ (fun r => (∀ c : Dev Cert.DInProjIdeal.nD,
      r.2.mem ((c.tc : Thread Cert.DInProjIdeal.nD Cert.DInProjIdeal.τ).loc Cert.DInProjIdeal.main_arg0) = m ((c.tc : Thread Cert.DInProjIdeal.nD Cert.DInProjIdeal.τ).loc Cert.DInProjIdeal.main_arg0)
      ∧ r.2.mem ((c.tc : Thread Cert.DInProjIdeal.nD Cert.DInProjIdeal.τ).loc Cert.DInProjIdeal.main_arg1) = m ((c.tc : Thread Cert.DInProjIdeal.nD Cert.DInProjIdeal.τ).loc Cert.DInProjIdeal.main_arg1)
      ∧ r.2.mem ((c.tc : Thread Cert.DInProjIdeal.nD Cert.DInProjIdeal.τ).loc Cert.DInProjIdeal.main_arg2) = m ((c.tc : Thread Cert.DInProjIdeal.nD Cert.DInProjIdeal.τ).loc Cert.DInProjIdeal.main_arg2))
      ∧ r.2.sem = fun _ => 0)

def quiescent_DInProjRefIdeal [hDInProjRefIdeal : Cert.DInProjRefIdeal.Facts] : Prop :=
  ∀ (m : (ℓ : Loc Cert.DInProjRefIdeal.nD Cert.DInProjRefIdeal.τ Cert.DInProjRefIdeal.sig) → Buf (Elt Ideal) ℓ) (g : Dev Cert.DInProjRefIdeal.nD → PrngReg), Pre_DInProjRefIdeal m →
    θ_run (Cert.DInProjRefIdeal.defs (F := Ideal)) (onTc (τ := Cert.DInProjRefIdeal.τ) (Cert.DInProjRefIdeal.main (F := Ideal))) ⟨m, fun _ => 0, g⟩ (fun r => (∀ c : Dev Cert.DInProjRefIdeal.nD,
      r.2.mem ((c.tc : Thread Cert.DInProjRefIdeal.nD Cert.DInProjRefIdeal.τ).loc Cert.DInProjRefIdeal.main_arg0) = m ((c.tc : Thread Cert.DInProjRefIdeal.nD Cert.DInProjRefIdeal.τ).loc Cert.DInProjRefIdeal.main_arg0)
      ∧ r.2.mem ((c.tc : Thread Cert.DInProjRefIdeal.nD Cert.DInProjRefIdeal.τ).loc Cert.DInProjRefIdeal.main_arg1) = m ((c.tc : Thread Cert.DInProjRefIdeal.nD Cert.DInProjRefIdeal.τ).loc Cert.DInProjRefIdeal.main_arg1)
      ∧ r.2.mem ((c.tc : Thread Cert.DInProjRefIdeal.nD Cert.DInProjRefIdeal.τ).loc Cert.DInProjRefIdeal.main_arg2) = m ((c.tc : Thread Cert.DInProjRefIdeal.nD Cert.DInProjRefIdeal.τ).loc Cert.DInProjRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_GateOut [hGateOut : Cert.GateOut.Facts] : Prop :=
  ∀ (m : (ℓ : Loc Cert.GateOut.nD Cert.GateOut.τ Cert.GateOut.sig) → Buf (Elt Bits) ℓ) (g : Dev Cert.GateOut.nD → PrngReg), Pre_GateOut m →
    θ_run (Cert.GateOut.defs (F := Bits)) (onTc (τ := Cert.GateOut.τ) (Cert.GateOut.main (F := Bits))) ⟨m, fun _ => 0, g⟩ (fun r => (∀ c : Dev Cert.GateOut.nD,
      r.2.mem ((c.tc : Thread Cert.GateOut.nD Cert.GateOut.τ).loc Cert.GateOut.main_arg0) = m ((c.tc : Thread Cert.GateOut.nD Cert.GateOut.τ).loc Cert.GateOut.main_arg0)
      ∧ r.2.mem ((c.tc : Thread Cert.GateOut.nD Cert.GateOut.τ).loc Cert.GateOut.main_arg1) = m ((c.tc : Thread Cert.GateOut.nD Cert.GateOut.τ).loc Cert.GateOut.main_arg1)
      ∧ r.2.mem ((c.tc : Thread Cert.GateOut.nD Cert.GateOut.τ).loc Cert.GateOut.main_arg2) = m ((c.tc : Thread Cert.GateOut.nD Cert.GateOut.τ).loc Cert.GateOut.main_arg2)
      ∧ r.2.mem ((c.tc : Thread Cert.GateOut.nD Cert.GateOut.τ).loc Cert.GateOut.main_arg3) = m ((c.tc : Thread Cert.GateOut.nD Cert.GateOut.τ).loc Cert.GateOut.main_arg3)
      ∧ r.2.mem ((c.tc : Thread Cert.GateOut.nD Cert.GateOut.τ).loc Cert.GateOut.main_arg4) = m ((c.tc : Thread Cert.GateOut.nD Cert.GateOut.τ).loc Cert.GateOut.main_arg4)
      ∧ r.2.mem ((c.tc : Thread Cert.GateOut.nD Cert.GateOut.τ).loc Cert.GateOut.main_arg5) = m ((c.tc : Thread Cert.GateOut.nD Cert.GateOut.τ).loc Cert.GateOut.main_arg5)
      ∧ r.2.mem ((c.tc : Thread Cert.GateOut.nD Cert.GateOut.τ).loc Cert.GateOut.main_arg6) = m ((c.tc : Thread Cert.GateOut.nD Cert.GateOut.τ).loc Cert.GateOut.main_arg6)
      ∧ r.2.mem ((c.tc : Thread Cert.GateOut.nD Cert.GateOut.τ).loc Cert.GateOut.main_arg7) = m ((c.tc : Thread Cert.GateOut.nD Cert.GateOut.τ).loc Cert.GateOut.main_arg7)
      ∧ r.2.mem ((c.tc : Thread Cert.GateOut.nD Cert.GateOut.τ).loc Cert.GateOut.main_arg8) = m ((c.tc : Thread Cert.GateOut.nD Cert.GateOut.τ).loc Cert.GateOut.main_arg8))
      ∧ r.2.sem = fun _ => 0)

def quiescent_GateOutIdeal [hGateOutIdeal : Cert.GateOutIdeal.Facts] : Prop :=
  ∀ (m : (ℓ : Loc Cert.GateOutIdeal.nD Cert.GateOutIdeal.τ Cert.GateOutIdeal.sig) → Buf (Elt Ideal) ℓ) (g : Dev Cert.GateOutIdeal.nD → PrngReg), Pre_GateOutIdeal m →
    θ_run (Cert.GateOutIdeal.defs (F := Ideal)) (onTc (τ := Cert.GateOutIdeal.τ) (Cert.GateOutIdeal.main (F := Ideal))) ⟨m, fun _ => 0, g⟩ (fun r => (∀ c : Dev Cert.GateOutIdeal.nD,
      r.2.mem ((c.tc : Thread Cert.GateOutIdeal.nD Cert.GateOutIdeal.τ).loc Cert.GateOutIdeal.main_arg0) = m ((c.tc : Thread Cert.GateOutIdeal.nD Cert.GateOutIdeal.τ).loc Cert.GateOutIdeal.main_arg0)
      ∧ r.2.mem ((c.tc : Thread Cert.GateOutIdeal.nD Cert.GateOutIdeal.τ).loc Cert.GateOutIdeal.main_arg1) = m ((c.tc : Thread Cert.GateOutIdeal.nD Cert.GateOutIdeal.τ).loc Cert.GateOutIdeal.main_arg1)
      ∧ r.2.mem ((c.tc : Thread Cert.GateOutIdeal.nD Cert.GateOutIdeal.τ).loc Cert.GateOutIdeal.main_arg2) = m ((c.tc : Thread Cert.GateOutIdeal.nD Cert.GateOutIdeal.τ).loc Cert.GateOutIdeal.main_arg2)
      ∧ r.2.mem ((c.tc : Thread Cert.GateOutIdeal.nD Cert.GateOutIdeal.τ).loc Cert.GateOutIdeal.main_arg3) = m ((c.tc : Thread Cert.GateOutIdeal.nD Cert.GateOutIdeal.τ).loc Cert.GateOutIdeal.main_arg3)
      ∧ r.2.mem ((c.tc : Thread Cert.GateOutIdeal.nD Cert.GateOutIdeal.τ).loc Cert.GateOutIdeal.main_arg4) = m ((c.tc : Thread Cert.GateOutIdeal.nD Cert.GateOutIdeal.τ).loc Cert.GateOutIdeal.main_arg4)
      ∧ r.2.mem ((c.tc : Thread Cert.GateOutIdeal.nD Cert.GateOutIdeal.τ).loc Cert.GateOutIdeal.main_arg5) = m ((c.tc : Thread Cert.GateOutIdeal.nD Cert.GateOutIdeal.τ).loc Cert.GateOutIdeal.main_arg5)
      ∧ r.2.mem ((c.tc : Thread Cert.GateOutIdeal.nD Cert.GateOutIdeal.τ).loc Cert.GateOutIdeal.main_arg6) = m ((c.tc : Thread Cert.GateOutIdeal.nD Cert.GateOutIdeal.τ).loc Cert.GateOutIdeal.main_arg6)
      ∧ r.2.mem ((c.tc : Thread Cert.GateOutIdeal.nD Cert.GateOutIdeal.τ).loc Cert.GateOutIdeal.main_arg7) = m ((c.tc : Thread Cert.GateOutIdeal.nD Cert.GateOutIdeal.τ).loc Cert.GateOutIdeal.main_arg7)
      ∧ r.2.mem ((c.tc : Thread Cert.GateOutIdeal.nD Cert.GateOutIdeal.τ).loc Cert.GateOutIdeal.main_arg8) = m ((c.tc : Thread Cert.GateOutIdeal.nD Cert.GateOutIdeal.τ).loc Cert.GateOutIdeal.main_arg8))
      ∧ r.2.sem = fun _ => 0)

def quiescent_GateOutRefIdeal [hGateOutRefIdeal : Cert.GateOutRefIdeal.Facts] : Prop :=
  ∀ (m : (ℓ : Loc Cert.GateOutRefIdeal.nD Cert.GateOutRefIdeal.τ Cert.GateOutRefIdeal.sig) → Buf (Elt Ideal) ℓ) (g : Dev Cert.GateOutRefIdeal.nD → PrngReg), Pre_GateOutRefIdeal m →
    θ_run (Cert.GateOutRefIdeal.defs (F := Ideal)) (onTc (τ := Cert.GateOutRefIdeal.τ) (Cert.GateOutRefIdeal.main (F := Ideal))) ⟨m, fun _ => 0, g⟩ (fun r => (∀ c : Dev Cert.GateOutRefIdeal.nD,
      r.2.mem ((c.tc : Thread Cert.GateOutRefIdeal.nD Cert.GateOutRefIdeal.τ).loc Cert.GateOutRefIdeal.main_arg0) = m ((c.tc : Thread Cert.GateOutRefIdeal.nD Cert.GateOutRefIdeal.τ).loc Cert.GateOutRefIdeal.main_arg0)
      ∧ r.2.mem ((c.tc : Thread Cert.GateOutRefIdeal.nD Cert.GateOutRefIdeal.τ).loc Cert.GateOutRefIdeal.main_arg1) = m ((c.tc : Thread Cert.GateOutRefIdeal.nD Cert.GateOutRefIdeal.τ).loc Cert.GateOutRefIdeal.main_arg1)
      ∧ r.2.mem ((c.tc : Thread Cert.GateOutRefIdeal.nD Cert.GateOutRefIdeal.τ).loc Cert.GateOutRefIdeal.main_arg2) = m ((c.tc : Thread Cert.GateOutRefIdeal.nD Cert.GateOutRefIdeal.τ).loc Cert.GateOutRefIdeal.main_arg2)
      ∧ r.2.mem ((c.tc : Thread Cert.GateOutRefIdeal.nD Cert.GateOutRefIdeal.τ).loc Cert.GateOutRefIdeal.main_arg3) = m ((c.tc : Thread Cert.GateOutRefIdeal.nD Cert.GateOutRefIdeal.τ).loc Cert.GateOutRefIdeal.main_arg3)
      ∧ r.2.mem ((c.tc : Thread Cert.GateOutRefIdeal.nD Cert.GateOutRefIdeal.τ).loc Cert.GateOutRefIdeal.main_arg4) = m ((c.tc : Thread Cert.GateOutRefIdeal.nD Cert.GateOutRefIdeal.τ).loc Cert.GateOutRefIdeal.main_arg4)
      ∧ r.2.mem ((c.tc : Thread Cert.GateOutRefIdeal.nD Cert.GateOutRefIdeal.τ).loc Cert.GateOutRefIdeal.main_arg5) = m ((c.tc : Thread Cert.GateOutRefIdeal.nD Cert.GateOutRefIdeal.τ).loc Cert.GateOutRefIdeal.main_arg5)
      ∧ r.2.mem ((c.tc : Thread Cert.GateOutRefIdeal.nD Cert.GateOutRefIdeal.τ).loc Cert.GateOutRefIdeal.main_arg6) = m ((c.tc : Thread Cert.GateOutRefIdeal.nD Cert.GateOutRefIdeal.τ).loc Cert.GateOutRefIdeal.main_arg6)
      ∧ r.2.mem ((c.tc : Thread Cert.GateOutRefIdeal.nD Cert.GateOutRefIdeal.τ).loc Cert.GateOutRefIdeal.main_arg7) = m ((c.tc : Thread Cert.GateOutRefIdeal.nD Cert.GateOutRefIdeal.τ).loc Cert.GateOutRefIdeal.main_arg7)
      ∧ r.2.mem ((c.tc : Thread Cert.GateOutRefIdeal.nD Cert.GateOutRefIdeal.τ).loc Cert.GateOutRefIdeal.main_arg8) = m ((c.tc : Thread Cert.GateOutRefIdeal.nD Cert.GateOutRefIdeal.τ).loc Cert.GateOutRefIdeal.main_arg8))
      ∧ r.2.sem = fun _ => 0)

def quiescent_DGate [hDGate : Cert.DGate.Facts] : Prop :=
  ∀ (m : (ℓ : Loc Cert.DGate.nD Cert.DGate.τ Cert.DGate.sig) → Buf (Elt Bits) ℓ) (g : Dev Cert.DGate.nD → PrngReg), Pre_DGate m →
    θ_run (Cert.DGate.defs (F := Bits)) (onTc (τ := Cert.DGate.τ) (Cert.DGate.main (F := Bits))) ⟨m, fun _ => 0, g⟩ (fun r => (∀ c : Dev Cert.DGate.nD,
      r.2.mem ((c.tc : Thread Cert.DGate.nD Cert.DGate.τ).loc Cert.DGate.main_arg0) = m ((c.tc : Thread Cert.DGate.nD Cert.DGate.τ).loc Cert.DGate.main_arg0)
      ∧ r.2.mem ((c.tc : Thread Cert.DGate.nD Cert.DGate.τ).loc Cert.DGate.main_arg1) = m ((c.tc : Thread Cert.DGate.nD Cert.DGate.τ).loc Cert.DGate.main_arg1)
      ∧ r.2.mem ((c.tc : Thread Cert.DGate.nD Cert.DGate.τ).loc Cert.DGate.main_arg2) = m ((c.tc : Thread Cert.DGate.nD Cert.DGate.τ).loc Cert.DGate.main_arg2)
      ∧ r.2.mem ((c.tc : Thread Cert.DGate.nD Cert.DGate.τ).loc Cert.DGate.main_arg3) = m ((c.tc : Thread Cert.DGate.nD Cert.DGate.τ).loc Cert.DGate.main_arg3))
      ∧ r.2.sem = fun _ => 0)

def quiescent_DGateIdeal [hDGateIdeal : Cert.DGateIdeal.Facts] : Prop :=
  ∀ (m : (ℓ : Loc Cert.DGateIdeal.nD Cert.DGateIdeal.τ Cert.DGateIdeal.sig) → Buf (Elt Ideal) ℓ) (g : Dev Cert.DGateIdeal.nD → PrngReg), Pre_DGateIdeal m →
    θ_run (Cert.DGateIdeal.defs (F := Ideal)) (onTc (τ := Cert.DGateIdeal.τ) (Cert.DGateIdeal.main (F := Ideal))) ⟨m, fun _ => 0, g⟩ (fun r => (∀ c : Dev Cert.DGateIdeal.nD,
      r.2.mem ((c.tc : Thread Cert.DGateIdeal.nD Cert.DGateIdeal.τ).loc Cert.DGateIdeal.main_arg0) = m ((c.tc : Thread Cert.DGateIdeal.nD Cert.DGateIdeal.τ).loc Cert.DGateIdeal.main_arg0)
      ∧ r.2.mem ((c.tc : Thread Cert.DGateIdeal.nD Cert.DGateIdeal.τ).loc Cert.DGateIdeal.main_arg1) = m ((c.tc : Thread Cert.DGateIdeal.nD Cert.DGateIdeal.τ).loc Cert.DGateIdeal.main_arg1)
      ∧ r.2.mem ((c.tc : Thread Cert.DGateIdeal.nD Cert.DGateIdeal.τ).loc Cert.DGateIdeal.main_arg2) = m ((c.tc : Thread Cert.DGateIdeal.nD Cert.DGateIdeal.τ).loc Cert.DGateIdeal.main_arg2)
      ∧ r.2.mem ((c.tc : Thread Cert.DGateIdeal.nD Cert.DGateIdeal.τ).loc Cert.DGateIdeal.main_arg3) = m ((c.tc : Thread Cert.DGateIdeal.nD Cert.DGateIdeal.τ).loc Cert.DGateIdeal.main_arg3))
      ∧ r.2.sem = fun _ => 0)

def quiescent_DGateIdeal_pre_finite_gate [hDGateIdeal : Cert.DGateIdeal.Facts] [hPre_finite_gate : Cert.Pre_finite_gate.Facts] : Prop :=
  ∀ (m : (ℓ : Loc Cert.DGateIdeal.nD Cert.DGateIdeal.τ Cert.DGateIdeal.sig) → Buf (Elt Ideal) ℓ) (g : Dev Cert.DGateIdeal.nD → PrngReg), Pre_DGateIdeal_finite_gate m →
    θ_run (Cert.DGateIdeal.defs (F := Ideal)) (onTc (τ := Cert.DGateIdeal.τ) (Cert.DGateIdeal.main (F := Ideal))) ⟨m, fun _ => 0, g⟩ (fun r => (∀ c : Dev Cert.DGateIdeal.nD,
      r.2.mem ((c.tc : Thread Cert.DGateIdeal.nD Cert.DGateIdeal.τ).loc Cert.DGateIdeal.main_arg0) = m ((c.tc : Thread Cert.DGateIdeal.nD Cert.DGateIdeal.τ).loc Cert.DGateIdeal.main_arg0)
      ∧ r.2.mem ((c.tc : Thread Cert.DGateIdeal.nD Cert.DGateIdeal.τ).loc Cert.DGateIdeal.main_arg1) = m ((c.tc : Thread Cert.DGateIdeal.nD Cert.DGateIdeal.τ).loc Cert.DGateIdeal.main_arg1)
      ∧ r.2.mem ((c.tc : Thread Cert.DGateIdeal.nD Cert.DGateIdeal.τ).loc Cert.DGateIdeal.main_arg2) = m ((c.tc : Thread Cert.DGateIdeal.nD Cert.DGateIdeal.τ).loc Cert.DGateIdeal.main_arg2)
      ∧ r.2.mem ((c.tc : Thread Cert.DGateIdeal.nD Cert.DGateIdeal.τ).loc Cert.DGateIdeal.main_arg3) = m ((c.tc : Thread Cert.DGateIdeal.nD Cert.DGateIdeal.τ).loc Cert.DGateIdeal.main_arg3))
      ∧ r.2.sem = fun _ => 0)

def quiescent_DGateRefIdeal [hDGateRefIdeal : Cert.DGateRefIdeal.Facts] : Prop :=
  ∀ (m : (ℓ : Loc Cert.DGateRefIdeal.nD Cert.DGateRefIdeal.τ Cert.DGateRefIdeal.sig) → Buf (Elt Ideal) ℓ) (g : Dev Cert.DGateRefIdeal.nD → PrngReg), Pre_DGateRefIdeal m →
    θ_run (Cert.DGateRefIdeal.defs (F := Ideal)) (onTc (τ := Cert.DGateRefIdeal.τ) (Cert.DGateRefIdeal.main (F := Ideal))) ⟨m, fun _ => 0, g⟩ (fun r => (∀ c : Dev Cert.DGateRefIdeal.nD,
      r.2.mem ((c.tc : Thread Cert.DGateRefIdeal.nD Cert.DGateRefIdeal.τ).loc Cert.DGateRefIdeal.main_arg0) = m ((c.tc : Thread Cert.DGateRefIdeal.nD Cert.DGateRefIdeal.τ).loc Cert.DGateRefIdeal.main_arg0)
      ∧ r.2.mem ((c.tc : Thread Cert.DGateRefIdeal.nD Cert.DGateRefIdeal.τ).loc Cert.DGateRefIdeal.main_arg1) = m ((c.tc : Thread Cert.DGateRefIdeal.nD Cert.DGateRefIdeal.τ).loc Cert.DGateRefIdeal.main_arg1)
      ∧ r.2.mem ((c.tc : Thread Cert.DGateRefIdeal.nD Cert.DGateRefIdeal.τ).loc Cert.DGateRefIdeal.main_arg2) = m ((c.tc : Thread Cert.DGateRefIdeal.nD Cert.DGateRefIdeal.τ).loc Cert.DGateRefIdeal.main_arg2)
      ∧ r.2.mem ((c.tc : Thread Cert.DGateRefIdeal.nD Cert.DGateRefIdeal.τ).loc Cert.DGateRefIdeal.main_arg3) = m ((c.tc : Thread Cert.DGateRefIdeal.nD Cert.DGateRefIdeal.τ).loc Cert.DGateRefIdeal.main_arg3))
      ∧ r.2.sem = fun _ => 0)

def quiescent_DGateRefIdeal_pre_finite_gate [hDGateRefIdeal : Cert.DGateRefIdeal.Facts] [hPre_finite_gate : Cert.Pre_finite_gate.Facts] : Prop :=
  ∀ (m : (ℓ : Loc Cert.DGateRefIdeal.nD Cert.DGateRefIdeal.τ Cert.DGateRefIdeal.sig) → Buf (Elt Ideal) ℓ) (g : Dev Cert.DGateRefIdeal.nD → PrngReg), Pre_DGateRefIdeal_finite_gate m →
    θ_run (Cert.DGateRefIdeal.defs (F := Ideal)) (onTc (τ := Cert.DGateRefIdeal.τ) (Cert.DGateRefIdeal.main (F := Ideal))) ⟨m, fun _ => 0, g⟩ (fun r => (∀ c : Dev Cert.DGateRefIdeal.nD,
      r.2.mem ((c.tc : Thread Cert.DGateRefIdeal.nD Cert.DGateRefIdeal.τ).loc Cert.DGateRefIdeal.main_arg0) = m ((c.tc : Thread Cert.DGateRefIdeal.nD Cert.DGateRefIdeal.τ).loc Cert.DGateRefIdeal.main_arg0)
      ∧ r.2.mem ((c.tc : Thread Cert.DGateRefIdeal.nD Cert.DGateRefIdeal.τ).loc Cert.DGateRefIdeal.main_arg1) = m ((c.tc : Thread Cert.DGateRefIdeal.nD Cert.DGateRefIdeal.τ).loc Cert.DGateRefIdeal.main_arg1)
      ∧ r.2.mem ((c.tc : Thread Cert.DGateRefIdeal.nD Cert.DGateRefIdeal.τ).loc Cert.DGateRefIdeal.main_arg2) = m ((c.tc : Thread Cert.DGateRefIdeal.nD Cert.DGateRefIdeal.τ).loc Cert.DGateRefIdeal.main_arg2)
      ∧ r.2.mem ((c.tc : Thread Cert.DGateRefIdeal.nD Cert.DGateRefIdeal.τ).loc Cert.DGateRefIdeal.main_arg3) = m ((c.tc : Thread Cert.DGateRefIdeal.nD Cert.DGateRefIdeal.τ).loc Cert.DGateRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v98_0)) (v1 : (c : Dev Cert.KernelIdeal.nD) → Buf (Elt Ideal) ((c.tc : Thread Cert.KernelIdeal.nD Cert.KernelIdeal.τ).loc Cert.KernelIdeal.main_v98_1)) (v2 : (c : Dev Cert.KernelIdeal.nD) → Buf (Elt Ideal) ((c.tc : Thread Cert.KernelIdeal.nD Cert.KernelIdeal.τ).loc Cert.KernelIdeal.main_v98_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98_0) = v0 c
          ∧ r.2.mem ((c.tc : Thread Cert.KernelIdeal.nD Cert.KernelIdeal.τ).loc Cert.KernelIdeal.main_v98_1) = v1 c
          ∧ r.2.mem ((c.tc : Thread Cert.KernelIdeal.nD Cert.KernelIdeal.τ).loc Cert.KernelIdeal.main_v98_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)
      ∧ m' ((c.tc : Thread Cert.DwInRefIdeal.nD Cert.DwInRefIdeal.τ).loc Cert.DwInRefIdeal.main_arg4) = m ((c.tc : Thread Cert.DwInIdeal.nD Cert.DwInIdeal.τ).loc Cert.DwInIdeal.main_arg4)
      ∧ m' ((c.tc : Thread Cert.DwInRefIdeal.nD Cert.DwInRefIdeal.τ).loc Cert.DwInRefIdeal.main_arg5) = m ((c.tc : Thread Cert.DwInIdeal.nD Cert.DwInIdeal.τ).loc Cert.DwInIdeal.main_arg5)
      ∧ m' ((c.tc : Thread Cert.DwInRefIdeal.nD Cert.DwInRefIdeal.τ).loc Cert.DwInRefIdeal.main_arg6) = m ((c.tc : Thread Cert.DwInIdeal.nD Cert.DwInIdeal.τ).loc Cert.DwInIdeal.main_arg6)
      ∧ m' ((c.tc : Thread Cert.DwInRefIdeal.nD Cert.DwInRefIdeal.τ).loc Cert.DwInRefIdeal.main_arg7) = m ((c.tc : Thread Cert.DwInIdeal.nD Cert.DwInIdeal.τ).loc Cert.DwInIdeal.main_arg7)
      ∧ m' ((c.tc : Thread Cert.DwInRefIdeal.nD Cert.DwInRefIdeal.τ).loc Cert.DwInRefIdeal.main_arg8) = m ((c.tc : Thread Cert.DwInIdeal.nD Cert.DwInIdeal.τ).loc Cert.DwInIdeal.main_arg8)
      ∧ m' ((c.tc : Thread Cert.DwInRefIdeal.nD Cert.DwInRefIdeal.τ).loc Cert.DwInRefIdeal.main_arg9) = m ((c.tc : Thread Cert.DwInIdeal.nD Cert.DwInIdeal.τ).loc Cert.DwInIdeal.main_arg9)
      ∧ m' ((c.tc : Thread Cert.DwInRefIdeal.nD Cert.DwInRefIdeal.τ).loc Cert.DwInRefIdeal.main_arg10) = m ((c.tc : Thread Cert.DwInIdeal.nD Cert.DwInIdeal.τ).loc Cert.DwInIdeal.main_arg10)) →
    ∃ (v0 : (c : Dev Cert.DwInIdeal.nD) → Buf (Elt Ideal) ((c.tc : Thread Cert.DwInIdeal.nD Cert.DwInIdeal.τ).loc Cert.DwInIdeal.main_v3)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v3) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
          ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
          ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5)
          ∧ r.2.mem ((c.tc : Thread Cert.DwInIdeal.nD Cert.DwInIdeal.τ).loc Cert.DwInIdeal.main_arg6) = m ((c.tc : Thread Cert.DwInIdeal.nD Cert.DwInIdeal.τ).loc Cert.DwInIdeal.main_arg6)
          ∧ r.2.mem ((c.tc : Thread Cert.DwInIdeal.nD Cert.DwInIdeal.τ).loc Cert.DwInIdeal.main_arg7) = m ((c.tc : Thread Cert.DwInIdeal.nD Cert.DwInIdeal.τ).loc Cert.DwInIdeal.main_arg7)
          ∧ r.2.mem ((c.tc : Thread Cert.DwInIdeal.nD Cert.DwInIdeal.τ).loc Cert.DwInIdeal.main_arg8) = m ((c.tc : Thread Cert.DwInIdeal.nD Cert.DwInIdeal.τ).loc Cert.DwInIdeal.main_arg8)
          ∧ r.2.mem ((c.tc : Thread Cert.DwInIdeal.nD Cert.DwInIdeal.τ).loc Cert.DwInIdeal.main_arg9) = m ((c.tc : Thread Cert.DwInIdeal.nD Cert.DwInIdeal.τ).loc Cert.DwInIdeal.main_arg9)
          ∧ r.2.mem ((c.tc : Thread Cert.DwInIdeal.nD Cert.DwInIdeal.τ).loc Cert.DwInIdeal.main_arg10) = m ((c.tc : Thread Cert.DwInIdeal.nD Cert.DwInIdeal.τ).loc Cert.DwInIdeal.main_arg10))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v14) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3)
          ∧ r.2.mem ((c.tc : Thread Cert.DwInRefIdeal.nD Cert.DwInRefIdeal.τ).loc Cert.DwInRefIdeal.main_arg4) = m' ((c.tc : Thread Cert.DwInRefIdeal.nD Cert.DwInRefIdeal.τ).loc Cert.DwInRefIdeal.main_arg4)
          ∧ r.2.mem ((c.tc : Thread Cert.DwInRefIdeal.nD Cert.DwInRefIdeal.τ).loc Cert.DwInRefIdeal.main_arg5) = m' ((c.tc : Thread Cert.DwInRefIdeal.nD Cert.DwInRefIdeal.τ).loc Cert.DwInRefIdeal.main_arg5)
          ∧ r.2.mem ((c.tc : Thread Cert.DwInRefIdeal.nD Cert.DwInRefIdeal.τ).loc Cert.DwInRefIdeal.main_arg6) = m' ((c.tc : Thread Cert.DwInRefIdeal.nD Cert.DwInRefIdeal.τ).loc Cert.DwInRefIdeal.main_arg6)
          ∧ r.2.mem ((c.tc : Thread Cert.DwInRefIdeal.nD Cert.DwInRefIdeal.τ).loc Cert.DwInRefIdeal.main_arg7) = m' ((c.tc : Thread Cert.DwInRefIdeal.nD Cert.DwInRefIdeal.τ).loc Cert.DwInRefIdeal.main_arg7)
          ∧ r.2.mem ((c.tc : Thread Cert.DwInRefIdeal.nD Cert.DwInRefIdeal.τ).loc Cert.DwInRefIdeal.main_arg8) = m' ((c.tc : Thread Cert.DwInRefIdeal.nD Cert.DwInRefIdeal.τ).loc Cert.DwInRefIdeal.main_arg8)
          ∧ r.2.mem ((c.tc : Thread Cert.DwInRefIdeal.nD Cert.DwInRefIdeal.τ).loc Cert.DwInRefIdeal.main_arg9) = m' ((c.tc : Thread Cert.DwInRefIdeal.nD Cert.DwInRefIdeal.τ).loc Cert.DwInRefIdeal.main_arg9)
          ∧ r.2.mem ((c.tc : Thread Cert.DwInRefIdeal.nD Cert.DwInRefIdeal.τ).loc Cert.DwInRefIdeal.main_arg10) = m' ((c.tc : Thread Cert.DwInRefIdeal.nD Cert.DwInRefIdeal.τ).loc Cert.DwInRefIdeal.main_arg10))

def preserves_DInProj_DInProjIdeal : Prop :=
  True

def algebraic_DInProjIdeal_DInProjRefIdeal [hDInProjIdeal : Cert.DInProjIdeal.Facts] [hDInProjRefIdeal : Cert.DInProjRefIdeal.Facts] : Prop :=
  ∀ (m : (ℓ : Loc Cert.DInProjIdeal.nD Cert.DInProjIdeal.τ Cert.DInProjIdeal.sig) → Buf (Elt Ideal) ℓ) (g : Dev Cert.DInProjIdeal.nD → PrngReg)
    (m' : (ℓ : Loc Cert.DInProjRefIdeal.nD Cert.DInProjRefIdeal.τ Cert.DInProjRefIdeal.sig) → Buf (Elt Ideal) ℓ) (g' : Dev Cert.DInProjRefIdeal.nD → PrngReg), Pre_DInProjIdeal m →
    (∀ c : Dev Cert.DInProjIdeal.nD,
      m' ((c.tc : Thread Cert.DInProjRefIdeal.nD Cert.DInProjRefIdeal.τ).loc Cert.DInProjRefIdeal.main_arg0) = m ((c.tc : Thread Cert.DInProjIdeal.nD Cert.DInProjIdeal.τ).loc Cert.DInProjIdeal.main_arg0)
      ∧ m' ((c.tc : Thread Cert.DInProjRefIdeal.nD Cert.DInProjRefIdeal.τ).loc Cert.DInProjRefIdeal.main_arg1) = m ((c.tc : Thread Cert.DInProjIdeal.nD Cert.DInProjIdeal.τ).loc Cert.DInProjIdeal.main_arg1)
      ∧ m' ((c.tc : Thread Cert.DInProjRefIdeal.nD Cert.DInProjRefIdeal.τ).loc Cert.DInProjRefIdeal.main_arg2) = m ((c.tc : Thread Cert.DInProjIdeal.nD Cert.DInProjIdeal.τ).loc Cert.DInProjIdeal.main_arg2)) →
    ∃ (v0 : (c : Dev Cert.DInProjIdeal.nD) → Buf (Elt Ideal) ((c.tc : Thread Cert.DInProjIdeal.nD Cert.DInProjIdeal.τ).loc Cert.DInProjIdeal.main_v60)),
      θ_run (Cert.DInProjIdeal.defs (F := Ideal)) (onTc (τ := Cert.DInProjIdeal.τ) (Cert.DInProjIdeal.main (F := Ideal))) ⟨m, fun _ => 0, g⟩ (fun r => ∀ c : Dev Cert.DInProjIdeal.nD,
          r.2.mem ((c.tc : Thread Cert.DInProjIdeal.nD Cert.DInProjIdeal.τ).loc Cert.DInProjIdeal.main_v60) = v0 c
          ∧ r.2.mem ((c.tc : Thread Cert.DInProjIdeal.nD Cert.DInProjIdeal.τ).loc Cert.DInProjIdeal.main_arg0) = m ((c.tc : Thread Cert.DInProjIdeal.nD Cert.DInProjIdeal.τ).loc Cert.DInProjIdeal.main_arg0)
          ∧ r.2.mem ((c.tc : Thread Cert.DInProjIdeal.nD Cert.DInProjIdeal.τ).loc Cert.DInProjIdeal.main_arg1) = m ((c.tc : Thread Cert.DInProjIdeal.nD Cert.DInProjIdeal.τ).loc Cert.DInProjIdeal.main_arg1)
          ∧ r.2.mem ((c.tc : Thread Cert.DInProjIdeal.nD Cert.DInProjIdeal.τ).loc Cert.DInProjIdeal.main_arg2) = m ((c.tc : Thread Cert.DInProjIdeal.nD Cert.DInProjIdeal.τ).loc Cert.DInProjIdeal.main_arg2))
      ∧ θ_run (Cert.DInProjRefIdeal.defs (F := Ideal)) (onTc (τ := Cert.DInProjRefIdeal.τ) (Cert.DInProjRefIdeal.main (F := Ideal))) ⟨m', fun _ => 0, g'⟩ (fun r => ∀ c : Dev Cert.DInProjRefIdeal.nD,
          r.2.mem ((c.tc : Thread Cert.DInProjRefIdeal.nD Cert.DInProjRefIdeal.τ).loc Cert.DInProjRefIdeal.main_v7) = v0 c
          ∧ r.2.mem ((c.tc : Thread Cert.DInProjRefIdeal.nD Cert.DInProjRefIdeal.τ).loc Cert.DInProjRefIdeal.main_arg0) = m' ((c.tc : Thread Cert.DInProjRefIdeal.nD Cert.DInProjRefIdeal.τ).loc Cert.DInProjRefIdeal.main_arg0)
          ∧ r.2.mem ((c.tc : Thread Cert.DInProjRefIdeal.nD Cert.DInProjRefIdeal.τ).loc Cert.DInProjRefIdeal.main_arg1) = m' ((c.tc : Thread Cert.DInProjRefIdeal.nD Cert.DInProjRefIdeal.τ).loc Cert.DInProjRefIdeal.main_arg1)
          ∧ r.2.mem ((c.tc : Thread Cert.DInProjRefIdeal.nD Cert.DInProjRefIdeal.τ).loc Cert.DInProjRefIdeal.main_arg2) = m' ((c.tc : Thread Cert.DInProjRefIdeal.nD Cert.DInProjRefIdeal.τ).loc Cert.DInProjRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v0) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v1)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v1) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v3) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_GateOut_GateOutIdeal : Prop :=
  True

def algebraic_GateOutIdeal_GateOutRefIdeal [hGateOutIdeal : Cert.GateOutIdeal.Facts] [hGateOutRefIdeal : Cert.GateOutRefIdeal.Facts] : Prop :=
  ∀ (m : (ℓ : Loc Cert.GateOutIdeal.nD Cert.GateOutIdeal.τ Cert.GateOutIdeal.sig) → Buf (Elt Ideal) ℓ) (g : Dev Cert.GateOutIdeal.nD → PrngReg)
    (m' : (ℓ : Loc Cert.GateOutRefIdeal.nD Cert.GateOutRefIdeal.τ Cert.GateOutRefIdeal.sig) → Buf (Elt Ideal) ℓ) (g' : Dev Cert.GateOutRefIdeal.nD → PrngReg), Pre_GateOutIdeal m →
    (∀ c : Dev Cert.GateOutIdeal.nD,
      m' ((c.tc : Thread Cert.GateOutRefIdeal.nD Cert.GateOutRefIdeal.τ).loc Cert.GateOutRefIdeal.main_arg0) = m ((c.tc : Thread Cert.GateOutIdeal.nD Cert.GateOutIdeal.τ).loc Cert.GateOutIdeal.main_arg0)
      ∧ m' ((c.tc : Thread Cert.GateOutRefIdeal.nD Cert.GateOutRefIdeal.τ).loc Cert.GateOutRefIdeal.main_arg1) = m ((c.tc : Thread Cert.GateOutIdeal.nD Cert.GateOutIdeal.τ).loc Cert.GateOutIdeal.main_arg1)
      ∧ m' ((c.tc : Thread Cert.GateOutRefIdeal.nD Cert.GateOutRefIdeal.τ).loc Cert.GateOutRefIdeal.main_arg2) = m ((c.tc : Thread Cert.GateOutIdeal.nD Cert.GateOutIdeal.τ).loc Cert.GateOutIdeal.main_arg2)
      ∧ m' ((c.tc : Thread Cert.GateOutRefIdeal.nD Cert.GateOutRefIdeal.τ).loc Cert.GateOutRefIdeal.main_arg3) = m ((c.tc : Thread Cert.GateOutIdeal.nD Cert.GateOutIdeal.τ).loc Cert.GateOutIdeal.main_arg3)
      ∧ m' ((c.tc : Thread Cert.GateOutRefIdeal.nD Cert.GateOutRefIdeal.τ).loc Cert.GateOutRefIdeal.main_arg4) = m ((c.tc : Thread Cert.GateOutIdeal.nD Cert.GateOutIdeal.τ).loc Cert.GateOutIdeal.main_arg4)
      ∧ m' ((c.tc : Thread Cert.GateOutRefIdeal.nD Cert.GateOutRefIdeal.τ).loc Cert.GateOutRefIdeal.main_arg5) = m ((c.tc : Thread Cert.GateOutIdeal.nD Cert.GateOutIdeal.τ).loc Cert.GateOutIdeal.main_arg5)
      ∧ m' ((c.tc : Thread Cert.GateOutRefIdeal.nD Cert.GateOutRefIdeal.τ).loc Cert.GateOutRefIdeal.main_arg6) = m ((c.tc : Thread Cert.GateOutIdeal.nD Cert.GateOutIdeal.τ).loc Cert.GateOutIdeal.main_arg6)
      ∧ m' ((c.tc : Thread Cert.GateOutRefIdeal.nD Cert.GateOutRefIdeal.τ).loc Cert.GateOutRefIdeal.main_arg7) = m ((c.tc : Thread Cert.GateOutIdeal.nD Cert.GateOutIdeal.τ).loc Cert.GateOutIdeal.main_arg7)
      ∧ m' ((c.tc : Thread Cert.GateOutRefIdeal.nD Cert.GateOutRefIdeal.τ).loc Cert.GateOutRefIdeal.main_arg8) = m ((c.tc : Thread Cert.GateOutIdeal.nD Cert.GateOutIdeal.τ).loc Cert.GateOutIdeal.main_arg8)) →
    ∃ (v0 : (c : Dev Cert.GateOutIdeal.nD) → Buf (Elt Ideal) ((c.tc : Thread Cert.GateOutIdeal.nD Cert.GateOutIdeal.τ).loc Cert.GateOutIdeal.main_v3_0)) (v1 : (c : Dev Cert.GateOutIdeal.nD) → Buf (Elt Ideal) ((c.tc : Thread Cert.GateOutIdeal.nD Cert.GateOutIdeal.τ).loc Cert.GateOutIdeal.main_v3_1)) (v2 : (c : Dev Cert.GateOutIdeal.nD) → Buf (Elt Ideal) ((c.tc : Thread Cert.GateOutIdeal.nD Cert.GateOutIdeal.τ).loc Cert.GateOutIdeal.main_v3_2)) (v3 : (c : Dev Cert.GateOutIdeal.nD) → Buf (Elt Ideal) ((c.tc : Thread Cert.GateOutIdeal.nD Cert.GateOutIdeal.τ).loc Cert.GateOutIdeal.main_v3_3)) (v4 : (c : Dev Cert.GateOutIdeal.nD) → Buf (Elt Ideal) ((c.tc : Thread Cert.GateOutIdeal.nD Cert.GateOutIdeal.τ).loc Cert.GateOutIdeal.main_v3_4)),
      θ_run (Cert.GateOutIdeal.defs (F := Ideal)) (onTc (τ := Cert.GateOutIdeal.τ) (Cert.GateOutIdeal.main (F := Ideal))) ⟨m, fun _ => 0, g⟩ (fun r => ∀ c : Dev Cert.GateOutIdeal.nD,
          r.2.mem ((c.tc : Thread Cert.GateOutIdeal.nD Cert.GateOutIdeal.τ).loc Cert.GateOutIdeal.main_v3_0) = v0 c
          ∧ r.2.mem ((c.tc : Thread Cert.GateOutIdeal.nD Cert.GateOutIdeal.τ).loc Cert.GateOutIdeal.main_v3_1) = v1 c
          ∧ r.2.mem ((c.tc : Thread Cert.GateOutIdeal.nD Cert.GateOutIdeal.τ).loc Cert.GateOutIdeal.main_v3_2) = v2 c
          ∧ r.2.mem ((c.tc : Thread Cert.GateOutIdeal.nD Cert.GateOutIdeal.τ).loc Cert.GateOutIdeal.main_v3_3) = v3 c
          ∧ r.2.mem ((c.tc : Thread Cert.GateOutIdeal.nD Cert.GateOutIdeal.τ).loc Cert.GateOutIdeal.main_v3_4) = v4 c
          ∧ r.2.mem ((c.tc : Thread Cert.GateOutIdeal.nD Cert.GateOutIdeal.τ).loc Cert.GateOutIdeal.main_arg0) = m ((c.tc : Thread Cert.GateOutIdeal.nD Cert.GateOutIdeal.τ).loc Cert.GateOutIdeal.main_arg0)
          ∧ r.2.mem ((c.tc : Thread Cert.GateOutIdeal.nD Cert.GateOutIdeal.τ).loc Cert.GateOutIdeal.main_arg1) = m ((c.tc : Thread Cert.GateOutIdeal.nD Cert.GateOutIdeal.τ).loc Cert.GateOutIdeal.main_arg1)
          ∧ r.2.mem ((c.tc : Thread Cert.GateOutIdeal.nD Cert.GateOutIdeal.τ).loc Cert.GateOutIdeal.main_arg2) = m ((c.tc : Thread Cert.GateOutIdeal.nD Cert.GateOutIdeal.τ).loc Cert.GateOutIdeal.main_arg2)
          ∧ r.2.mem ((c.tc : Thread Cert.GateOutIdeal.nD Cert.GateOutIdeal.τ).loc Cert.GateOutIdeal.main_arg3) = m ((c.tc : Thread Cert.GateOutIdeal.nD Cert.GateOutIdeal.τ).loc Cert.GateOutIdeal.main_arg3)
          ∧ r.2.mem ((c.tc : Thread Cert.GateOutIdeal.nD Cert.GateOutIdeal.τ).loc Cert.GateOutIdeal.main_arg4) = m ((c.tc : Thread Cert.GateOutIdeal.nD Cert.GateOutIdeal.τ).loc Cert.GateOutIdeal.main_arg4)
          ∧ r.2.mem ((c.tc : Thread Cert.GateOutIdeal.nD Cert.GateOutIdeal.τ).loc Cert.GateOutIdeal.main_arg5) = m ((c.tc : Thread Cert.GateOutIdeal.nD Cert.GateOutIdeal.τ).loc Cert.GateOutIdeal.main_arg5)
          ∧ r.2.mem ((c.tc : Thread Cert.GateOutIdeal.nD Cert.GateOutIdeal.τ).loc Cert.GateOutIdeal.main_arg6) = m ((c.tc : Thread Cert.GateOutIdeal.nD Cert.GateOutIdeal.τ).loc Cert.GateOutIdeal.main_arg6)
          ∧ r.2.mem ((c.tc : Thread Cert.GateOutIdeal.nD Cert.GateOutIdeal.τ).loc Cert.GateOutIdeal.main_arg7) = m ((c.tc : Thread Cert.GateOutIdeal.nD Cert.GateOutIdeal.τ).loc Cert.GateOutIdeal.main_arg7)
          ∧ r.2.mem ((c.tc : Thread Cert.GateOutIdeal.nD Cert.GateOutIdeal.τ).loc Cert.GateOutIdeal.main_arg8) = m ((c.tc : Thread Cert.GateOutIdeal.nD Cert.GateOutIdeal.τ).loc Cert.GateOutIdeal.main_arg8))
      ∧ θ_run (Cert.GateOutRefIdeal.defs (F := Ideal)) (onTc (τ := Cert.GateOutRefIdeal.τ) (Cert.GateOutRefIdeal.main (F := Ideal))) ⟨m', fun _ => 0, g'⟩ (fun r => ∀ c : Dev Cert.GateOutRefIdeal.nD,
          r.2.mem ((c.tc : Thread Cert.GateOutRefIdeal.nD Cert.GateOutRefIdeal.τ).loc Cert.GateOutRefIdeal.main_v0) = v0 c
          ∧ r.2.mem ((c.tc : Thread Cert.GateOutRefIdeal.nD Cert.GateOutRefIdeal.τ).loc Cert.GateOutRefIdeal.main_v41) = v1 c
          ∧ r.2.mem ((c.tc : Thread Cert.GateOutRefIdeal.nD Cert.GateOutRefIdeal.τ).loc Cert.GateOutRefIdeal.main_v40) = v2 c
          ∧ r.2.mem ((c.tc : Thread Cert.GateOutRefIdeal.nD Cert.GateOutRefIdeal.τ).loc Cert.GateOutRefIdeal.main_v42) = v3 c
          ∧ r.2.mem ((c.tc : Thread Cert.GateOutRefIdeal.nD Cert.GateOutRefIdeal.τ).loc Cert.GateOutRefIdeal.main_v18) = v4 c
          ∧ r.2.mem ((c.tc : Thread Cert.GateOutRefIdeal.nD Cert.GateOutRefIdeal.τ).loc Cert.GateOutRefIdeal.main_arg0) = m' ((c.tc : Thread Cert.GateOutRefIdeal.nD Cert.GateOutRefIdeal.τ).loc Cert.GateOutRefIdeal.main_arg0)
          ∧ r.2.mem ((c.tc : Thread Cert.GateOutRefIdeal.nD Cert.GateOutRefIdeal.τ).loc Cert.GateOutRefIdeal.main_arg1) = m' ((c.tc : Thread Cert.GateOutRefIdeal.nD Cert.GateOutRefIdeal.τ).loc Cert.GateOutRefIdeal.main_arg1)
          ∧ r.2.mem ((c.tc : Thread Cert.GateOutRefIdeal.nD Cert.GateOutRefIdeal.τ).loc Cert.GateOutRefIdeal.main_arg2) = m' ((c.tc : Thread Cert.GateOutRefIdeal.nD Cert.GateOutRefIdeal.τ).loc Cert.GateOutRefIdeal.main_arg2)
          ∧ r.2.mem ((c.tc : Thread Cert.GateOutRefIdeal.nD Cert.GateOutRefIdeal.τ).loc Cert.GateOutRefIdeal.main_arg3) = m' ((c.tc : Thread Cert.GateOutRefIdeal.nD Cert.GateOutRefIdeal.τ).loc Cert.GateOutRefIdeal.main_arg3)
          ∧ r.2.mem ((c.tc : Thread Cert.GateOutRefIdeal.nD Cert.GateOutRefIdeal.τ).loc Cert.GateOutRefIdeal.main_arg4) = m' ((c.tc : Thread Cert.GateOutRefIdeal.nD Cert.GateOutRefIdeal.τ).loc Cert.GateOutRefIdeal.main_arg4)
          ∧ r.2.mem ((c.tc : Thread Cert.GateOutRefIdeal.nD Cert.GateOutRefIdeal.τ).loc Cert.GateOutRefIdeal.main_arg5) = m' ((c.tc : Thread Cert.GateOutRefIdeal.nD Cert.GateOutRefIdeal.τ).loc Cert.GateOutRefIdeal.main_arg5)
          ∧ r.2.mem ((c.tc : Thread Cert.GateOutRefIdeal.nD Cert.GateOutRefIdeal.τ).loc Cert.GateOutRefIdeal.main_arg6) = m' ((c.tc : Thread Cert.GateOutRefIdeal.nD Cert.GateOutRefIdeal.τ).loc Cert.GateOutRefIdeal.main_arg6)
          ∧ r.2.mem ((c.tc : Thread Cert.GateOutRefIdeal.nD Cert.GateOutRefIdeal.τ).loc Cert.GateOutRefIdeal.main_arg7) = m' ((c.tc : Thread Cert.GateOutRefIdeal.nD Cert.GateOutRefIdeal.τ).loc Cert.GateOutRefIdeal.main_arg7)
          ∧ r.2.mem ((c.tc : Thread Cert.GateOutRefIdeal.nD Cert.GateOutRefIdeal.τ).loc Cert.GateOutRefIdeal.main_arg8) = m' ((c.tc : Thread Cert.GateOutRefIdeal.nD Cert.GateOutRefIdeal.τ).loc Cert.GateOutRefIdeal.main_arg8))

def preserves_DGate_DGateIdeal : Prop :=
  True

def algebraic_DGateIdeal_DGateRefIdeal_pre_finite_gate [hDGateIdeal : Cert.DGateIdeal.Facts] [hDGateRefIdeal : Cert.DGateRefIdeal.Facts] [hPre_finite_gate : Cert.Pre_finite_gate.Facts] : Prop :=
  ∀ (m : (ℓ : Loc Cert.DGateIdeal.nD Cert.DGateIdeal.τ Cert.DGateIdeal.sig) → Buf (Elt Ideal) ℓ) (g : Dev Cert.DGateIdeal.nD → PrngReg)
    (m' : (ℓ : Loc Cert.DGateRefIdeal.nD Cert.DGateRefIdeal.τ Cert.DGateRefIdeal.sig) → Buf (Elt Ideal) ℓ) (g' : Dev Cert.DGateRefIdeal.nD → PrngReg), Pre_DGateIdeal_finite_gate m →
    (∀ c : Dev Cert.DGateIdeal.nD,
      m' ((c.tc : Thread Cert.DGateRefIdeal.nD Cert.DGateRefIdeal.τ).loc Cert.DGateRefIdeal.main_arg0) = m ((c.tc : Thread Cert.DGateIdeal.nD Cert.DGateIdeal.τ).loc Cert.DGateIdeal.main_arg0)
      ∧ m' ((c.tc : Thread Cert.DGateRefIdeal.nD Cert.DGateRefIdeal.τ).loc Cert.DGateRefIdeal.main_arg1) = m ((c.tc : Thread Cert.DGateIdeal.nD Cert.DGateIdeal.τ).loc Cert.DGateIdeal.main_arg1)
      ∧ m' ((c.tc : Thread Cert.DGateRefIdeal.nD Cert.DGateRefIdeal.τ).loc Cert.DGateRefIdeal.main_arg2) = m ((c.tc : Thread Cert.DGateIdeal.nD Cert.DGateIdeal.τ).loc Cert.DGateIdeal.main_arg2)
      ∧ m' ((c.tc : Thread Cert.DGateRefIdeal.nD Cert.DGateRefIdeal.τ).loc Cert.DGateRefIdeal.main_arg3) = m ((c.tc : Thread Cert.DGateIdeal.nD Cert.DGateIdeal.τ).loc Cert.DGateIdeal.main_arg3)) →
    ∃ (v0 : (c : Dev Cert.DGateIdeal.nD) → Buf (Elt Ideal) ((c.tc : Thread Cert.DGateIdeal.nD Cert.DGateIdeal.τ).loc Cert.DGateIdeal.main_v1_0)) (v1 : (c : Dev Cert.DGateIdeal.nD) → Buf (Elt Ideal) ((c.tc : Thread Cert.DGateIdeal.nD Cert.DGateIdeal.τ).loc Cert.DGateIdeal.main_v1_1)),
      θ_run (Cert.DGateIdeal.defs (F := Ideal)) (onTc (τ := Cert.DGateIdeal.τ) (Cert.DGateIdeal.main (F := Ideal))) ⟨m, fun _ => 0, g⟩ (fun r => ∀ c : Dev Cert.DGateIdeal.nD,
          r.2.mem ((c.tc : Thread Cert.DGateIdeal.nD Cert.DGateIdeal.τ).loc Cert.DGateIdeal.main_v1_0) = v0 c
          ∧ r.2.mem ((c.tc : Thread Cert.DGateIdeal.nD Cert.DGateIdeal.τ).loc Cert.DGateIdeal.main_v1_1) = v1 c
          ∧ r.2.mem ((c.tc : Thread Cert.DGateIdeal.nD Cert.DGateIdeal.τ).loc Cert.DGateIdeal.main_arg0) = m ((c.tc : Thread Cert.DGateIdeal.nD Cert.DGateIdeal.τ).loc Cert.DGateIdeal.main_arg0)
          ∧ r.2.mem ((c.tc : Thread Cert.DGateIdeal.nD Cert.DGateIdeal.τ).loc Cert.DGateIdeal.main_arg1) = m ((c.tc : Thread Cert.DGateIdeal.nD Cert.DGateIdeal.τ).loc Cert.DGateIdeal.main_arg1)
          ∧ r.2.mem ((c.tc : Thread Cert.DGateIdeal.nD Cert.DGateIdeal.τ).loc Cert.DGateIdeal.main_arg2) = m ((c.tc : Thread Cert.DGateIdeal.nD Cert.DGateIdeal.τ).loc Cert.DGateIdeal.main_arg2)
          ∧ r.2.mem ((c.tc : Thread Cert.DGateIdeal.nD Cert.DGateIdeal.τ).loc Cert.DGateIdeal.main_arg3) = m ((c.tc : Thread Cert.DGateIdeal.nD Cert.DGateIdeal.τ).loc Cert.DGateIdeal.main_arg3))
      ∧ θ_run (Cert.DGateRefIdeal.defs (F := Ideal)) (onTc (τ := Cert.DGateRefIdeal.τ) (Cert.DGateRefIdeal.main (F := Ideal))) ⟨m', fun _ => 0, g'⟩ (fun r => ∀ c : Dev Cert.DGateRefIdeal.nD,
          r.2.mem ((c.tc : Thread Cert.DGateRefIdeal.nD Cert.DGateRefIdeal.τ).loc Cert.DGateRefIdeal.main_v6) = v0 c
          ∧ r.2.mem ((c.tc : Thread Cert.DGateRefIdeal.nD Cert.DGateRefIdeal.τ).loc Cert.DGateRefIdeal.main_v7) = v1 c
          ∧ r.2.mem ((c.tc : Thread Cert.DGateRefIdeal.nD Cert.DGateRefIdeal.τ).loc Cert.DGateRefIdeal.main_arg0) = m' ((c.tc : Thread Cert.DGateRefIdeal.nD Cert.DGateRefIdeal.τ).loc Cert.DGateRefIdeal.main_arg0)
          ∧ r.2.mem ((c.tc : Thread Cert.DGateRefIdeal.nD Cert.DGateRefIdeal.τ).loc Cert.DGateRefIdeal.main_arg1) = m' ((c.tc : Thread Cert.DGateRefIdeal.nD Cert.DGateRefIdeal.τ).loc Cert.DGateRefIdeal.main_arg1)
          ∧ r.2.mem ((c.tc : Thread Cert.DGateRefIdeal.nD Cert.DGateRefIdeal.τ).loc Cert.DGateRefIdeal.main_arg2) = m' ((c.tc : Thread Cert.DGateRefIdeal.nD Cert.DGateRefIdeal.τ).loc Cert.DGateRefIdeal.main_arg2)
          ∧ r.2.mem ((c.tc : Thread Cert.DGateRefIdeal.nD Cert.DGateRefIdeal.τ).loc Cert.DGateRefIdeal.main_arg3) = m' ((c.tc : Thread Cert.DGateRefIdeal.nD Cert.DGateRefIdeal.τ).loc Cert.DGateRefIdeal.main_arg3))

def Claim : Prop :=
  ∃ (hKernel : Cert.Kernel.Facts) (hKernelIdeal : Cert.KernelIdeal.Facts) (hReferenceIdeal : Cert.ReferenceIdeal.Facts) (hDwIn : Cert.DwIn.Facts) (hDwInIdeal : Cert.DwInIdeal.Facts) (hDwInRefIdeal : Cert.DwInRefIdeal.Facts) (hDInProj : Cert.DInProj.Facts) (hDInProjIdeal : Cert.DInProjIdeal.Facts) (hDInProjRefIdeal : Cert.DInProjRefIdeal.Facts) (hInProj : Cert.InProj.Facts) (hInProjIdeal : Cert.InProjIdeal.Facts) (hInProjRefIdeal : Cert.InProjRefIdeal.Facts) (hDwOut : Cert.DwOut.Facts) (hDwOutIdeal : Cert.DwOutIdeal.Facts) (hDwOutRefIdeal : Cert.DwOutRefIdeal.Facts) (hGateOut : Cert.GateOut.Facts) (hGateOutIdeal : Cert.GateOutIdeal.Facts) (hGateOutRefIdeal : Cert.GateOutRefIdeal.Facts) (hDGate : Cert.DGate.Facts) (hDGateIdeal : Cert.DGateIdeal.Facts) (hDGateRefIdeal : Cert.DGateRefIdeal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwIn (hDwIn := hDwIn)
    ∧ quiescent_DwInIdeal (hDwInIdeal := hDwInIdeal)
    ∧ quiescent_DwInRefIdeal (hDwInRefIdeal := hDwInRefIdeal)
    ∧ quiescent_DInProj (hDInProj := hDInProj)
    ∧ quiescent_DInProjIdeal (hDInProjIdeal := hDInProjIdeal)
    ∧ quiescent_DInProjRefIdeal (hDInProjRefIdeal := hDInProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_GateOut (hGateOut := hGateOut)
    ∧ quiescent_GateOutIdeal (hGateOutIdeal := hGateOutIdeal)
    ∧ quiescent_GateOutRefIdeal (hGateOutRefIdeal := hGateOutRefIdeal)
    ∧ quiescent_DGate (hDGate := hDGate)
    ∧ quiescent_DGateIdeal (hDGateIdeal := hDGateIdeal)
    ∧ quiescent_DGateIdeal_pre_finite_gate (hDGateIdeal := hDGateIdeal) (hPre_finite_gate := hPre_finite_gate)
    ∧ quiescent_DGateRefIdeal (hDGateRefIdeal := hDGateRefIdeal)
    ∧ quiescent_DGateRefIdeal_pre_finite_gate (hDGateRefIdeal := hDGateRefIdeal) (hPre_finite_gate := hPre_finite_gate)
    ∧ preserves_Kernel_KernelIdeal
    ∧ algebraic_KernelIdeal_ReferenceIdeal_pre_finite (hKernelIdeal := hKernelIdeal) (hReferenceIdeal := hReferenceIdeal) (hPre_finite := hPre_finite)
    ∧ preserves_DwIn_DwInIdeal
    ∧ algebraic_DwInIdeal_DwInRefIdeal (hDwInIdeal := hDwInIdeal) (hDwInRefIdeal := hDwInRefIdeal)
    ∧ preserves_DInProj_DInProjIdeal
    ∧ algebraic_DInProjIdeal_DInProjRefIdeal (hDInProjIdeal := hDInProjIdeal) (hDInProjRefIdeal := hDInProjRefIdeal)
    ∧ preserves_InProj_InProjIdeal
    ∧ algebraic_InProjIdeal_InProjRefIdeal (hInProjIdeal := hInProjIdeal) (hInProjRefIdeal := hInProjRefIdeal)
    ∧ preserves_DwOut_DwOutIdeal
    ∧ algebraic_DwOutIdeal_DwOutRefIdeal (hDwOutIdeal := hDwOutIdeal) (hDwOutRefIdeal := hDwOutRefIdeal)
    ∧ preserves_GateOut_GateOutIdeal
    ∧ algebraic_GateOutIdeal_GateOutRefIdeal (hGateOutIdeal := hGateOutIdeal) (hGateOutRefIdeal := hGateOutRefIdeal)
    ∧ preserves_DGate_DGateIdeal
    ∧ algebraic_DGateIdeal_DGateRefIdeal_pre_finite_gate (hDGateIdeal := hDGateIdeal) (hDGateRefIdeal := hDGateRefIdeal) (hPre_finite_gate := hPre_finite_gate)
-- ==== Pre_finite.lean ====
abbrev S8192x6x192 : Shape := ⟨3, ![8192, 6, 192]⟩
abbrev S8192x6x128 : Shape := ⟨3, ![8192, 6, 128]⟩
abbrev S8192 : Shape := ⟨1, ![8192]⟩
abbrev S8192x2048 : Shape := ⟨2, ![8192, 2048]⟩
abbrev S_ : Shape := ⟨0, ![]⟩
abbrev S8192x768 : Shape := ⟨2, ![8192, 768]⟩

class Facts : Prop where
  bcast_S_S8192x6x192 : S_.BroadcastsInDim S8192x6x192 (![] : Fin 0 → Fin S8192x6x192.rank)
  reducesTo_S8192x6x192_S_d0_1_2 : S8192x6x192.ReducesTo [0, 1, 2] S_
  h_S_ : 0 < S_.numel
  bcast_S_S8192x6x128 : S_.BroadcastsInDim S8192x6x128 (![] : Fin 0 → Fin S8192x6x128.rank)
  reducesTo_S8192x6x128_S_d0_1_2 : S8192x6x128.ReducesTo [0, 1, 2] S_
  slices_S8192x2048_S8192x768_0_0 : S8192x2048.Slices ![0, 0] S8192x768
  bcast_S_S8192x768 : S_.BroadcastsInDim S8192x768 (![] : Fin 0 → Fin S8192x768.rank)
  reducesTo_S8192x768_S_d0_1 : S8192x768.ReducesTo [0, 1] S_

variable [Facts]

def fn_part1 {F : FTy → Type} [FloatOps F] (main_v13 : IVec S_ 1) (main_v15 : FVec F S8192x768 .f32) (main_v16 : FVec F S8192x768 .f32) : IVec S_ 1 :=
  let main_v17 : IVec S8192x768 1 := cmpf .olt main_v15 main_v16
  let main_c_5 : IVec S_ 1 := constantI S_ 1 1#1
  let main_v18 : IVec S_ 1 := (fun x v => Host.reduce IntOp.andi x v reducesTo_S8192x768_S_d0_1 h_S_) main_v17 main_c_5
  let main_v19 : IVec S_ 1 := andi main_v13 main_v18
  main_v19

def fn {F : FTy → Type} [FloatOps F] (main_arg0 : FVec F S8192x6x192 .f32) (main_arg1 : FVec F S8192x6x192 .f32) (main_arg2 : FVec F S8192x6x128 .f32) (main_arg3 : IVec S8192 32) (main_arg4 : FVec F S8192x2048 .f32) : IVec S_ 1 :=
  let main_v0 : FVec F S8192x6x192 .f32 := Host.absf main_arg0
  let main_cst : FVec F S_ .f32 := constant S_ .f32 0x7F800000#32
  let main_v1 : FVec F S8192x6x192 .f32 := broadcastInDim S8192x6x192 ![] bcast_S_S8192x6x192 main_cst
  let main_v2 : IVec S8192x6x192 1 := cmpf .olt main_v0 main_v1
  let main_c : IVec S_ 1 := constantI S_ 1 1#1
  let main_v3 : IVec S_ 1 := (fun x v => Host.reduce IntOp.andi x v reducesTo_S8192x6x192_S_d0_1_2 h_S_) main_v2 main_c
  let main_v4 : FVec F S8192x6x192 .f32 := Host.absf main_arg1
  let main_cst_0 : FVec F S_ .f32 := constant S_ .f32 0x7F800000#32
  let main_v5 : FVec F S8192x6x192 .f32 := broadcastInDim S8192x6x192 ![] bcast_S_S8192x6x192 main_cst_0
  let main_v6 : IVec S8192x6x192 1 := cmpf .olt main_v4 main_v5
  let main_c_1 : IVec S_ 1 := constantI S_ 1 1#1
  let main_v7 : IVec S_ 1 := (fun x v => Host.reduce IntOp.andi x v reducesTo_S8192x6x192_S_d0_1_2 h_S_) main_v6 main_c_1
  let main_v8 : IVec S_ 1 := andi main_v3 main_v7
  let main_v9 : FVec F S8192x6x128 .f32 := Host.absf main_arg2
  let main_cst_2 : FVec F S_ .f32 := constant S_ .f32 0x7F800000#32
  let main_v10 : FVec F S8192x6x128 .f32 := broadcastInDim S8192x6x128 ![] bcast_S_S8192x6x128 main_cst_2
  let main_v11 : IVec S8192x6x128 1 := cmpf .olt main_v9 main_v10
  let main_c_3 : IVec S_ 1 := constantI S_ 1 1#1
  let main_v12 : IVec S_ 1 := (fun x v => Host.reduce IntOp.andi x v reducesTo_S8192x6x128_S_d0_1_2 h_S_) main_v11 main_c_3
  let main_v13 : IVec S_ 1 := andi main_v8 main_v12
  let main_v14 : FVec F S8192x768 .f32 := (extractStridedSlice S8192x768 ![0, 0] · slices_S8192x2048_S8192x768_0_0) main_arg4
  let main_v15 : FVec F S8192x768 .f32 := Host.absf main_v14
  let main_cst_4 : FVec F S_ .f32 := constant S_ .f32 0x7F800000#32
  let main_v16 : FVec F S8192x768 .f32 := broadcastInDim S8192x768 ![] bcast_S_S8192x768 main_cst_4
  fn_part1 (F := F) main_v13 main_v15 main_v16
-- ==== Pre_finite_gate.lean ====
abbrev S8192x2048 : Shape := ⟨2, ![8192, 2048]⟩
abbrev S2048x2048 : Shape := ⟨2, ![2048, 2048]⟩
abbrev S8192x5760 : Shape := ⟨2, ![8192, 5760]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8192x2048 .f32) (main_arg1 : FVec F S2048x2048 .f32) (main_arg2 : FVec F S8192x2048 .f32) (main_arg3 : FVec F S8192x5760 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  main_v13
-- ==== Kernel.lean ====
abbrev S8192x6x192 : Shape := ⟨3, ![8192, 6, 192]⟩
abbrev S8192x6x128 : Shape := ⟨3, ![8192, 6, 128]⟩
abbrev S8192 : Shape := ⟨1, ![8192]⟩
abbrev S8192x2048 : Shape := ⟨2, ![8192, 2048]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S8192x6x64 : Shape := ⟨3, ![8192, 6, 64]⟩
abbrev S8192x1x32 : Shape := ⟨3, ![8192, 1, 32]⟩
abbrev S8192x6x32 : Shape := ⟨3, ![8192, 6, 32]⟩
abbrev S6x8192x8192 : Shape := ⟨3, ![6, 8192, 8192]⟩
abbrev S1x8192 : Shape := ⟨2, ![1, 8192]⟩
abbrev S8192x8192 : Shape := ⟨2, ![8192, 8192]⟩
abbrev S6x8192 : Shape := ⟨2, ![6, 8192]⟩
abbrev S6x8192x1 : Shape := ⟨3, ![6, 8192, 1]⟩
abbrev S6x128x8192 : Shape := ⟨3, ![6, 128, 8192]⟩
abbrev S8192x768 : Shape := ⟨2, ![8192, 768]⟩
abbrev S8192x6x1 : Shape := ⟨3, ![8192, 6, 1]⟩
abbrev S8192x6x256 : Shape := ⟨3, ![8192, 6, 256]⟩
abbrev S8192x1536 : Shape := ⟨2, ![8192, 1536]⟩
abbrev S8192x1280 : Shape := ⟨2, ![8192, 1280]⟩
abbrev S6x8192x256 : Shape := ⟨3, ![6, 8192, 256]⟩
abbrev S6x8192x128 : Shape := ⟨3, ![6, 8192, 128]⟩
abbrev S2048x256 : Shape := ⟨2, ![2048, 256]⟩
abbrev S8192x256 : Shape := ⟨2, ![8192, 256]⟩
abbrev S2048x128 : Shape := ⟨2, ![2048, 128]⟩
abbrev S2048 : Shape := ⟨1, ![2048]⟩
abbrev S2048x1 : Shape := ⟨2, ![2048, 1]⟩
abbrev S512x256 : Shape := ⟨2, ![512, 256]⟩
abbrev S512x128 : Shape := ⟨2, ![512, 128]⟩
abbrev S2048x512 : Shape := ⟨2, ![2048, 512]⟩
abbrev S1536x256 : Shape := ⟨2, ![1536, 256]⟩
abbrev S1536x512 : Shape := ⟨2, ![1536, 512]⟩
abbrev S1536x1 : Shape := ⟨2, ![1536, 1]⟩
abbrev S1536x128 : Shape := ⟨2, ![1536, 128]⟩
abbrev S1024x256 : Shape := ⟨2, ![1024, 256]⟩
abbrev S1024x512 : Shape := ⟨2, ![1024, 512]⟩
abbrev S1024x1 : Shape := ⟨2, ![1024, 1]⟩
abbrev S1024x128 : Shape := ⟨2, ![1024, 128]⟩
abbrev S512x512 : Shape := ⟨2, ![512, 512]⟩
abbrev S512x1 : Shape := ⟨2, ![512, 1]⟩
abbrev S1x8192x256 : Shape := ⟨3, ![1, 8192, 256]⟩
abbrev S1x8192x128 : Shape := ⟨3, ![1, 8192, 128]⟩

abbrev nBuf : Space → Nat
  | .hbm => 145
  | .vmem => 18
  | .smem => 0
  | _ => 0

abbrev hbmTy0_0 (i : Nat) : BufTy := match i % 128 with
  | 0 => ⟨S8192x6x192, .f32⟩
  | 1 => ⟨S8192x6x192, .f32⟩
  | 2 => ⟨S8192x6x128, .f32⟩
  | 3 => ⟨S8192, .i32⟩
  | 4 => ⟨S8192x2048, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S8192, .f32⟩
  | 20 => ⟨S8192x1, .f32⟩
  | 21 => ⟨S1x32, .f32⟩
  | 22 => ⟨S8192x32, .f32⟩
  | 23 => ⟨S8192x32, .f32⟩
  | 24 => ⟨S8192x32, .f32⟩
  | 25 => ⟨S8192x32, .f32⟩
  | 26 => ⟨S8192x32, .f32⟩
  | 27 => ⟨S_, .f32⟩
  | 28 => ⟨S8192x64, .f32⟩
  | 29 => ⟨S8192x128, .f32⟩
  | 30 => ⟨S8192x32, .f32⟩
  | 31 => ⟨S8192x128, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S8192, .f32⟩
  | 47 => ⟨S8192x1, .f32⟩
  | 48 => ⟨S1x32, .f32⟩
  | 49 => ⟨S8192x32, .f32⟩
  | 50 => ⟨S8192x32, .f32⟩
  | 51 => ⟨S8192x32, .f32⟩
  | 52 => ⟨S8192x32, .f32⟩
  | 53 => ⟨S8192x32, .f32⟩
  | 54 => ⟨S8192x6x128, .f32⟩
  | 55 => ⟨S8192x6x64, .f32⟩
  | 56 => ⟨S8192x1x32, .f32⟩
  | 57 => ⟨S8192x1x32, .f32⟩
  | 58 => ⟨S8192x6x32, .f32⟩
  | 59 => ⟨S8192x6x32, .f32⟩
  | 60 => ⟨S8192x6x32, .f32⟩
  | 61 => ⟨S8192x6x32, .f32⟩
  | 62 => ⟨S8192x6x32, .f32⟩
  | 63 => ⟨S8192x6x32, .f32⟩
  | 64 => ⟨S8192x6x32, .f32⟩
  | 65 => ⟨S8192x6x32, .f32⟩
  | 66 => ⟨S8192x6x32, .f32⟩
  | 67 => ⟨S8192x6x32, .f32⟩
  | 68 => ⟨S8192x6x32, .f32⟩
  | 69 => ⟨S8192x6x32, .f32⟩
  | 70 => ⟨S8192x6x64, .f32⟩
  | 71 => ⟨S8192x6x192, .f32⟩
  | 72 => ⟨S8192, .i32⟩
  | 73 => ⟨S_, .i32⟩
  | 74 => ⟨S_, .i32⟩
  | 75 => ⟨S8192, .i32⟩
  | 76 => ⟨S8192, .i32⟩
  | 77 => ⟨S8192, .i32⟩
  | 78 => ⟨S_, .i32⟩
  | 79 => ⟨S8192, .i32⟩
  | 80 => ⟨S8192, .i1⟩
  | 81 => ⟨S8192, .i32⟩
  | 82 => ⟨S8192, .i32⟩
  | 83 => ⟨S_, .i32⟩
  | 84 => ⟨S8192, .i32⟩
  | 85 => ⟨S8192, .i1⟩
  | 86 => ⟨S8192, .i1⟩
  | 87 => ⟨S_, .i32⟩
  | 88 => ⟨S8192, .i32⟩
  | 89 => ⟨S8192, .i32⟩
  | 90 => ⟨S8192, .i32⟩
  | 91 => ⟨S6x8192x8192, .f32⟩
  | 92 => ⟨S_, .f32⟩
  | 93 => ⟨S6x8192x8192, .f32⟩
  | 94 => ⟨S6x8192x8192, .f32⟩
  | 95 => ⟨S1x8192, .i32⟩
  | 96 => ⟨S8192x1, .i32⟩
  | 97 => ⟨S8192x8192, .i32⟩
  | 98 => ⟨S8192x8192, .i32⟩
  | 99 => ⟨S8192x8192, .i1⟩
  | 100 => ⟨S_, .f32⟩
  | 101 => ⟨S_, .f32⟩
  | 102 => ⟨S6x8192x8192, .i1⟩
  | 103 => ⟨S6x8192x8192, .f32⟩
  | 104 => ⟨S6x8192x8192, .f32⟩
  | 105 => ⟨S_, .f32⟩
  | 106 => ⟨S6x8192, .f32⟩
  | 107 => ⟨S6x8192x1, .f32⟩
  | 108 => ⟨S6x8192x8192, .f32⟩
  | 109 => ⟨S6x8192x8192, .f32⟩
  | 110 => ⟨S6x8192x8192, .f32⟩
  | 111 => ⟨S_, .f32⟩
  | 112 => ⟨S6x8192, .f32⟩
  | 113 => ⟨S6x8192x1, .f32⟩
  | 114 => ⟨S6x8192x8192, .f32⟩
  | 115 => ⟨S6x8192x8192, .f32⟩
  | 116 => ⟨S6x128x8192, .f32⟩
  | 117 => ⟨S8192x6x128, .f32⟩
  | 118 => ⟨S8192x768, .f32⟩
  | 119 => ⟨S6x8192x1, .f32⟩
  | 120 => ⟨S6x8192x1, .f32⟩
  | 121 => ⟨S8192x6x1, .f32⟩
  | 122 => ⟨S8192x6x128, .f32⟩
  | 123 => ⟨S8192x768, .f32⟩
  | 124 => ⟨S_, .i32⟩
  | 125 => ⟨S_, .f32⟩
  | 126 => ⟨S8192x6x256, .f32⟩
  | 127 => ⟨S_, .f32⟩
  | _ => ⟨S8192x6x192, .f32⟩

abbrev hbmTy0_1 (i : Nat) : BufTy := match i % 128 with
  | 0 => ⟨S8192x6x256, .f32⟩
  | 1 => ⟨S8192x6x256, .f32⟩
  | 2 => ⟨S8192x1536, .f32⟩
  | 3 => ⟨S8192x1536, .bf16⟩
  | 4 => ⟨S_, .i32⟩
  | 5 => ⟨S_, .f32⟩
  | 6 => ⟨S8192x6x256, .f32⟩
  | 7 => ⟨S8192x1536, .f32⟩
  | 8 => ⟨S8192x1536, .bf16⟩
  | 9 => ⟨S8192x768, .f32⟩
  | 10 => ⟨S8192x768, .bf16⟩
  | 11 => ⟨S_, .f32⟩
  | 12 => ⟨S8192x1280, .f32⟩
  | 13 => ⟨S8192x2048, .f32⟩
  | 14 => ⟨S8192x1536, .bf16⟩
  | 15 => ⟨S6x8192x256, .f32⟩
  | 16 => ⟨S6x8192x128, .f32⟩
  | _ => ⟨S8192x6x192, .f32⟩

abbrev hbmTy (i : Nat) : BufTy := match i / 128 with
  | 0 => hbmTy0_0 i
  | 1 => hbmTy0_1 i
  | _ => ⟨S8192x6x192, .f32⟩

abbrev bufTy : (tb : Table) → Fin (tcTables nBuf tb) → BufTy
  | .hbm, ⟨i, _⟩ => hbmTy i
  | .local _ .vmem, ⟨0, _⟩ => ⟨S2048x256, .bf16⟩
  | .local _ .vmem, ⟨1, _⟩ => ⟨S2048x256, .bf16⟩
  | .local _ .vmem, ⟨2, _⟩ => ⟨S8192x256, .bf16⟩
  | .local _ .vmem, ⟨3, _⟩ => ⟨S8192x128, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x256, .bf16⟩
  | .local _ .vmem, ⟨15, _⟩ => ⟨S2048x256, .bf16⟩
  | .local _ .vmem, ⟨16, _⟩ => ⟨S8192x256, .f32⟩
  | .local _ .vmem, ⟨17, _⟩ => ⟨S8192x128, .f32⟩
  | _, _ => ⟨S8192x6x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_v8 : Ref sig .tc := ⟨.hbm, 82, rfl⟩
abbrev main_call0_c : Ref sig .tc := ⟨.hbm, 83, rfl⟩
abbrev main_call0_v9 : Ref sig .tc := ⟨.hbm, 84, rfl⟩
abbrev main_call0_v10 : Ref sig .tc := ⟨.hbm, 85, rfl⟩
abbrev main_call0_v11 : Ref sig .tc := ⟨.hbm, 86, rfl⟩
abbrev main_call0_c_0 : Ref sig .tc := ⟨.hbm, 87, rfl⟩
abbrev main_call0_v12 : Ref sig .tc := ⟨.hbm, 88, rfl⟩
abbrev main_call0_v13 : Ref sig .tc := ⟨.hbm, 89, rfl⟩
abbrev main_v59 : Ref sig .tc := ⟨.hbm, 90, rfl⟩
abbrev main_v60 : Ref sig .tc := ⟨.hbm, 91, rfl⟩
abbrev main_cst_8 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_9 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v68 : Ref sig .tc := ⟨.hbm, 104, rfl⟩
abbrev main_cst_10 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_11 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_12 : Ref sig .tc := ⟨.hbm, 124, rfl⟩
abbrev main_call2_v0 : Ref sig .tc := ⟨.hbm, 125, rfl⟩
abbrev main_v86 : Ref sig .tc := ⟨.hbm, 126, rfl⟩
abbrev main_cst_13 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_c_14 : Ref sig .tc := ⟨.hbm, 132, rfl⟩
abbrev main_call3_v0 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_15 : Ref sig .tc := ⟨.hbm, 139, rfl⟩
abbrev main_v96 : Ref sig .tc := ⟨.hbm, 140, rfl⟩
abbrev main_v97 : Ref sig .tc := ⟨.hbm, 141, rfl⟩
abbrev main_v98_0 : Ref sig .tc := ⟨.hbm, 142, rfl⟩
abbrev main_v98_1 : Ref sig .tc := ⟨.hbm, 143, rfl⟩
abbrev main_v98_2 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![6, 4], ![false, false]⟩

@[reducible] def k0_t1_loop (i : grid0.Coords) : Scf.Loop 32 :=
  let c0_i32_7 : BitVec 32 := 0#32
  let arg1 : BitVec 32 := BitVec.ofNat 32 (i 1).val
  let c4_i32 : BitVec 32 := 4#32
  let v12 : BitVec 32 := Scalar.muli arg1 c4_i32
  let v14 : BitVec 32 := Scalar.subi v12 c0_i32_7
  let c1_i32 : BitVec 32 := 1#32
  let v16 : BitVec 32 := Scalar.divsi v14 c1_i32
  let v17 : BitVec 32 := Scalar.muli v16 c1_i32
  let v18 : BitVec 32 := Scalar.addi c0_i32_7 v17
  let c1_i32_8 : BitVec 32 := 1#32
  ⟨c0_i32_7, v18, c1_i32_8⟩
def k0_mult1 (i : grid0.Coords) (k0_t1 : Fin (k0_t1_loop i).trips) : BitVec 32 :=
  let c0_i32_7 : BitVec 32 := 0#32
  let c1_i32_8 : BitVec 32 := 1#32
  let arg15 : BitVec 32 := Scf.iv c0_i32_7 c1_i32_8 k0_t1
  let c512_i32_139 : BitVec 32 := 512#32
  let v440 : BitVec 32 := Scalar.muli arg15 c512_i32_139
  v440
def k0_off1 (i : grid0.Coords) (k0_t1 : Fin (k0_t1_loop i).trips) : Fin 2 → Nat :=
  let c0_i32_7 : BitVec 32 := 0#32
  let c1_i32_8 : BitVec 32 := 1#32
  let arg15 : BitVec 32 := Scf.iv c0_i32_7 c1_i32_8 k0_t1
  let c512_i32_139 : BitVec 32 := 512#32
  let v440 : BitVec 32 := Scalar.muli arg15 c512_i32_139
  let v441 : BitVec 32 := v440
  let v442 : Index := Scalar.indexCast v441
  let c0_140 : Index := 0#32
  ![v442.toNat, 0]
def k0_off2 (i : grid0.Coords) (k0_t1 : Fin (k0_t1_loop i).trips) : Fin 2 → Nat :=
  let c0_i32_7 : BitVec 32 := 0#32
  let c1_i32_8 : BitVec 32 := 1#32
  let arg15 : BitVec 32 := Scf.iv c0_i32_7 c1_i32_8 k0_t1
  let c512_i32_139 : BitVec 32 := 512#32
  let v440 : BitVec 32 := Scalar.muli arg15 c512_i32_139
  let v441 : BitVec 32 := v440
  let v445 : Index := Scalar.indexCast v441
  let c0_141 : Index := 0#32
  ![v445.toNat, 0]
@[reducible] def k0_t2_loop (i : grid0.Coords) : Scf.Loop 32 :=
  let c0_i32_7 : BitVec 32 := 0#32
  let arg1 : BitVec 32 := BitVec.ofNat 32 (i 1).val
  let c4_i32 : BitVec 32 := 4#32
  let v12 : BitVec 32 := Scalar.muli arg1 c4_i32
  let v14 : BitVec 32 := Scalar.subi v12 c0_i32_7
  let c1_i32 : BitVec 32 := 1#32
  let v16 : BitVec 32 := Scalar.divsi v14 c1_i32
  let v17 : BitVec 32 := Scalar.muli v16 c1_i32
  let v18 : BitVec 32 := Scalar.addi c0_i32_7 v17
  let v15 : BitVec 32 := Scalar.addi c0_i32_7 v14
  let c1_i32_9 : BitVec 32 := 1#32
  ⟨v18, v15, c1_i32_9⟩
def k0_mult2 (i : grid0.Coords) (k0_t2 : Fin (k0_t2_loop i).trips) : BitVec 32 :=
  let c0_i32_7 : BitVec 32 := 0#32
  let arg1 : BitVec 32 := BitVec.ofNat 32 (i 1).val
  let c4_i32 : BitVec 32 := 4#32
  let v12 : BitVec 32 := Scalar.muli arg1 c4_i32
  let v14 : BitVec 32 := Scalar.subi v12 c0_i32_7
  let c1_i32 : BitVec 32 := 1#32
  let v16 : BitVec 32 := Scalar.divsi v14 c1_i32
  let v17 : BitVec 32 := Scalar.muli v16 c1_i32
  let v18 : BitVec 32 := Scalar.addi c0_i32_7 v17
  let c1_i32_9 : BitVec 32 := 1#32
  let arg15 : BitVec 32 := Scf.iv v18 c1_i32_9 k0_t2
  let c512_i32_139 : BitVec 32 := 512#32
  let v440 : BitVec 32 := Scalar.muli arg15 c512_i32_139
  v440
def k0_off3 (i : grid0.Coords) (k0_t2 : Fin (k0_t2_loop i).trips) : Fin 2 → Nat :=
  let c0_i32_7 : BitVec 32 := 0#32
  let arg1 : BitVec 32 := BitVec.ofNat 32 (i 1).val
  let c4_i32 : BitVec 32 := 4#32
  let v12 : BitVec 32 := Scalar.muli arg1 c4_i32
  let v14 : BitVec 32 := Scalar.subi v12 c0_i32_7
  let c1_i32 : BitVec 32 := 1#32
  let v16 : BitVec 32 := Scalar.divsi v14 c1_i32
  let v17 : BitVec 32 := Scalar.muli v16 c1_i32
  let v18 : BitVec 32 := Scalar.addi c0_i32_7 v17
  let c1_i32_9 : BitVec 32 := 1#32
  let arg15 : BitVec 32 := Scf.iv v18 c1_i32_9 k0_t2
  let c512_i32_139 : BitVec 32 := 512#32
  let v440 : BitVec 32 := Scalar.muli arg15 c512_i32_139
  let v441 : BitVec 32 := v440
  let v442 : Index := Scalar.indexCast v441
  let c0_140 : Index := 0#32
  ![v442.toNat, 0]
def k0_off4 (i : grid0.Coords) (k0_t2 : Fin (k0_t2_loop i).trips) : Fin 2 → Nat :=
  let c0_i32_7 : BitVec 32 := 0#32
  let arg1 : BitVec 32 := BitVec.ofNat 32 (i 1).val
  let c4_i32 : BitVec 32 := 4#32
  let v12 : BitVec 32 := Scalar.muli arg1 c4_i32
  let v14 : BitVec 32 := Scalar.subi v12 c0_i32_7
  let c1_i32 : BitVec 32 := 1#32
  let v16 : BitVec 32 := Scalar.divsi v14 c1_i32
  let v17 : BitVec 32 := Scalar.muli v16 c1_i32
  let v18 : BitVec 32 := Scalar.addi c0_i32_7 v17
  let c1_i32_9 : BitVec 32 := 1#32
  let arg15 : BitVec 32 := Scf.iv v18 c1_i32_9 k0_t2
  let c512_i32_139 : BitVec 32 := 512#32
  let v440 : BitVec 32 := Scalar.muli arg15 c512_i32_139
  let v441 : BitVec 32 := v440
  let v445 : Index := Scalar.indexCast v441
  let c0_141 : Index := 0#32
  ![v445.toNat, 0]
def k0_mult3 (i : grid0.Coords) : BitVec 32 :=
  let arg1 : BitVec 32 := BitVec.ofNat 32 (i 1).val
  let c4_i32_10 : BitVec 32 := 4#32
  let v21 : BitVec 32 := Scalar.muli arg1 c4_i32_10
  let c0_i32_11 : BitVec 32 := 0#32
  let v22 : BitVec 32 := Scalar.addi v21 c0_i32_11
  let c512_i32 : BitVec 32 := 512#32
  let v23 : BitVec 32 := Scalar.muli v22 c512_i32
  v23
def k0_off5 (i : grid0.Coords) (c0_i32_11 : BitVec 32) : Fin 2 → Nat :=
  let arg1 : BitVec 32 := BitVec.ofNat 32 (i 1).val
  let c4_i32_10 : BitVec 32 := 4#32
  let v21 : BitVec 32 := Scalar.muli arg1 c4_i32_10
  let v22 : BitVec 32 := Scalar.addi v21 c0_i32_11
  let c512_i32 : BitVec 32 := 512#32
  let v23 : BitVec 32 := Scalar.muli v22 c512_i32
  let v24 : BitVec 32 := v23
  let v25 : Index := Scalar.indexCast v24
  let c0_12 : Index := 0#32
  ![v25.toNat, 0]
def k0_off6 (i : grid0.Coords) (c0_i32_11 : BitVec 32) : Fin 2 → Nat :=
  let arg1 : BitVec 32 := BitVec.ofNat 32 (i 1).val
  let c4_i32_10 : BitVec 32 := 4#32
  let v21 : BitVec 32 := Scalar.muli arg1 c4_i32_10
  let v22 : BitVec 32 := Scalar.addi v21 c0_i32_11
  let c512_i32 : BitVec 32 := 512#32
  let v23 : BitVec 32 := Scalar.muli v22 c512_i32
  let v24 : BitVec 32 := v23
  let v28 : Index := Scalar.indexCast v24
  let c0_13 : Index := 0#32
  ![v28.toNat, 0]
def k0_mult4 (i : grid0.Coords) : BitVec 32 :=
  let arg1 : BitVec 32 := BitVec.ofNat 32 (i 1).val
  let c4_i32_39 : BitVec 32 := 4#32
  let v114 : BitVec 32 := Scalar.muli arg1 c4_i32_39
  let c1_i32_40 : BitVec 32 := 1#32
  let v115 : BitVec 32 := Scalar.addi v114 c1_i32_40
  let c512_i32_41 : BitVec 32 := 512#32
  let v116 : BitVec 32 := Scalar.muli v115 c512_i32_41
  v116
def k0_mult5 (i : grid0.Coords) : BitVec 32 :=
  let arg1 : BitVec 32 := BitVec.ofNat 32 (i 1).val
  let c4_i32_69 : BitVec 32 := 4#32
  let v214 : BitVec 32 := Scalar.muli arg1 c4_i32_69
  let c2_i32 : BitVec 32 := 2#32
  let v215 : BitVec 32 := Scalar.addi v214 c2_i32
  let c512_i32_70 : BitVec 32 := 512#32
  let v216 : BitVec 32 := Scalar.muli v215 c512_i32_70
  v216
def k0_mult6 (i : grid0.Coords) : BitVec 32 :=
  let arg1 : BitVec 32 := BitVec.ofNat 32 (i 1).val
  let c4_i32_98 : BitVec 32 := 4#32
  let v314 : BitVec 32 := Scalar.muli arg1 c4_i32_98
  let c3_i32 : BitVec 32 := 3#32
  let v315 : BitVec 32 := Scalar.addi v314 c3_i32
  let c512_i32_99 : BitVec 32 := 512#32
  let v316 : BitVec 32 := Scalar.muli v315 c512_i32_99
  v316
def k0_cond2 (i : grid0.Coords) : BitVec 1 :=
  let arg1 : BitVec 32 := BitVec.ofNat 32 (i 1).val
  let c3_i32_137 : BitVec 32 := 3#32
  let v437 : BitVec 1 := Scalar.cmpi .eq arg1 c3_i32_137
  let v438 : BitVec 32 := Scalar.extui v437
  let c0_i32_138 : BitVec 32 := 0#32
  let v439 : BitVec 1 := Scalar.cmpi .ne v438 c0_i32_138
  v439

def k0_off7 (i : grid0.Coords) : Fin 3 → Nat :=
  let arg0 : BitVec 32 := BitVec.ofNat 32 (i 0).val
  let c0_i32_139_r0 : BitVec 32 := 0#32
  let c0_i32_140_r0 : BitVec 32 := 0#32
  ![arg0.toNat, 0, 0]
def k0_off8 (i : grid0.Coords) : Fin 3 → Nat :=
  let arg0 : BitVec 32 := BitVec.ofNat 32 (i 0).val
  let c0_i32_139_r1 : BitVec 32 := 0#32
  let c0_i32_140_r1 : BitVec 32 := 0#32
  ![arg0.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x6x192 : Shape := ⟨3, ![8192, 6, 192]⟩
abbrev S8192x6x128 : Shape := ⟨3, ![8192, 6, 128]⟩
abbrev S8192 : Shape := ⟨1, ![8192]⟩
abbrev S8192x2048 : Shape := ⟨2, ![8192, 2048]⟩
abbrev S8192x768 : Shape := ⟨2, ![8192, 768]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x6x64 : Shape := ⟨3, ![8192, 6, 64]⟩
abbrev S8192x1x32 : Shape := ⟨3, ![8192, 1, 32]⟩
abbrev S8192x6x32 : Shape := ⟨3, ![8192, 6, 32]⟩
abbrev S6x8192x8192 : Shape := ⟨3, ![6, 8192, 8192]⟩
abbrev S1x8192 : Shape := ⟨2, ![1, 8192]⟩
abbrev S8192x8192 : Shape := ⟨2, ![8192, 8192]⟩
abbrev S6x8192 : Shape := ⟨2, ![6, 8192]⟩
abbrev S6x8192x1 : Shape := ⟨3, ![6, 8192, 1]⟩
abbrev S6x128x8192 : Shape := ⟨3, ![6, 128, 8192]⟩
abbrev S6x8192x192 : Shape := ⟨3, ![6, 8192, 192]⟩
abbrev S8192x6x256 : Shape := ⟨3, ![8192, 6, 256]⟩
abbrev S8192x1536 : Shape := ⟨2, ![8192, 1536]⟩
abbrev S6x8192x256 : Shape := ⟨3, ![6, 8192, 256]⟩
abbrev S6x8192x128 : Shape := ⟨3, ![6, 8192, 128]⟩

abbrev nBuf : Space → Nat
  | .hbm => 185
  | .vmem => 0
  | .smem => 0
  | _ => 0

abbrev hbmTy0_0 (i : Nat) : BufTy := match i % 128 with
  | 0 => ⟨S8192x6x192, .f32⟩
  | 1 => ⟨S8192x6x192, .f32⟩
  | 2 => ⟨S8192x6x128, .f32⟩
  | 3 => ⟨S8192, .i32⟩
  | 4 => ⟨S8192x2048, .f32⟩
  | 5 => ⟨S8192x768, .f32⟩
  | 6 => ⟨S8192x6x128, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S8192, .f32⟩
  | 22 => ⟨S8192x1, .f32⟩
  | 23 => ⟨S1x32, .f32⟩
  | 24 => ⟨S8192x32, .f32⟩
  | 25 => ⟨S8192x32, .f32⟩
  | 26 => ⟨S8192x32, .f32⟩
  | 27 => ⟨S8192x32, .f32⟩
  | 28 => ⟨S8192x32, .f32⟩
  | 29 => ⟨S8192x6x128, .f32⟩
  | 30 => ⟨S8192x6x64, .f32⟩
  | 31 => ⟨S8192x1x32, .f32⟩
  | 32 => ⟨S8192x1x32, .f32⟩
  | 33 => ⟨S8192x6x32, .f32⟩
  | 34 => ⟨S8192x6x32, .f32⟩
  | 35 => ⟨S8192x6x32, .f32⟩
  | 36 => ⟨S8192x6x32, .f32⟩
  | 37 => ⟨S8192x6x32, .f32⟩
  | 38 => ⟨S8192x6x32, .f32⟩
  | 39 => ⟨S8192x6x32, .f32⟩
  | 40 => ⟨S8192x6x32, .f32⟩
  | 41 => ⟨S8192x6x32, .f32⟩
  | 42 => ⟨S8192x6x32, .f32⟩
  | 43 => ⟨S8192x6x32, .f32⟩
  | 44 => ⟨S8192x6x32, .f32⟩
  | 45 => ⟨S8192x6x64, .f32⟩
  | 46 => ⟨S8192x6x192, .f32⟩
  | 47 => ⟨S8192, .i32⟩
  | 48 => ⟨S_, .i32⟩
  | 49 => ⟨S_, .i32⟩
  | 50 => ⟨S8192, .i32⟩
  | 51 => ⟨S8192, .i32⟩
  | 52 => ⟨S8192, .i32⟩
  | 53 => ⟨S_, .i32⟩
  | 54 => ⟨S8192, .i32⟩
  | 55 => ⟨S8192, .i1⟩
  | 56 => ⟨S8192, .i32⟩
  | 57 => ⟨S8192, .i32⟩
  | 58 => ⟨S_, .i32⟩
  | 59 => ⟨S8192, .i32⟩
  | 60 => ⟨S8192, .i1⟩
  | 61 => ⟨S8192, .i1⟩
  | 62 => ⟨S_, .i32⟩
  | 63 => ⟨S8192, .i32⟩
  | 64 => ⟨S8192, .i32⟩
  | 65 => ⟨S8192, .i32⟩
  | 66 => ⟨S6x8192x8192, .f32⟩
  | 67 => ⟨S_, .f32⟩
  | 68 => ⟨S6x8192x8192, .f32⟩
  | 69 => ⟨S6x8192x8192, .f32⟩
  | 70 => ⟨S1x8192, .i32⟩
  | 71 => ⟨S8192x1, .i32⟩
  | 72 => ⟨S8192x8192, .i32⟩
  | 73 => ⟨S8192x8192, .i32⟩
  | 74 => ⟨S8192x8192, .i1⟩
  | 75 => ⟨S_, .f32⟩
  | 76 => ⟨S_, .f32⟩
  | 77 => ⟨S6x8192x8192, .i1⟩
  | 78 => ⟨S6x8192x8192, .f32⟩
  | 79 => ⟨S6x8192x8192, .f32⟩
  | 80 => ⟨S_, .f32⟩
  | 81 => ⟨S6x8192x8192, .f32⟩
  | 82 => ⟨S_, .f32⟩
  | 83 => ⟨S6x8192, .f32⟩
  | 84 => ⟨S6x8192x1, .f32⟩
  | 85 => ⟨S6x8192x8192, .f32⟩
  | 86 => ⟨S6x8192x8192, .i1⟩
  | 87 => ⟨S6x8192x8192, .f32⟩
  | 88 => ⟨S_, .f32⟩
  | 89 => ⟨S6x8192, .f32⟩
  | 90 => ⟨S_, .f32⟩
  | 91 => ⟨S6x8192, .f32⟩
  | 92 => ⟨S6x8192, .f32⟩
  | 93 => ⟨S_, .f32⟩
  | 94 => ⟨S6x8192, .f32⟩
  | 95 => ⟨S6x8192, .i1⟩
  | 96 => ⟨S_, .f32⟩
  | 97 => ⟨S6x8192, .f32⟩
  | 98 => ⟨S6x8192, .i1⟩
  | 99 => ⟨S_, .f32⟩
  | 100 => ⟨S6x8192, .f32⟩
  | 101 => ⟨S_, .f32⟩
  | 102 => ⟨S6x8192, .f32⟩
  | 103 => ⟨S_, .f32⟩
  | 104 => ⟨S6x8192, .f32⟩
  | 105 => ⟨S6x8192, .f32⟩
  | 106 => ⟨S6x8192, .f32⟩
  | 107 => ⟨S6x8192x1, .f32⟩
  | 108 => ⟨S6x8192x8192, .f32⟩
  | 109 => ⟨S6x8192x8192, .f32⟩
  | 110 => ⟨S6x8192x8192, .f32⟩
  | 111 => ⟨S_, .f32⟩
  | 112 => ⟨S6x8192, .f32⟩
  | 113 => ⟨S6x8192x1, .f32⟩
  | 114 => ⟨S6x8192x8192, .f32⟩
  | 115 => ⟨S6x8192x8192, .f32⟩
  | 116 => ⟨S6x8192x1, .f32⟩
  | 117 => ⟨S_, .f32⟩
  | 118 => ⟨S6x8192x1, .f32⟩
  | 119 => ⟨S6x8192x1, .f32⟩
  | 120 => ⟨S6x128x8192, .f32⟩
  | 121 => ⟨S8192x6x128, .f32⟩
  | 122 => ⟨S6x128x8192, .f32⟩
  | 123 => ⟨S6x8192x8192, .f32⟩
  | 124 => ⟨S6x128x8192, .f32⟩
  | 125 => ⟨S8192x6x128, .f32⟩
  | 126 => ⟨S6x8192x8192, .f32⟩
  | 127 => ⟨S6x8192x8192, .f32⟩
  | _ => ⟨S8192x6x192, .f32⟩

abbrev hbmTy0_1 (i : Nat) : BufTy := match i % 128 with
  | 0 => ⟨S6x8192x8192, .f32⟩
  | 1 => ⟨S_, .f32⟩
  | 2 => ⟨S6x8192, .f32⟩
  | 3 => ⟨S6x8192x1, .f32⟩
  | 4 => ⟨S6x8192x1, .f32⟩
  | 5 => ⟨S6x8192x8192, .f32⟩
  | 6 => ⟨S6x8192x8192, .f32⟩
  | 7 => ⟨S_, .f32⟩
  | 8 => ⟨S6x8192, .f32⟩
  | 9 => ⟨S6x8192x8192, .f32⟩
  | 10 => ⟨S6x8192x8192, .f32⟩
  | 11 => ⟨S6x8192x8192, .f32⟩
  | 12 => ⟨S_, .f32⟩
  | 13 => ⟨S6x8192x8192, .f32⟩
  | 14 => ⟨S6x8192x8192, .f32⟩
  | 15 => ⟨S_, .f32⟩
  | 16 => ⟨S6x8192x8192, .f32⟩
  | 17 => ⟨S6x8192x8192, .f32⟩
  | 18 => ⟨S6x8192x192, .f32⟩
  | 19 => ⟨S8192x6x192, .f32⟩
  | 20 => ⟨S6x8192x192, .f32⟩
  | 21 => ⟨S8192x6x192, .f32⟩
  | 22 => ⟨S8192x6x128, .f32⟩
  | 23 => ⟨S8192x6x64, .f32⟩
  | 24 => ⟨S8192x6x32, .f32⟩
  | 25 => ⟨S8192x6x32, .f32⟩
  | 26 => ⟨S8192x6x32, .f32⟩
  | 27 => ⟨S8192x6x32, .f32⟩
  | 28 => ⟨S8192x6x32, .f32⟩
  | 29 => ⟨S8192x6x32, .f32⟩
  | 30 => ⟨S8192x6x32, .f32⟩
  | 31 => ⟨S8192x6x32, .f32⟩
  | 32 => ⟨S8192x6x32, .f32⟩
  | 33 => ⟨S8192x6x32, .f32⟩
  | 34 => ⟨S8192x6x32, .f32⟩
  | 35 => ⟨S8192x6x32, .f32⟩
  | 36 => ⟨S8192x6x32, .f32⟩
  | 37 => ⟨S_, .f32⟩
  | 38 => ⟨S8192x6x64, .f32⟩
  | 39 => ⟨S_, .f32⟩
  | 40 => ⟨S8192x6x64, .f32⟩
  | 41 => ⟨S8192x6x64, .f32⟩
  | 42 => ⟨S_, .f32⟩
  | 43 => ⟨S8192x6x192, .f32⟩
  | 44 => ⟨S_, .f32⟩
  | 45 => ⟨S8192x6x192, .f32⟩
  | 46 => ⟨S8192x6x192, .f32⟩
  | 47 => ⟨S_, .i32⟩
  | 48 => ⟨S_, .f32⟩
  | 49 => ⟨S8192x6x256, .f32⟩
  | 50 => ⟨S8192x1536, .f32⟩
  | 51 => ⟨S8192x1536, .bf16⟩
  | 52 => ⟨S_, .i32⟩
  | 53 => ⟨S_, .f32⟩
  | 54 => ⟨S8192x6x256, .f32⟩
  | 55 => ⟨S6x8192x256, .f32⟩
  | 56 => ⟨S6x8192x128, .f32⟩
  | _ => ⟨S8192x6x192, .f32⟩

abbrev hbmTy (i : Nat) : BufTy := match i / 128 with
  | 0 => hbmTy0_0 i
  | 1 => hbmTy0_1 i
  | _ => ⟨S8192x6x192, .f32⟩

abbrev bufTy : (tb : Table) → Fin (tcTables nBuf tb) → BufTy
  | .hbm, ⟨i, _⟩ => hbmTy i
  | _, _ => ⟨S8192x6x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_c : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_0 : Ref sig .tc := ⟨.hbm, 62, rfl⟩
abbrev main_call0_v12 : Ref sig .tc := ⟨.hbm, 63, rfl⟩
abbrev main_call0_v13 : Ref sig .tc := ⟨.hbm, 64, rfl⟩
abbrev main_v39 : Ref sig .tc := ⟨.hbm, 65, rfl⟩
abbrev main_v40 : Ref sig .tc := ⟨.hbm, 66, rfl⟩
abbrev main_cst_3 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_4 : Ref sig .tc := ⟨.hbm, 75, rfl⟩
abbrev main_call1_v0 : Ref sig .tc := ⟨.hbm, 76, rfl⟩
abbrev main_v48_1 : Ref sig .tc := ⟨.hbm, 77, rfl⟩
abbrev main_call1_v2 : Ref sig .tc := ⟨.hbm, 78, rfl⟩
abbrev main_v48_0 : Ref sig .tc := ⟨.hbm, 79, rfl⟩
abbrev main_call1_cst : Ref sig .tc := ⟨.hbm, 80, rfl⟩
abbrev main_v48_2 : Ref sig .tc := ⟨.hbm, 81, rfl⟩
abbrev main_cst_5 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_6 : Ref sig .tc := ⟨.hbm, 88, rfl⟩
abbrev main_v54 : Ref sig .tc := ⟨.hbm, 89, rfl⟩
abbrev main_cst_7 : Ref sig .tc := ⟨.hbm, 90, rfl⟩
abbrev main_v55 : Ref sig .tc := ⟨.hbm, 91, rfl⟩
abbrev main_v56 : Ref sig .tc := ⟨.hbm, 92, rfl⟩
abbrev main_cst_8 : Ref sig .tc := ⟨.hbm, 93, rfl⟩
abbrev main_v57 : Ref sig .tc := ⟨.hbm, 94, rfl⟩
abbrev main_v58 : Ref sig .tc := ⟨.hbm, 95, rfl⟩
abbrev main_cst_9 : Ref sig .tc := ⟨.hbm, 96, rfl⟩
abbrev main_v59 : Ref sig .tc := ⟨.hbm, 97, rfl⟩
abbrev main_v60 : Ref sig .tc := ⟨.hbm, 98, rfl⟩
abbrev main_cst_10 : Ref sig .tc := ⟨.hbm, 99, rfl⟩
abbrev main_v61 : Ref sig .tc := ⟨.hbm, 100, rfl⟩
abbrev main_cst_11 : Ref sig .tc := ⟨.hbm, 101, rfl⟩
abbrev main_v62 : Ref sig .tc := ⟨.hbm, 102, rfl⟩
abbrev main_cst_12 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_13 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_14 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_15 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_16 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_call2_cst : Ref sig .tc := ⟨.hbm, 140, rfl⟩
abbrev main_call2_v0 : Ref sig .tc := ⟨.hbm, 141, rfl⟩
abbrev main_v95 : Ref sig .tc := ⟨.hbm, 142, rfl⟩
abbrev main_cst_17 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_18 : Ref sig .tc := ⟨.hbm, 165, rfl⟩
abbrev main_v117 : Ref sig .tc := ⟨.hbm, 166, rfl⟩
abbrev main_cst_19 : Ref sig .tc := ⟨.hbm, 167, rfl⟩
abbrev main_v118 : Ref sig .tc := ⟨.hbm, 168, rfl⟩
abbrev main_v119 : Ref sig .tc := ⟨.hbm, 169, rfl⟩
abbrev main_cst_20 : Ref sig .tc := ⟨.hbm, 170, rfl⟩
abbrev main_v120 : Ref sig .tc := ⟨.hbm, 171, rfl⟩
abbrev main_cst_21 : Ref sig .tc := ⟨.hbm, 172, rfl⟩
abbrev main_v121 : Ref sig .tc := ⟨.hbm, 173, rfl⟩
abbrev main_v122 : Ref sig .tc := ⟨.hbm, 174, rfl⟩
abbrev main_c_22 : Ref sig .tc := ⟨.hbm, 175, rfl⟩
abbrev main_call3_v0 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_c_23 : Ref sig .tc := ⟨.hbm, 180, rfl⟩
abbrev main_call4_v0 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩

abbrev nD : Nat := 1
abbrev τ : Topo := Topo.v7x

variable {F : FTy → Type} [FloatOps F]
-- ==== DwIn.lean ====
abbrev S8192x2048 : Shape := ⟨2, ![8192, 2048]⟩
abbrev S8192x512 : Shape := ⟨2, ![8192, 512]⟩
abbrev S8192x256 : Shape := ⟨2, ![8192, 256]⟩
abbrev S8192x128 : Shape := ⟨2, ![8192, 128]⟩
abbrev S8192x5760 : Shape := ⟨2, ![8192, 5760]⟩
abbrev S2048x5760 : Shape := ⟨2, ![2048, 5760]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 15
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x256, .f32⟩
  | .hbm, ⟨3, _⟩ => ⟨S8192x256, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x2048, .f32⟩
  | .hbm, ⟨10, _⟩ => ⟨S8192x128, .f32⟩
  | .hbm, ⟨11, _⟩ => ⟨S8192x5760, .f32⟩
  | .hbm, ⟨12, _⟩ => ⟨S8192x5760, .bf16⟩
  | .hbm, ⟨13, _⟩ => ⟨S8192x2048, .bf16⟩
  | .hbm, ⟨14, _⟩ => ⟨S2048x5760, .f32⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8192x2048 : Shape := ⟨2, ![8192, 2048]⟩
abbrev S8192x512 : Shape := ⟨2, ![8192, 512]⟩
abbrev S8192x256 : Shape := ⟨2, ![8192, 256]⟩
abbrev S8192x128 : Shape := ⟨2, ![8192, 128]⟩
abbrev S_ : Shape := ⟨0, ![]⟩
abbrev S2048x5760 : Shape := ⟨2, ![2048, 5760]⟩
abbrev S8192x5760 : Shape := ⟨2, ![8192, 5760]⟩
abbrev S5760x2048 : Shape := ⟨2, ![5760, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x256, .f32⟩
  | .hbm, ⟨3, _⟩ => ⟨S8192x256, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x2048, .f32⟩
  | .hbm, ⟨10, _⟩ => ⟨S8192x128, .f32⟩
  | .hbm, ⟨11, _⟩ => ⟨S_, .f32⟩
  | .hbm, ⟨12, _⟩ => ⟨S2048x5760, .f32⟩
  | .hbm, ⟨13, _⟩ => ⟨S8192x5760, .f32⟩
  | .hbm, ⟨14, _⟩ => ⟨S8192x512, .f32⟩
  | .hbm, ⟨15, _⟩ => ⟨S8192x256, .f32⟩
  | .hbm, ⟨16, _⟩ => ⟨S8192x256, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x2048, .f32⟩
  | .hbm, ⟨23, _⟩ => ⟨S8192x128, .f32⟩
  | .hbm, ⟨24, _⟩ => ⟨S8192x5760, .f32⟩
  | .hbm, ⟨25, _⟩ => ⟨S5760x2048, .f32⟩
  | .hbm, ⟨26, _⟩ => ⟨S2048x5760, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== DInProj.lean ====
abbrev S8192x5696 : Shape := ⟨2, ![8192, 5696]⟩
abbrev S2048x5696 : Shape := ⟨2, ![2048, 5696]⟩
abbrev S8192x2048 : Shape := ⟨2, ![8192, 2048]⟩
abbrev S1x8192x5696 : Shape := ⟨3, ![1, 8192, 5696]⟩
abbrev S1x8192x512 : Shape := ⟨3, ![1, 8192, 512]⟩
abbrev S8192x512 : Shape := ⟨2, ![8192, 512]⟩
abbrev S1x8192x256 : Shape := ⟨3, ![1, 8192, 256]⟩
abbrev S8192x256 : Shape := ⟨2, ![8192, 256]⟩
abbrev S1x8192x768 : Shape := ⟨3, ![1, 8192, 768]⟩
abbrev S8192x768 : Shape := ⟨2, ![8192, 768]⟩
abbrev S1x8192x64 : Shape := ⟨3, ![1, 8192, 64]⟩
abbrev S8192x64 : Shape := ⟨2, ![8192, 64]⟩
abbrev S_ : Shape := ⟨0, ![]⟩
abbrev S8192x5760 : Shape := ⟨2, ![8192, 5760]⟩
abbrev S1x2048x5696 : Shape := ⟨3, ![1, 2048, 5696]⟩
abbrev S1x2048x512 : Shape := ⟨3, ![1, 2048, 512]⟩
abbrev S2048x512 : Shape := ⟨2, ![2048, 512]⟩
abbrev S1x2048x256 : Shape := ⟨3, ![1, 2048, 256]⟩
abbrev S2048x256 : Shape := ⟨2, ![2048, 256]⟩
abbrev S1x2048x768 : Shape := ⟨3, ![1, 2048, 768]⟩
abbrev S2048x768 : Shape := ⟨2, ![2048, 768]⟩
abbrev S1x2048x64 : Shape := ⟨3, ![1, 2048, 64]⟩
abbrev S2048x64 : Shape := ⟨2, ![2048, 64]⟩
abbrev S2048x5760 : Shape := ⟨2, ![2048, 5760]⟩
abbrev S1024x1920 : Shape := ⟨2, ![1024, 1920]⟩
abbrev S1024x1024 : Shape := ⟨2, ![1024, 1024]⟩

abbrev nBuf : Space → Nat
  | .hbm => 66
  | .vmem => 9
  | .smem => 0
  | _ => 0

abbrev bufTy : (tb : Table) → Fin (tcTables nBuf tb) → BufTy
  | .hbm, ⟨0, _⟩ => ⟨S8192x5696, .f32⟩
  | .hbm, ⟨1, _⟩ => ⟨S2048x5696, .f32⟩
  | .hbm, ⟨2, _⟩ => ⟨S8192x2048, .f32⟩
  | .hbm, ⟨3, _⟩ => ⟨S1x8192x5696, .f32⟩
  | .hbm, ⟨4, _⟩ => ⟨S1x8192x512, .f32⟩
  | .hbm, ⟨5, _⟩ => ⟨S8192x512, .f32⟩
  | .hbm, ⟨6, _⟩ => ⟨S1x8192x256, .f32⟩
  | .hbm, ⟨7, _⟩ => ⟨S8192x256, .f32⟩
  | .hbm, ⟨8, _⟩ => ⟨S1x8192x256, .f32⟩
  | .hbm, ⟨9, _⟩ => ⟨S8192x256, .f32⟩
  | .hbm, ⟨10, _⟩ => ⟨S1x8192x512, .f32⟩
  | .hbm, ⟨11, _⟩ => ⟨S8192x512, .f32⟩
  | .hbm, ⟨12, _⟩ => ⟨S1x8192x512, .f32⟩
  | .hbm, ⟨13, _⟩ => ⟨S8192x512, .f32⟩
  | .hbm, ⟨14, _⟩ => ⟨S1x8192x512, .f32⟩
  | .hbm, ⟨15, _⟩ => ⟨S8192x512, .f32⟩
  | .hbm, ⟨16, _⟩ => ⟨S1x8192x512, .f32⟩
  | .hbm, ⟨17, _⟩ => ⟨S8192x512, .f32⟩
  | .hbm, ⟨18, _⟩ => ⟨S1x8192x512, .f32⟩
  | .hbm, ⟨19, _⟩ => ⟨S8192x512, .f32⟩
  | .hbm, ⟨20, _⟩ => ⟨S1x8192x768, .f32⟩
  | .hbm, ⟨21, _⟩ => ⟨S8192x768, .f32⟩
  | .hbm, ⟨22, _⟩ => ⟨S1x8192x512, .f32⟩
  | .hbm, ⟨23, _⟩ => ⟨S8192x512, .f32⟩
  | .hbm, ⟨24, _⟩ => ⟨S1x8192x512, .f32⟩
  | .hbm, ⟨25, _⟩ => ⟨S8192x512, .f32⟩
  | .hbm, ⟨26, _⟩ => ⟨S1x8192x256, .f32⟩
  | .hbm, ⟨27, _⟩ => ⟨S8192x256, .f32⟩
  | .hbm, ⟨28, _⟩ => ⟨S1x8192x64, .f32⟩
  | .hbm, ⟨29, _⟩ => ⟨S8192x64, .f32⟩
  | .hbm, ⟨30, _⟩ => ⟨S_, .f32⟩
  | .hbm, ⟨31, _⟩ => ⟨S8192x64, .f32⟩
  | .hbm, ⟨32, _⟩ => ⟨S8192x5760, .f32⟩
  | .hbm, ⟨33, _⟩ => ⟨S8192x5760, .bf16⟩
  | .hbm, ⟨34, _⟩ => ⟨S2048x5696, .bf16⟩
  | .hbm, ⟨35, _⟩ => ⟨S1x2048x5696, .bf16⟩
  | .hbm, ⟨36, _⟩ => ⟨S1x2048x512, .bf16⟩
  | .hbm, ⟨37, _⟩ => ⟨S2048x512, .bf16⟩
  | .hbm, ⟨38, _⟩ => ⟨S1x2048x256, .bf16⟩
  | .hbm, ⟨39, _⟩ => ⟨S2048x256, .bf16⟩
  | .hbm, ⟨40, _⟩ => ⟨S1x2048x256, .bf16⟩
  | .hbm, ⟨41, _⟩ => ⟨S2048x256, .bf16⟩
  | .hbm, ⟨42, _⟩ => ⟨S1x2048x512, .bf16⟩
  | .hbm, ⟨43, _⟩ => ⟨S2048x512, .bf16⟩
  | .hbm, ⟨44, _⟩ => ⟨S1x2048x512, .bf16⟩
  | .hbm, ⟨45, _⟩ => ⟨S2048x512, .bf16⟩
  | .hbm, ⟨46, _⟩ => ⟨S1x2048x512, .bf16⟩
  | .hbm, ⟨47, _⟩ => ⟨S2048x512, .bf16⟩
  | .hbm, ⟨48, _⟩ => ⟨S1x2048x512, .bf16⟩
  | .hbm, ⟨49, _⟩ => ⟨S2048x512, .bf16⟩
  | .hbm, ⟨50, _⟩ => ⟨S1x2048x512, .bf16⟩
  | .hbm, ⟨51, _⟩ => ⟨S2048x512, .bf16⟩
  | .hbm, ⟨52, _⟩ => ⟨S1x2048x768, .bf16⟩
  | .hbm, ⟨53, _⟩ => ⟨S2048x768, .bf16⟩
  | .hbm, ⟨54, _⟩ => ⟨S1x2048x512, .bf16⟩
  | .hbm, ⟨55, _⟩ => ⟨S2048x512, .bf16⟩
  | .hbm, ⟨56, _⟩ => ⟨S1x2048x512, .bf16⟩
  | .hbm, ⟨57, _⟩ => ⟨S2048x512, .bf16⟩
  | .hbm, ⟨58, _⟩ => ⟨S1x2048x256, .bf16⟩
  | .hbm, ⟨59, _⟩ => ⟨S2048x256, .bf16⟩
  | .hbm, ⟨60, _⟩ => ⟨S1x2048x64, .bf16⟩
  | .hbm, ⟨61, _⟩ => ⟨S2048x64, .bf16⟩
  | .hbm, ⟨62, _⟩ => ⟨S_, .bf16⟩
  | .hbm, ⟨63, _⟩ => ⟨S2048x64, .bf16⟩
  | .hbm, ⟨64, _⟩ => ⟨S2048x5760, .bf16⟩
  | .hbm, ⟨65, _⟩ => ⟨S8192x2048, .f32⟩
  | .local _ .vmem, ⟨0, _⟩ => ⟨S1024x1920, .bf16⟩
  | .local _ .vmem, ⟨1, _⟩ => ⟨S1024x1920, .bf16⟩
  | .local _ .vmem, ⟨2, _⟩ => ⟨S1024x1920, .bf16⟩
  | .local _ .vmem, ⟨3, _⟩ => ⟨S1024x1920, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5696, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_cst : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_cst_0 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DInProjRefIdeal.lean ====
abbrev S8192x5696 : Shape := ⟨2, ![8192, 5696]⟩
abbrev S2048x5696 : Shape := ⟨2, ![2048, 5696]⟩
abbrev S8192x2048 : Shape := ⟨2, ![8192, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x5696, .f32⟩
  | .hbm, ⟨1, _⟩ => ⟨S2048x5696, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x5696, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x5696, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== InProj.lean ====
abbrev S8192x2048 : Shape := ⟨2, ![8192, 2048]⟩
abbrev S2048x5760 : Shape := ⟨2, ![2048, 5760]⟩
abbrev S8192x5760 : Shape := ⟨2, ![8192, 5760]⟩
abbrev S1024x2048 : Shape := ⟨2, ![1024, 2048]⟩
abbrev S2048x1152 : Shape := ⟨2, ![2048, 1152]⟩
abbrev S1024x1152 : Shape := ⟨2, ![1024, 1152]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x5760, .f32⟩
  | .hbm, ⟨2, _⟩ => ⟨S8192x2048, .bf16⟩
  | .hbm, ⟨3, _⟩ => ⟨S2048x5760, .bf16⟩
  | .hbm, ⟨4, _⟩ => ⟨S8192x5760, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S8192x2048 : Shape := ⟨2, ![8192, 2048]⟩
abbrev S2048x5760 : Shape := ⟨2, ![2048, 5760]⟩
abbrev S8192x5760 : Shape := ⟨2, ![8192, 5760]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5760, .f32⟩
  | .hbm, ⟨2, _⟩ => ⟨S8192x5760, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DwOut.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GateOut.lean ====
abbrev S8192x768 : Shape := ⟨2, ![8192, 768]⟩
abbrev S8192x512 : Shape := ⟨2, ![8192, 512]⟩
abbrev S8192x256 : Shape := ⟨2, ![8192, 256]⟩
abbrev S8192x5760 : Shape := ⟨2, ![8192, 5760]⟩
abbrev S2048x2048 : Shape := ⟨2, ![2048, 2048]⟩
abbrev S8192x2048 : Shape := ⟨2, ![8192, 2048]⟩
abbrev S2048 : Shape := ⟨1, ![2048]⟩
abbrev S1x2048 : Shape := ⟨2, ![1, 2048]⟩
abbrev S256x768 : Shape := ⟨2, ![256, 768]⟩
abbrev S256x512 : Shape := ⟨2, ![256, 512]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 31
  | .smem => 0
  | _ => 0

abbrev bufTy : (tb : Table) → Fin (tcTables nBuf tb) → BufTy
  | .hbm, ⟨0, _⟩ => ⟨S8192x768, .f32⟩
  | .hbm, ⟨1, _⟩ => ⟨S8192x512, .f32⟩
  | .hbm, ⟨2, _⟩ => ⟨S8192x512, .f32⟩
  | .hbm, ⟨3, _⟩ => ⟨S8192x256, .f32⟩
  | .hbm, ⟨4, _⟩ => ⟨S8192x5760, .f32⟩
  | .hbm, ⟨5, _⟩ => ⟨S2048x2048, .f32⟩
  | .hbm, ⟨6, _⟩ => ⟨S8192x2048, .f32⟩
  | .hbm, ⟨7, _⟩ => ⟨S2048, .f32⟩
  | .hbm, ⟨8, _⟩ => ⟨S2048, .f32⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8192x2048, .bf16⟩
  | .hbm, ⟨14, _⟩ => ⟨S8192x2048, .f32⟩
  | .hbm, ⟨15, _⟩ => ⟨S8192x2048, .bf16⟩
  | .hbm, ⟨16, _⟩ => ⟨S8192x2048, .f32⟩
  | .local _ .vmem, ⟨0, _⟩ => ⟨S256x768, .f32⟩
  | .local _ .vmem, ⟨1, _⟩ => ⟨S256x768, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x256, .f32⟩
  | .local _ .vmem, ⟨7, _⟩ => ⟨S256x256, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S2048x2048, .bf16⟩
  | .local _ .vmem, ⟨17, _⟩ => ⟨S256x2048, .f32⟩
  | .local _ .vmem, ⟨18, _⟩ => ⟨S256x2048, .f32⟩
  | .local _ .vmem, ⟨19, _⟩ => ⟨S1x2048, .f32⟩
  | .local _ .vmem, ⟨20, _⟩ => ⟨S1x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .bf16⟩
  | .local _ .vmem, ⟨24, _⟩ => ⟨S256x2048, .bf16⟩
  | .local _ .vmem, ⟨25, _⟩ => ⟨S256x2048, .f32⟩
  | .local _ .vmem, ⟨26, _⟩ => ⟨S256x2048, .f32⟩
  | .local _ .vmem, ⟨27, _⟩ => ⟨S256x2048, .bf16⟩
  | .local _ .vmem, ⟨28, _⟩ => ⟨S256x2048, .bf16⟩
  | .local _ .vmem, ⟨29, _⟩ => ⟨S256x2048, .f32⟩
  | .local _ .vmem, ⟨30, _⟩ => ⟨S256x2048, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_7 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== GateOutRefIdeal.lean ====
abbrev S8192x768 : Shape := ⟨2, ![8192, 768]⟩
abbrev S8192x512 : Shape := ⟨2, ![8192, 512]⟩
abbrev S8192x256 : Shape := ⟨2, ![8192, 256]⟩
abbrev S8192x5760 : Shape := ⟨2, ![8192, 5760]⟩
abbrev S2048x2048 : Shape := ⟨2, ![2048, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 90
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x512, .f32⟩
  | .hbm, ⟨2, _⟩ => ⟨S8192x512, .f32⟩
  | .hbm, ⟨3, _⟩ => ⟨S8192x256, .f32⟩
  | .hbm, ⟨4, _⟩ => ⟨S8192x5760, .f32⟩
  | .hbm, ⟨5, _⟩ => ⟨S2048x2048, .f32⟩
  | .hbm, ⟨6, _⟩ => ⟨S8192x2048, .f32⟩
  | .hbm, ⟨7, _⟩ => ⟨S2048, .f32⟩
  | .hbm, ⟨8, _⟩ => ⟨S2048, .f32⟩
  | .hbm, ⟨9, _⟩ => ⟨S8192x2048, .f32⟩
  | .hbm, ⟨10, _⟩ => ⟨S8192x2048, .f32⟩
  | .hbm, ⟨11, _⟩ => ⟨S8192x768, .f32⟩
  | .hbm, ⟨12, _⟩ => ⟨S8192x512, .f32⟩
  | .hbm, ⟨13, _⟩ => ⟨S8192x512, .f32⟩
  | .hbm, ⟨14, _⟩ => ⟨S8192x256, .f32⟩
  | .hbm, ⟨15, _⟩ => ⟨S8192x768, .f32⟩
  | .hbm, ⟨16, _⟩ => ⟨S8192x768, .f32⟩
  | .hbm, ⟨17, _⟩ => ⟨S_, .f32⟩
  | .hbm, ⟨18, _⟩ => ⟨S8192x768, .f32⟩
  | .hbm, ⟨19, _⟩ => ⟨S8192x768, .f32⟩
  | .hbm, ⟨20, _⟩ => ⟨S_, .f32⟩
  | .hbm, ⟨21, _⟩ => ⟨S8192x768, .f32⟩
  | .hbm, ⟨22, _⟩ => ⟨S8192x768, .f32⟩
  | .hbm, ⟨23, _⟩ => ⟨S8192x768, .f32⟩
  | .hbm, ⟨24, _⟩ => ⟨S8192x768, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x256, .f32⟩
  | .hbm, ⟨46, _⟩ => ⟨S8192x256, .f32⟩
  | .hbm, ⟨47, _⟩ => ⟨S_, .f32⟩
  | .hbm, ⟨48, _⟩ => ⟨S8192x256, .f32⟩
  | .hbm, ⟨49, _⟩ => ⟨S8192x256, .f32⟩
  | .hbm, ⟨50, _⟩ => ⟨S_, .f32⟩
  | .hbm, ⟨51, _⟩ => ⟨S8192x256, .f32⟩
  | .hbm, ⟨52, _⟩ => ⟨S8192x256, .f32⟩
  | .hbm, ⟨53, _⟩ => ⟨S8192x256, .f32⟩
  | .hbm, ⟨54, _⟩ => ⟨S8192x256, .f32⟩
  | .hbm, ⟨55, _⟩ => ⟨S8192x2048, .f32⟩
  | .hbm, ⟨56, _⟩ => ⟨S_, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S8192x1, .f32⟩
  | .hbm, ⟨80, _⟩ => ⟨S8192x2048, .f32⟩
  | .hbm, ⟨81, _⟩ => ⟨S8192x2048, .f32⟩
  | .hbm, ⟨82, _⟩ => ⟨S1x2048, .f32⟩
  | .hbm, ⟨83, _⟩ => ⟨S8192x2048, .f32⟩
  | .hbm, ⟨84, _⟩ => ⟨S8192x2048, .f32⟩
  | .hbm, ⟨85, _⟩ => ⟨S1x2048, .f32⟩
  | .hbm, ⟨86, _⟩ => ⟨S8192x2048, .f32⟩
  | .hbm, ⟨87, _⟩ => ⟨S8192x2048, .f32⟩
  | .hbm, ⟨88, _⟩ => ⟨S8192x2048, .bf16⟩
  | .hbm, ⟨89, _⟩ => ⟨S8192x2048, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v8 : Ref sig .tc := ⟨.hbm, 33, rfl⟩
abbrev main_v9 : Ref sig .tc := ⟨.hbm, 34, rfl⟩
abbrev main_call2_v0 : Ref sig .tc := ⟨.hbm, 35, rfl⟩
abbrev main_call2_v1 : Ref sig .tc := ⟨.hbm, 36, rfl⟩
abbrev main_call2_cst : Ref sig .tc := ⟨.hbm, 37, rfl⟩
abbrev main_call2_v2 : Ref sig .tc := ⟨.hbm, 38, rfl⟩
abbrev main_call2_v3 : Ref sig .tc := ⟨.hbm, 39, rfl⟩
abbrev main_call2_cst_0 : Ref sig .tc := ⟨.hbm, 40, rfl⟩
abbrev main_call2_v4 : Ref sig .tc := ⟨.hbm, 41, rfl⟩
abbrev main_call2_v5 : Ref sig .tc := ⟨.hbm, 42, rfl⟩
abbrev main_v10 : Ref sig .tc := ⟨.hbm, 43, rfl⟩
abbrev main_v11 : Ref sig .tc := ⟨.hbm, 44, rfl⟩
abbrev main_call3_v0 : Ref sig .tc := ⟨.hbm, 45, rfl⟩
abbrev main_call3_v1 : Ref sig .tc := ⟨.hbm, 46, rfl⟩
abbrev main_call3_cst : Ref sig .tc := ⟨.hbm, 47, rfl⟩
abbrev main_call3_v2 : Ref sig .tc := ⟨.hbm, 48, rfl⟩
abbrev main_call3_v3 : Ref sig .tc := ⟨.hbm, 49, rfl⟩
abbrev main_call3_cst_0 : Ref sig .tc := ⟨.hbm, 50, rfl⟩
abbrev main_call3_v4 : Ref sig .tc := ⟨.hbm, 51, rfl⟩
abbrev main_call3_v5 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_cst : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_cst_0 : Ref sig .tc := ⟨.hbm, 61, rfl⟩
abbrev main_v19 : Ref sig .tc := ⟨.hbm, 62, rfl⟩
abbrev main_v20 : Ref sig .tc := ⟨.hbm, 63, rfl⟩
abbrev main_cst_1 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_2 : Ref sig .tc := ⟨.hbm, 70, rfl⟩
abbrev main_v26 : Ref sig .tc := ⟨.hbm, 71, rfl⟩
abbrev main_v27 : Ref sig .tc := ⟨.hbm, 72, rfl⟩
abbrev main_cst_3 : Ref sig .tc := ⟨.hbm, 73, rfl⟩
abbrev main_v28 : Ref sig .tc := ⟨.hbm, 74, rfl⟩
abbrev main_v29 : Ref sig .tc := ⟨.hbm, 75, rfl⟩
abbrev main_cst_4 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩

abbrev nD : Nat := 1
abbrev τ : Topo := Topo.v7x

variable {F : FTy → Type} [FloatOps F]
-- ==== DGate.lean ====
abbrev S8192x2048 : Shape := ⟨2, ![8192, 2048]⟩
abbrev S2048x2048 : Shape := ⟨2, ![2048, 2048]⟩
abbrev S8192x5760 : Shape := ⟨2, ![8192, 5760]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x5760, .f32⟩
  | .hbm, ⟨4, _⟩ => ⟨S2048x2048, .bf16⟩
  | .hbm, ⟨5, _⟩ => ⟨S8192x2048, .f32⟩
  | .hbm, ⟨6, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DGateRefIdeal.lean ====
abbrev S8192x2048 : Shape := ⟨2, ![8192, 2048]⟩
abbrev S2048x2048 : Shape := ⟨2, ![2048, 2048]⟩
abbrev S8192x5760 : Shape := ⟨2, ![8192, 5760]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x5760, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩

abbrev nD : Nat := 1
abbrev τ : Topo := Topo.v7x

variable {F : FTy → Type} [FloatOps F]
-- ==== Proof.Spec.lean ====
module

public import Idealize.ShloMosaic.PureOps.Ideal.Laws
public import Idealize.ShloMosaic.Lib.Pipeline.Value
public import Mathlib.Algebra.BigOperators.Intervals

@[expose] public section

noncomputable section

namespace Cert.KernelIdeal.Val

open Idealize.ShloMosaic
open scoped BigOperators

/-! ## What one grid point adds, over arrays indexed by naturals -/

/-- What one grid point works on: the position of its first row, its own rows of queries and of the output's gradient, the
   head's keys and values, and per row the logarithm of the softmax's sum and the product of the output with its gradient. -/
structure Pt where
  B : ℕ
  q : ℕ → ℕ → EReal
  k : ℕ → ℕ → EReal
  v : ℕ → ℕ → EReal
  g : ℕ → ℕ → EReal
  lse : ℕ → EReal
  dlt : ℕ → EReal

namespace Pt

variable (D : Pt)

/-- The weight of row `r` on key `J`: zero where the key's chunk of 64 lies after the row's. -/
def w (r J : ℕ) : EReal :=
  if J / 64 ≤ (D.B + r) / 64 then Ideal.exp (∑ d : Fin 256, D.q r d * D.k J d - D.lse r) else 0

/-- The gradient of the logit of row `r` and key `J`. -/
def l (r J : ℕ) : EReal := D.w r J * (∑ d : Fin 128, D.g r d * D.v J d - D.dlt r)

/-- What the point adds to the gradient of key `J`. -/
def ck (J d : ℕ) : EReal := ∑ r : Fin 2048, D.l r J * D.q r d

/-- What the point adds to the gradient of value `J`. -/
def cv (J d : ℕ) : EReal := ∑ r : Fin 2048, D.w r J * D.g r d

/-- The gradient of query `r` from the first `n` keys. -/
def cq (n r d : ℕ) : EReal := ∑ J ∈ Finset.range n, D.l r J * D.k J d

theorem w_of_lt {r J : ℕ} (h : (D.B + r) / 64 < J / 64) : D.w r J = 0 := if_neg (Nat.not_le.mpr h)

theorem l_of_lt {r J : ℕ} (h : (D.B + r) / 64 < J / 64) : D.l r J = 0 := by
  unfold l; rw [D.w_of_lt h, zero_mul]

/-- The weight of a row and a key counted from the same position, itself a multiple of 64. -/
theorem w_block {M o : ℕ} (hM : D.B + o = 64 * M) (r a : ℕ) :
    (if a / 64 ≤ r / 64 then Ideal.exp (∑ d : Fin 256, D.q (o + r) d * D.k (D.B + o + a) d - D.lse (o + r)) else 0)
      = D.w (o + r) (D.B + o + a) := by
  unfold w
  have : (D.B + o + a) / 64 ≤ (D.B + (o + r)) / 64 ↔ a / 64 ≤ r / 64 := by
    rw [← Nat.add_assoc, hM]; omega
  simp only [this]

/-- The weight of a key before the point's first row. -/
theorem w_before {J M : ℕ} (hM : D.B = 64 * M) (hJ : J < D.B) (r : ℕ) :
    Ideal.exp (∑ d : Fin 256, D.q r d * D.k J d - D.lse r) = D.w r J := by
  unfold w; rw [if_pos]; omega

/-- A sum over the point's rows whose first `o` terms vanish. -/
theorem sum_rows {o R : ℕ} (h : o + R = 2048) (f : ℕ → EReal) (hf : ∀ r < o, f r = 0) :
    ∑ r : Fin R, f (o + r) = ∑ r : Fin 2048, f r := by
  rw [Fin.sum_univ_eq_sum_range f 2048, ← h, Finset.sum_range_add, Finset.sum_eq_zero (fun r hr => hf r (Finset.mem_range.mp hr)),
    zero_add, Fin.sum_univ_eq_sum_range (fun r => f (o + r)) R]

theorem cq_add (n b r d : ℕ) : D.cq n r d + ∑ a : Fin b, D.l r (n + a) * D.k (n + a) d = D.cq (n + b) r d := by
  unfold cq; rw [Finset.sum_range_add, Fin.sum_univ_eq_sum_range (fun a => D.l r (n + a) * D.k (n + a) d) b]

/-- Keys past the point's last row give its queries nothing. -/
theorem cq_stop {n M r d : ℕ} (hM : D.B = 64 * M) (hr : r < 2048) (hn : D.B + 2048 ≤ n) : D.cq (D.B + 2048) r d = D.cq n r d := by
  obtain ⟨b, rfl⟩ := Nat.exists_eq_add_of_le hn
  rw [← D.cq_add (D.B + 2048) b, Finset.sum_eq_zero, add_zero]
  intro a _; rw [D.l_of_lt (by omega), zero_mul]

end Pt

/-! ## The chunk of a position, as the kernel's integer arithmetic computes it -/

/-- Floor division by 64 on words, as it is computed. -/
def fdiv (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

end Cert.KernelIdeal.Val
-- ==== Proof.Pay.lean ====
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelIdeal.Val

open Cert.KernelIdeal.Gen Idealize.ShloMosaic
open scoped BigOperators

theorem fdiv_eq : ∀ a : Fin 2048, fdiv (BitVec.ofNat 32 a.val) = BitVec.ofNat 32 (a.val / 64) := by decide +kernel

theorem sle_chunk : ∀ a b : Fin 32, (IntOp.cmpi .sle (BitVec.ofNat 32 a.val) (BitVec.ofNat 32 b.val) : BitVec 1) = if a.val ≤ b.val then 1#1 else 0#1 := by
  decide +kernel

/-- The mask of a tail at one position. -/
theorem mask_eq {a r : ℕ} (ha : a < 2048) (hr : r < 2048) :
    (IntOp.cmpi .sle (fdiv (BitVec.ofNat 32 a)) (fdiv (BitVec.ofNat 32 r)) : BitVec 1) = if a / 64 ≤ r / 64 then 1#1 else 0#1 := by
  have h1 := fdiv_eq ⟨a, ha⟩; have h2 := fdiv_eq ⟨r, hr⟩
  simp only at h1 h2
  rw [h1, h2]
  exact sle_chunk ⟨a / 64, by omega⟩ ⟨r / 64, by omega⟩

theorem named_mask : (Named.named κ "mask" 0xF149F2CA#32 : Ideal .f32) = (⊥ : EReal) := by
  show (κ "mask").getD _ = _
  simp [κ]

theorem exp_mask (x : EReal) : Ideal.exp (⊥ - x) = 0 := by
  rw [sub_eq_add_neg, EReal.bot_add]; rfl

theorem iota0 (r : Fin 2048) (a : Fin 512) : iota .tc S2048x512 32 [0] iota_S2048x512_d0_w32 (ix2 r a) = BitVec.ofNat 32 r.val := by pointwise
theorem iota1 (r : Fin 2048) (a : Fin 512) : iota .tc S2048x512 32 [1] iota_S2048x512_d1_w32 (ix2 r a) = BitVec.ofNat 32 a.val := by pointwise

theorem pay25_apply (r : Fin 2048) (a : Fin 512) : k0_pay25 (ix2 r a) = fdiv (BitVec.ofNat 32 a.val) := by
  rw [← iota1 r a]; rfl

theorem wt0_apply (v11 : FVec Ideal S2048x1 .f32) (v33 : FVec Ideal S2048x512 .f32) (r : Fin 2048) (a : Fin 512) :
    k0_pay28 v11 v33 k0_pay25 k0_pay26 k0_pay27 (ix2 r a) = if a.val / 64 ≤ r.val / 64 then Ideal.exp (v33 (ix2 r a) - v11 (ix2 r 0)) else 0 := by
  have hm : (IntOp.cmpi .sle (fdiv (BitVec.ofNat 32 a.val)) (fdiv (BitVec.ofNat 32 r.val)) : BitVec 1) = _ := mask_eq (by omega) r.isLt
  have hb : broadcastTo S2048x512 v11 broadcasts_S2048x1_S2048x512 (ix2 r a) = v11 (ix2 r 0) := by pointwise
  have e : k0_pay28 v11 v33 k0_pay25 k0_pay26 k0_pay27 (ix2 r a)
      = Ideal.exp (Scalar.select (IntOp.cmpi .sle (fdiv (iota .tc S2048x512 32 [1] iota_S2048x512_d1_w32 (ix2 r a))) (fdiv (iota .tc S2048x512 32 [0] iota_S2048x512_d0_w32 (ix2 r a)))) (v33 (ix2 r a)) (Named.named κ "mask" 0xF149F2CA#32 : Ideal .f32)
          - broadcastTo S2048x512 v11 broadcasts_S2048x1_S2048x512 (ix2 r a)) := rfl
  rw [e, iota0, iota1, hm, hb, named_mask]
  split
  · rfl
  · exact exp_mask _

theorem pay3_apply (v3 : Vec Ideal S2048x128 .f32) : k0_pay3 v3 = v3 := rfl

theorem pay4_apply (v3 v5 : Vec Ideal S2048x128 .f32) (r : Fin 2048) :
    k0_pay4 v3 v5 (ix2 r 0) = ∑ d : Fin 128, v3 (ix2 r d) * v5 (ix2 r d) := by
  pointwise [k0_pay4]

theorem pay5_apply (v10 : Vec Ideal S2048x1 .f32) : k0_pay5 v10 = v10 := by
  unfold k0_pay5; exact shapeCast_id _ _

theorem pay9_apply (v10 : Vec Ideal S2048x1 .f32) (kb : Vec Ideal S512x256 .bf16) (qb : Vec Ideal S2048x256 .bf16) (r : Fin 2048) (a : Fin 512) :
    k0_pay9 v10 kb qb (ix2 r a) = Ideal.exp (∑ d : Fin 256, qb (ix2 r d) * kb (ix2 a d) - v10 (ix2 r 0)) := by
  pointwise [k0_pay9, k0_pay8, k0_pay7, k0_pay5]

theorem pay10_apply (v3 v5 : Vec Ideal S2048x128 .f32) (v10 : Vec Ideal S2048x1 .f32) (kb : Vec Ideal S512x256 .bf16) (vb : Vec Ideal S512x128 .bf16)
    (qb : Vec Ideal S2048x256 .bf16) (r : Fin 2048) (a : Fin 512) :
    k0_pay10 v3 v5 v10 kb vb qb (ix2 r a) = k0_pay9 v10 kb qb (ix2 r a) * (∑ d : Fin 128, v3 (ix2 r d) * vb (ix2 a d) - k0_pay4 v3 v5 (ix2 r 0)) := by
  pointwise [k0_pay10, k0_pay3]

theorem pay11_apply (v3 v5 : Vec Ideal S2048x128 .f32) (v10 : Vec Ideal S2048x1 .f32) (kb : Vec Ideal S512x256 .bf16) (vb : Vec Ideal S512x128 .bf16)
    (qb : Vec Ideal S2048x256 .bf16) (old : Vec Ideal S512x256 .f32) (a : Fin 512) (d : Fin 256) :
    k0_pay11 v3 v5 v10 kb vb qb old (ix2 a d) = old (ix2 a d) + ∑ r : Fin 2048, k0_pay10 v3 v5 v10 kb vb qb (ix2 r a) * qb (ix2 r d) := by
  pointwise [k0_pay11, k0_pay8]

theorem pay12_apply (v3 : Vec Ideal S2048x128 .f32) (v10 : Vec Ideal S2048x1 .f32) (kb : Vec Ideal S512x256 .bf16)
    (qb : Vec Ideal S2048x256 .bf16) (old : Vec Ideal S512x128 .f32) (a : Fin 512) (d : Fin 128) :
    k0_pay12 v3 v10 kb qb old (ix2 a d) = old (ix2 a d) + ∑ r : Fin 2048, k0_pay9 v10 kb qb (ix2 r a) * v3 (ix2 r d) := by
  pointwise [k0_pay12, k0_pay3]

theorem pay13_apply (v3 v5 : Vec Ideal S2048x128 .f32) (v10 : Vec Ideal S2048x1 .f32) (acc : FVec Ideal S2048x256 .f32) (kb : Vec Ideal S512x256 .bf16) (vb : Vec Ideal S512x128 .bf16)
    (qb : Vec Ideal S2048x256 .bf16) (r : Fin 2048) (d : Fin 256) :
    k0_pay13 v3 v5 v10 acc kb vb qb (ix2 r d) = acc (ix2 r d) + ∑ a : Fin 512, k0_pay10 v3 v5 v10 kb vb qb (ix2 r a) * kb (ix2 a d) := by
  pointwise [k0_pay13, k0_pay7]

/-! ### Tail 0: rows from 0 on -/
theorem dl0_apply (v4 : FVec Ideal S2048x128 .bf16) (v9 v11 : FVec Ideal S2048x1 .f32) (vb : FVec Ideal S512x128 .bf16) (s : FVec Ideal S2048x512 .f32) (r : Fin 2048) (a : Fin 512) :
    k0_pay29 v4 v9 v11 vb s k0_pay25 k0_pay26 k0_pay27 (ix2 r a) = k0_pay28 v11 s k0_pay25 k0_pay26 k0_pay27 (ix2 r a) * (∑ d : Fin 128, v4 (ix2 r d) * vb (ix2 a d) - v9 (ix2 r 0)) := by
  pointwise [k0_pay29]

theorem dk0_apply (v4 : FVec Ideal S2048x128 .bf16) (v9 v11 : FVec Ideal S2048x1 .f32) (vb : FVec Ideal S512x128 .bf16) (qb : FVec Ideal S2048x256 .bf16) (s : FVec Ideal S2048x512 .f32) (old : Vec Ideal S512x256 .f32) (a : Fin 512) (d : Fin 256) :
    k0_pay30 v4 v9 v11 vb qb s k0_pay25 k0_pay26 k0_pay27 old (ix2 a d) = old (ix2 a d) + ∑ r : Fin 2048, k0_pay29 v4 v9 v11 vb s k0_pay25 k0_pay26 k0_pay27 (ix2 r a) * qb (ix2 r d) := by
  pointwise [k0_pay30]

theorem dv0_apply (v4 : FVec Ideal S2048x128 .bf16) (v11 : FVec Ideal S2048x1 .f32) (s : FVec Ideal S2048x512 .f32) (old : Vec Ideal S512x128 .f32) (a : Fin 512) (d : Fin 128) :
    k0_pay31 v4 v11 s k0_pay25 k0_pay26 k0_pay27 old (ix2 a d) = old (ix2 a d) + ∑ r : Fin 2048, k0_pay28 v11 s k0_pay25 k0_pay26 k0_pay27 (ix2 r a) * v4 (ix2 r d) := by
  pointwise [k0_pay31]

theorem dq0_apply (v4 : FVec Ideal S2048x128 .bf16) (v9 v11 : FVec Ideal S2048x1 .f32) (vb : FVec Ideal S512x128 .bf16) (old : FVec Ideal S2048x256 .f32) (kb : FVec Ideal S512x256 .bf16) (s : FVec Ideal S2048x512 .f32) (r : Fin 2048) (d : Fin 256) :
    k0_pay32 v4 v9 v11 old kb vb s k0_pay25 k0_pay26 k0_pay27 (ix2 r d) = old (ix2 r d) + ∑ a : Fin 512, k0_pay29 v4 v9 v11 vb s k0_pay25 k0_pay26 k0_pay27 (ix2 r a) * kb (ix2 a d) := by
  pointwise [k0_pay32]

theorem lg0_apply (k : Vec Ideal S512x256 .bf16) (q : Vec Ideal S2048x256 .bf16) (r : Fin 2048) (a : Fin 512) :
    k0_pay24 k q (ix2 r a) = ∑ d : Fin 256, q (ix2 r d) * k (ix2 a d) := by
  pointwise [k0_pay24, k0_pay21, k0_pay23]

theorem kb0_apply (k : Vec Ideal S512x256 .bf16) : k0_pay21 k = k := by unfold k0_pay21; exact shapeCast_id _ _
theorem vb0_apply (v : Vec Ideal S512x128 .bf16) : k0_pay22 v = v := by unfold k0_pay22; exact shapeCast_id _ _
theorem qb0_apply (q : Vec Ideal S2048x256 .bf16) : k0_pay23 q = q := by unfold k0_pay23; exact shapeCast_id _ _

/-! ### Tail 1: rows from 512 on -/
theorem iota0_1 (r : Fin 1536) (a : Fin 512) : iota .tc S1536x512 32 [0] iota_S1536x512_d0_w32 (ix2 r a) = BitVec.ofNat 32 r.val := by pointwise
theorem iota1_1 (r : Fin 1536) (a : Fin 512) : iota .tc S1536x512 32 [1] iota_S1536x512_d1_w32 (ix2 r a) = BitVec.ofNat 32 a.val := by pointwise

theorem wt1_apply (v11 : FVec Ideal S2048x1 .f32) (s : FVec Ideal S1536x512 .f32) (r : Fin 1536) (a : Fin 512) :
    k0_pay40 v11 s (iota .tc S1536x512 32 [0] iota_S1536x512_d0_w32) k0_pay37 64#32 k0_pay38 k0_pay39 (ix2 r a) = if a.val / 64 ≤ r.val / 64 then Ideal.exp (s (ix2 r a) - v11 (ix2 ⟨512 + r.val, by omega⟩ 0)) else 0 := by
  have hm : (IntOp.cmpi .sle (fdiv (BitVec.ofNat 32 a.val)) (fdiv (BitVec.ofNat 32 r.val)) : BitVec 1) = _ := mask_eq (by omega) (by omega)
  have hb : broadcastTo S1536x512 (extractStridedSlice S1536x1 ![512, 0] v11 slices_S2048x1_o512_0_S1536x1) broadcasts_S1536x1_S1536x512 (ix2 r a) = v11 (ix2 ⟨512 + r.val, by omega⟩ 0) := by pointwise
  have e : k0_pay40 v11 s (iota .tc S1536x512 32 [0] iota_S1536x512_d0_w32) k0_pay37 64#32 k0_pay38 k0_pay39 (ix2 r a)
      = Ideal.exp (Scalar.select (IntOp.cmpi .sle (fdiv (iota .tc S1536x512 32 [1] iota_S1536x512_d1_w32 (ix2 r a))) (fdiv (iota .tc S1536x512 32 [0] iota_S1536x512_d0_w32 (ix2 r a)))) (s (ix2 r a)) (Named.named κ "mask" 0xF149F2CA#32 : Ideal .f32)
          - broadcastTo S1536x512 (extractStridedSlice S1536x1 ![512, 0] v11 slices_S2048x1_o512_0_S1536x1) broadcasts_S1536x1_S1536x512 (ix2 r a)) := rfl
  rw [e, iota0_1, iota1_1, hm, hb, named_mask]
  split
  · rfl
  · exact exp_mask _

theorem dl1_apply (v4 : FVec Ideal S2048x128 .bf16) (v9 v11 : FVec Ideal S2048x1 .f32) (vb : FVec Ideal S512x128 .bf16) (s : FVec Ideal S1536x512 .f32) (r : Fin 1536) (a : Fin 512) :
    k0_pay41 v4 v9 v11 vb s (iota .tc S1536x512 32 [0] iota_S1536x512_d0_w32) k0_pay37 64#32 k0_pay38 k0_pay39 (ix2 r a) = k0_pay40 v11 s (iota .tc S1536x512 32 [0] iota_S1536x512_d0_w32) k0_pay37 64#32 k0_pay38 k0_pay39 (ix2 r a) * (∑ d : Fin 128, v4 (ix2 ⟨512 + r.val, by omega⟩ d) * vb (ix2 a d) - v9 (ix2 ⟨512 + r.val, by omega⟩ 0)) := by
  pointwise [k0_pay41]

theorem dk1_apply (v4 : FVec Ideal S2048x128 .bf16) (v9 v11 : FVec Ideal S2048x1 .f32) (vb : FVec Ideal S512x128 .bf16) (qb : FVec Ideal S1536x256 .bf16) (s : FVec Ideal S1536x512 .f32) (old : Vec Ideal S512x256 .f32) (a : Fin 512) (d : Fin 256) :
    k0_pay42 v4 v9 v11 vb qb s (iota .tc S1536x512 32 [0] iota_S1536x512_d0_w32) k0_pay37 64#32 k0_pay38 k0_pay39 old (ix2 a d) = old (ix2 a d) + ∑ r : Fin 1536, k0_pay41 v4 v9 v11 vb s (iota .tc S1536x512 32 [0] iota_S1536x512_d0_w32) k0_pay37 64#32 k0_pay38 k0_pay39 (ix2 r a) * qb (ix2 r d) := by
  pointwise [k0_pay42]

theorem dv1_apply (v4 : FVec Ideal S2048x128 .bf16) (v11 : FVec Ideal S2048x1 .f32) (s : FVec Ideal S1536x512 .f32) (old : Vec Ideal S512x128 .f32) (a : Fin 512) (d : Fin 128) :
    k0_pay43 v4 v11 s (iota .tc S1536x512 32 [0] iota_S1536x512_d0_w32) k0_pay37 64#32 k0_pay38 k0_pay39 old (ix2 a d) = old (ix2 a d) + ∑ r : Fin 1536, k0_pay40 v11 s (iota .tc S1536x512 32 [0] iota_S1536x512_d0_w32) k0_pay37 64#32 k0_pay38 k0_pay39 (ix2 r a) * v4 (ix2 ⟨512 + r.val, by omega⟩ d) := by
  pointwise [k0_pay43]

theorem dq1_lo (v4 : FVec Ideal S2048x128 .bf16) (v9 v11 : FVec Ideal S2048x1 .f32) (vb : FVec Ideal S512x128 .bf16) (old : FVec Ideal S2048x256 .f32) (kb : FVec Ideal S512x256 .bf16) (s : FVec Ideal S1536x512 .f32) (r : Fin 2048) (d : Fin 256) (h : r.val < 512) :
    k0_pay44 v4 v9 v11 old kb vb s (iota .tc S1536x512 32 [0] iota_S1536x512_d0_w32) k0_pay37 64#32 k0_pay38 k0_pay39 (ix2 r d) = old (ix2 r d) := by
  unfold k0_pay44
  refine (concatenate_pair_apply_left (t := S2048x256) (s₁ := S512x256) (s₂ := S1536x256) 0 _ _ _ _ rfl (ix2 ⟨r.val, h⟩ d) ?_).trans ?_
  · intro b; match b with
    | ⟨0, _⟩ => rfl
    | ⟨1, _⟩ => rfl
  · pointwise

theorem dq1_hi (v4 : FVec Ideal S2048x128 .bf16) (v9 v11 : FVec Ideal S2048x1 .f32) (vb : FVec Ideal S512x128 .bf16) (old : FVec Ideal S2048x256 .f32) (kb : FVec Ideal S512x256 .bf16) (s : FVec Ideal S1536x512 .f32) (r : Fin 1536) (d : Fin 256) :
    k0_pay44 v4 v9 v11 old kb vb s (iota .tc S1536x512 32 [0] iota_S1536x512_d0_w32) k0_pay37 64#32 k0_pay38 k0_pay39 (ix2 ⟨512 + r.val, by omega⟩ d) = old (ix2 ⟨512 + r.val, by omega⟩ d) + ∑ a : Fin 512, k0_pay41 v4 v9 v11 vb s (iota .tc S1536x512 32 [0] iota_S1536x512_d0_w32) k0_pay37 64#32 k0_pay38 k0_pay39 (ix2 r a) * kb (ix2 a d) := by
  unfold k0_pay44
  refine (concatenate_pair_apply_right (t := S2048x256) (s₁ := S512x256) (s₂ := S1536x256) 0 _ _ _ _ rfl rfl (ix2 r d) ?_ ?_).trans ?_
  · intro b hb; match b with
    | ⟨0, _⟩ => exact absurd rfl hb
    | ⟨1, _⟩ => rfl
  · show r.val + 512 = 512 + r.val; omega
  · pointwise

theorem lg1_apply (k : Vec Ideal S512x256 .bf16) (q : Vec Ideal S1536x256 .bf16) (r : Fin 1536) (a : Fin 512) :
    k0_pay36 (k0_pay33 k) q (ix2 r a) = ∑ d : Fin 256, q (ix2 r d) * k (ix2 a d) := by
  pointwise [k0_pay36, k0_pay33, k0_pay33, k0_pay35]

theorem kb1_apply (k : Vec Ideal S512x256 .bf16) : k0_pay33 k = k := by unfold k0_pay33; exact shapeCast_id _ _
theorem vb1_apply (v : Vec Ideal S512x128 .bf16) : k0_pay34 v = v := by unfold k0_pay34; exact shapeCast_id _ _
theorem qb1_apply (q : Vec Ideal S1536x256 .bf16) : k0_pay35 q = q := by unfold k0_pay35; exact shapeCast_id _ _

/-! ### Tail 2: rows from 1024 on -/
theorem iota0_2 (r : Fin 1024) (a : Fin 512) : iota .tc S1024x512 32 [0] iota_S1024x512_d0_w32 (ix2 r a) = BitVec.ofNat 32 r.val := by pointwise
theorem iota1_2 (r : Fin 1024) (a : Fin 512) : iota .tc S1024x512 32 [1] iota_S1024x512_d1_w32 (ix2 r a) = BitVec.ofNat 32 a.val := by pointwise

theorem wt2_apply (v11 : FVec Ideal S2048x1 .f32) (s : FVec Ideal S1024x512 .f32) (r : Fin 1024) (a : Fin 512) :
    k0_pay52 v11 s (iota .tc S1024x512 32 [0] iota_S1024x512_d0_w32) k0_pay49 64#32 k0_pay50 k0_pay51 0#32 (ix2 r a) = if a.val / 64 ≤ r.val / 64 then Ideal.exp (s (ix2 r a) - v11 (ix2 ⟨1024 + r.val, by omega⟩ 0)) else 0 := by
  have hm : (IntOp.cmpi .sle (fdiv (BitVec.ofNat 32 a.val)) (fdiv (BitVec.ofNat 32 r.val)) : BitVec 1) = _ := mask_eq (by omega) (by omega)
  have hb : broadcastTo S1024x512 (extractStridedSlice S1024x1 ![1024, 0] v11 slices_S2048x1_o1024_0_S1024x1) broadcasts_S1024x1_S1024x512 (ix2 r a) = v11 (ix2 ⟨1024 + r.val, by omega⟩ 0) := by pointwise
  have e : k0_pay52 v11 s (iota .tc S1024x512 32 [0] iota_S1024x512_d0_w32) k0_pay49 64#32 k0_pay50 k0_pay51 0#32 (ix2 r a)
      = Ideal.exp (Scalar.select (IntOp.cmpi .sle (fdiv (iota .tc S1024x512 32 [1] iota_S1024x512_d1_w32 (ix2 r a))) (fdiv (iota .tc S1024x512 32 [0] iota_S1024x512_d0_w32 (ix2 r a)))) (s (ix2 r a)) (Named.named κ "mask" 0xF149F2CA#32 : Ideal .f32)
          - broadcastTo S1024x512 (extractStridedSlice S1024x1 ![1024, 0] v11 slices_S2048x1_o1024_0_S1024x1) broadcasts_S1024x1_S1024x512 (ix2 r a)) := rfl
  rw [e, iota0_2, iota1_2, hm, hb, named_mask]
  split
  · rfl
  · exact exp_mask _

theorem dl2_apply (v4 : FVec Ideal S2048x128 .bf16) (v9 v11 : FVec Ideal S2048x1 .f32) (vb : FVec Ideal S512x128 .bf16) (s : FVec Ideal S1024x512 .f32) (r : Fin 1024) (a : Fin 512) :
    k0_pay53 v4 v9 v11 vb s (iota .tc S1024x512 32 [0] iota_S1024x512_d0_w32) k0_pay49 64#32 k0_pay50 k0_pay51 0#32 (ix2 r a) = k0_pay52 v11 s (iota .tc S1024x512 32 [0] iota_S1024x512_d0_w32) k0_pay49 64#32 k0_pay50 k0_pay51 0#32 (ix2 r a) * (∑ d : Fin 128, v4 (ix2 ⟨1024 + r.val, by omega⟩ d) * vb (ix2 a d) - v9 (ix2 ⟨1024 + r.val, by omega⟩ 0)) := by
  pointwise [k0_pay53]

theorem dk2_apply (v4 : FVec Ideal S2048x128 .bf16) (v9 v11 : FVec Ideal S2048x1 .f32) (vb : FVec Ideal S512x128 .bf16) (qb : FVec Ideal S1024x256 .bf16) (s : FVec Ideal S1024x512 .f32) (old : Vec Ideal S512x256 .f32) (a : Fin 512) (d : Fin 256) :
    k0_pay54 v4 v9 v11 vb qb s (iota .tc S1024x512 32 [0] iota_S1024x512_d0_w32) k0_pay49 64#32 k0_pay50 k0_pay51 0#32 old (ix2 a d) = old (ix2 a d) + ∑ r : Fin 1024, k0_pay53 v4 v9 v11 vb s (iota .tc S1024x512 32 [0] iota_S1024x512_d0_w32) k0_pay49 64#32 k0_pay50 k0_pay51 0#32 (ix2 r a) * qb (ix2 r d) := by
  pointwise [k0_pay54]

theorem dv2_apply (v4 : FVec Ideal S2048x128 .bf16) (v11 : FVec Ideal S2048x1 .f32) (s : FVec Ideal S1024x512 .f32) (old : Vec Ideal S512x128 .f32) (a : Fin 512) (d : Fin 128) :
    k0_pay56 (k0_pay55 v4 v11 s (iota .tc S1024x512 32 [0] iota_S1024x512_d0_w32) k0_pay49 64#32 k0_pay50 k0_pay51 0#32 old) (ix2 a d) = old (ix2 a d) + ∑ r : Fin 1024, k0_pay52 v11 s (iota .tc S1024x512 32 [0] iota_S1024x512_d0_w32) k0_pay49 64#32 k0_pay50 k0_pay51 0#32 (ix2 r a) * v4 (ix2 ⟨1024 + r.val, by omega⟩ d) := by
  pointwise [k0_pay56, k0_pay55]

theorem dq2_lo (v4 : FVec Ideal S2048x128 .bf16) (v9 v11 : FVec Ideal S2048x1 .f32) (vb : FVec Ideal S512x128 .bf16) (old : FVec Ideal S2048x256 .f32) (kb : FVec Ideal S512x256 .bf16) (s : FVec Ideal S1024x512 .f32) (r : Fin 2048) (d : Fin 256) (h : r.val < 1024) :
    k0_pay57 old kb (k0_pay53 v4 v9 v11 vb s (iota .tc S1024x512 32 [0] iota_S1024x512_d0_w32) k0_pay49 64#32 k0_pay50 k0_pay51 0#32) (ix2 r d) = old (ix2 r d) := by
  unfold k0_pay57
  refine (concatenate_pair_apply_left (t := S2048x256) (s₁ := S1024x256) (s₂ := S1024x256) 0 _ _ _ _ rfl (ix2 ⟨r.val, h⟩ d) ?_).trans ?_
  · intro b; match b with
    | ⟨0, _⟩ => rfl
    | ⟨1, _⟩ => rfl
  · pointwise

theorem dq2_hi (v4 : FVec Ideal S2048x128 .bf16) (v9 v11 : FVec Ideal S2048x1 .f32) (vb : FVec Ideal S512x128 .bf16) (old : FVec Ideal S2048x256 .f32) (kb : FVec Ideal S512x256 .bf16) (s : FVec Ideal S1024x512 .f32) (r : Fin 1024) (d : Fin 256) :
    k0_pay57 old kb (k0_pay53 v4 v9 v11 vb s (iota .tc S1024x512 32 [0] iota_S1024x512_d0_w32) k0_pay49 64#32 k0_pay50 k0_pay51 0#32) (ix2 ⟨1024 + r.val, by omega⟩ d) = old (ix2 ⟨1024 + r.val, by omega⟩ d) + ∑ a : Fin 512, k0_pay53 v4 v9 v11 vb s (iota .tc S1024x512 32 [0] iota_S1024x512_d0_w32) k0_pay49 64#32 k0_pay50 k0_pay51 0#32 (ix2 r a) * kb (ix2 a d) := by
  unfold k0_pay57
  refine (concatenate_pair_apply_right (t := S2048x256) (s₁ := S1024x256) (s₂ := S1024x256) 0 _ _ _ _ rfl rfl (ix2 r d) ?_ ?_).trans ?_
  · intro b hb; match b with
    | ⟨0, _⟩ => exact absurd rfl hb
    | ⟨1, _⟩ => rfl
  · show r.val + 1024 = 1024 + r.val; omega
  · pointwise

theorem lg2_apply (k : Vec Ideal S512x256 .bf16) (q : Vec Ideal S1024x256 .bf16) (r : Fin 1024) (a : Fin 512) :
    k0_pay48 k q (ix2 r a) = ∑ d : Fin 256, q (ix2 r d) * k (ix2 a d) := by
  pointwise [k0_pay48, k0_pay45, k0_pay47]

theorem kb2_apply (k : Vec Ideal S512x256 .bf16) : k0_pay45 k = k := by unfold k0_pay45; exact shapeCast_id _ _
theorem vb2_apply (v : Vec Ideal S512x128 .bf16) : k0_pay46 v = v := by unfold k0_pay46; exact shapeCast_id _ _
theorem qb2_apply (q : Vec Ideal S1024x256 .bf16) : k0_pay47 q = q := by unfold k0_pay47; exact shapeCast_id _ _

/-! ### Tail 3: rows from 1536 on -/
theorem iota0_3 (r : Fin 512) (a : Fin 512) : iota .tc S512x512 32 [0] iota_S512x512_d0_w32 (ix2 r a) = BitVec.ofNat 32 r.val := by pointwise
theorem iota1_3 (r : Fin 512) (a : Fin 512) : iota .tc S512x512 32 [1] iota_S512x512_d1_w32 (ix2 r a) = BitVec.ofNat 32 a.val := by pointwise

theorem wt3_apply (v11 : FVec Ideal S2048x1 .f32) (s : FVec Ideal S512x512 .f32) (r : Fin 512) (a : Fin 512) :
    k0_pay65 v11 s (iota .tc S512x512 32 [0] iota_S512x512_d0_w32) k0_pay62 k0_pay63 k0_pay64 (ix2 r a) = if a.val / 64 ≤ r.val / 64 then Ideal.exp (s (ix2 r a) - v11 (ix2 ⟨1536 + r.val, by omega⟩ 0)) else 0 := by
  have hm : (IntOp.cmpi .sle (fdiv (BitVec.ofNat 32 a.val)) (fdiv (BitVec.ofNat 32 r.val)) : BitVec 1) = _ := mask_eq (by omega) (by omega)
  have hb : broadcastTo S512x512 (extractStridedSlice S512x1 ![1536, 0] v11 slices_S2048x1_o1536_0_S512x1) broadcasts_S512x1_S512x512 (ix2 r a) = v11 (ix2 ⟨1536 + r.val, by omega⟩ 0) := by pointwise
  have e : k0_pay65 v11 s (iota .tc S512x512 32 [0] iota_S512x512_d0_w32) k0_pay62 k0_pay63 k0_pay64 (ix2 r a)
      = Ideal.exp (Scalar.select (IntOp.cmpi .sle (fdiv (iota .tc S512x512 32 [1] iota_S512x512_d1_w32 (ix2 r a))) (fdiv (iota .tc S512x512 32 [0] iota_S512x512_d0_w32 (ix2 r a)))) (s (ix2 r a)) (Named.named κ "mask" 0xF149F2CA#32 : Ideal .f32)
          - broadcastTo S512x512 (extractStridedSlice S512x1 ![1536, 0] v11 slices_S2048x1_o1536_0_S512x1) broadcasts_S512x1_S512x512 (ix2 r a)) := rfl
  rw [e, iota0_3, iota1_3, hm, hb, named_mask]
  split
  · rfl
  · exact exp_mask _

theorem dl3_apply (v4 : FVec Ideal S2048x128 .bf16) (v9 v11 : FVec Ideal S2048x1 .f32) (vb : FVec Ideal S512x128 .bf16) (s : FVec Ideal S512x512 .f32) (r : Fin 512) (a : Fin 512) :
    k0_pay66 v4 v9 v11 vb s (iota .tc S512x512 32 [0] iota_S512x512_d0_w32) k0_pay62 k0_pay63 k0_pay64 (ix2 r a) = k0_pay65 v11 s (iota .tc S512x512 32 [0] iota_S512x512_d0_w32) k0_pay62 k0_pay63 k0_pay64 (ix2 r a) * (∑ d : Fin 128, v4 (ix2 ⟨1536 + r.val, by omega⟩ d) * vb (ix2 a d) - v9 (ix2 ⟨1536 + r.val, by omega⟩ 0)) := by
  pointwise [k0_pay66]

theorem dk3_apply (v4 : FVec Ideal S2048x128 .bf16) (v9 v11 : FVec Ideal S2048x1 .f32) (vb : FVec Ideal S512x128 .bf16) (qb : FVec Ideal S512x256 .bf16) (s : FVec Ideal S512x512 .f32) (old : Vec Ideal S512x256 .f32) (a : Fin 512) (d : Fin 256) :
    k0_pay68 (k0_pay67 v4 v9 v11 vb qb s (iota .tc S512x512 32 [0] iota_S512x512_d0_w32) k0_pay62 k0_pay63 k0_pay64 old) (ix2 a d) = old (ix2 a d) + ∑ r : Fin 512, k0_pay66 v4 v9 v11 vb s (iota .tc S512x512 32 [0] iota_S512x512_d0_w32) k0_pay62 k0_pay63 k0_pay64 (ix2 r a) * qb (ix2 r d) := by
  pointwise [k0_pay68, k0_pay67]

theorem dv3_apply (v4 : FVec Ideal S2048x128 .bf16) (v11 : FVec Ideal S2048x1 .f32) (s : FVec Ideal S512x512 .f32) (old : Vec Ideal S512x128 .f32) (a : Fin 512) (d : Fin 128) :
    k0_pay69 v4 (k0_pay65 v11 s (iota .tc S512x512 32 [0] iota_S512x512_d0_w32) k0_pay62 k0_pay63 k0_pay64) old (ix2 a d) = old (ix2 a d) + ∑ r : Fin 512, k0_pay65 v11 s (iota .tc S512x512 32 [0] iota_S512x512_d0_w32) k0_pay62 k0_pay63 k0_pay64 (ix2 r a) * v4 (ix2 ⟨1536 + r.val, by omega⟩ d) := by
  pointwise [k0_pay69]

theorem dq3_lo (v4 : FVec Ideal S2048x128 .bf16) (v9 v11 : FVec Ideal S2048x1 .f32) (vb : FVec Ideal S512x128 .bf16) (old : FVec Ideal S2048x256 .f32) (kb : FVec Ideal S512x256 .bf16) (s : FVec Ideal S512x512 .f32) (r : Fin 2048) (d : Fin 256) (h : r.val < 1536) :
    k0_pay70 old kb (k0_pay66 v4 v9 v11 vb s (iota .tc S512x512 32 [0] iota_S512x512_d0_w32) k0_pay62 k0_pay63 k0_pay64) (ix2 r d) = old (ix2 r d) := by
  unfold k0_pay70
  refine (concatenate_pair_apply_left (t := S2048x256) (s₁ := S1536x256) (s₂ := S512x256) 0 _ _ _ _ rfl (ix2 ⟨r.val, h⟩ d) ?_).trans ?_
  · intro b; match b with
    | ⟨0, _⟩ => rfl
    | ⟨1, _⟩ => rfl
  · pointwise

theorem dq3_hi (v4 : FVec Ideal S2048x128 .bf16) (v9 v11 : FVec Ideal S2048x1 .f32) (vb : FVec Ideal S512x128 .bf16) (old : FVec Ideal S2048x256 .f32) (kb : FVec Ideal S512x256 .bf16) (s : FVec Ideal S512x512 .f32) (r : Fin 512) (d : Fin 256) :
    k0_pay70 old kb (k0_pay66 v4 v9 v11 vb s (iota .tc S512x512 32 [0] iota_S512x512_d0_w32) k0_pay62 k0_pay63 k0_pay64) (ix2 ⟨1536 + r.val, by omega⟩ d) = old (ix2 ⟨1536 + r.val, by omega⟩ d) + ∑ a : Fin 512, k0_pay66 v4 v9 v11 vb s (iota .tc S512x512 32 [0] iota_S512x512_d0_w32) k0_pay62 k0_pay63 k0_pay64 (ix2 r a) * kb (ix2 a d) := by
  unfold k0_pay70
  refine (concatenate_pair_apply_right (t := S2048x256) (s₁ := S1536x256) (s₂ := S512x256) 0 _ _ _ _ rfl rfl (ix2 r d) ?_ ?_).trans ?_
  · intro b hb; match b with
    | ⟨0, _⟩ => exact absurd rfl hb
    | ⟨1, _⟩ => rfl
  · show r.val + 1536 = 1536 + r.val; omega
  · pointwise

theorem lg3_apply (k : Vec Ideal S512x256 .bf16) (q : Vec Ideal S512x256 .bf16) (r : Fin 512) (a : Fin 512) :
    k0_pay61 k q (ix2 r a) = ∑ d : Fin 256, q (ix2 r d) * k (ix2 a d) := by
  pointwise [k0_pay61, k0_pay58, k0_pay60]

theorem kb3_apply (k : Vec Ideal S512x256 .bf16) : k0_pay58 k = k := by unfold k0_pay58; exact shapeCast_id _ _
theorem vb3_apply (v : Vec Ideal S512x128 .bf16) : k0_pay59 v = v := by unfold k0_pay59; exact shapeCast_id _ _
theorem qb3_apply (q : Vec Ideal S512x256 .bf16) : k0_pay60 q = q := by unfold k0_pay60; exact shapeCast_id _ _

end Cert.KernelIdeal.Val
-- ==== Proof.Block.lean ====
module

public import proofs.«01_k».proof.Proof.Pay

@[expose] public section

set_option maxRecDepth 16384

noncomputable section

namespace Cert.KernelIdeal.Val

open Cert.KernelIdeal Cert.KernelIdeal.Gen Idealize.ShloMosaic
open scoped BigOperators

/-! ## What each block of keys adds

Each theorem reads one block's store or carried value at a position, in terms of the point's own arrays. -/

variable (D : Pt)

/-- The rows' own columns as a block of keys finds them. -/
structure Rows (v4 : FVec Ideal S2048x128 .bf16) (v9 v11 : FVec Ideal S2048x1 .f32) : Prop where
  g : ∀ (r : Fin 2048) (d : Fin 128), v4 (ix2 r d) = D.g r d
  dlt : ∀ r : Fin 2048, v9 (ix2 r 0) = D.dlt r
  lse : ∀ r : Fin 2048, v11 (ix2 r 0) = D.lse r

/-- The keys and values of the block of 512 from position `n` on. -/
structure Keys (n : ℕ) (kb : FVec Ideal S512x256 .bf16) (vb : FVec Ideal S512x128 .bf16) : Prop where
  k : ∀ (a : Fin 512) (d : Fin 256), kb (ix2 a d) = D.k (n + a) d
  v : ∀ (a : Fin 512) (d : Fin 128), vb (ix2 a d) = D.v (n + a) d

variable {D} {v4 : FVec Ideal S2048x128 .bf16} {v9 v11 : FVec Ideal S2048x1 .f32} {kb : FVec Ideal S512x256 .bf16} {vb : FVec Ideal S512x128 .bf16}

/-! ### Tail 0 -/

theorem w_tail0 {M : ℕ} (hM : D.B = 64 * M) {s : FVec Ideal S2048x512 .f32} (hR : Rows D v4 v9 v11)
    (hs : ∀ (r : Fin 2048) (a : Fin 512), s (ix2 r a) = ∑ d : Fin 256, D.q (0 + r) d * D.k (D.B + 0 + a) d) (r : Fin 2048) (a : Fin 512) :
    k0_pay28 v11 s k0_pay25 k0_pay26 k0_pay27 (ix2 r a) = D.w (0 + r) (D.B + 0 + a) := by
  rw [wt0_apply, hs, hR.lse, ← D.w_block (M := M + 0) (by omega)]; simp only [Nat.zero_add]

theorem l_tail0 {M : ℕ} (hM : D.B = 64 * M) {s : FVec Ideal S2048x512 .f32} (hR : Rows D v4 v9 v11) (hK : Keys D (D.B + 0) kb vb)
    (hs : ∀ (r : Fin 2048) (a : Fin 512), s (ix2 r a) = ∑ d : Fin 256, D.q (0 + r) d * D.k (D.B + 0 + a) d) (r : Fin 2048) (a : Fin 512) :
    k0_pay29 v4 v9 v11 vb s k0_pay25 k0_pay26 k0_pay27 (ix2 r a) = D.l (0 + r) (D.B + 0 + a) := by
  rw [dl0_apply, w_tail0 hM hR hs, hR.dlt]; unfold Pt.l
  simp only [hR.g, hK.v, Nat.zero_add]

theorem dk_tail0 {M : ℕ} (hM : D.B = 64 * M) {s : FVec Ideal S2048x512 .f32} {qb : FVec Ideal S2048x256 .bf16} (hR : Rows D v4 v9 v11) (hK : Keys D (D.B + 0) kb vb)
    (hs : ∀ (r : Fin 2048) (a : Fin 512), s (ix2 r a) = ∑ d : Fin 256, D.q (0 + r) d * D.k (D.B + 0 + a) d)
    (hq : ∀ (r : Fin 2048) (d : Fin 256), qb (ix2 r d) = D.q (0 + r) d) (old : Vec Ideal S512x256 .f32) (a : Fin 512) (d : Fin 256) :
    k0_pay30 v4 v9 v11 vb qb s k0_pay25 k0_pay26 k0_pay27 old (ix2 a d) = old (ix2 a d) + D.ck (D.B + 0 + a) d := by
  rw [dk0_apply]; unfold Pt.ck
  rw [← Pt.sum_rows (o := 0) (R := 2048) rfl (fun r => D.l r (D.B + 0 + a) * D.q r d) (fun r hr => by rw [D.l_of_lt (by omega), zero_mul])]
  simp only [l_tail0 hM hR hK hs, hq]

theorem dv_tail0 {M : ℕ} (hM : D.B = 64 * M) {s : FVec Ideal S2048x512 .f32} (hR : Rows D v4 v9 v11)
    (hs : ∀ (r : Fin 2048) (a : Fin 512), s (ix2 r a) = ∑ d : Fin 256, D.q (0 + r) d * D.k (D.B + 0 + a) d) (old : Vec Ideal S512x128 .f32) (a : Fin 512) (d : Fin 128) :
    k0_pay31 v4 v11 s k0_pay25 k0_pay26 k0_pay27 old (ix2 a d) = old (ix2 a d) + D.cv (D.B + 0 + a) d := by
  rw [dv0_apply]; unfold Pt.cv
  rw [← Pt.sum_rows (o := 0) (R := 2048) rfl (fun r => D.w r (D.B + 0 + a) * D.g r d) (fun r hr => by rw [D.w_of_lt (by omega), zero_mul])]
  simp only [w_tail0 hM hR hs, hR.g, Nat.zero_add]

theorem dq_tail0 {M : ℕ} (hM : D.B = 64 * M) {s : FVec Ideal S2048x512 .f32} (hR : Rows D v4 v9 v11) (hK : Keys D (D.B + 0) kb vb)
    (hs : ∀ (r : Fin 2048) (a : Fin 512), s (ix2 r a) = ∑ d : Fin 256, D.q (0 + r) d * D.k (D.B + 0 + a) d) {old : FVec Ideal S2048x256 .f32}
    (hold : ∀ (r : Fin 2048) (d : Fin 256), old (ix2 r d) = D.cq (D.B + 0) r d) (r : Fin 2048) (d : Fin 256) :
    k0_pay32 v4 v9 v11 old kb vb s k0_pay25 k0_pay26 k0_pay27 (ix2 r d) = D.cq (D.B + 0 + 512) r d := by
  rw [← D.cq_add (D.B + 0) 512, dq0_apply, hold]
  simp only [l_tail0 hM hR hK hs, hK.k, Nat.zero_add]

/-! ### Tail 1 -/

theorem w_tail1 {M : ℕ} (hM : D.B = 64 * M) {s : FVec Ideal S1536x512 .f32} (hR : Rows D v4 v9 v11)
    (hs : ∀ (r : Fin 1536) (a : Fin 512), s (ix2 r a) = ∑ d : Fin 256, D.q (512 + r) d * D.k (D.B + 512 + a) d) (r : Fin 1536) (a : Fin 512) :
    k0_pay40 v11 s (iota .tc S1536x512 32 [0] iota_S1536x512_d0_w32) k0_pay37 64#32 k0_pay38 k0_pay39 (ix2 r a) = D.w (512 + r) (D.B + 512 + a) := by
  rw [wt1_apply, hs, hR.lse, ← D.w_block (M := M + 8) (by omega)]

theorem l_tail1 {M : ℕ} (hM : D.B = 64 * M) {s : FVec Ideal S1536x512 .f32} (hR : Rows D v4 v9 v11) (hK : Keys D (D.B + 512) kb vb)
    (hs : ∀ (r : Fin 1536) (a : Fin 512), s (ix2 r a) = ∑ d : Fin 256, D.q (512 + r) d * D.k (D.B + 512 + a) d) (r : Fin 1536) (a : Fin 512) :
    k0_pay41 v4 v9 v11 vb s (iota .tc S1536x512 32 [0] iota_S1536x512_d0_w32) k0_pay37 64#32 k0_pay38 k0_pay39 (ix2 r a) = D.l (512 + r) (D.B + 512 + a) := by
  rw [dl1_apply, w_tail1 hM hR hs, hR.dlt]; unfold Pt.l
  simp only [hR.g, hK.v]

theorem dk_tail1 {M : ℕ} (hM : D.B = 64 * M) {s : FVec Ideal S1536x512 .f32} {qb : FVec Ideal S1536x256 .bf16} (hR : Rows D v4 v9 v11) (hK : Keys D (D.B + 512) kb vb)
    (hs : ∀ (r : Fin 1536) (a : Fin 512), s (ix2 r a) = ∑ d : Fin 256, D.q (512 + r) d * D.k (D.B + 512 + a) d)
    (hq : ∀ (r : Fin 1536) (d : Fin 256), qb (ix2 r d) = D.q (512 + r) d) (old : Vec Ideal S512x256 .f32) (a : Fin 512) (d : Fin 256) :
    k0_pay42 v4 v9 v11 vb qb s (iota .tc S1536x512 32 [0] iota_S1536x512_d0_w32) k0_pay37 64#32 k0_pay38 k0_pay39 old (ix2 a d) = old (ix2 a d) + D.ck (D.B + 512 + a) d := by
  rw [dk1_apply]; unfold Pt.ck
  rw [← Pt.sum_rows (o := 512) (R := 1536) rfl (fun r => D.l r (D.B + 512 + a) * D.q r d) (fun r hr => by rw [D.l_of_lt (by omega), zero_mul])]
  simp only [l_tail1 hM hR hK hs, hq]

theorem dv_tail1 {M : ℕ} (hM : D.B = 64 * M) {s : FVec Ideal S1536x512 .f32} (hR : Rows D v4 v9 v11)
    (hs : ∀ (r : Fin 1536) (a : Fin 512), s (ix2 r a) = ∑ d : Fin 256, D.q (512 + r) d * D.k (D.B + 512 + a) d) (old : Vec Ideal S512x128 .f32) (a : Fin 512) (d : Fin 128) :
    k0_pay43 v4 v11 s (iota .tc S1536x512 32 [0] iota_S1536x512_d0_w32) k0_pay37 64#32 k0_pay38 k0_pay39 old (ix2 a d) = old (ix2 a d) + D.cv (D.B + 512 + a) d := by
  rw [dv1_apply]; unfold Pt.cv
  rw [← Pt.sum_rows (o := 512) (R := 1536) rfl (fun r => D.w r (D.B + 512 + a) * D.g r d) (fun r hr => by rw [D.w_of_lt (by omega), zero_mul])]
  simp only [w_tail1 hM hR hs, hR.g]

theorem dq_tail1 {M : ℕ} (hM : D.B = 64 * M) {s : FVec Ideal S1536x512 .f32} (hR : Rows D v4 v9 v11) (hK : Keys D (D.B + 512) kb vb)
    (hs : ∀ (r : Fin 1536) (a : Fin 512), s (ix2 r a) = ∑ d : Fin 256, D.q (512 + r) d * D.k (D.B + 512 + a) d) {old : FVec Ideal S2048x256 .f32}
    (hold : ∀ (r : Fin 2048) (d : Fin 256), old (ix2 r d) = D.cq (D.B + 512) r d) (r : Fin 2048) (d : Fin 256) :
    k0_pay44 v4 v9 v11 old kb vb s (iota .tc S1536x512 32 [0] iota_S1536x512_d0_w32) k0_pay37 64#32 k0_pay38 k0_pay39 (ix2 r d) = D.cq (D.B + 512 + 512) r d := by
  rw [← D.cq_add]
  by_cases h : r.val < 512
  · rw [dq1_lo (h := h), hold, Finset.sum_eq_zero (fun a _ => by rw [D.l_of_lt (by omega), zero_mul]), add_zero]
  · have e : r = ⟨512 + (⟨r.val - 512, by omega⟩ : Fin 1536).val, by simp only; omega⟩ := Fin.ext (by simp only; omega)
    rw [e, dq1_hi, hold]
    simp only [l_tail1 hM hR hK hs, hK.k]

/-! ### Tail 2 -/

theorem w_tail2 {M : ℕ} (hM : D.B = 64 * M) {s : FVec Ideal S1024x512 .f32} (hR : Rows D v4 v9 v11)
    (hs : ∀ (r : Fin 1024) (a : Fin 512), s (ix2 r a) = ∑ d : Fin 256, D.q (1024 + r) d * D.k (D.B + 1024 + a) d) (r : Fin 1024) (a : Fin 512) :
    k0_pay52 v11 s (iota .tc S1024x512 32 [0] iota_S1024x512_d0_w32) k0_pay49 64#32 k0_pay50 k0_pay51 0#32 (ix2 r a) = D.w (1024 + r) (D.B + 1024 + a) := by
  rw [wt2_apply, hs, hR.lse, ← D.w_block (M := M + 16) (by omega)]

theorem l_tail2 {M : ℕ} (hM : D.B = 64 * M) {s : FVec Ideal S1024x512 .f32} (hR : Rows D v4 v9 v11) (hK : Keys D (D.B + 1024) kb vb)
    (hs : ∀ (r : Fin 1024) (a : Fin 512), s (ix2 r a) = ∑ d : Fin 256, D.q (1024 + r) d * D.k (D.B + 1024 + a) d) (r : Fin 1024) (a : Fin 512) :
    k0_pay53 v4 v9 v11 vb s (iota .tc S1024x512 32 [0] iota_S1024x512_d0_w32) k0_pay49 64#32 k0_pay50 k0_pay51 0#32 (ix2 r a) = D.l (1024 + r) (D.B + 1024 + a) := by
  rw [dl2_apply, w_tail2 hM hR hs, hR.dlt]; unfold Pt.l
  simp only [hR.g, hK.v]

theorem dk_tail2 {M : ℕ} (hM : D.B = 64 * M) {s : FVec Ideal S1024x512 .f32} {qb : FVec Ideal S1024x256 .bf16} (hR : Rows D v4 v9 v11) (hK : Keys D (D.B + 1024) kb vb)
    (hs : ∀ (r : Fin 1024) (a : Fin 512), s (ix2 r a) = ∑ d : Fin 256, D.q (1024 + r) d * D.k (D.B + 1024 + a) d)
    (hq : ∀ (r : Fin 1024) (d : Fin 256), qb (ix2 r d) = D.q (1024 + r) d) (old : Vec Ideal S512x256 .f32) (a : Fin 512) (d : Fin 256) :
    k0_pay54 v4 v9 v11 vb qb s (iota .tc S1024x512 32 [0] iota_S1024x512_d0_w32) k0_pay49 64#32 k0_pay50 k0_pay51 0#32 old (ix2 a d) = old (ix2 a d) + D.ck (D.B + 1024 + a) d := by
  rw [dk2_apply]; unfold Pt.ck
  rw [← Pt.sum_rows (o := 1024) (R := 1024) rfl (fun r => D.l r (D.B + 1024 + a) * D.q r d) (fun r hr => by rw [D.l_of_lt (by omega), zero_mul])]
  simp only [l_tail2 hM hR hK hs, hq]

theorem dv_tail2 {M : ℕ} (hM : D.B = 64 * M) {s : FVec Ideal S1024x512 .f32} (hR : Rows D v4 v9 v11)
    (hs : ∀ (r : Fin 1024) (a : Fin 512), s (ix2 r a) = ∑ d : Fin 256, D.q (1024 + r) d * D.k (D.B + 1024 + a) d) (old : Vec Ideal S512x128 .f32) (a : Fin 512) (d : Fin 128) :
    k0_pay56 (k0_pay55 v4 v11 s (iota .tc S1024x512 32 [0] iota_S1024x512_d0_w32) k0_pay49 64#32 k0_pay50 k0_pay51 0#32 old) (ix2 a d) = old (ix2 a d) + D.cv (D.B + 1024 + a) d := by
  rw [dv2_apply]; unfold Pt.cv
  rw [← Pt.sum_rows (o := 1024) (R := 1024) rfl (fun r => D.w r (D.B + 1024 + a) * D.g r d) (fun r hr => by rw [D.w_of_lt (by omega), zero_mul])]
  simp only [w_tail2 hM hR hs, hR.g]

theorem dq_tail2 {M : ℕ} (hM : D.B = 64 * M) {s : FVec Ideal S1024x512 .f32} (hR : Rows D v4 v9 v11) (hK : Keys D (D.B + 1024) kb vb)
    (hs : ∀ (r : Fin 1024) (a : Fin 512), s (ix2 r a) = ∑ d : Fin 256, D.q (1024 + r) d * D.k (D.B + 1024 + a) d) {old : FVec Ideal S2048x256 .f32}
    (hold : ∀ (r : Fin 2048) (d : Fin 256), old (ix2 r d) = D.cq (D.B + 1024) r d) (r : Fin 2048) (d : Fin 256) :
    k0_pay57 old kb (k0_pay53 v4 v9 v11 vb s (iota .tc S1024x512 32 [0] iota_S1024x512_d0_w32) k0_pay49 64#32 k0_pay50 k0_pay51 0#32) (ix2 r d) = D.cq (D.B + 1024 + 512) r d := by
  rw [← D.cq_add]
  by_cases h : r.val < 1024
  · rw [dq2_lo (h := h), hold, Finset.sum_eq_zero (fun a _ => by rw [D.l_of_lt (by omega), zero_mul]), add_zero]
  · have e : r = ⟨1024 + (⟨r.val - 1024, by omega⟩ : Fin 1024).val, by simp only; omega⟩ := Fin.ext (by simp only; omega)
    rw [e, dq2_hi, hold]
    simp only [l_tail2 hM hR hK hs, hK.k]

/-! ### Tail 3 -/

theorem w_tail3 {M : ℕ} (hM : D.B = 64 * M) {s : FVec Ideal S512x512 .f32} (hR : Rows D v4 v9 v11)
    (hs : ∀ (r : Fin 512) (a : Fin 512), s (ix2 r a) = ∑ d : Fin 256, D.q (1536 + r) d * D.k (D.B + 1536 + a) d) (r : Fin 512) (a : Fin 512) :
    k0_pay65 v11 s (iota .tc S512x512 32 [0] iota_S512x512_d0_w32) k0_pay62 k0_pay63 k0_pay64 (ix2 r a) = D.w (1536 + r) (D.B + 1536 + a) := by
  rw [wt3_apply, hs, hR.lse, ← D.w_block (M := M + 24) (by omega)]

theorem l_tail3 {M : ℕ} (hM : D.B = 64 * M) {s : FVec Ideal S512x512 .f32} (hR : Rows D v4 v9 v11) (hK : Keys D (D.B + 1536) kb vb)
    (hs : ∀ (r : Fin 512) (a : Fin 512), s (ix2 r a) = ∑ d : Fin 256, D.q (1536 + r) d * D.k (D.B + 1536 + a) d) (r : Fin 512) (a : Fin 512) :
    k0_pay66 v4 v9 v11 vb s (iota .tc S512x512 32 [0] iota_S512x512_d0_w32) k0_pay62 k0_pay63 k0_pay64 (ix2 r a) = D.l (1536 + r) (D.B + 1536 + a) := by
  rw [dl3_apply, w_tail3 hM hR hs, hR.dlt]; unfold Pt.l
  simp only [hR.g, hK.v]

theorem dk_tail3 {M : ℕ} (hM : D.B = 64 * M) {s : FVec Ideal S512x512 .f32} {qb : FVec Ideal S512x256 .bf16} (hR : Rows D v4 v9 v11) (hK : Keys D (D.B + 1536) kb vb)
    (hs : ∀ (r : Fin 512) (a : Fin 512), s (ix2 r a) = ∑ d : Fin 256, D.q (1536 + r) d * D.k (D.B + 1536 + a) d)
    (hq : ∀ (r : Fin 512) (d : Fin 256), qb (ix2 r d) = D.q (1536 + r) d) (old : Vec Ideal S512x256 .f32) (a : Fin 512) (d : Fin 256) :
    k0_pay68 (k0_pay67 v4 v9 v11 vb qb s (iota .tc S512x512 32 [0] iota_S512x512_d0_w32) k0_pay62 k0_pay63 k0_pay64 old) (ix2 a d) = old (ix2 a d) + D.ck (D.B + 1536 + a) d := by
  rw [dk3_apply]; unfold Pt.ck
  rw [← Pt.sum_rows (o := 1536) (R := 512) rfl (fun r => D.l r (D.B + 1536 + a) * D.q r d) (fun r hr => by rw [D.l_of_lt (by omega), zero_mul])]
  simp only [l_tail3 hM hR hK hs, hq]

theorem dv_tail3 {M : ℕ} (hM : D.B = 64 * M) {s : FVec Ideal S512x512 .f32} (hR : Rows D v4 v9 v11)
    (hs : ∀ (r : Fin 512) (a : Fin 512), s (ix2 r a) = ∑ d : Fin 256, D.q (1536 + r) d * D.k (D.B + 1536 + a) d) (old : Vec Ideal S512x128 .f32) (a : Fin 512) (d : Fin 128) :
    k0_pay69 v4 (k0_pay65 v11 s (iota .tc S512x512 32 [0] iota_S512x512_d0_w32) k0_pay62 k0_pay63 k0_pay64) old (ix2 a d) = old (ix2 a d) + D.cv (D.B + 1536 + a) d := by
  rw [dv3_apply]; unfold Pt.cv
  rw [← Pt.sum_rows (o := 1536) (R := 512) rfl (fun r => D.w r (D.B + 1536 + a) * D.g r d) (fun r hr => by rw [D.w_of_lt (by omega), zero_mul])]
  simp only [w_tail3 hM hR hs, hR.g]

theorem dq_tail3 {M : ℕ} (hM : D.B = 64 * M) {s : FVec Ideal S512x512 .f32} (hR : Rows D v4 v9 v11) (hK : Keys D (D.B + 1536) kb vb)
    (hs : ∀ (r : Fin 512) (a : Fin 512), s (ix2 r a) = ∑ d : Fin 256, D.q (1536 + r) d * D.k (D.B + 1536 + a) d) {old : FVec Ideal S2048x256 .f32}
    (hold : ∀ (r : Fin 2048) (d : Fin 256), old (ix2 r d) = D.cq (D.B + 1536) r d) (r : Fin 2048) (d : Fin 256) :
    k0_pay70 old kb (k0_pay66 v4 v9 v11 vb s (iota .tc S512x512 32 [0] iota_S512x512_d0_w32) k0_pay62 k0_pay63 k0_pay64) (ix2 r d) = D.cq (D.B + 1536 + 512) r d := by
  rw [← D.cq_add]
  by_cases h : r.val < 1536
  · rw [dq3_lo (h := h), hold, Finset.sum_eq_zero (fun a _ => by rw [D.l_of_lt (by omega), zero_mul]), add_zero]
  · have e : r = ⟨1536 + (⟨r.val - 1536, by omega⟩ : Fin 512).val, by simp only; omega⟩ := Fin.ext (by simp only; omega)
    rw [e, dq3_hi, hold]
    simp only [l_tail3 hM hR hK hs, hK.k]

/-! ### A block before the point's first row -/

section
variable {v3 v5 : Vec Ideal S2048x128 .f32} {v10 : Vec Ideal S2048x1 .f32} {qb : Vec Ideal S2048x256 .bf16} {n M : ℕ}

theorem w_trip (hM : D.B = 64 * M) (hn : n + 512 ≤ D.B) (hR : Rows D v3 (k0_pay4 v3 v5) v10) (hK : Keys D n kb vb)
    (hq : ∀ (r : Fin 2048) (d : Fin 256), qb (ix2 r d) = D.q r d) (r : Fin 2048) (a : Fin 512) :
    k0_pay9 v10 kb qb (ix2 r a) = D.w r (n + a) := by
  rw [pay9_apply, hR.lse, ← D.w_before hM (by omega)]; simp only [hq, hK.k]

theorem l_trip (hM : D.B = 64 * M) (hn : n + 512 ≤ D.B) (hR : Rows D v3 (k0_pay4 v3 v5) v10) (hK : Keys D n kb vb)
    (hq : ∀ (r : Fin 2048) (d : Fin 256), qb (ix2 r d) = D.q r d) (r : Fin 2048) (a : Fin 512) :
    k0_pay10 v3 v5 v10 kb vb qb (ix2 r a) = D.l r (n + a) := by
  rw [pay10_apply, w_trip hM hn hR hK hq, hR.dlt]; unfold Pt.l; simp only [hR.g, hK.v]

theorem dk_trip (hM : D.B = 64 * M) (hn : n + 512 ≤ D.B) (hR : Rows D v3 (k0_pay4 v3 v5) v10) (hK : Keys D n kb vb)
    (hq : ∀ (r : Fin 2048) (d : Fin 256), qb (ix2 r d) = D.q r d) (old : Vec Ideal S512x256 .f32) (a : Fin 512) (d : Fin 256) :
    k0_pay11 v3 v5 v10 kb vb qb old (ix2 a d) = old (ix2 a d) + D.ck (n + a) d := by
  rw [pay11_apply]; unfold Pt.ck; simp only [l_trip hM hn hR hK hq, hq]

theorem dv_trip (hM : D.B = 64 * M) (hn : n + 512 ≤ D.B) (hR : Rows D v3 (k0_pay4 v3 v5) v10) (hK : Keys D n kb vb)
    (hq : ∀ (r : Fin 2048) (d : Fin 256), qb (ix2 r d) = D.q r d) (old : Vec Ideal S512x128 .f32) (a : Fin 512) (d : Fin 128) :
    k0_pay12 v3 v10 kb qb old (ix2 a d) = old (ix2 a d) + D.cv (n + a) d := by
  rw [pay12_apply]; unfold Pt.cv; simp only [w_trip hM hn hR hK hq, hR.g]

theorem dq_trip (hM : D.B = 64 * M) (hn : n + 512 ≤ D.B) (hR : Rows D v3 (k0_pay4 v3 v5) v10) (hK : Keys D n kb vb)
    (hq : ∀ (r : Fin 2048) (d : Fin 256), qb (ix2 r d) = D.q r d) {acc : FVec Ideal S2048x256 .f32}
    (hacc : ∀ (r : Fin 2048) (d : Fin 256), acc (ix2 r d) = D.cq n r d) (r : Fin 2048) (d : Fin 256) :
    k0_pay13 v3 v5 v10 acc kb vb qb (ix2 r d) = D.cq (n + 512) r d := by
  rw [pay13_apply, hacc, ← D.cq_add]; simp only [l_trip hM hn hR hK hq, hK.k]

end

end Cert.KernelIdeal.Val
-- ==== Proof.RunA.lean ====
module

public import proofs.«01_k».proof.Proof.Gen.KernelIdeal.Frame

@[expose] public section

-- membership in a rectangle of production extents (`View.cover_of_tiled`): the elaborator's structural look
-- recurses once per coordinate of the long axes
set_option maxRecDepth 16384

noncomputable section

namespace Cert.KernelIdeal.Val

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body in case A, run once: the pieces it stores into the output block and into the two carried scratch buffers, and the triple that leaves them there, the two results left in HBM held at named contents. -/
noncomputable def vrunA (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x256 .bf16) (harg10 : arg10.IsWhole) (arg13 : Memref sig .tc .vmem S8192x256 .f32) (harg13 : arg13.IsWhole) (arg14 : Memref sig .tc .vmem S8192x128 .f32) (harg14 : arg14.IsWhole) (hc0 : cond0_0 i) (hc1 : ¬cond0_1 i)
    (x0 : Vec F S2048x256 .bf16) (x1 : Vec F S8192x256 .bf16) (x2 : Vec F S8192x128 .bf16) (x3 : Vec F S2048x128 .f32) (x4 : Vec F S2048x128 .f32) (x5 : Vec F S2048x128 .f32) (x6 : Vec F S2048x128 .f32) (x7 : Vec F S2048x128 .f32) (fh0 : HbBuf0 (F := F) c hbM0_0) (fh1 : HbBuf0 (F := F) c hbM0_1) :
    Σ' (L8 : List (View.Piece (Elt F) S2048x256 .bf16)), Σ' (LS0 : List (View.Piece (Elt F) S8192x256 .f32)), { LS1 : List (View.Piece (Elt F) S8192x128 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg13 fullShare d) ∗ (∃ d, owns (c : Thread nD τ) arg14 fullShare d) ∗ semVal ((c : Thread nD τ), SemLoc.dma 16) 0 ∗ semVal ((c : Thread nD τ), SemLoc.dma 17) 0 ∗ hbPt0 c hbM0_0 fh0 ∗ hbPt0 c hbM0_1 fh1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ semVal ((c : Thread nD τ), SemLoc.dma 16) 0 ∗ semVal ((c : Thread nD τ), SemLoc.dma 17) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mla_bwd i arg2 harg2 arg3 harg3 arg4 harg4 arg5 harg5 arg6 harg6 arg7 harg7 arg8 harg8 arg9 harg9 arg10 harg10 (Memref.whole main_v98_1) (Memref.isWhole_whole _) (Memref.whole main_v98_2) (Memref.isWhole_whole _) arg13 harg13 arg14 harg14 cc0_scoped0 cc0_scoped1) K } := by
  refine ⟨?_, ?_, ?_, fun W K => ?run⟩
  case run =>
    simp only [cc0_mla_bwd_eq_skeleton]; unfold cc0_mla_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hq0, Hq1, Hh0, Hh1, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    isplitl [HS1]; · iexists _; iexact HS1
    isplitl [Hq0]; · iexact Hq0
    isplitl [Hq1]; · iexact Hq1
    isplitl [Hh0]; · iexact Hh0
    isplitl [Hh1]; · iexact Hh1
    iexists _; iexact HW

end Cert.KernelIdeal.Val

end
-- ==== Proof.RunB.lean ====
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Val

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body in case B, run once: the pieces it stores into the output block and into the two carried scratch buffers, and the triple that leaves them there, the two results left in HBM held at named contents. -/
noncomputable def vrunB (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x256 .bf16) (harg10 : arg10.IsWhole) (arg13 : Memref sig .tc .vmem S8192x256 .f32) (harg13 : arg13.IsWhole) (arg14 : Memref sig .tc .vmem S8192x128 .f32) (harg14 : arg14.IsWhole) (hc0 : ¬cond0_0 i) (hc1 : ¬cond0_1 i)
    (x0 : Vec F S2048x256 .bf16) (x1 : Vec F S8192x256 .bf16) (x2 : Vec F S8192x128 .bf16) (x3 : Vec F S2048x128 .f32) (x4 : Vec F S2048x128 .f32) (x5 : Vec F S2048x128 .f32) (x6 : Vec F S2048x128 .f32) (x7 : Vec F S2048x128 .f32) (xs0 : Vec F S8192x256 .f32) (xs1 : Vec F S8192x128 .f32) (fh0 : HbBuf0 (F := F) c hbM0_0) (fh1 : HbBuf0 (F := F) c hbM0_1) :
    Σ' (L8 : List (View.Piece (Elt F) S2048x256 .bf16)), Σ' (LS0 : List (View.Piece (Elt F) S8192x256 .f32)), { LS1 : List (View.Piece (Elt F) S8192x128 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg13 fullShare xs0 ∗ owns (c : Thread nD τ) arg14 fullShare xs1 ∗ semVal ((c : Thread nD τ), SemLoc.dma 16) 0 ∗ semVal ((c : Thread nD τ), SemLoc.dma 17) 0 ∗ hbPt0 c hbM0_0 fh0 ∗ hbPt0 c hbM0_1 fh1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (arg13.view.loc (c : Thread nD τ) ↦[arg13.view.set]{fullShare} arg13.view.writes (Elt F) (harg13.unread xs0) LS0) ∗ (arg14.view.loc (c : Thread nD τ) ↦[arg14.view.set]{fullShare} arg14.view.writes (Elt F) (harg14.unread xs1) LS1) ∗ semVal ((c : Thread nD τ), SemLoc.dma 16) 0 ∗ semVal ((c : Thread nD τ), SemLoc.dma 17) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mla_bwd i arg2 harg2 arg3 harg3 arg4 harg4 arg5 harg5 arg6 harg6 arg7 harg7 arg8 harg8 arg9 harg9 arg10 harg10 (Memref.whole main_v98_1) (Memref.isWhole_whole _) (Memref.whole main_v98_2) (Memref.isWhole_whole _) arg13 harg13 arg14 harg14 cc0_scoped0 cc0_scoped1) K } := by
  refine ⟨?_, ?_, ?_, fun W K => ?run⟩
  case run =>
    simp only [cc0_mla_bwd_eq_skeleton]; unfold cc0_mla_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hq0, Hq1, Hh0, Hh1, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs0; obtain rfl := harg14.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexact HS0
    isplitl [HS1]; · iexact HS1
    isplitl [Hq0]; · iexact Hq0
    isplitl [Hq1]; · iexact Hq1
    isplitl [Hh0]; · iexact Hh0
    isplitl [Hh1]; · iexact Hh1
    iexists _; iexact HW

end Cert.KernelIdeal.Val

end
-- ==== Proof.RunC.lean ====
module

public import proofs.«01_k».proof.Proof.RunB

@[expose] public section

-- membership in a rectangle of production extents (`View.cover_of_tiled`): the elaborator's structural look
-- recurses once per coordinate of the long axes
set_option maxRecDepth 16384

noncomputable section

namespace Cert.KernelIdeal.Val

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body in case C, run once: the pieces it stores into the output block and into the two carried scratch buffers, and the contents it leaves in the two results, and the triple that leaves them there, the two results left in HBM held at named contents. -/
noncomputable def vrunC (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x256 .bf16) (harg10 : arg10.IsWhole) (arg13 : Memref sig .tc .vmem S8192x256 .f32) (harg13 : arg13.IsWhole) (arg14 : Memref sig .tc .vmem S8192x128 .f32) (harg14 : arg14.IsWhole) (hc0 : ¬cond0_0 i) (hc1 : cond0_1 i)
    (x0 : Vec F S2048x256 .bf16) (x1 : Vec F S8192x256 .bf16) (x2 : Vec F S8192x128 .bf16) (x3 : Vec F S2048x128 .f32) (x4 : Vec F S2048x128 .f32) (x5 : Vec F S2048x128 .f32) (x6 : Vec F S2048x128 .f32) (x7 : Vec F S2048x128 .f32) (xs0 : Vec F S8192x256 .f32) (xs1 : Vec F S8192x128 .f32) (fh0 : HbBuf0 (F := F) c hbM0_0) (fh1 : HbBuf0 (F := F) c hbM0_1) :
    Σ' (G0 : HbBuf0 (F := F) c hbM0_0), Σ' (G1 : HbBuf0 (F := F) c hbM0_1), Σ' (L8 : List (View.Piece (Elt F) S2048x256 .bf16)), Σ' (LS0 : List (View.Piece (Elt F) S8192x256 .f32)), { LS1 : List (View.Piece (Elt F) S8192x128 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg13 fullShare xs0 ∗ owns (c : Thread nD τ) arg14 fullShare xs1 ∗ semVal ((c : Thread nD τ), SemLoc.dma 16) 0 ∗ semVal ((c : Thread nD τ), SemLoc.dma 17) 0 ∗ hbPt0 c hbM0_0 fh0 ∗ hbPt0 c hbM0_1 fh1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (arg13.view.loc (c : Thread nD τ) ↦[arg13.view.set]{fullShare} arg13.view.writes (Elt F) (harg13.unread xs0) LS0) ∗ (arg14.view.loc (c : Thread nD τ) ↦[arg14.view.set]{fullShare} arg14.view.writes (Elt F) (harg14.unread xs1) LS1) ∗ semVal ((c : Thread nD τ), SemLoc.dma 16) 0 ∗ semVal ((c : Thread nD τ), SemLoc.dma 17) 0 ∗ hbPt0 c hbM0_0 G0 ∗ hbPt0 c hbM0_1 G1 ∗ (∃ W', owes (c : Thread nD τ) 0 W')) -∗ K ⟨⟩))
          ⊢ wp frame (wpE (defs₀ (F := F)) Variants.none c none) Set.univ (cc0_mla_bwd i arg2 harg2 arg3 harg3 arg4 harg4 arg5 harg5 arg6 harg6 arg7 harg7 arg8 harg8 arg9 harg9 arg10 harg10 (Memref.whole main_v98_1) (Memref.isWhole_whole _) (Memref.whole main_v98_2) (Memref.isWhole_whole _) arg13 harg13 arg14 harg14 cc0_scoped0 cc0_scoped1) K } := by
  refine ⟨?_, ?_, ?_, ?_, ?_, fun W K => ?run⟩
  case run =>
    simp only [cc0_mla_bwd_eq_skeleton]; unfold cc0_mla_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hq0, Hq1, Hh0, Hh1, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hfs0; obtain rfl := harg14.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexact HS0
    isplitl [HS1]; · iexact HS1
    isplitl [Hq0]; · iexact Hq0
    isplitl [Hq1]; · iexact Hq1
    isplitl [Hh0]; · iexact Hh0
    isplitl [Hh1]; · iexact Hh1
    iexists _; iexact HW

end Cert.KernelIdeal.Val

end
-- ==== Proof.Chain.lean ====
module

public import proofs.«01_k».proof.Proof.Block
public import proofs.«01_k».proof.Proof.RunC
public import Idealize.ShloMosaic.Lib.WritesUnit

@[expose] public section

set_option maxRecDepth 16384

noncomputable section

namespace Cert.KernelIdeal.Val

open Cert.KernelIdeal Cert.KernelIdeal.Gen Idealize.ShloMosaic Idealize.ShloMosaic.TcCoe
open scoped BigOperators

/-! ## The offsets and the trip counts, in closed form -/

theorem trips1 (i : grid0.Coords) : (k0_t1_loop i).trips = 4 * (i 1).val :=
  (by decide +kernel : ∀ j : Fin 4, (Scf.Loop.mk 0#32 (Scalar.addi 0#32 (Scalar.muli (Scalar.divsi (Scalar.subi (Scalar.muli (BitVec.ofNat 32 j.val) 4#32) 0#32) 1#32) 1#32)) 1#32).trips = 4 * j.val) (i 1)

theorem trips2 (i : grid0.Coords) : (k0_t2_loop i).trips = 0 :=
  (by decide +kernel : ∀ j : Fin 4, (Scf.Loop.mk (Scalar.addi 0#32 (Scalar.muli (Scalar.divsi (Scalar.subi (Scalar.muli (BitVec.ofNat 32 j.val) 4#32) 0#32) 1#32) 1#32)) (Scalar.addi 0#32 (Scalar.subi (Scalar.muli (BitVec.ofNat 32 j.val) 4#32) 0#32)) 1#32).trips = 0) (i 1)

theorem off1_eq (i : grid0.Coords) (k : Fin (k0_t1_loop i).trips) : k0_off1 i k = ![512 * k.val, 0] := by
  have hk : k.val < 16 := by have := k.isLt; have := trips1 i; have : (i 1).val < 4 := (i 1).isLt; omega
  have := (by decide +kernel : ∀ k : Fin 16, (Scalar.muli (Scf.iv 0#32 1#32 k.val) 512#32).toNat = 512 * k.val) ⟨k.val, hk⟩
  show ![(Scalar.muli (Scf.iv 0#32 1#32 k.val) 512#32).toNat, 0] = _
  rw [this]

theorem off2_eq (i : grid0.Coords) (k : Fin (k0_t1_loop i).trips) : k0_off2 i k = ![512 * k.val, 0] := off1_eq i k

theorem off5_eq (i : grid0.Coords) (t : Fin 4) : k0_off5 i (BitVec.ofNat 32 t.val) = ![2048 * (i 1).val + 512 * t.val, 0] := by
  have := (by decide +kernel : ∀ j t : Fin 4, (Scalar.muli (Scalar.addi (Scalar.muli (BitVec.ofNat 32 j.val) 4#32) (BitVec.ofNat 32 t.val)) 512#32).toNat = 2048 * j.val + 512 * t.val) (i 1) t
  show ![(Scalar.muli (Scalar.addi (Scalar.muli (BitVec.ofNat 32 (i 1).val) 4#32) (BitVec.ofNat 32 t.val)) 512#32).toNat, 0] = _
  rw [this]

theorem off6_eq (i : grid0.Coords) (t : Fin 4) : k0_off6 i (BitVec.ofNat 32 t.val) = ![2048 * (i 1).val + 512 * t.val, 0] := off5_eq i t

/-! ## Reading accumulated rows -/

section
variable {n : ℕ} (v : View sig .tc .vmem ⟨2, ![8192, n]⟩ .f32)

/-- The contents read as what was there, with a contribution added to each of the first `N` rows. -/
def Upto (f : v.ty.Contents (Elt Ideal)) (x : Vec Ideal ⟨2, ![8192, n]⟩ .f32) (C : ℕ → ℕ → EReal) (N : ℕ) : Prop :=
  ∀ (J : Fin 8192) (d : Fin n), v.read (Elt Ideal) f (ix2 J d) = x (ix2 J d) + if J.val < N then C J d else 0

theorem Upto.zero {f : v.ty.Contents (Elt Ideal)} {x : Vec Ideal ⟨2, ![8192, n]⟩ .f32} {C : ℕ → ℕ → EReal} (h : v.read (Elt Ideal) f = x) : Upto v f x C 0 := by
  intro J d; rw [h, if_neg (by omega), add_zero]

/-- One more block of rows. -/
theorem Upto.step {f : v.ty.Contents (Elt Ideal)} {L : List (View.Piece (Elt Ideal) ⟨2, ![8192, n]⟩ .f32)} {x : Vec Ideal ⟨2, ![8192, n]⟩ .f32} {C : ℕ → ℕ → EReal} {N : ℕ}
    (h : Upto v (v.writes (Elt Ideal) f L) x C N) {off : Fin 2 → ℕ} (inb : ∀ a : Fin 2, off a + (![512, n] : Fin 2 → ℕ) a ≤ (![8192, n] : Fin 2 → ℕ) a)
    (hoff : off = ![N, 0]) (w : Vec Ideal ⟨2, ![512, n]⟩ .f32)
    (hw : ∀ (a : Fin 512) (d : Fin n), w (ix2 a d)
      = v.readAt (Elt Ideal) (Rect.unit (s := ⟨2, ![8192, n]⟩) off ![512, n] inb).toLoadRect (v.writes (Elt Ideal) f L) (ix2 a d) + C (N + a) d) :
    Upto v (v.writes (Elt Ideal) f ((⟨Rect.unit (s := ⟨2, ![8192, n]⟩) off ![512, n] inb, w⟩ : View.Piece (Elt Ideal) ⟨2, ![8192, n]⟩ .f32) :: L)) x C (N + 512) := by
  subst hoff
  intro J d
  by_cases hJ : N ≤ J.val ∧ J.val < N + 512
  · have e := View.read_writes_cons_rows_of_mem (Val := Elt Ideal) v f inb w L (ix2 J d) (ix2 ⟨J.val - N, by omega⟩ d) rfl (by show J.val = N + (J.val - N); omega) rfl
    rw [e, hw]
    have e2 : v.readAt (Elt Ideal) (Rect.unit (s := ⟨2, ![8192, n]⟩) ![N, 0] ![512, n] inb).toLoadRect (v.writes (Elt Ideal) f L) (ix2 ⟨J.val - N, by omega⟩ d)
        = v.read (Elt Ideal) (v.writes (Elt Ideal) f L) (ix2 J d) := by
      rw [View.readAt_apply]; congr 1
      funext b; match b with
        | ⟨0, _⟩ => exact Fin.ext (by show N + 1 * (J.val - N) = J.val; omega)
        | ⟨1, _⟩ => exact Fin.ext (by show 0 + 1 * d.val = d.val; omega)
    rw [e2, h, if_neg (by omega), if_pos (by omega), add_zero]
    congr 2; show N + (J.val - N) = J.val; omega
  · have e := View.read_writes_cons_rows_of_not_mem (Val := Elt Ideal) v f (W := 512) inb w L (ix2 J d) rfl rfl (by show J.val < N ∨ N + 512 ≤ J.val; omega)
    rw [e, h]
    congr 1
    by_cases h1 : J.val < N
    · rw [if_pos h1, if_pos (by omega)]
    · rw [if_neg h1, if_neg (by omega)]

end

/-! ## One trip of the loop over whole blocks -/

section
variable {F : FTy → Type} [FloatOps F] [Named F]

variable (𝒱 : Variants) (c : Dev nD) (bd : Option 𝒱.V) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x256 .bf16) (harg10 : arg10.IsWhole) (arg11 : Memref sig .tc .hbm S6x8192x256 .f32) (harg11 : arg11.IsWhole) (arg12 : Memref sig .tc .hbm S6x8192x128 .f32) (harg12 : arg12.IsWhole) (arg13 : Memref sig .tc .vmem S8192x256 .f32) (harg13 : arg13.IsWhole) (arg14 : Memref sig .tc .vmem S8192x128 .f32) (harg14 : arg14.IsWhole) (v440_r0 : DmaSems sig S_) (v440_r1 : DmaSems sig S_) (v3 v5 : Vec F S2048x128 .f32) (v10 : Vec F S2048x1 .f32) (X2 : BufTy.Contents (Elt F) arg2.view.ty) (X3 : BufTy.Contents (Elt F) arg3.view.ty) (X4 : BufTy.Contents (Elt F) arg4.view.ty)

/-- The queries a trip loads. -/
abbrev ldQ : Vec F S2048x256 .bf16 := arg2.view.readAt (Elt F) (Rect.unit (s := S2048x256) ![0, 0] S2048x256.size inb_S2048x256_S2048x256_0_0).toLoadRect X2
/-- The keys trip `k` loads. -/
abbrev ldK (k : Fin (k0_t1_loop i).trips) : Vec F S512x256 .bf16 := arg3.view.readAt (Elt F) (Rect.unit (s := S8192x256) (k0_off1 i k) S512x256.size (k0_off1_inb i k)).toLoadRect X3
/-- The values trip `k` loads. -/
abbrev ldV (k : Fin (k0_t1_loop i).trips) : Vec F S512x128 .bf16 := arg4.view.readAt (Elt F) (Rect.unit (s := S8192x128) (k0_off2 i k) S512x128.size (k0_off2_inb i k)).toLoadRect X4

theorem tripR1_eq (k : Fin (k0_t1_loop i).trips) (acc : FVec F S2048x256 .f32) (f13 : BufTy.Contents (Elt F) arg13.view.ty) (f14 : BufTy.Contents (Elt F) arg14.view.ty) :
    tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v440_r0 v440_r1 v3 v5 v10 X2 X3 X4 k acc f13 f14
      = k0_pay13 v3 v5 v10 acc (ldK i arg3 X3 k) (ldV i arg4 X4 k) (ldQ arg2 X2) := by
  unfold tripR_k0_t1 trip_k0_t1; rfl

theorem tripL1_eq (k : Fin (k0_t1_loop i).trips) (acc : FVec F S2048x256 .f32) (f13 : BufTy.Contents (Elt F) arg13.view.ty) (f14 : BufTy.Contents (Elt F) arg14.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v440_r0 v440_r1 v3 v5 v10 X2 X3 X4 k acc f13 f14
      = ([⟨Rect.unit (s := S8192x256) (k0_off1 i k) S512x256.size (k0_off1_inb i k), k0_pay11 v3 v5 v10 (ldK i arg3 X3 k) (ldV i arg4 X4 k) (ldQ arg2 X2)
            (arg13.view.readAt (Elt F) (Rect.unit (s := S8192x256) (k0_off1 i k) S512x256.size (k0_off1_inb i k)).toLoadRect f13)⟩],
         [⟨Rect.unit (s := S8192x128) (k0_off2 i k) S512x128.size (k0_off2_inb i k), k0_pay12 v3 v10 (ldK i arg3 X3 k) (ldQ arg2 X2)
            (arg14.view.readAt (Elt F) (Rect.unit (s := S8192x128) (k0_off2 i k) S512x128.size (k0_off2_inb i k)).toLoadRect f14)⟩]) := by
  unfold tripL_k0_t1 trip_k0_t1; rfl

end

end Cert.KernelIdeal.Val
-- ==== Proof.Walk.lean ====
module

public import proofs.«01_k».proof.Proof.Chain

@[expose] public section

set_option maxRecDepth 16384

noncomputable section

namespace Cert.KernelIdeal.Val

open Cert.KernelIdeal Cert.KernelIdeal.Gen Idealize.ShloMosaic Idealize.ShloMosaic.TcCoe
open scoped BigOperators

/-! ## One grid point, walked block by block -/

/-- Rows loaded from offset `o` are the contents' rows from `o` on. -/
theorem load_rows {e : EltTy} {M n R w : ℕ} (v : View sig .tc .vmem ⟨2, ![M, n]⟩ e) (f : v.ty.Contents (Elt Ideal)) {off : Fin 2 → ℕ} {o : ℕ} (hoff : off = ![o, 0])
    (inb : ∀ a : Fin 2, off a + (![R, w] : Fin 2 → ℕ) a ≤ (![M, n] : Fin 2 → ℕ) a) (r : Fin R) (d : Fin w) (hr : o + r.val < M) (hd : d.val < n) :
    v.readAt (Elt Ideal) (Rect.unit (s := ⟨2, ![M, n]⟩) off ![R, w] inb).toLoadRect f (ix2 r d) = v.read (Elt Ideal) f (ix2 ⟨o + r.val, hr⟩ ⟨d.val, hd⟩) := by
  subst hoff
  rw [View.readAt_apply]; congr 1
  funext b; match b with
    | ⟨0, _⟩ => exact Fin.ext (by show o + 1 * r.val = o + r.val; omega)
    | ⟨1, _⟩ => exact Fin.ext (by show 0 + 1 * d.val = d.val; omega)

section
variable {D : Pt} {i : grid0.Coords} {arg2 : Memref sig .tc .vmem S2048x256 .bf16} {arg3 : Memref sig .tc .vmem S8192x256 .bf16} {arg4 : Memref sig .tc .vmem S8192x128 .bf16}
  {arg13 : Memref sig .tc .vmem S8192x256 .f32} {arg14 : Memref sig .tc .vmem S8192x128 .f32} {v3 v5 : Vec Ideal S2048x128 .f32} {v10 : Vec Ideal S2048x1 .f32}
  {X2 : BufTy.Contents (Elt Ideal) arg2.view.ty} {X3 : BufTy.Contents (Elt Ideal) arg3.view.ty} {X4 : BufTy.Contents (Elt Ideal) arg4.view.ty}

/-- The point's arrays are what its buffers hold. -/
structure At (D : Pt) (i : grid0.Coords) (arg2 : Memref sig .tc .vmem S2048x256 .bf16) (arg3 : Memref sig .tc .vmem S8192x256 .bf16) (arg4 : Memref sig .tc .vmem S8192x128 .bf16)
    (v3 v5 : Vec Ideal S2048x128 .f32) (v10 : Vec Ideal S2048x1 .f32)
    (X2 : BufTy.Contents (Elt Ideal) arg2.view.ty) (X3 : BufTy.Contents (Elt Ideal) arg3.view.ty) (X4 : BufTy.Contents (Elt Ideal) arg4.view.ty) : Prop where
  B : D.B = 2048 * (i 1).val
  q : ∀ (r : Fin 2048) (d : Fin 256), arg2.view.read (Elt Ideal) X2 (ix2 r d) = D.q r d
  k : ∀ (J : Fin 8192) (d : Fin 256), arg3.view.read (Elt Ideal) X3 (ix2 J d) = D.k J d
  v : ∀ (J : Fin 8192) (d : Fin 128), arg4.view.read (Elt Ideal) X4 (ix2 J d) = D.v J d
  rows : Rows D v3 (k0_pay4 v3 v5) v10

namespace At

theorem rows' (h : At D i arg2 arg3 arg4 v3 v5 v10 X2 X3 X4) : Rows D (k0_pay3 v3) (k0_pay4 v3 v5) (k0_pay5 v10) := by
  rw [pay5_apply, pay3_apply]; exact h.rows

theorem hM (h : At D i arg2 arg3 arg4 v3 v5 v10 X2 X3 X4) : D.B = 64 * (32 * (i 1).val) := by rw [h.B]; omega

theorem lt (i : grid0.Coords) : (i 1).val < 4 := (i 1).isLt

theorem ldk (h : At D i arg2 arg3 arg4 v3 v5 v10 X2 X3 X4) {off : Fin 2 → ℕ} {o : ℕ} (hoff : off = ![o, 0])
    (inb : ∀ a : Fin 2, off a + (![512, 256] : Fin 2 → ℕ) a ≤ (![8192, 256] : Fin 2 → ℕ) a) (ho : o + 512 ≤ 8192) (a : Fin 512) (d : Fin 256) :
    arg3.view.readAt (Elt Ideal) (Rect.unit (s := ⟨2, ![8192, 256]⟩) off ![512, 256] inb).toLoadRect X3 (ix2 a d) = D.k (o + a) d := by
  rw [load_rows arg3.view X3 hoff inb a d (by omega) d.isLt]; exact h.k ⟨o + a.val, _⟩ d

theorem ldv (h : At D i arg2 arg3 arg4 v3 v5 v10 X2 X3 X4) {off : Fin 2 → ℕ} {o : ℕ} (hoff : off = ![o, 0])
    (inb : ∀ a : Fin 2, off a + (![512, 128] : Fin 2 → ℕ) a ≤ (![8192, 128] : Fin 2 → ℕ) a) (ho : o + 512 ≤ 8192) (a : Fin 512) (d : Fin 128) :
    arg4.view.readAt (Elt Ideal) (Rect.unit (s := ⟨2, ![8192, 128]⟩) off ![512, 128] inb).toLoadRect X4 (ix2 a d) = D.v (o + a) d := by
  rw [load_rows arg4.view X4 hoff inb a d (by omega) d.isLt]; exact h.v ⟨o + a.val, _⟩ d

theorem ldq (h : At D i arg2 arg3 arg4 v3 v5 v10 X2 X3 X4) {R o : ℕ}
    (inb : ∀ a : Fin 2, (![o, 0] : Fin 2 → ℕ) a + (![R, 256] : Fin 2 → ℕ) a ≤ (![2048, 256] : Fin 2 → ℕ) a) (ho : o + R ≤ 2048) (r : Fin R) (d : Fin 256) :
    arg2.view.readAt (Elt Ideal) (Rect.unit (s := ⟨2, ![2048, 256]⟩) ![o, 0] ![R, 256] inb).toLoadRect X2 (ix2 r d) = D.q (o + r) d := by
  rw [load_rows arg2.view X2 rfl inb r d (by omega) d.isLt]; exact h.q ⟨o + r.val, _⟩ d

end At

/-- Tail 0: the block of keys that rows from 0 on share with their own positions. -/
theorem tail0 (h : At D i arg2 arg3 arg4 v3 v5 v10 X2 X3 X4) {f13 : BufTy.Contents (Elt Ideal) arg13.view.ty} {f14 : BufTy.Contents (Elt Ideal) arg14.view.ty}
    {L13 : List (View.Piece (Elt Ideal) S8192x256 .f32)} {L14 : List (View.Piece (Elt Ideal) S8192x128 .f32)} {x13 : Vec Ideal S8192x256 .f32} {x14 : Vec Ideal S8192x128 .f32}
    {old : FVec Ideal S2048x256 .f32}
    (h13 : Upto arg13.view (arg13.view.writes (Elt Ideal) f13 L13) x13 D.ck (D.B + 0)) (h14 : Upto arg14.view (arg14.view.writes (Elt Ideal) f14 L14) x14 D.cv (D.B + 0))
    (hold : ∀ (r : Fin 2048) (d : Fin 256), old (ix2 r d) = D.cq (D.B + 0) r d) :
    Upto arg13.view (arg13.view.writes (Elt Ideal) f13 (⟨Rect.unit (s := S8192x256) (k0_off5 i 0#32) S512x256.size (k0_off5_inb i 0),
        k0_pay30 (k0_pay3 v3) (k0_pay4 v3 v5) (k0_pay5 v10) (k0_pay22 (arg4.view.readAt (Elt Ideal) (Rect.unit (s := S8192x128) (k0_off6 i 0#32) S512x128.size (k0_off6_inb i 0)).toLoadRect X4)) (k0_pay23 (arg2.view.readAt (Elt Ideal) (Rect.unit (s := S2048x256) ![0, 0] S2048x256.size inb_S2048x256_S2048x256_0_0).toLoadRect X2)) (k0_pay24 (arg3.view.readAt (Elt Ideal) (Rect.unit (s := S8192x256) (k0_off5 i 0#32) S512x256.size (k0_off5_inb i 0)).toLoadRect X3) (arg2.view.readAt (Elt Ideal) (Rect.unit (s := S2048x256) ![0, 0] S2048x256.size inb_S2048x256_S2048x256_0_0).toLoadRect X2)) k0_pay25 k0_pay26 k0_pay27 (arg13.view.readAt (Elt Ideal) (Rect.unit (s := S8192x256) (k0_off5 i 0#32) S512x256.size (k0_off5_inb i 0)).toLoadRect (arg13.view.writes (Elt Ideal) f13 L13))⟩ :: L13)) x13 D.ck (D.B + 512)
    ∧ Upto arg14.view (arg14.view.writes (Elt Ideal) f14 (⟨Rect.unit (s := S8192x128) (k0_off6 i 0#32) S512x128.size (k0_off6_inb i 0),
        k0_pay31 (k0_pay3 v3) (k0_pay5 v10) (k0_pay24 (arg3.view.readAt (Elt Ideal) (Rect.unit (s := S8192x256) (k0_off5 i 0#32) S512x256.size (k0_off5_inb i 0)).toLoadRect X3) (arg2.view.readAt (Elt Ideal) (Rect.unit (s := S2048x256) ![0, 0] S2048x256.size inb_S2048x256_S2048x256_0_0).toLoadRect X2)) k0_pay25 k0_pay26 k0_pay27 (arg14.view.readAt (Elt Ideal) (Rect.unit (s := S8192x128) (k0_off6 i 0#32) S512x128.size (k0_off6_inb i 0)).toLoadRect (arg14.view.writes (Elt Ideal) f14 L14))⟩ :: L14)) x14 D.cv (D.B + 512)
    ∧ ∀ (r : Fin 2048) (d : Fin 256), k0_pay32 (k0_pay3 v3) (k0_pay4 v3 v5) (k0_pay5 v10) old (k0_pay21 (arg3.view.readAt (Elt Ideal) (Rect.unit (s := S8192x256) (k0_off5 i 0#32) S512x256.size (k0_off5_inb i 0)).toLoadRect X3)) (k0_pay22 (arg4.view.readAt (Elt Ideal) (Rect.unit (s := S8192x128) (k0_off6 i 0#32) S512x128.size (k0_off6_inb i 0)).toLoadRect X4)) (k0_pay24 (arg3.view.readAt (Elt Ideal) (Rect.unit (s := S8192x256) (k0_off5 i 0#32) S512x256.size (k0_off5_inb i 0)).toLoadRect X3) (arg2.view.readAt (Elt Ideal) (Rect.unit (s := S2048x256) ![0, 0] S2048x256.size inb_S2048x256_S2048x256_0_0).toLoadRect X2)) k0_pay25 k0_pay26 k0_pay27 (ix2 r d) = D.cq (D.B + 512) r d := by
  have hi := At.lt i
  have o5 : k0_off5 i 0#32 = ![D.B + 0, 0] := (off5_eq i 0).trans (by rw [h.B]; rfl)
  have o6 : k0_off6 i 0#32 = ![D.B + 0, 0] := o5
  have hB : D.B + 0 + 512 ≤ 8192 := by rw [h.B]; omega
  have hK : Keys D (D.B + 0) (k0_pay21 (arg3.view.readAt (Elt Ideal) (Rect.unit (s := S8192x256) (k0_off5 i 0#32) S512x256.size (k0_off5_inb i 0)).toLoadRect X3)) (k0_pay22 (arg4.view.readAt (Elt Ideal) (Rect.unit (s := S8192x128) (k0_off6 i 0#32) S512x128.size (k0_off6_inb i 0)).toLoadRect X4)) := by
    constructor
    · intro a d; rw [kb0_apply]; exact h.ldk o5 _ hB a d
    · intro a d; rw [vb0_apply]; exact h.ldv o6 _ hB a d
  have hs : ∀ (r : Fin 2048) (a : Fin 512), (k0_pay24 (arg3.view.readAt (Elt Ideal) (Rect.unit (s := S8192x256) (k0_off5 i 0#32) S512x256.size (k0_off5_inb i 0)).toLoadRect X3) (arg2.view.readAt (Elt Ideal) (Rect.unit (s := S2048x256) ![0, 0] S2048x256.size inb_S2048x256_S2048x256_0_0).toLoadRect X2)) (ix2 r a) = ∑ d : Fin 256, D.q (0 + r) d * D.k (D.B + 0 + a) d := by
    intro r a; rw [lg0_apply]
    refine Finset.sum_congr rfl fun d _ => congrArg₂ _ ?_ ?_
    · exact h.ldq _ (by omega) r d
    · exact h.ldk o5 _ hB a d
  have hq : ∀ (r : Fin 2048) (d : Fin 256), (k0_pay23 (arg2.view.readAt (Elt Ideal) (Rect.unit (s := S2048x256) ![0, 0] S2048x256.size inb_S2048x256_S2048x256_0_0).toLoadRect X2)) (ix2 r d) = D.q (0 + r) d := by
    intro r d; rw [qb0_apply]; exact h.ldq _ (by omega) r d
  refine ⟨?_, ?_, ?_⟩
  · exact Upto.step arg13.view h13 _ o5 _ fun a d => dk_tail0 h.hM h.rows' hK hs hq _ a d
  · exact Upto.step arg14.view h14 _ o6 _ fun a d => dv_tail0 h.hM h.rows' hs _ a d
  · exact fun r d => dq_tail0 h.hM h.rows' hK hs hold r d

/-- Tail 1: the block of keys that rows from 512 on share with their own positions. -/
theorem tail1 (h : At D i arg2 arg3 arg4 v3 v5 v10 X2 X3 X4) {f13 : BufTy.Contents (Elt Ideal) arg13.view.ty} {f14 : BufTy.Contents (Elt Ideal) arg14.view.ty}
    {L13 : List (View.Piece (Elt Ideal) S8192x256 .f32)} {L14 : List (View.Piece (Elt Ideal) S8192x128 .f32)} {x13 : Vec Ideal S8192x256 .f32} {x14 : Vec Ideal S8192x128 .f32}
    {old : FVec Ideal S2048x256 .f32}
    (h13 : Upto arg13.view (arg13.view.writes (Elt Ideal) f13 L13) x13 D.ck (D.B + 512)) (h14 : Upto arg14.view (arg14.view.writes (Elt Ideal) f14 L14) x14 D.cv (D.B + 512))
    (hold : ∀ (r : Fin 2048) (d : Fin 256), old (ix2 r d) = D.cq (D.B + 512) r d) :
    Upto arg13.view (arg13.view.writes (Elt Ideal) f13 (⟨Rect.unit (s := S8192x256) (k0_off5 i 1#32) S512x256.size (k0_off5_inb i 1),
        k0_pay42 (k0_pay3 v3) (k0_pay4 v3 v5) (k0_pay5 v10) (k0_pay34 (arg4.view.readAt (Elt Ideal) (Rect.unit (s := S8192x128) (k0_off6 i 1#32) S512x128.size (k0_off6_inb i 1)).toLoadRect X4)) (k0_pay35 (arg2.view.readAt (Elt Ideal) (Rect.unit (s := S2048x256) ![512, 0] S1536x256.size inb_S2048x256_S1536x256_512_0).toLoadRect X2)) (k0_pay36 (k0_pay33 (arg3.view.readAt (Elt Ideal) (Rect.unit (s := S8192x256) (k0_off5 i 1#32) S512x256.size (k0_off5_inb i 1)).toLoadRect X3)) (arg2.view.readAt (Elt Ideal) (Rect.unit (s := S2048x256) ![512, 0] S1536x256.size inb_S2048x256_S1536x256_512_0).toLoadRect X2)) (iota .tc S1536x512 32 [0] iota_S1536x512_d0_w32) k0_pay37 64#32 k0_pay38 k0_pay39 (arg13.view.readAt (Elt Ideal) (Rect.unit (s := S8192x256) (k0_off5 i 1#32) S512x256.size (k0_off5_inb i 1)).toLoadRect (arg13.view.writes (Elt Ideal) f13 L13))⟩ :: L13)) x13 D.ck (D.B + 1024)
    ∧ Upto arg14.view (arg14.view.writes (Elt Ideal) f14 (⟨Rect.unit (s := S8192x128) (k0_off6 i 1#32) S512x128.size (k0_off6_inb i 1),
        k0_pay43 (k0_pay3 v3) (k0_pay5 v10) (k0_pay36 (k0_pay33 (arg3.view.readAt (Elt Ideal) (Rect.unit (s := S8192x256) (k0_off5 i 1#32) S512x256.size (k0_off5_inb i 1)).toLoadRect X3)) (arg2.view.readAt (Elt Ideal) (Rect.unit (s := S2048x256) ![512, 0] S1536x256.size inb_S2048x256_S1536x256_512_0).toLoadRect X2)) (iota .tc S1536x512 32 [0] iota_S1536x512_d0_w32) k0_pay37 64#32 k0_pay38 k0_pay39 (arg14.view.readAt (Elt Ideal) (Rect.unit (s := S8192x128) (k0_off6 i 1#32) S512x128.size (k0_off6_inb i 1)).toLoadRect (arg14.view.writes (Elt Ideal) f14 L14))⟩ :: L14)) x14 D.cv (D.B + 1024)
    ∧ ∀ (r : Fin 2048) (d : Fin 256), k0_pay44 (k0_pay3 v3) (k0_pay4 v3 v5) (k0_pay5 v10) old (k0_pay33 (arg3.view.readAt (Elt Ideal) (Rect.unit (s := S8192x256) (k0_off5 i 1#32) S512x256.size (k0_off5_inb i 1)).toLoadRect X3)) (k0_pay34 (arg4.view.readAt (Elt Ideal) (Rect.unit (s := S8192x128) (k0_off6 i 1#32) S512x128.size (k0_off6_inb i 1)).toLoadRect X4)) (k0_pay36 (k0_pay33 (arg3.view.readAt (Elt Ideal) (Rect.unit (s := S8192x256) (k0_off5 i 1#32) S512x256.size (k0_off5_inb i 1)).toLoadRect X3)) (arg2.view.readAt (Elt Ideal) (Rect.unit (s := S2048x256) ![512, 0] S1536x256.size inb_S2048x256_S1536x256_512_0).toLoadRect X2)) (iota .tc S1536x512 32 [0] iota_S1536x512_d0_w32) k0_pay37 64#32 k0_pay38 k0_pay39 (ix2 r d) = D.cq (D.B + 1024) r d := by
  have hi := At.lt i
  have o5 : k0_off5 i 1#32 = ![D.B + 512, 0] := (off5_eq i 1).trans (by rw [h.B]; rfl)
  have o6 : k0_off6 i 1#32 = ![D.B + 512, 0] := o5
  have hB : D.B + 512 + 512 ≤ 8192 := by rw [h.B]; omega
  have hK : Keys D (D.B + 512) (k0_pay33 (arg3.view.readAt (Elt Ideal) (Rect.unit (s := S8192x256) (k0_off5 i 1#32) S512x256.size (k0_off5_inb i 1)).toLoadRect X3)) (k0_pay34 (arg4.view.readAt (Elt Ideal) (Rect.unit (s := S8192x128) (k0_off6 i 1#32) S512x128.size (k0_off6_inb i 1)).toLoadRect X4)) := by
    constructor
    · intro a d; rw [kb1_apply]; exact h.ldk o5 _ hB a d
    · intro a d; rw [vb1_apply]; exact h.ldv o6 _ hB a d
  have hs : ∀ (r : Fin 1536) (a : Fin 512), (k0_pay36 (k0_pay33 (arg3.view.readAt (Elt Ideal) (Rect.unit (s := S8192x256) (k0_off5 i 1#32) S512x256.size (k0_off5_inb i 1)).toLoadRect X3)) (arg2.view.readAt (Elt Ideal) (Rect.unit (s := S2048x256) ![512, 0] S1536x256.size inb_S2048x256_S1536x256_512_0).toLoadRect X2)) (ix2 r a) = ∑ d : Fin 256, D.q (512 + r) d * D.k (D.B + 512 + a) d := by
    intro r a; rw [lg1_apply]
    refine Finset.sum_congr rfl fun d _ => congrArg₂ _ ?_ ?_
    · exact h.ldq _ (by omega) r d
    · exact h.ldk o5 _ hB a d
  have hq : ∀ (r : Fin 1536) (d : Fin 256), (k0_pay35 (arg2.view.readAt (Elt Ideal) (Rect.unit (s := S2048x256) ![512, 0] S1536x256.size inb_S2048x256_S1536x256_512_0).toLoadRect X2)) (ix2 r d) = D.q (512 + r) d := by
    intro r d; rw [qb1_apply]; exact h.ldq _ (by omega) r d
  refine ⟨?_, ?_, ?_⟩
  · exact Upto.step arg13.view h13 _ o5 _ fun a d => dk_tail1 h.hM h.rows' hK hs hq _ a d
  · exact Upto.step arg14.view h14 _ o6 _ fun a d => dv_tail1 h.hM h.rows' hs _ a d
  · exact fun r d => dq_tail1 h.hM h.rows' hK hs hold r d

/-- Tail 2: the block of keys that rows from 1024 on share with their own positions. -/
theorem tail2 (h : At D i arg2 arg3 arg4 v3 v5 v10 X2 X3 X4) {f13 : BufTy.Contents (Elt Ideal) arg13.view.ty} {f14 : BufTy.Contents (Elt Ideal) arg14.view.ty}
    {L13 : List (View.Piece (Elt Ideal) S8192x256 .f32)} {L14 : List (View.Piece (Elt Ideal) S8192x128 .f32)} {x13 : Vec Ideal S8192x256 .f32} {x14 : Vec Ideal S8192x128 .f32}
    {old : FVec Ideal S2048x256 .f32}
    (h13 : Upto arg13.view (arg13.view.writes (Elt Ideal) f13 L13) x13 D.ck (D.B + 1024)) (h14 : Upto arg14.view (arg14.view.writes (Elt Ideal) f14 L14) x14 D.cv (D.B + 1024))
    (hold : ∀ (r : Fin 2048) (d : Fin 256), old (ix2 r d) = D.cq (D.B + 1024) r d) :
    Upto arg13.view (arg13.view.writes (Elt Ideal) f13 (⟨Rect.unit (s := S8192x256) (k0_off5 i 2#32) S512x256.size (k0_off5_inb i 2),
        k0_pay54 (k0_pay3 v3) (k0_pay4 v3 v5) (k0_pay5 v10) (k0_pay46 (arg4.view.readAt (Elt Ideal) (Rect.unit (s := S8192x128) (k0_off6 i 2#32) S512x128.size (k0_off6_inb i 2)).toLoadRect X4)) (k0_pay47 (arg2.view.readAt (Elt Ideal) (Rect.unit (s := S2048x256) ![1024, 0] S1024x256.size inb_S2048x256_S1024x256_1024_0).toLoadRect X2)) (k0_pay48 (arg3.view.readAt (Elt Ideal) (Rect.unit (s := S8192x256) (k0_off5 i 2#32) S512x256.size (k0_off5_inb i 2)).toLoadRect X3) (arg2.view.readAt (Elt Ideal) (Rect.unit (s := S2048x256) ![1024, 0] S1024x256.size inb_S2048x256_S1024x256_1024_0).toLoadRect X2)) (iota .tc S1024x512 32 [0] iota_S1024x512_d0_w32) k0_pay49 64#32 k0_pay50 k0_pay51 0#32 (arg13.view.readAt (Elt Ideal) (Rect.unit (s := S8192x256) (k0_off5 i 2#32) S512x256.size (k0_off5_inb i 2)).toLoadRect (arg13.view.writes (Elt Ideal) f13 L13))⟩ :: L13)) x13 D.ck (D.B + 1536)
    ∧ Upto arg14.view (arg14.view.writes (Elt Ideal) f14 (⟨Rect.unit (s := S8192x128) (k0_off6 i 2#32) S512x128.size (k0_off6_inb i 2),
        k0_pay56 (k0_pay55 (k0_pay3 v3) (k0_pay5 v10) (k0_pay48 (arg3.view.readAt (Elt Ideal) (Rect.unit (s := S8192x256) (k0_off5 i 2#32) S512x256.size (k0_off5_inb i 2)).toLoadRect X3) (arg2.view.readAt (Elt Ideal) (Rect.unit (s := S2048x256) ![1024, 0] S1024x256.size inb_S2048x256_S1024x256_1024_0).toLoadRect X2)) (iota .tc S1024x512 32 [0] iota_S1024x512_d0_w32) k0_pay49 64#32 k0_pay50 k0_pay51 0#32 (arg14.view.readAt (Elt Ideal) (Rect.unit (s := S8192x128) (k0_off6 i 2#32) S512x128.size (k0_off6_inb i 2)).toLoadRect (arg14.view.writes (Elt Ideal) f14 L14)))⟩ :: L14)) x14 D.cv (D.B + 1536)
    ∧ ∀ (r : Fin 2048) (d : Fin 256), k0_pay57 old (k0_pay45 (arg3.view.readAt (Elt Ideal) (Rect.unit (s := S8192x256) (k0_off5 i 2#32) S512x256.size (k0_off5_inb i 2)).toLoadRect X3)) (k0_pay53 (k0_pay3 v3) (k0_pay4 v3 v5) (k0_pay5 v10) (k0_pay46 (arg4.view.readAt (Elt Ideal) (Rect.unit (s := S8192x128) (k0_off6 i 2#32) S512x128.size (k0_off6_inb i 2)).toLoadRect X4)) (k0_pay48 (arg3.view.readAt (Elt Ideal) (Rect.unit (s := S8192x256) (k0_off5 i 2#32) S512x256.size (k0_off5_inb i 2)).toLoadRect X3) (arg2.view.readAt (Elt Ideal) (Rect.unit (s := S2048x256) ![1024, 0] S1024x256.size inb_S2048x256_S1024x256_1024_0).toLoadRect X2)) (iota .tc S1024x512 32 [0] iota_S1024x512_d0_w32) k0_pay49 64#32 k0_pay50 k0_pay51 0#32) (ix2 r d) = D.cq (D.B + 1536) r d := by
  have hi := At.lt i
  have o5 : k0_off5 i 2#32 = ![D.B + 1024, 0] := (off5_eq i 2).trans (by rw [h.B]; rfl)
  have o6 : k0_off6 i 2#32 = ![D.B + 1024, 0] := o5
  have hB : D.B + 1024 + 512 ≤ 8192 := by rw [h.B]; omega
  have hK : Keys D (D.B + 1024) (k0_pay45 (arg3.view.readAt (Elt Ideal) (Rect.unit (s := S8192x256) (k0_off5 i 2#32) S512x256.size (k0_off5_inb i 2)).toLoadRect X3)) (k0_pay46 (arg4.view.readAt (Elt Ideal) (Rect.unit (s := S8192x128) (k0_off6 i 2#32) S512x128.size (k0_off6_inb i 2)).toLoadRect X4)) := by
    constructor
    · intro a d; rw [kb2_apply]; exact h.ldk o5 _ hB a d
    · intro a d; rw [vb2_apply]; exact h.ldv o6 _ hB a d
  have hs : ∀ (r : Fin 1024) (a : Fin 512), (k0_pay48 (arg3.view.readAt (Elt Ideal) (Rect.unit (s := S8192x256) (k0_off5 i 2#32) S512x256.size (k0_off5_inb i 2)).toLoadRect X3) (arg2.view.readAt (Elt Ideal) (Rect.unit (s := S2048x256) ![1024, 0] S1024x256.size inb_S2048x256_S1024x256_1024_0).toLoadRect X2)) (ix2 r a) = ∑ d : Fin 256, D.q (1024 + r) d * D.k (D.B + 1024 + a) d := by
    intro r a; rw [lg2_apply]
    refine Finset.sum_congr rfl fun d _ => congrArg₂ _ ?_ ?_
    · exact h.ldq _ (by omega) r d
    · exact h.ldk o5 _ hB a d
  have hq : ∀ (r : Fin 1024) (d : Fin 256), (k0_pay47 (arg2.view.readAt (Elt Ideal) (Rect.unit (s := S2048x256) ![1024, 0] S1024x256.size inb_S2048x256_S1024x256_1024_0).toLoadRect X2)) (ix2 r d) = D.q (1024 + r) d := by
    intro r d; rw [qb2_apply]; exact h.ldq _ (by omega) r d
  refine ⟨?_, ?_, ?_⟩
  · exact Upto.step arg13.view h13 _ o5 _ fun a d => dk_tail2 h.hM h.rows' hK hs hq _ a d
  · exact Upto.step arg14.view h14 _ o6 _ fun a d => dv_tail2 h.hM h.rows' hs _ a d
  · exact fun r d => dq_tail2 h.hM h.rows' hK hs hold r d

/-- Tail 3: the block of keys that rows from 1536 on share with their own positions. -/
theorem tail3 (h : At D i arg2 arg3 arg4 v3 v5 v10 X2 X3 X4) {f13 : BufTy.Contents (Elt Ideal) arg13.view.ty} {f14 : BufTy.Contents (Elt Ideal) arg14.view.ty}
    {L13 : List (View.Piece (Elt Ideal) S8192x256 .f32)} {L14 : List (View.Piece (Elt Ideal) S8192x128 .f32)} {x13 : Vec Ideal S8192x256 .f32} {x14 : Vec Ideal S8192x128 .f32}
    {old : FVec Ideal S2048x256 .f32}
    (h13 : Upto arg13.view (arg13.view.writes (Elt Ideal) f13 L13) x13 D.ck (D.B + 1536)) (h14 : Upto arg14.view (arg14.view.writes (Elt Ideal) f14 L14) x14 D.cv (D.B + 1536))
    (hold : ∀ (r : Fin 2048) (d : Fin 256), old (ix2 r d) = D.cq (D.B + 1536) r d) :
    Upto arg13.view (arg13.view.writes (Elt Ideal) f13 (⟨Rect.unit (s := S8192x256) (k0_off5 i 3#32) S512x256.size (k0_off5_inb i 3),
        k0_pay68 (k0_pay67 (k0_pay3 v3) (k0_pay4 v3 v5) (k0_pay5 v10) (k0_pay59 (arg4.view.readAt (Elt Ideal) (Rect.unit (s := S8192x128) (k0_off6 i 3#32) S512x128.size (k0_off6_inb i 3)).toLoadRect X4)) (k0_pay60 (arg2.view.readAt (Elt Ideal) (Rect.unit (s := S2048x256) ![1536, 0] S512x256.size inb_S2048x256_S512x256_1536_0).toLoadRect X2)) (k0_pay61 (arg3.view.readAt (Elt Ideal) (Rect.unit (s := S8192x256) (k0_off5 i 3#32) S512x256.size (k0_off5_inb i 3)).toLoadRect X3) (arg2.view.readAt (Elt Ideal) (Rect.unit (s := S2048x256) ![1536, 0] S512x256.size inb_S2048x256_S512x256_1536_0).toLoadRect X2)) (iota .tc S512x512 32 [0] iota_S512x512_d0_w32) k0_pay62 k0_pay63 k0_pay64 (arg13.view.readAt (Elt Ideal) (Rect.unit (s := S8192x256) (k0_off5 i 3#32) S512x256.size (k0_off5_inb i 3)).toLoadRect (arg13.view.writes (Elt Ideal) f13 L13)))⟩ :: L13)) x13 D.ck (D.B + 2048)
    ∧ Upto arg14.view (arg14.view.writes (Elt Ideal) f14 (⟨Rect.unit (s := S8192x128) (k0_off6 i 3#32) S512x128.size (k0_off6_inb i 3),
        k0_pay69 (k0_pay3 v3) (k0_pay65 (k0_pay5 v10) (k0_pay61 (arg3.view.readAt (Elt Ideal) (Rect.unit (s := S8192x256) (k0_off5 i 3#32) S512x256.size (k0_off5_inb i 3)).toLoadRect X3) (arg2.view.readAt (Elt Ideal) (Rect.unit (s := S2048x256) ![1536, 0] S512x256.size inb_S2048x256_S512x256_1536_0).toLoadRect X2)) (iota .tc S512x512 32 [0] iota_S512x512_d0_w32) k0_pay62 k0_pay63 k0_pay64) (arg14.view.readAt (Elt Ideal) (Rect.unit (s := S8192x128) (k0_off6 i 3#32) S512x128.size (k0_off6_inb i 3)).toLoadRect (arg14.view.writes (Elt Ideal) f14 L14))⟩ :: L14)) x14 D.cv (D.B + 2048)
    ∧ ∀ (r : Fin 2048) (d : Fin 256), k0_pay70 old (k0_pay58 (arg3.view.readAt (Elt Ideal) (Rect.unit (s := S8192x256) (k0_off5 i 3#32) S512x256.size (k0_off5_inb i 3)).toLoadRect X3)) (k0_pay66 (k0_pay3 v3) (k0_pay4 v3 v5) (k0_pay5 v10) (k0_pay59 (arg4.view.readAt (Elt Ideal) (Rect.unit (s := S8192x128) (k0_off6 i 3#32) S512x128.size (k0_off6_inb i 3)).toLoadRect X4)) (k0_pay61 (arg3.view.readAt (Elt Ideal) (Rect.unit (s := S8192x256) (k0_off5 i 3#32) S512x256.size (k0_off5_inb i 3)).toLoadRect X3) (arg2.view.readAt (Elt Ideal) (Rect.unit (s := S2048x256) ![1536, 0] S512x256.size inb_S2048x256_S512x256_1536_0).toLoadRect X2)) (iota .tc S512x512 32 [0] iota_S512x512_d0_w32) k0_pay62 k0_pay63 k0_pay64) (ix2 r d) = D.cq (D.B + 2048) r d := by
  have hi := At.lt i
  have o5 : k0_off5 i 3#32 = ![D.B + 1536, 0] := (off5_eq i 3).trans (by rw [h.B]; rfl)
  have o6 : k0_off6 i 3#32 = ![D.B + 1536, 0] := o5
  have hB : D.B + 1536 + 512 ≤ 8192 := by rw [h.B]; omega
  have hK : Keys D (D.B + 1536) (k0_pay58 (arg3.view.readAt (Elt Ideal) (Rect.unit (s := S8192x256) (k0_off5 i 3#32) S512x256.size (k0_off5_inb i 3)).toLoadRect X3)) (k0_pay59 (arg4.view.readAt (Elt Ideal) (Rect.unit (s := S8192x128) (k0_off6 i 3#32) S512x128.size (k0_off6_inb i 3)).toLoadRect X4)) := by
    constructor
    · intro a d; rw [kb3_apply]; exact h.ldk o5 _ hB a d
    · intro a d; rw [vb3_apply]; exact h.ldv o6 _ hB a d
  have hs : ∀ (r : Fin 512) (a : Fin 512), (k0_pay61 (arg3.view.readAt (Elt Ideal) (Rect.unit (s := S8192x256) (k0_off5 i 3#32) S512x256.size (k0_off5_inb i 3)).toLoadRect X3) (arg2.view.readAt (Elt Ideal) (Rect.unit (s := S2048x256) ![1536, 0] S512x256.size inb_S2048x256_S512x256_1536_0).toLoadRect X2)) (ix2 r a) = ∑ d : Fin 256, D.q (1536 + r) d * D.k (D.B + 1536 + a) d := by
    intro r a; rw [lg3_apply]
    refine Finset.sum_congr rfl fun d _ => congrArg₂ _ ?_ ?_
    · exact h.ldq _ (by omega) r d
    · exact h.ldk o5 _ hB a d
  have hq : ∀ (r : Fin 512) (d : Fin 256), (k0_pay60 (arg2.view.readAt (Elt Ideal) (Rect.unit (s := S2048x256) ![1536, 0] S512x256.size inb_S2048x256_S512x256_1536_0).toLoadRect X2)) (ix2 r d) = D.q (1536 + r) d := by
    intro r d; rw [qb3_apply]; exact h.ldq _ (by omega) r d
  refine ⟨?_, ?_, ?_⟩
  · exact Upto.step arg13.view h13 _ o5 _ fun a d => dk_tail3 h.hM h.rows' hK hs hq _ a d
  · exact Upto.step arg14.view h14 _ o6 _ fun a d => dv_tail3 h.hM h.rows' hs _ a d
  · exact fun r d => dq_tail3 h.hM h.rows' hK hs hold r d

end

/-! ## The loop over the blocks before the point's rows -/

section
variable (𝒱 : Variants) (c : Dev nD) (bd : Option 𝒱.V) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x256 .bf16) (harg10 : arg10.IsWhole) (arg11 : Memref sig .tc .hbm S6x8192x256 .f32) (harg11 : arg11.IsWhole) (arg12 : Memref sig .tc .hbm S6x8192x128 .f32) (harg12 : arg12.IsWhole) (arg13 : Memref sig .tc .vmem S8192x256 .f32) (harg13 : arg13.IsWhole) (arg14 : Memref sig .tc .vmem S8192x128 .f32) (harg14 : arg14.IsWhole) (v440_r0 : DmaSems sig S_) (v440_r1 : DmaSems sig S_) (v3 v5 : Vec Ideal S2048x128 .f32) (v10 : Vec Ideal S2048x1 .f32) (X2 : BufTy.Contents (Elt Ideal) arg2.view.ty) (X3 : BufTy.Contents (Elt Ideal) arg3.view.ty) (X4 : BufTy.Contents (Elt Ideal) arg4.view.ty)

theorem loop1 {D : Pt} (h : At D i arg2 arg3 arg4 v3 v5 v10 X2 X3 X4) {f13 : BufTy.Contents (Elt Ideal) arg13.view.ty} {f14 : BufTy.Contents (Elt Ideal) arg14.view.ty}
    {x13 : Vec Ideal S8192x256 .f32} {x14 : Vec Ideal S8192x128 .f32} (h13 : arg13.view.read (Elt Ideal) f13 = x13) (h14 : arg14.view.read (Elt Ideal) f14 = x14) :
    ∀ n ≤ (k0_t1_loop i).trips,
      Upto arg13.view (arg13.view.writes (Elt Ideal) f13 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v440_r0 v440_r1 v3 v5 v10 X2 X3 X4 f13 f14 k0_pay6 n).2.1) x13 D.ck (512 * n)
      ∧ Upto arg14.view (arg14.view.writes (Elt Ideal) f14 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v440_r0 v440_r1 v3 v5 v10 X2 X3 X4 f13 f14 k0_pay6 n).2.2) x14 D.cv (512 * n)
      ∧ ∀ (r : Fin 2048) (d : Fin 256), (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v440_r0 v440_r1 v3 v5 v10 X2 X3 X4 f13 f14 k0_pay6 n).1 (ix2 r d) = D.cq (512 * n) r d := by
  intro n
  induction n with
  | zero =>
    intro _
    refine ⟨Upto.zero _ ?_, Upto.zero _ ?_, fun r d => ?_⟩
    · exact h13
    · exact h14
    · show (Scalar.ofBits .f32 0x00000000#32 : Ideal .f32) = _
      unfold Pt.cq; rw [Nat.mul_zero, Finset.range_zero, Finset.sum_empty]
      exact Ideal.ofBits_zero .f32
  | succ n ih =>
    intro hn
    obtain ⟨i13, i14, iq⟩ := ih (by omega)
    have hi := At.lt i
    have ht := trips1 i
    have e : st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v440_r0 v440_r1 v3 v5 v10 X2 X3 X4 f13 f14 k0_pay6 (n + 1) = _ := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 v440_r0 v440_r1 v3 v5 v10 X2 X3 X4 f13 f14 k0_pay6 ⟨n, hn⟩
    rw [tripR1_eq, tripL1_eq] at e
    rw [e]
    have o1 := off1_eq i ⟨n, hn⟩
    have o2 := off2_eq i ⟨n, hn⟩
    have hK : Keys D (512 * n) (ldK i arg3 X3 ⟨n, hn⟩) (ldV i arg4 X4 ⟨n, hn⟩) :=
      ⟨fun a d => h.ldk o1 _ (by omega) a d, fun a d => h.ldv o2 _ (by omega) a d⟩
    have hq : ∀ (r : Fin 2048) (d : Fin 256), ldQ arg2 X2 (ix2 r d) = D.q r d := fun r d => by
      have := h.ldq (R := 2048) (o := 0) inb_S2048x256_S2048x256_0_0 (by omega) r d
      rw [Nat.zero_add] at this; exact this
    have hb : 512 * n + 512 ≤ D.B := by rw [h.B]; omega
    refine ⟨?_, ?_, ?_⟩
    · exact Upto.step arg13.view i13 _ o1 _ fun a d => dk_trip h.hM hb h.rows hK hq _ a d
    · exact Upto.step arg14.view i14 _ o2 _ fun a d => dv_trip h.hM hb h.rows hK hq _ a d
    · exact fun r d => dq_trip h.hM hb h.rows hK hq iq r d

theorem loop2 (G13 : BufTy.Contents (Elt Ideal) arg13.view.ty) (G14 : BufTy.Contents (Elt Ideal) arg14.view.ty) (init : FVec Ideal S2048x256 .f32) :
    st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 v440_r0 v440_r1 v3 v5 v10 X2 X3 X4 G13 G14 init (k0_t2_loop i).trips = (init, [], []) := by
  rw [trips2]; rfl

/-- Before the first tail, the keys before the point's rows have been taken. -/
theorem start {D : Pt} (h : At D i arg2 arg3 arg4 v3 v5 v10 X2 X3 X4) {f13 : BufTy.Contents (Elt Ideal) arg13.view.ty} {f14 : BufTy.Contents (Elt Ideal) arg14.view.ty}
    {x13 : Vec Ideal S8192x256 .f32} {x14 : Vec Ideal S8192x128 .f32} (h13 : arg13.view.read (Elt Ideal) f13 = x13) (h14 : arg14.view.read (Elt Ideal) f14 = x14) :
    let s1 := st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v440_r0 v440_r1 v3 v5 v10 X2 X3 X4 f13 f14 k0_pay6 (k0_t1_loop i).trips
    let s2 := st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 v440_r0 v440_r1 v3 v5 v10 X2 X3 X4 (arg13.view.writes (Elt Ideal) f13 s1.2.1) (arg14.view.writes (Elt Ideal) f14 s1.2.2) s1.1 (k0_t2_loop i).trips
    Upto arg13.view (arg13.view.writes (Elt Ideal) f13 (s2.2.1 ++ s1.2.1)) x13 D.ck (D.B + 0)
    ∧ Upto arg14.view (arg14.view.writes (Elt Ideal) f14 (s2.2.2 ++ s1.2.2)) x14 D.cv (D.B + 0)
    ∧ ∀ (r : Fin 2048) (d : Fin 256), s2.1 (ix2 r d) = D.cq (D.B + 0) r d := by
  intro s1 s2
  have e2 : s2 = (s1.1, [], []) := loop2 𝒱 c bd i arg2 harg2 arg3 harg3 arg4 harg4 arg5 harg5 arg6 harg6 arg7 harg7 arg8 harg8 arg9 harg9 arg10 harg10 arg11 harg11 arg12 harg12 arg13 harg13 arg14 harg14 v440_r0 v440_r1 v3 v5 v10 X2 X3 X4 _ _ _
  have hB : D.B + 0 = 512 * (k0_t1_loop i).trips := by rw [h.B, trips1]; omega
  rw [e2, hB]
  exact loop1 𝒱 c bd i arg2 harg2 arg3 harg3 arg4 harg4 arg5 harg5 arg6 harg6 arg7 harg7 arg8 harg8 arg9 harg9 arg10 harg10 arg11 harg11 arg12 harg12 arg13 harg13 arg14 harg14 v440_r0 v440_r1 v3 v5 v10 X2 X3 X4 h h13 h14 (k0_t1_loop i).trips le_rfl

end

end Cert.KernelIdeal.Val
-- ==== Proof.Out.lean ====
module

public import proofs.«01_k».proof.Proof.Block
public import Idealize.ShloMosaic.Lib.KernelVsHost

@[expose] public section

set_option maxRecDepth 16384

noncomputable section

namespace Cert.KernelIdeal.Val

open Cert.KernelIdeal Cert.KernelIdeal.Gen Idealize.ShloMosaic
open scoped BigOperators

/-! ## The two halves of a query gradient's row -/

/-- The scale of the logits, as the program writes it. -/
abbrev scale : EReal := (Scalar.ofBits .f32 0x3D93CD3A#32 : Ideal .f32)

/-- The lane whose value the rotation of pairs brings to lane `d`. -/
def rot (d : ℕ) : ℕ := if d < 32 then d + 32 else d - 32

theorem rot_lt {d : ℕ} (h : d < 128) : rot d < 128 := by unfold rot; split <;> omega

theorem pay71_apply (a : FVec Ideal S2048x256 .f32) (b : FVec Ideal S512x256 .bf16) (c : FVec Ideal S512x512 .bf16) (r : Fin 2048) (d : Fin 128) :
    k0_pay71 a b c (ix2 r d) = k0_pay70 a b c (ix2 r ⟨d.val, by omega⟩) * scale := by
  pointwise [k0_pay71]

theorem iota_lane (r : Fin 2048) (d : Fin 128) : iota .tc S2048x128 32 [1] iota_S2048x128_d1_w32 (ix2 r d) = BitVec.ofNat 32 d.val := by pointwise

theorem rot_up (x : FVec Ideal S2048x128 .f32) (r : Fin 2048) (d : Fin 128) (h : d.val < 32) :
    dynamicRotate 1 96#32 none x rotates_S2048x128_d1 (ix2 r d) = x (ix2 r ⟨d.val + 32, by omega⟩) := by
  refine dynamicRotate_apply (s := S2048x128) 1 96#32 x rotates_S2048x128_d1 (ix2 r d) _ ?_
  intro b; match b with
    | ⟨0, _⟩ => rfl
    | ⟨1, _⟩ => show d.val + 32 = (d.val + 128 - 96 % 128) % 128; omega

theorem rot_down (x : FVec Ideal S2048x128 .f32) (r : Fin 2048) (d : Fin 128) (h : ¬ d.val < 32) :
    dynamicRotate 1 32#32 none x rotates_S2048x128_d1 (ix2 r d) = x (ix2 r ⟨d.val - 32, by omega⟩) := by
  refine dynamicRotate_apply (s := S2048x128) 1 32#32 x rotates_S2048x128_d1 (ix2 r d) _ ?_
  intro b; match b with
    | ⟨0, _⟩ => rfl
    | ⟨1, _⟩ => show d.val - 32 = (d.val + 128 - 32 % 128) % 128; omega

theorem upper_half (a : FVec Ideal S2048x256 .f32) (b : FVec Ideal S512x256 .bf16) (c : FVec Ideal S512x512 .bf16) (r : Fin 2048) (d : Fin 128) :
    mulf (extractStridedSlice S2048x128 ![0, 128] (k0_pay70 a b c) slices_S2048x256_o0_128_S2048x128) (broadcast S2048x128 (Scalar.ofBits .f32 0x3D93CD3A#32 : Ideal .f32)) (ix2 r d)
      = k0_pay70 a b c (ix2 r ⟨128 + d.val, by omega⟩) * scale := by
  pointwise

theorem pay72_apply (a : FVec Ideal S2048x256 .f32) (b : FVec Ideal S512x256 .bf16) (c : FVec Ideal S512x512 .bf16) (rc rs : Vec Ideal S2048x128 .f32) (r : Fin 2048) (d : Fin 128) :
    k0_pay72 a b c rc rs (ix2 r d)
      = k0_pay70 a b c (ix2 r ⟨128 + d.val, by omega⟩) * scale * rc (ix2 r d)
        - k0_pay70 a b c (ix2 r ⟨128 + rot d.val, by have := rot_lt d.isLt; omega⟩) * scale * rs (ix2 r d) := by
  have e : k0_pay72 a b c rc rs (ix2 r d)
      = (mulf (extractStridedSlice S2048x128 ![0, 128] (k0_pay70 a b c) slices_S2048x256_o0_128_S2048x128) (broadcast S2048x128 (Scalar.ofBits .f32 0x3D93CD3A#32 : Ideal .f32)) (ix2 r d) : EReal)
          * shapeCast S2048x128 rc shapeCasts_S2048x128_S2048x128 (ix2 r d)
        - Scalar.select (IntOp.cmpi .slt (iota .tc S2048x128 32 [1] iota_S2048x128_d1_w32 (ix2 r d)) 32#32)
            (dynamicRotate 1 96#32 none (mulf (extractStridedSlice S2048x128 ![0, 128] (k0_pay70 a b c) slices_S2048x256_o0_128_S2048x128) (broadcast S2048x128 (Scalar.ofBits .f32 0x3D93CD3A#32 : Ideal .f32))) rotates_S2048x128_d1 (ix2 r d))
            (dynamicRotate 1 32#32 none (mulf (extractStridedSlice S2048x128 ![0, 128] (k0_pay70 a b c) slices_S2048x256_o0_128_S2048x128) (broadcast S2048x128 (Scalar.ofBits .f32 0x3D93CD3A#32 : Ideal .f32))) rotates_S2048x128_d1 (ix2 r d))
          * shapeCast S2048x128 rs shapeCasts_S2048x128_S2048x128 (ix2 r d) := rfl
  have hc : (IntOp.cmpi .slt (BitVec.ofNat 32 d.val) 32#32 : BitVec 1) = if d.val < 32 then 1#1 else 0#1 :=
    (by decide +kernel : ∀ d : Fin 128, (IntOp.cmpi .slt (BitVec.ofNat 32 d.val) 32#32 : BitVec 1) = if d.val < 32 then 1#1 else 0#1) d
  rw [e, shapeCast_id, shapeCast_id, iota_lane, hc, upper_half]
  by_cases h : d.val < 32
  · rw [if_pos h, rot_up _ r d h, upper_half]
    have : rot d.val = d.val + 32 := if_pos h
    simp only [this]; rfl
  · rw [if_neg h, rot_down _ r d h, upper_half]
    have : rot d.val = d.val - 32 := if_neg h
    simp only [this]; rfl

end Cert.KernelIdeal.Val
-- ==== Proof.Point.lean ====
module

public import proofs.«01_k».proof.Proof.Walk
public import proofs.«01_k».proof.Proof.Out

@[expose] public section

set_option maxRecDepth 16384

noncomputable section

namespace Cert.KernelIdeal.Val

open Cert.KernelIdeal Cert.KernelIdeal.Gen Idealize.ShloMosaic Idealize.ShloMosaic.TcCoe
open scoped BigOperators

/-! ## What one grid point leaves -/

/-- A matrix read at natural positions, zero outside. -/
def at2 {m n : ℕ} (x : (⟨2, ![m, n]⟩ : Shape).Idx → EReal) (a b : ℕ) : EReal := if h : a < m ∧ b < n then x (ix2 ⟨a, h.1⟩ ⟨b, h.2⟩) else 0

theorem at2_ix {m n : ℕ} (x : (⟨2, ![m, n]⟩ : Shape).Idx → EReal) (a : Fin m) (b : Fin n) : x (ix2 a b) = at2 x a b := by
  unfold at2; rw [dif_pos ⟨a.isLt, b.isLt⟩]

theorem at2_of_lt {m n : ℕ} (x : (⟨2, ![m, n]⟩ : Shape).Idx → EReal) {a b : ℕ} (ha : a < m) (hb : b < n) : x (ix2 ⟨a, ha⟩ ⟨b, hb⟩) = at2 x a b := by
  unfold at2; rw [dif_pos ⟨ha, hb⟩]

/-- The point's arrays, from the blocks it is handed and its position. -/
def pt (B : ℕ) (x0 : Vec Ideal S2048x256 .bf16) (x1 : Vec Ideal S8192x256 .bf16) (x2 : Vec Ideal S8192x128 .bf16) (x3 x4 x5 : Vec Ideal S2048x128 .f32) : Pt where
  B := B
  q := at2 x0
  k := at2 x1
  v := at2 x2
  g := at2 x3
  lse r := at2 x5 r 0
  dlt r := ∑ d : Fin 128, at2 x3 r d * at2 x4 r d

/-- What the point writes into its block of the queries' gradient: the scale put back, and the rotation undone on the last 128 lanes. -/
def Pt.out (D : Pt) (rc rs : ℕ → ℕ → EReal) (r d : ℕ) : EReal :=
  if d < 128 then D.cq (D.B + 2048) r d * scale
  else D.cq (D.B + 2048) r d * scale * rc r (d - 128) - D.cq (D.B + 2048) r (128 + rot (d - 128)) * scale * rs r (d - 128)

theorem read_out {D : Pt} {a : FVec Ideal S2048x256 .f32} {b : FVec Ideal S512x256 .bf16} {c : FVec Ideal S512x512 .bf16}
    (h : ∀ (r : Fin 2048) (d : Fin 256), k0_pay70 a b c (ix2 r d) = D.cq (D.B + 2048) r d) {rc rs x6 x7 : Vec Ideal S2048x128 .f32} (hrc : rc = x6) (hrs : rs = x7)
    (v : View sig .tc .vmem S2048x256 .bf16) (f : v.ty.Contents (Elt Ideal)) (r : Fin 2048) (d : Fin 256) :
    v.read (Elt Ideal) (v.writes (Elt Ideal) f [⟨Rect.unit (s := S2048x256) ![0, 128] S2048x128.size inb_S2048x256_S2048x128_0_128, k0_pay72 a b c rc rs⟩,
        ⟨Rect.unit (s := S2048x256) ![0, 0] S2048x128.size inb_S2048x256_S2048x128_0_0, k0_pay71 a b c⟩]) (ix2 r d) = D.out (at2 x6) (at2 x7) r d := by
  subst hrc; subst hrs
  unfold Pt.out
  by_cases hd : d.val < 128
  · rw [if_pos hd]
    refine (View.read_writes_cons_unit_of_not_mem v f _ _ _ (ix2 r d) rfl (1 : Fin 2) (.inl hd)).trans ?_
    refine (View.read_writes_cons_unit_of_mem v f _ _ _ (ix2 r d) (ix2 r ⟨d.val, hd⟩) rfl ?_).trans ?_
    · exact Fin.forall_fin_two.mpr ⟨(Nat.zero_add _).symm, (Nat.zero_add _).symm⟩
    · refine (pay71_apply a b c r ⟨d.val, hd⟩).trans ?_
      rw [h]
  · rw [if_neg hd]
    refine (View.read_writes_cons_unit_of_mem v f _ _ _ (ix2 r d) (ix2 r ⟨d.val - 128, by omega⟩) rfl ?_).trans ?_
    · exact Fin.forall_fin_two.mpr ⟨(Nat.zero_add _).symm, by show d.val = 128 + (d.val - 128); omega⟩
    · refine (pay72_apply a b c rc rs r ⟨d.val - 128, by omega⟩).trans ?_
      rw [h, h, at2_ix rc, at2_ix rs]
      simp only
      rw [show 128 + (d.val - 128) = d.val by omega]

/-- The whole buffer loaded is what it holds. -/
theorem load_whole {e : EltTy} {m n w : ℕ} (M : Memref sig .tc .vmem ⟨2, ![m, n]⟩ e) (hM : M.IsWhole) (x : Vec Ideal ⟨2, ![m, n]⟩ e)
    (inb : ∀ a : Fin 2, (![0, 0] : Fin 2 → ℕ) a + (![m, w] : Fin 2 → ℕ) a ≤ (![m, n] : Fin 2 → ℕ) a) (r : Fin m) (d : Fin w) (hd : d.val < n) :
    M.view.readAt (Elt Ideal) (Rect.unit (s := ⟨2, ![m, n]⟩) ![0, 0] ![m, w] inb).toLoadRect (hM.unread x) (ix2 r d) = x (ix2 r ⟨d.val, hd⟩) := by
  rw [load_rows M.view _ rfl inb r d (by omega) hd, hM.read_unread]
  congr 2; exact Fin.ext (Nat.zero_add _)

/-- A buffer just written whole reads as what was written. -/
theorem read_whole {n : ℕ} (v : View sig .tc .vmem ⟨2, ![8192, n]⟩ .f32) (f : v.ty.Contents (Elt Ideal))
    (inb : ∀ a : Fin 2, (![0, 0] : Fin 2 → ℕ) a + (![8192, n] : Fin 2 → ℕ) a ≤ (![8192, n] : Fin 2 → ℕ) a) (w : Vec Ideal ⟨2, ![8192, n]⟩ .f32) :
    v.read (Elt Ideal) (v.writes (Elt Ideal) f [⟨Rect.unit (s := ⟨2, ![8192, n]⟩) ![0, 0] ![8192, n] inb, w⟩]) = w := by
  funext y
  exact View.read_writes_cons_unit_of_mem v f inb w [] y y rfl (Fin.forall_fin_two.mpr ⟨(Nat.zero_add _).symm, (Nat.zero_add _).symm⟩)

section
variable (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x256 .bf16) (harg10 : arg10.IsWhole) (arg13 : Memref sig .tc .vmem S8192x256 .f32) (harg13 : arg13.IsWhole) (arg14 : Memref sig .tc .vmem S8192x128 .f32) (harg14 : arg14.IsWhole)
  (x0 : Vec Ideal S2048x256 .bf16) (x1 : Vec Ideal S8192x256 .bf16) (x2 : Vec Ideal S8192x128 .bf16) (x3 x4 x5 x6 x7 : Vec Ideal S2048x128 .f32)

theorem at_pt : At (pt (2048 * (i 1).val) x0 x1 x2 x3 x4 x5) i arg2 arg3 arg4
    (arg5.view.readAt (Elt Ideal) (Rect.unit (s := S2048x128) ![0, 0] S2048x128.size inb_S2048x128_S2048x128_0_0).toLoadRect (harg5.unread x3))
    (arg6.view.readAt (Elt Ideal) (Rect.unit (s := S2048x128) ![0, 0] S2048x128.size inb_S2048x128_S2048x128_0_0).toLoadRect (harg6.unread x4))
    (arg7.view.readAt (Elt Ideal) (Rect.unit (s := S2048x128) ![0, 0] S2048x1.size inb_S2048x128_S2048x1_0_0).toLoadRect (harg7.unread x5))
    (harg2.unread x0) (harg3.unread x1) (harg4.unread x2) where
  B := rfl
  q r d := by rw [harg2.read_unread]; exact at2_ix x0 r d
  k r d := by rw [harg3.read_unread]; exact at2_ix x1 r d
  v r d := by rw [harg4.read_unread]; exact at2_ix x2 r d
  rows :=
    { g := fun r d => (load_whole arg5 harg5 x3 _ r d d.isLt).trans (at2_ix x3 r d)
      dlt := fun r => by
        rw [pay4_apply]
        show _ = ∑ d : Fin 128, at2 x3 r d * at2 x4 r d
        refine Finset.sum_congr rfl fun d _ => congrArg₂ (· * ·) ?_ ?_
        · exact (load_whole arg5 harg5 x3 _ r d d.isLt).trans (at2_ix x3 r d)
        · exact (load_whole arg6 harg6 x4 _ r d d.isLt).trans (at2_ix x4 r d)
      lse := fun r => (load_whole arg7 harg7 x5 _ r 0 (by show 0 < 128; omega)).trans (at2_of_lt x5 r.isLt (by omega)) }

theorem load_eq (M : Memref sig .tc .vmem S2048x128 .f32) (hM : M.IsWhole) (x : Vec Ideal S2048x128 .f32) :
    M.view.readAt (Elt Ideal) (Rect.unit (s := S2048x128) ![0, 0] S2048x128.size inb_S2048x128_S2048x128_0_0).toLoadRect (hM.unread x) = x := by
  funext y
  obtain ⟨r, d, rfl⟩ : ∃ (r : Fin 2048) (d : Fin 128), y = ix2 r d := ⟨y 0, y 1, by funext b; match b with
    | ⟨0, _⟩ => rfl
    | ⟨1, _⟩ => rfl⟩
  exact load_whole M hM x _ r d d.isLt

set_option maxHeartbeats 4000000 in
/-- Case A: the two scratch buffers gain the point's contributions, and the block of the queries' gradient is written. -/
theorem pointA (hc0 : cond0_0 i) (hc1 : ¬cond0_1 i)  (fh0 : HbBuf0 (F := Ideal) c hbM0_0) (fh1 : HbBuf0 (F := Ideal) c hbM0_1) :
    Upto arg13.view (arg13.view.writes (Elt Ideal) arg13.view.junk (vrunA (F := Ideal) c i arg2 harg2 arg3 harg3 arg4 harg4 arg5 harg5 arg6 harg6 arg7 harg7 arg8 harg8 arg9 harg9 arg10 harg10 arg13 harg13 arg14 harg14 hc0 hc1 x0 x1 x2 x3 x4 x5 x6 x7 fh0 fh1).2.1) (k0_pay1 (F := Ideal)) (pt (2048 * (i 1).val) x0 x1 x2 x3 x4 x5).ck (2048 * (i 1).val + 2048)
    ∧ Upto arg14.view (arg14.view.writes (Elt Ideal) arg14.view.junk (vrunA (F := Ideal) c i arg2 harg2 arg3 harg3 arg4 harg4 arg5 harg5 arg6 harg6 arg7 harg7 arg8 harg8 arg9 harg9 arg10 harg10 arg13 harg13 arg14 harg14 hc0 hc1 x0 x1 x2 x3 x4 x5 x6 x7 fh0 fh1).2.2.val) (k0_pay2 (F := Ideal)) (pt (2048 * (i 1).val) x0 x1 x2 x3 x4 x5).cv (2048 * (i 1).val + 2048)
    ∧ ∀ (f : arg10.view.ty.Contents (Elt Ideal)) (r : Fin 2048) (d : Fin 256),
        arg10.view.read (Elt Ideal) (arg10.view.writes (Elt Ideal) f (vrunA (F := Ideal) c i arg2 harg2 arg3 harg3 arg4 harg4 arg5 harg5 arg6 harg6 arg7 harg7 arg8 harg8 arg9 harg9 arg10 harg10 arg13 harg13 arg14 harg14 hc0 hc1 x0 x1 x2 x3 x4 x5 x6 x7 fh0 fh1).1) (ix2 r d) = (pt (2048 * (i 1).val) x0 x1 x2 x3 x4 x5).out (at2 x6) (at2 x7) r d := by
  have h := at_pt i arg2 harg2 arg3 harg3 arg4 harg4 arg5 harg5 arg6 harg6 arg7 harg7 x0 x1 x2 x3 x4 x5
  obtain ⟨a13, a14, aq⟩ := start Variants.none c none i arg2 harg2 arg3 harg3 arg4 harg4 arg5 harg5 arg6 harg6 arg7 harg7 arg8 harg8 arg9 harg9 arg10 harg10 (Memref.whole main_v98_1) (Memref.isWhole_whole _) (Memref.whole main_v98_2) (Memref.isWhole_whole _) arg13 harg13 arg14 harg14 cc0_scoped0 cc0_scoped1 _ _ _ _ _ _ h (read_whole arg13.view arg13.view.junk inb_S8192x256_S8192x256_0_0 (k0_pay1 (F := Ideal))) (read_whole arg14.view arg14.view.junk inb_S8192x128_S8192x128_0_0 (k0_pay2 (F := Ideal)))
  rw [← View.writes_append, ← View.writes_append, ← View.writes_append, List.append_assoc] at a13
  rw [← View.writes_append, ← View.writes_append, ← View.writes_append, List.append_assoc] at a14
  rw [← View.writes_append, ← View.writes_append] at aq
  obtain ⟨b13, b14, bq⟩ := tail0 h a13 a14 aq
  obtain ⟨c13, c14, cq⟩ := tail1 h b13 b14 bq
  obtain ⟨d13, d14, dq⟩ := tail2 h c13 c14 cq
  obtain ⟨e13, e14, eq⟩ := tail3 h d13 d14 dq
  refine ⟨?_, ?_, ?_⟩
  · exact e13
  · exact e14
  · exact fun f r d => read_out eq (load_eq arg8 harg8 x6) (load_eq arg9 harg9 x7) arg10.view f r d

set_option maxHeartbeats 4000000 in
/-- Case B: the two scratch buffers gain the point's contributions, and the block of the queries' gradient is written. -/
theorem pointB (hc0 : ¬cond0_0 i) (hc1 : ¬cond0_1 i) (xs0 : Vec Ideal S8192x256 .f32) (xs1 : Vec Ideal S8192x128 .f32) (fh0 : HbBuf0 (F := Ideal) c hbM0_0) (fh1 : HbBuf0 (F := Ideal) c hbM0_1) :
    Upto arg13.view (arg13.view.writes (Elt Ideal) (harg13.unread xs0) (vrunB (F := Ideal) c i arg2 harg2 arg3 harg3 arg4 harg4 arg5 harg5 arg6 harg6 arg7 harg7 arg8 harg8 arg9 harg9 arg10 harg10 arg13 harg13 arg14 harg14 hc0 hc1 x0 x1 x2 x3 x4 x5 x6 x7 xs0 xs1 fh0 fh1).2.1) xs0 (pt (2048 * (i 1).val) x0 x1 x2 x3 x4 x5).ck (2048 * (i 1).val + 2048)
    ∧ Upto arg14.view (arg14.view.writes (Elt Ideal) (harg14.unread xs1) (vrunB (F := Ideal) c i arg2 harg2 arg3 harg3 arg4 harg4 arg5 harg5 arg6 harg6 arg7 harg7 arg8 harg8 arg9 harg9 arg10 harg10 arg13 harg13 arg14 harg14 hc0 hc1 x0 x1 x2 x3 x4 x5 x6 x7 xs0 xs1 fh0 fh1).2.2.val) xs1 (pt (2048 * (i 1).val) x0 x1 x2 x3 x4 x5).cv (2048 * (i 1).val + 2048)
    ∧ ∀ (f : arg10.view.ty.Contents (Elt Ideal)) (r : Fin 2048) (d : Fin 256),
        arg10.view.read (Elt Ideal) (arg10.view.writes (Elt Ideal) f (vrunB (F := Ideal) c i arg2 harg2 arg3 harg3 arg4 harg4 arg5 harg5 arg6 harg6 arg7 harg7 arg8 harg8 arg9 harg9 arg10 harg10 arg13 harg13 arg14 harg14 hc0 hc1 x0 x1 x2 x3 x4 x5 x6 x7 xs0 xs1 fh0 fh1).1) (ix2 r d) = (pt (2048 * (i 1).val) x0 x1 x2 x3 x4 x5).out (at2 x6) (at2 x7) r d := by
  have h := at_pt i arg2 harg2 arg3 harg3 arg4 harg4 arg5 harg5 arg6 harg6 arg7 harg7 x0 x1 x2 x3 x4 x5
  obtain ⟨a13, a14, aq⟩ := start Variants.none c none i arg2 harg2 arg3 harg3 arg4 harg4 arg5 harg5 arg6 harg6 arg7 harg7 arg8 harg8 arg9 harg9 arg10 harg10 (Memref.whole main_v98_1) (Memref.isWhole_whole _) (Memref.whole main_v98_2) (Memref.isWhole_whole _) arg13 harg13 arg14 harg14 cc0_scoped0 cc0_scoped1 _ _ _ _ _ _ h (harg13.read_unread xs0) (harg14.read_unread xs1)
  obtain ⟨b13, b14, bq⟩ := tail0 h a13 a14 aq
  obtain ⟨c13, c14, cq⟩ := tail1 h b13 b14 bq
  obtain ⟨d13, d14, dq⟩ := tail2 h c13 c14 cq
  obtain ⟨e13, e14, eq⟩ := tail3 h d13 d14 dq
  refine ⟨?_, ?_, ?_⟩
  · exact e13
  · exact e14
  · exact fun f r d => read_out eq (load_eq arg8 harg8 x6) (load_eq arg9 harg9 x7) arg10.view f r d

set_option maxHeartbeats 4000000 in
/-- Case C: the two scratch buffers gain the point's contributions, and the block of the queries' gradient is written. -/
theorem pointC (hc0 : ¬cond0_0 i) (hc1 : cond0_1 i) (xs0 : Vec Ideal S8192x256 .f32) (xs1 : Vec Ideal S8192x128 .f32) (fh0 : HbBuf0 (F := Ideal) c hbM0_0) (fh1 : HbBuf0 (F := Ideal) c hbM0_1) :
    Upto arg13.view (arg13.view.writes (Elt Ideal) (harg13.unread xs0) (vrunC (F := Ideal) c i arg2 harg2 arg3 harg3 arg4 harg4 arg5 harg5 arg6 harg6 arg7 harg7 arg8 harg8 arg9 harg9 arg10 harg10 arg13 harg13 arg14 harg14 hc0 hc1 x0 x1 x2 x3 x4 x5 x6 x7 xs0 xs1 fh0 fh1).2.2.2.1) xs0 (pt (2048 * (i 1).val) x0 x1 x2 x3 x4 x5).ck (2048 * (i 1).val + 2048)
    ∧ Upto arg14.view (arg14.view.writes (Elt Ideal) (harg14.unread xs1) (vrunC (F := Ideal) c i arg2 harg2 arg3 harg3 arg4 harg4 arg5 harg5 arg6 harg6 arg7 harg7 arg8 harg8 arg9 harg9 arg10 harg10 arg13 harg13 arg14 harg14 hc0 hc1 x0 x1 x2 x3 x4 x5 x6 x7 xs0 xs1 fh0 fh1).2.2.2.2.val) xs1 (pt (2048 * (i 1).val) x0 x1 x2 x3 x4 x5).cv (2048 * (i 1).val + 2048)
    ∧ ∀ (f : arg10.view.ty.Contents (Elt Ideal)) (r : Fin 2048) (d : Fin 256),
        arg10.view.read (Elt Ideal) (arg10.view.writes (Elt Ideal) f (vrunC (F := Ideal) c i arg2 harg2 arg3 harg3 arg4 harg4 arg5 harg5 arg6 harg6 arg7 harg7 arg8 harg8 arg9 harg9 arg10 harg10 arg13 harg13 arg14 harg14 hc0 hc1 x0 x1 x2 x3 x4 x5 x6 x7 xs0 xs1 fh0 fh1).2.2.1) (ix2 r d) = (pt (2048 * (i 1).val) x0 x1 x2 x3 x4 x5).out (at2 x6) (at2 x7) r d := by
  have h := at_pt i arg2 harg2 arg3 harg3 arg4 harg4 arg5 harg5 arg6 harg6 arg7 harg7 x0 x1 x2 x3 x4 x5
  obtain ⟨a13, a14, aq⟩ := start Variants.none c none i arg2 harg2 arg3 harg3 arg4 harg4 arg5 harg5 arg6 harg6 arg7 harg7 arg8 harg8 arg9 harg9 arg10 harg10 (Memref.whole main_v98_1) (Memref.isWhole_whole _) (Memref.whole main_v98_2) (Memref.isWhole_whole _) arg13 harg13 arg14 harg14 cc0_scoped0 cc0_scoped1 _ _ _ _ _ _ h (harg13.read_unread xs0) (harg14.read_unread xs1)
  obtain ⟨b13, b14, bq⟩ := tail0 h a13 a14 aq
  obtain ⟨c13, c14, cq⟩ := tail1 h b13 b14 bq
  obtain ⟨d13, d14, dq⟩ := tail2 h c13 c14 cq
  obtain ⟨e13, e14, eq⟩ := tail3 h d13 d14 dq
  refine ⟨?_, ?_, ?_⟩
  · exact e13
  · exact e14
  · exact fun f r d => read_out eq (load_eq arg8 harg8 x6) (load_eq arg9 harg9 x7) arg10.view f r d

end

end Cert.KernelIdeal.Val
-- ==== Proof.Heads.lean ====
module

public import proofs.«01_k».proof.Proof.Point
public import Idealize.ShloMosaic.Lib.KernelVsHost

@[expose] public section

set_option maxRecDepth 16384

noncomputable section

namespace Cert.KernelIdeal.Val

open Cert.KernelIdeal Cert.KernelIdeal.Gen Idealize.ShloMosaic Idealize.ShloMosaic.TcCoe
open scoped BigOperators

/-! ## A scratch buffer copied into its head of a result -/

theorem eq_ix2 {m n : ℕ} (x : (⟨2, ![m, n]⟩ : Shape).Idx) : ∃ (a : Fin m) (b : Fin n), x = ix2 a b :=
  ⟨x 0, x 1, by
    funext a; match a with
      | ⟨0, _⟩ => rfl
      | ⟨1, _⟩ => rfl⟩

theorem eq_ix3 {l m n : ℕ} (x : (⟨3, ![l, m, n]⟩ : Shape).Idx) : ∃ (a : Fin l) (b : Fin m) (c : Fin n), x = ix3 a b c :=
  ⟨x 0, x 1, x 2, by
    funext a; match a with
      | ⟨0, _⟩ => rfl
      | ⟨1, _⟩ => rfl
      | ⟨2, _⟩ => rfl⟩

/-- A matrix seen as the one row of a stack of matrices. -/
theorem stack_row {m n : ℕ} (h : (⟨2, ![m, n]⟩ : Shape).numel = (⟨3, ![1, m, n]⟩ : Shape).numel) (J : Fin m) (d : Fin n) :
    Shape.reshapeEquiv h (ix2 J d) = ix3 (0 : Fin 1) J d := by
  refine Shape.reshapeEquiv_eq_of_rowMajor h ?_
  refine (Shape.rowMajorPi_succ_val (n := 2) (![1, m, n]) (ix3 (0 : Fin 1) J d)).trans ?_
  show 0 * _ + _ = _
  rw [Nat.zero_mul, Nat.zero_add]
  rfl

theorem off7_eq (i : grid0.Coords) : k0_off7 i = ![(i 0).val, 0, 0] := by
  have := (by decide +kernel : ∀ h : Fin 6, (BitVec.ofNat 32 h.val).toNat = h.val) (i 0)
  show ![(BitVec.ofNat 32 (i 0).val).toNat, 0, 0] = _
  rw [this]

theorem off8_eq (i : grid0.Coords) : k0_off8 i = ![(i 0).val, 0, 0] := off7_eq i

/-- Writing one head of a stack of matrices leaves the others as they were. -/
theorem head_write {n : ℕ} (a : Memref sig .tc .hbm ⟨3, ![6, 8192, n]⟩ .f32) (ha : a.IsWhole) {off : Fin 3 → ℕ} (h : Fin 6) (hoff : off = ![h.val, 0, 0])
    (inb : ∀ b : Fin 3, off b + (![1, 8192, n] : Fin 3 → ℕ) b ≤ (![6, 8192, n] : Fin 3 → ℕ) b)
    (hs) (hq : (⟨3, ![1, 8192, n]⟩ : Shape).Squeezes ⟨2, ![8192, n]⟩)
    (f : a.view.ty.Contents (Elt Ideal)) (w : Vec Ideal ⟨2, ![8192, n]⟩ .f32) (H : Fin 6) (J : Fin 8192) (d : Fin n) :
    a.view.read (Elt Ideal) (((a.slice (Rect.unit (s := ⟨3, ![6, 8192, n]⟩) off ![1, 8192, n] inb) hs).squeeze ⟨2, ![8192, n]⟩ hq).view.write (Elt Ideal) f w Finset.univ) (ix3 H J d)
      = if H.val = h.val then w (ix2 J d) else a.view.read (Elt Ideal) f (ix3 H J d) := by
  subst hoff
  have hemb : ∀ (J : Fin 8192) (d : Fin n), ((a.slice (Rect.unit (s := ⟨3, ![6, 8192, n]⟩) ![h.val, 0, 0] ![1, 8192, n] inb) hs).squeeze ⟨2, ![8192, n]⟩ hq).view.emb (ix2 J d)
      = a.view.emb (ix3 h J d) := by
    intro J d
    show a.view.emb ((Rect.unit (s := ⟨3, ![6, 8192, n]⟩) ![h.val, 0, 0] ![1, 8192, n] inb).emb (Shape.reshapeEquiv _ (ix2 J d))) = _
    rw [stack_row]; congr 1
    funext b; match b with
      | ⟨0, _⟩ => exact Fin.ext (by show h.val + 1 * 0 = h.val; omega)
      | ⟨1, _⟩ => exact Fin.ext (by show 0 + 1 * J.val = J.val; omega)
      | ⟨2, _⟩ => exact Fin.ext (by show 0 + 1 * d.val = d.val; omega)
  rw [View.read_apply, View.read_apply]
  by_cases hH : H.val = h.val
  · obtain rfl : H = h := Fin.ext hH
    rw [if_pos rfl, ← hemb, View.write_emb_of_mem _ _ (Finset.mem_univ _), cast_cast, cast_eq]
  · rw [if_neg hH, View.write_of_not_mem]
    intro hm
    unfold View.setOn at hm
    obtain ⟨x, -, hx⟩ := Finset.mem_map.mp hm
    obtain ⟨J', d', rfl⟩ := eq_ix2 x
    rw [hemb] at hx
    exact hH (congrArg Fin.val (congrFun (a.view.emb.injective hx) 0).symm)

section
variable (c : Dev nD) (i : grid0.Coords) (arg2 : Memref sig .tc .vmem S2048x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x256 .bf16) (harg10 : arg10.IsWhole) (arg13 : Memref sig .tc .vmem S8192x256 .f32) (harg13 : arg13.IsWhole) (arg14 : Memref sig .tc .vmem S8192x128 .f32) (harg14 : arg14.IsWhole) (x0 : Vec Ideal S2048x256 .bf16) (x1 : Vec Ideal S8192x256 .bf16) (x2 : Vec Ideal S8192x128 .bf16) (x3 : Vec Ideal S2048x128 .f32) (x4 : Vec Ideal S2048x128 .f32) (x5 : Vec Ideal S2048x128 .f32) (x6 : Vec Ideal S2048x128 .f32) (x7 : Vec Ideal S2048x128 .f32)

/-- What the last point of a head leaves in the keys' gradient: the head's rows are the scratch buffer's. -/
theorem headK (hc0 : ¬cond0_0 i) (hc1 : cond0_1 i) (xs0 : Vec Ideal S8192x256 .f32) (xs1 : Vec Ideal S8192x128 .f32) (fh0 : HbBuf0 (F := Ideal) c hbM0_0) (fh1 : HbBuf0 (F := Ideal) c hbM0_1) (H : Fin 6) (J : Fin 8192) (d : Fin 256) :
    hbM0_0.view.read (Elt Ideal) (vrunC (F := Ideal) c i arg2 harg2 arg3 harg3 arg4 harg4 arg5 harg5 arg6 harg6 arg7 harg7 arg8 harg8 arg9 harg9 arg10 harg10 arg13 harg13 arg14 harg14 hc0 hc1 x0 x1 x2 x3 x4 x5 x6 x7 xs0 xs1 fh0 fh1).1 (ix3 H J d) = if H.val = (i 0).val then arg13.view.read (Elt Ideal) (arg13.view.writes (Elt Ideal) (harg13.unread xs0) (vrunC (F := Ideal) c i arg2 harg2 arg3 harg3 arg4 harg4 arg5 harg5 arg6 harg6 arg7 harg7 arg8 harg8 arg9 harg9 arg10 harg10 arg13 harg13 arg14 harg14 hc0 hc1 x0 x1 x2 x3 x4 x5 x6 x7 xs0 xs1 fh0 fh1).2.2.2.1) (ix2 J d)
      else hbM0_0.view.read (Elt Ideal) fh0 (ix3 H J d) :=
  head_write hbM0_0 (Memref.isWhole_whole _) (i 0) (off7_eq i) (k0_off7_inb i hc1) (fun _ => rfl) _ fh0 _ H J d

/-- What the last point of a head leaves in the values' gradient: the head's rows are the scratch buffer's. -/
theorem headV (hc0 : ¬cond0_0 i) (hc1 : cond0_1 i) (xs0 : Vec Ideal S8192x256 .f32) (xs1 : Vec Ideal S8192x128 .f32) (fh0 : HbBuf0 (F := Ideal) c hbM0_0) (fh1 : HbBuf0 (F := Ideal) c hbM0_1) (H : Fin 6) (J : Fin 8192) (d : Fin 128) :
    hbM0_1.view.read (Elt Ideal) (vrunC (F := Ideal) c i arg2 harg2 arg3 harg3 arg4 harg4 arg5 harg5 arg6 harg6 arg7 harg7 arg8 harg8 arg9 harg9 arg10 harg10 arg13 harg13 arg14 harg14 hc0 hc1 x0 x1 x2 x3 x4 x5 x6 x7 xs0 xs1 fh0 fh1).2.1 (ix3 H J d) = if H.val = (i 0).val then arg14.view.read (Elt Ideal) (arg14.view.writes (Elt Ideal) (harg14.unread xs1) (vrunC (F := Ideal) c i arg2 harg2 arg3 harg3 arg4 harg4 arg5 harg5 arg6 harg6 arg7 harg7 arg8 harg8 arg9 harg9 arg10 harg10 arg13 harg13 arg14 harg14 hc0 hc1 x0 x1 x2 x3 x4 x5 x6 x7 xs0 xs1 fh0 fh1).2.2.2.2.val) (ix2 J d)
      else hbM0_1.view.read (Elt Ideal) fh1 (ix3 H J d) :=
  head_write hbM0_1 (Memref.isWhole_whole _) (i 0) (off8_eq i) (k0_off8_inb i hc1) (fun _ => rfl) _ fh1 _ H J d

/-- The first point of a head stores each scratch buffer whole: what was in it before does not matter. -/
theorem coverK (hc0 : cond0_0 i) (hc1 : ¬cond0_1 i) (fh0 : HbBuf0 (F := Ideal) c hbM0_0) (fh1 : HbBuf0 (F := Ideal) c hbM0_1) (y : S8192x256.Idx) :
    ∃ pc ∈ (vrunA (F := Ideal) c i arg2 harg2 arg3 harg3 arg4 harg4 arg5 harg5 arg6 harg6 arg7 harg7 arg8 harg8 arg9 harg9 arg10 harg10 arg13 harg13 arg14 harg14 hc0 hc1 x0 x1 x2 x3 x4 x5 x6 x7 fh0 fh1).2.1, y ∈ pc.1.set :=
  View.cover_of_wholeMem (vrunA (F := Ideal) c i arg2 harg2 arg3 harg3 arg4 harg4 arg5 harg5 arg6 harg6 arg7 harg7 arg8 harg8 arg9 harg9 arg10 harg10 arg13 harg13 arg14 harg14 hc0 hc1 x0 x1 x2 x3 x4 x5 x6 x7 fh0 fh1).2.1 (by sl_whole_mem) y

theorem coverV (hc0 : cond0_0 i) (hc1 : ¬cond0_1 i) (fh0 : HbBuf0 (F := Ideal) c hbM0_0) (fh1 : HbBuf0 (F := Ideal) c hbM0_1) (y : S8192x128.Idx) :
    ∃ pc ∈ (vrunA (F := Ideal) c i arg2 harg2 arg3 harg3 arg4 harg4 arg5 harg5 arg6 harg6 arg7 harg7 arg8 harg8 arg9 harg9 arg10 harg10 arg13 harg13 arg14 harg14 hc0 hc1 x0 x1 x2 x3 x4 x5 x6 x7 fh0 fh1).2.2.val, y ∈ pc.1.set :=
  View.cover_of_wholeMem (vrunA (F := Ideal) c i arg2 harg2 arg3 harg3 arg4 harg4 arg5 harg5 arg6 harg6 arg7 harg7 arg8 harg8 arg9 harg9 arg10 harg10 arg13 harg13 arg14 harg14 hc0 hc1 x0 x1 x2 x3 x4 x5 x6 x7 fh0 fh1).2.2.val (by sl_whole_mem) y
end

end Cert.KernelIdeal.Val

end
-- ==== Proof.Launch.lean ====
module

public import proofs.«01_k».proof.Proof.Heads
public import Idealize.ShloMosaic.Lib.Pipeline.FrameValue

@[expose] public section

set_option maxRecDepth 16384

noncomputable section

namespace Cert.KernelIdeal.Val

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

local notation "𝕄" => MT nD τ sig Unit (Elt Ideal) ℕ (Pipeline.UD sig nD τ) ℕ

variable (m : (ℓ : Loc nD τ sig) → Buf (Elt Ideal) ℓ) (ρ : Dev nD → PrngReg)

/-! ## What the run leaves after each point, in closed form -/

/-- What point `t` works on. -/
def P (c : Dev nD) (t : Fin cfg0.N) : Pt :=
  pt (2048 * (grid0.coords t 1).val) (iblk m c 0 t) (iblk m c 1 t) (iblk m c 2 t) (iblk m c 3 t) (iblk m c 4 t) (iblk m c 5 t)

/-- The point of number `n`. -/
def tt (n : ℕ) : Fin cfg0.N := ⟨n % 24, lt_of_lt_of_eq (Nat.mod_lt _ (by omega)) (show 24 = cfg0.N from N_0.symm)⟩

theorem tt_val (t : Fin cfg0.N) : tt t.val = t :=
  Fin.ext (Nat.mod_eq_of_lt (lt_of_lt_of_eq t.isLt (show cfg0.N = 24 from N_0)))

/-- The keys' gradient gathered up to point `n`, from the head's first point on. -/
def sk (c : Dev nD) (n : ℕ) : Vec Ideal S8192x256 .f32 := fun y => ∑ i ∈ Finset.range (n % 4 + 1), (P m c (tt (4 * (n / 4) + i))).ck (y 0).val (y 1).val

/-- The values' gradient gathered up to point `n`. -/
def sv (c : Dev nD) (n : ℕ) : Vec Ideal S8192x128 .f32 := fun y => ∑ i ∈ Finset.range (n % 4 + 1), (P m c (tt (4 * (n / 4) + i))).cv (y 0).val (y 1).val

/-- The keys' gradient in main memory before point `n`: the finished heads at their sums, the others as they were. -/
def wk (c : Dev nD) (n : ℕ) : HbBuf0 (F := Ideal) c hbM0_0 :=
  fun y => if (y 0).val < n / 4 then sk m c (4 * (y 0).val + 3) (ix2 (y 1) (y 2)) else V m c main_v98_1 y

/-- The values' gradient in main memory before point `n`. -/
def wv (c : Dev nD) (n : ℕ) : HbBuf0 (F := Ideal) c hbM0_1 :=
  fun y => if (y 0).val < n / 4 then sv m c (4 * (y 0).val + 3) (ix2 (y 1) (y 2)) else V m c main_v98_2 y

/-- Point `t`'s block of the queries' gradient. -/
def ov (c : Dev nD) (t : Fin cfg0.N) : Vec Ideal S2048x256 .bf16 :=
  fun y => (P m c t).out (at2 (iblk m c 6 t)) (at2 (iblk m c 7 t)) (y 0).val (y 1).val

theorem pay1_zero (J : Fin 8192) (d : Fin 256) : k0_pay1 (F := Ideal) (ix2 J d) = 0 := Ideal.ofBits_zero .f32
theorem pay2_zero (J : Fin 8192) (d : Fin 128) : k0_pay2 (F := Ideal) (ix2 J d) = 0 := Ideal.ofBits_zero .f32

theorem ck_of_le (D : Pt) {b J : ℕ} (hB : D.B = 2048 * b) (h : 2048 * b + 2048 ≤ J) (d : ℕ) : D.ck J d = 0 :=
  Finset.sum_eq_zero fun r _ => by rw [D.l_of_lt (by rw [hB]; have := r.isLt; omega), zero_mul]

theorem cv_of_le (D : Pt) {b J : ℕ} (hB : D.B = 2048 * b) (h : 2048 * b + 2048 ≤ J) (d : ℕ) : D.cv J d = 0 :=
  Finset.sum_eq_zero fun r _ => by rw [D.w_of_lt (by rw [hB]; have := r.isLt; omega), zero_mul]

theorem upto_all {n : ℕ} {v : View sig .tc .vmem ⟨2, ![8192, n]⟩ .f32} {f : v.ty.Contents (Elt Ideal)} {x : Vec Ideal ⟨2, ![8192, n]⟩ .f32} {C : ℕ → ℕ → EReal} {N : ℕ}
    (h : Upto v f x C N) (hC : ∀ J d, N ≤ J → C J d = 0) (J : Fin 8192) (d : Fin n) : v.read (Elt Ideal) f (ix2 J d) = x (ix2 J d) + C J d := by
  rw [h J d]; congr 1
  by_cases hJ : J.val < N
  · rw [if_pos hJ]
  · rw [if_neg hJ, hC _ _ (by omega)]

section
variable (c : Dev nD) (t : Fin cfg0.N)

theorem sk_zero (h : t.val % 4 = 0) (J : Fin 8192) (d : Fin 256) : sk m c t.val (ix2 J d) = (P m c t).ck J d := by
  show ∑ i ∈ Finset.range (t.val % 4 + 1), _ = _
  rw [h, Finset.sum_range_one, show 4 * (t.val / 4) + 0 = t.val by omega, tt_val]; rfl
theorem sk_succ (h : ¬t.val % 4 = 0) (J : Fin 8192) (d : Fin 256) : sk m c t.val (ix2 J d) = sk m c (t.val - 1) (ix2 J d) + (P m c t).ck J d := by
  show ∑ i ∈ Finset.range (t.val % 4 + 1), _ = ∑ i ∈ Finset.range ((t.val - 1) % 4 + 1), _ + _
  rw [Finset.sum_range_succ, show 4 * (t.val / 4) + t.val % 4 = t.val by omega, tt_val, show (t.val - 1) % 4 + 1 = t.val % 4 by omega, show (t.val - 1) / 4 = t.val / 4 by omega]; rfl
theorem sv_zero (h : t.val % 4 = 0) (J : Fin 8192) (d : Fin 128) : sv m c t.val (ix2 J d) = (P m c t).cv J d := by
  show ∑ i ∈ Finset.range (t.val % 4 + 1), _ = _
  rw [h, Finset.sum_range_one, show 4 * (t.val / 4) + 0 = t.val by omega, tt_val]; rfl
theorem sv_succ (h : ¬t.val % 4 = 0) (J : Fin 8192) (d : Fin 128) : sv m c t.val (ix2 J d) = sv m c (t.val - 1) (ix2 J d) + (P m c t).cv J d := by
  show ∑ i ∈ Finset.range (t.val % 4 + 1), _ = ∑ i ∈ Finset.range ((t.val - 1) % 4 + 1), _ + _
  rw [Finset.sum_range_succ, show 4 * (t.val / 4) + t.val % 4 = t.val by omega, tt_val, show (t.val - 1) % 4 + 1 = t.val % 4 by omega, show (t.val - 1) / 4 = t.val / 4 by omega]; rfl

theorem head_eq : (grid0.coords t 0).val = t.val / 4 := by
  have ht : t.val < 24 := Nat.lt_of_lt_of_eq t.isLt N_0
  have e0 : (grid0.coords t 0).val = t.val / 4 % 6 := Pipeline.Grid.coords_val t 0 (by decide) rfl
  omega

theorem row_eq : (grid0.coords t 1).val = t.val % 4 := by
  have e0 : (grid0.coords t 1).val = t.val / 1 % 4 := Pipeline.Grid.coords_val t 1 (by decide) rfl
  omega

theorem wk_keep (h : ¬t.val % 4 = 3) : wk m c (t.val + 1) = wk m c t.val := by
  unfold wk; rw [show (t.val + 1) / 4 = t.val / 4 by omega]
theorem wv_keep (h : ¬t.val % 4 = 3) : wv m c (t.val + 1) = wv m c t.val := by
  unfold wv; rw [show (t.val + 1) / 4 = t.val / 4 by omega]
theorem wk_first : wk m c 0 = V m c main_v98_1 := by
  funext y; exact if_neg (by omega)
theorem wv_first : wv m c 0 = V m c main_v98_2 := by
  funext y; exact if_neg (by omega)

theorem stepA (hc0 : cond0_0 (grid0.coords t)) (hc1 : ¬cond0_1 (grid0.coords t)) (h0 : t.val % 4 = 0) (fh0 : HbBuf0 (F := Ideal) c hbM0_0) (fh1 : HbBuf0 (F := Ideal) c hbM0_1) :
    (∀ f, scM0_0.view.read (Elt Ideal) (scM0_0.view.writes (Elt Ideal) f (vrunA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) fh0 fh1).2.1) = sk m c t.val)
    ∧ (∀ f, scM0_1.view.read (Elt Ideal) (scM0_1.view.writes (Elt Ideal) f (vrunA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) fh0 fh1).2.2.val) = sv m c t.val)
    ∧ ∀ f, (ms0_8 t).view.read (Elt Ideal) ((ms0_8 t).view.writes (Elt Ideal) f (vrunA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) fh0 fh1).1) = ov m c t := by
  obtain ⟨hk, hv, ho⟩ := pointA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) hc0 hc1 fh0 fh1
  refine ⟨fun f => ?_, fun f => ?_, fun f => ?_⟩
  · rw [View.read_writes_of_cover scM0_0.view f scM0_0.view scM0_0.view.junk _ (coverK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) hc0 hc1 fh0 fh1)]
    funext y; obtain ⟨J, d, rfl⟩ := eq_ix2 y
    refine (upto_all hk (fun J d h => ck_of_le _ rfl h d) J d).trans ?_
    rw [sk_zero m c t h0]; exact (congrArg (· + _) (pay1_zero J d)).trans (zero_add _)
  · rw [View.read_writes_of_cover scM0_1.view f scM0_1.view scM0_1.view.junk _ (coverV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) hc0 hc1 fh0 fh1)]
    funext y; obtain ⟨J, d, rfl⟩ := eq_ix2 y
    refine (upto_all hv (fun J d h => cv_of_le _ rfl h d) J d).trans ?_
    rw [sv_zero m c t h0]; exact (congrArg (· + _) (pay2_zero J d)).trans (zero_add _)
  · funext y; obtain ⟨r, d, rfl⟩ := eq_ix2 y
    exact ho f r d

theorem wv_step (h1 : t.val % 4 = 3) (H : Fin 6) (J : Fin 8192) (d : Fin 128) :
    (if H.val = t.val / 4 then sv m c t.val (ix2 J d) else wv m c t.val (ix3 H J d)) = wv m c (t.val + 1) (ix3 H J d) := by
  show (if H.val = t.val / 4 then sv m c t.val (ix2 J d) else if H.val < t.val / 4 then sv m c (4 * H.val + 3) (ix2 J d) else V m c main_v98_2 (ix3 H J d))
    = if H.val < (t.val + 1) / 4 then sv m c (4 * H.val + 3) (ix2 J d) else V m c main_v98_2 (ix3 H J d)
  by_cases h : H.val = t.val / 4
  · rw [if_pos h, if_pos (by omega), show 4 * H.val + 3 = t.val by omega]
  · rw [if_neg h]
    by_cases h' : H.val < t.val / 4
    · rw [if_pos h', if_pos (by omega)]
    · rw [if_neg h', if_neg (by omega)]

theorem wk_step (h1 : t.val % 4 = 3) (H : Fin 6) (J : Fin 8192) (d : Fin 256) :
    (if H.val = t.val / 4 then sk m c t.val (ix2 J d) else wk m c t.val (ix3 H J d)) = wk m c (t.val + 1) (ix3 H J d) := by
  show (if H.val = t.val / 4 then sk m c t.val (ix2 J d) else if H.val < t.val / 4 then sk m c (4 * H.val + 3) (ix2 J d) else V m c main_v98_1 (ix3 H J d))
    = if H.val < (t.val + 1) / 4 then sk m c (4 * H.val + 3) (ix2 J d) else V m c main_v98_1 (ix3 H J d)
  by_cases h : H.val = t.val / 4
  · rw [if_pos h, if_pos (by omega), show 4 * H.val + 3 = t.val by omega]
  · rw [if_neg h]
    by_cases h' : H.val < t.val / 4
    · rw [if_pos h', if_pos (by omega)]
    · rw [if_neg h', if_neg (by omega)]

theorem stepB (hc0 : ¬cond0_0 (grid0.coords t)) (hc1 : ¬cond0_1 (grid0.coords t)) (h0 : ¬t.val % 4 = 0) (fh0 : HbBuf0 (F := Ideal) c hbM0_0) (fh1 : HbBuf0 (F := Ideal) c hbM0_1) :
    scM0_0.view.read (Elt Ideal) (scM0_0.view.writes (Elt Ideal) ((Memref.isWhole_whole _ : scM0_0.IsWhole).unread (sk m c (t.val - 1))) (vrunB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (sk m c (t.val - 1)) (sv m c (t.val - 1)) fh0 fh1).2.1) = sk m c t.val
    ∧ scM0_1.view.read (Elt Ideal) (scM0_1.view.writes (Elt Ideal) ((Memref.isWhole_whole _ : scM0_1.IsWhole).unread (sv m c (t.val - 1))) (vrunB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (sk m c (t.val - 1)) (sv m c (t.val - 1)) fh0 fh1).2.2.val) = sv m c t.val
    ∧ ∀ f, (ms0_8 t).view.read (Elt Ideal) ((ms0_8 t).view.writes (Elt Ideal) f (vrunB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (sk m c (t.val - 1)) (sv m c (t.val - 1)) fh0 fh1).1) = ov m c t := by
  obtain ⟨hk, hv, ho⟩ := pointB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) hc0 hc1 (sk m c (t.val - 1)) (sv m c (t.val - 1)) fh0 fh1
  refine ⟨?_, ?_, fun f => ?_⟩
  · funext y; obtain ⟨J, d, rfl⟩ := eq_ix2 y
    exact (upto_all hk (fun J d h => ck_of_le _ rfl h d) J d).trans (sk_succ m c t h0 J d).symm
  · funext y; obtain ⟨J, d, rfl⟩ := eq_ix2 y
    exact (upto_all hv (fun J d h => cv_of_le _ rfl h d) J d).trans (sv_succ m c t h0 J d).symm
  · funext y; obtain ⟨r, d, rfl⟩ := eq_ix2 y
    exact ho f r d

set_option maxHeartbeats 1000000 in
theorem stepC (hc0 : ¬cond0_0 (grid0.coords t)) (hc1 : cond0_1 (grid0.coords t)) (h0 : ¬t.val % 4 = 0) (h1 : t.val % 4 = 3) (fh0 : HbBuf0 (F := Ideal) c hbM0_0) (fh1 : HbBuf0 (F := Ideal) c hbM0_1) (hf0 : fh0 = wk m c t.val) (hf1 : fh1 = wv m c t.val) :
    scM0_0.view.read (Elt Ideal) (scM0_0.view.writes (Elt Ideal) ((Memref.isWhole_whole _ : scM0_0.IsWhole).unread (sk m c (t.val - 1))) (vrunC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (sk m c (t.val - 1)) (sv m c (t.val - 1)) fh0 fh1).2.2.2.1) = sk m c t.val
    ∧ scM0_1.view.read (Elt Ideal) (scM0_1.view.writes (Elt Ideal) ((Memref.isWhole_whole _ : scM0_1.IsWhole).unread (sv m c (t.val - 1))) (vrunC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (sk m c (t.val - 1)) (sv m c (t.val - 1)) fh0 fh1).2.2.2.2.val) = sv m c t.val
    ∧ (∀ f, (ms0_8 t).view.read (Elt Ideal) ((ms0_8 t).view.writes (Elt Ideal) f (vrunC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (sk m c (t.val - 1)) (sv m c (t.val - 1)) fh0 fh1).2.2.1) = ov m c t)
    ∧ (vrunC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (sk m c (t.val - 1)) (sv m c (t.val - 1)) fh0 fh1).1 = wk m c (t.val + 1) ∧ (vrunC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (sk m c (t.val - 1)) (sv m c (t.val - 1)) fh0 fh1).2.1 = wv m c (t.val + 1) := by
  have hP := pointC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) hc0 hc1 (sk m c (t.val - 1)) (sv m c (t.val - 1)) fh0 fh1
  have hk := hP.1
  have hv := hP.2.1
  have ho := hP.2.2
  have hk' : scM0_0.view.read (Elt Ideal) (scM0_0.view.writes (Elt Ideal) ((Memref.isWhole_whole _ : scM0_0.IsWhole).unread (sk m c (t.val - 1))) (vrunC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (sk m c (t.val - 1)) (sv m c (t.val - 1)) fh0 fh1).2.2.2.1) = sk m c t.val := by
    funext y; obtain ⟨J, d, rfl⟩ := eq_ix2 y
    exact (upto_all hk (fun J d h => ck_of_le _ rfl h d) J d).trans (sk_succ m c t h0 J d).symm
  have hv' : scM0_1.view.read (Elt Ideal) (scM0_1.view.writes (Elt Ideal) ((Memref.isWhole_whole _ : scM0_1.IsWhole).unread (sv m c (t.val - 1))) (vrunC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (sk m c (t.val - 1)) (sv m c (t.val - 1)) fh0 fh1).2.2.2.2.val) = sv m c t.val := by
    funext y; obtain ⟨J, d, rfl⟩ := eq_ix2 y
    exact (upto_all hv (fun J d h => cv_of_le _ rfl h d) J d).trans (sv_succ m c t h0 J d).symm
  refine ⟨hk', hv', fun f => ?_, ?_, ?_⟩
  · funext y; obtain ⟨r, d, rfl⟩ := eq_ix2 y
    exact ho f r d
  · funext y; obtain ⟨H, J, d, rfl⟩ := eq_ix3 (l := 6) (m := 8192) (n := 256) y
    refine (headK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) hc0 hc1 (sk m c (t.val - 1)) (sv m c (t.val - 1)) fh0 fh1 H J d).trans ?_
    rw [hk', head_eq, hf0]
    exact wk_step m c t h1 H J d
  · funext y; obtain ⟨H, J, d, rfl⟩ := eq_ix3 (l := 6) (m := 8192) (n := 128) y
    refine (headV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) hc0 hc1 (sk m c (t.val - 1)) (sv m c (t.val - 1)) fh0 fh1 H J d).trans ?_
    rw [hv', head_eq, hf1]
    exact wv_step m c t h1 H J d

end

/-! ## The proof data -/

/-- What is held before point `n`: the two scratch buffers at their sums, the two results in main memory with the finished heads in place. -/
def PhiV (c : Dev nD) : (n : ℕ) → n ≤ cfg0.N → sProp 𝕄
  | 0, _ => Pipeline.ΦDRG osem0 spec0 H0 R0 (V m) (V m) c
  | n + 1, _ => iprop(iprop(owns (c : Thread nD τ) scM0_0 fullShare (sk m c n) ∗ owns (c : Thread nD τ) scM0_1 fullShare (sv m c n)) ∗ (∃ r, prngReg c r) ∗ iprop(semVal ((c : Thread nD τ), SemLoc.dma 16) 0 ∗ semVal ((c : Thread nD τ), SemLoc.dma 17) 0) ∗ iprop(emp) ∗ iprop(hbPt0 c hbM0_0 (wk m c (n + 1)) ∗ hbPt0 c hbM0_1 (wv m c (n + 1))))

theorem PhiV_pos (c : Dev nD) (n : ℕ) (h : n ≤ cfg0.N) (hz : n ≠ 0) :
    PhiV m c n h = iprop(iprop(owns (c : Thread nD τ) scM0_0 fullShare (sk m c (n - 1)) ∗ owns (c : Thread nD τ) scM0_1 fullShare (sv m c (n - 1))) ∗ (∃ r, prngReg c r) ∗ iprop(semVal ((c : Thread nD τ), SemLoc.dma 16) 0 ∗ semVal ((c : Thread nD τ), SemLoc.dma 17) 0) ∗ iprop(emp) ∗ iprop(hbPt0 c hbM0_0 (wk m c n) ∗ hbPt0 c hbM0_1 (wv m c n))) := by
  cases n with
  | zero => exact absurd rfl hz
  | succ n => rfl

theorem routed0_eq (c : Dev nD) (W : (b : Ref sig .tc) → Buf (Elt Ideal) ((c.tc : Thread nD τ).loc b)) :
    (Pipeline.routed R0 c W : sProp 𝕄) = iprop(hbPt0 c hbM0_0 (W main_v98_1) ∗ hbPt0 c hbM0_1 (W main_v98_2)) := by
  unfold Pipeline.routed; rw [BI.bigSep_eq_bigSepL_of_eq [main_v98_1, main_v98_2] (by decide) (by decide)]; rfl

theorem PhiDRG0_eq (c : Dev nD) (G : (c : Dev nD) → (b : Ref sig .tc) → Buf (Elt Ideal) ((c.tc : Thread nD τ).loc b)) :
    (Pipeline.ΦDRG osem0 spec0 H0 R0 (V m) G c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 16) 0 ∗ semVal ((c : Thread nD τ), SemLoc.dma 17) 0) ∗ iprop(emp) ∗ iprop(hbPt0 c hbM0_0 (G c main_v98_1) ∗ hbPt0 c hbM0_1 (G c main_v98_2))) := by
  rw [Pipeline.ΦDRG_eq, scopedRest0_eq, ownSems00_eq, hbmPts0_eq, routed0_eq]; simp only [scM0_0, scM0_1, owns_whole]; try rfl

/-- Before any point, what the scratch buffers hold forgotten. -/
theorem PhiV_any (c : Dev nD) (n : ℕ) (h : n ≤ cfg0.N) : PhiV m c n h ⊢ iprop(iprop((∃ d, owns (c : Thread nD τ) scM0_0 fullShare d) ∗ (∃ d, owns (c : Thread nD τ) scM0_1 fullShare d)) ∗ (∃ r, prngReg c r) ∗ iprop(semVal ((c : Thread nD τ), SemLoc.dma 16) 0 ∗ semVal ((c : Thread nD τ), SemLoc.dma 17) 0) ∗ iprop(emp) ∗ iprop(hbPt0 c hbM0_0 (wk m c n) ∗ hbPt0 c hbM0_1 (wv m c n))) := by
  cases n with
  | zero =>
    show Pipeline.ΦDRG osem0 spec0 H0 R0 (V m) (V m) c ⊢ _
    rw [PhiDRG0_eq, wk_first, wv_first]
    try exact Idealize.SL.BI.Entails.refl _
  | succ n =>
    show iprop(iprop(owns (c : Thread nD τ) scM0_0 fullShare (sk m c n) ∗ owns (c : Thread nD τ) scM0_1 fullShare (sv m c n)) ∗ _) ⊢ _
    iintro ⟨⟨HS0, HS1⟩, Hg, Hq, He, Hh⟩
    isplitl [HS0 HS1]
    · isplitl [HS0]
      · iexists _; iexact HS0
      iexists _; iexact HS1
    isplitl [Hg]; · iexact Hg
    isplitl [Hq]; · iexact Hq
    isplitl [He]; · iexact He
    iexact Hh

/-- The proof data: each input's buffer at its block, the output's at the point's block of the queries' gradient. -/
def vdats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => ov m c t
  Φ t := PhiV m c t.val (Nat.le_of_lt_succ t.isLt)
  q _ := fullShare
  owed _ := 0

theorem vA_eq (c : Dev nD) (w : Fin cfg0.W) : (vdats m 0 c).A w = V m c (Pipeline.arrRef spec0 w) := by
  dsimp only [vdats]

theorem PhiV_castSucc (c : Dev nD) (t : Fin cfg0.N) : (vdats m 0 c).Φ t.castSucc = PhiV m c t.val (Nat.le_of_lt t.isLt) := by
  dsimp only [vdats]; exact Pipeline.Dat.Φ_castSucc (PhiV m c) t

section
variable (c : Dev nD) (t : Fin cfg0.N)
theorem vafter_0 : (vdats m 0 c).after 0 t = iblk m c 0 t := rfl
theorem vafter_1 : (vdats m 0 c).after 1 t = iblk m c 1 t := rfl
theorem vafter_2 : (vdats m 0 c).after 2 t = iblk m c 2 t := rfl
theorem vafter_3 : (vdats m 0 c).after 3 t = iblk m c 3 t := rfl
theorem vafter_4 : (vdats m 0 c).after 4 t = iblk m c 4 t := rfl
theorem vafter_5 : (vdats m 0 c).after 5 t = iblk m c 5 t := rfl
theorem vafter_6 : (vdats m 0 c).after 6 t = iblk m c 6 t := rfl
theorem vafter_7 : (vdats m 0 c).after 7 t = iblk m c 7 t := rfl
theorem vafter_8 : (vdats m 0 c).after 8 t = ov m c t := rfl
theorem vbefore_0 (d) : (vdats m 0 c).before 0 t d = iblk m c 0 t := before0_0_of m (vdats m 0 c) (vA_eq m c 0) (vafter_0 m c) t d
theorem vbefore_1 (d) : (vdats m 0 c).before 1 t d = iblk m c 1 t := before0_1_of m (vdats m 0 c) (vA_eq m c 1) (vafter_1 m c) t d
theorem vbefore_2 (d) : (vdats m 0 c).before 2 t d = iblk m c 2 t := before0_2_of m (vdats m 0 c) (vA_eq m c 2) (vafter_2 m c) t d
theorem vbefore_3 (d) : (vdats m 0 c).before 3 t d = iblk m c 3 t := before0_3_of m (vdats m 0 c) (vA_eq m c 3) (vafter_3 m c) t d
theorem vbefore_4 (d) : (vdats m 0 c).before 4 t d = iblk m c 4 t := before0_4_of m (vdats m 0 c) (vA_eq m c 4) (vafter_4 m c) t d
theorem vbefore_5 (d) : (vdats m 0 c).before 5 t d = iblk m c 5 t := before0_5_of m (vdats m 0 c) (vA_eq m c 5) (vafter_5 m c) t d
theorem vbefore_6 (d) : (vdats m 0 c).before 6 t d = iblk m c 6 t := before0_6_of m (vdats m 0 c) (vA_eq m c 6) (vafter_6 m c) t d
theorem vbefore_7 (d) : (vdats m 0 c).before 7 t d = iblk m c 7 t := before0_7_of m (vdats m 0 c) (vA_eq m c 7) (vafter_7 m c) t d
end

/-- What the body is called with at point `t`. -/
def vPre (c : Dev nD) (t : Fin cfg0.N) : sProp 𝕄 :=
  iprop((vdats m 0 c).Φ t.castSucc ∗ (vdats m 0 c).owesAt () t.castSucc
    ∗ (∃ d, owns (c : Thread nD τ) (ms0_0 t) fullShare ((vdats m 0 c).before 0 t d))
    ∗ (∃ d, owns (c : Thread nD τ) (ms0_1 t) fullShare ((vdats m 0 c).before 1 t d))
    ∗ (∃ d, owns (c : Thread nD τ) (ms0_2 t) fullShare ((vdats m 0 c).before 2 t d))
    ∗ (∃ d, owns (c : Thread nD τ) (ms0_3 t) fullShare ((vdats m 0 c).before 3 t d))
    ∗ (∃ d, owns (c : Thread nD τ) (ms0_4 t) fullShare ((vdats m 0 c).before 4 t d))
    ∗ (∃ d, owns (c : Thread nD τ) (ms0_5 t) fullShare ((vdats m 0 c).before 5 t d))
    ∗ (∃ d, owns (c : Thread nD τ) (ms0_6 t) fullShare ((vdats m 0 c).before 6 t d))
    ∗ (∃ d, owns (c : Thread nD τ) (ms0_7 t) fullShare ((vdats m 0 c).before 7 t d))
    ∗ (∃ d, owns (c : Thread nD τ) (ms0_8 t) fullShare ((vdats m 0 c).before 8 t d)))

/-- What it returns. -/
def vPost (c : Dev nD) (t : Fin cfg0.N) : sProp 𝕄 :=
  iprop((vdats m 0 c).Φ t.succ ∗ (vdats m 0 c).owesAt () t.succ
    ∗ owns (c : Thread nD τ) (ms0_0 t) fullShare ((vdats m 0 c).after 0 t)
    ∗ owns (c : Thread nD τ) (ms0_1 t) fullShare ((vdats m 0 c).after 1 t)
    ∗ owns (c : Thread nD τ) (ms0_2 t) fullShare ((vdats m 0 c).after 2 t)
    ∗ owns (c : Thread nD τ) (ms0_3 t) fullShare ((vdats m 0 c).after 3 t)
    ∗ owns (c : Thread nD τ) (ms0_4 t) fullShare ((vdats m 0 c).after 4 t)
    ∗ owns (c : Thread nD τ) (ms0_5 t) fullShare ((vdats m 0 c).after 5 t)
    ∗ owns (c : Thread nD τ) (ms0_6 t) fullShare ((vdats m 0 c).after 6 t)
    ∗ owns (c : Thread nD τ) (ms0_7 t) fullShare ((vdats m 0 c).after 7 t)
    ∗ owns (c : Thread nD τ) (ms0_8 t) fullShare ((vdats m 0 c).after 8 t))

set_option maxHeartbeats 4000000 in
/-- The body at any point, from what is held before it to what is held after. -/
theorem vbody (c : Dev nD) (t : Fin cfg0.N) :
    vPre m c t ⊢ wp frame (wpE (defs₀ (F := Ideal)) Variants.none c none) Set.univ (bodyAt0 t) (fun _ => vPost m c t) := by
  unfold vPre vPost bodyAt0
  simp only [vbefore_0, vbefore_1, vbefore_2, vbefore_3, vbefore_4, vbefore_5, vbefore_6, vbefore_7]
  rw [show (vdats m 0 c).Φ t.succ = PhiV m c (t.val + 1) t.isLt from rfl, PhiV_pos m c (t.val + 1) _ (Nat.succ_ne_zero _), Nat.add_sub_cancel,
    vafter_0, vafter_1, vafter_2, vafter_3, vafter_4, vafter_5, vafter_6, vafter_7, vafter_8]
  unfold Dat.owesAt Pipeline.owesWithin
  rw [show (vdats m 0 c).owed t.castSucc = 0 from rfl, show (vdats m 0 c).owed t.succ = 0 from rfl]
  rw [PhiV_castSucc m c t]
  have hN : t.val < 24 := lt_of_lt_of_eq t.isLt (show cfg0.N = 24 from N_0)
  by_cases h0 : t.val % 4 = 0
  · have h1 : ¬t.val % 4 = 3 := by omega
    have hc0 := (hcond0_0 t).mpr h0
    have hc1 : ¬cond0_1 (grid0.coords t) := fun h => h1 ((hcond0_1 t).mp h)
    obtain ⟨hk, hv, ho⟩ := stepA m c t hc0 hc1 h0 (wk m c t.val) (wv m c t.val)
    rw [wk_keep m c t h1, wv_keep m c t h1]
    iintro ⟨HΦ, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := (PhiV_any m c t.val _) $$ HΦ
    icases HΦ' with ⟨⟨HS0, HS1⟩, Hg, ⟨Hq0, Hq1⟩, -, ⟨Hh0, Hh1⟩⟩
    iapply (((vrunA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (wk m c t.val) (wv m c t.val)).2.2.property) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [Hq0]; · iexact Hq0
    isplitl [Hq1]; · iexact Hq1
    isplitl [Hh0]; · iexact Hh0
    isplitl [Hh1]; · iexact Hh1
    isplitl [HW]; · iexact HW
    iintro ⟨H0, H1, H2, H3, H4, H5, H6, H7, ⟨%e8, H8⟩, ⟨%es0, HS0⟩, ⟨%es1, HS1⟩, Hq0, Hq1, Hh0, Hh1, ⟨%W', HW'⟩⟩
    isplitl [HS0 HS1 Hg Hq0 Hq1 Hh0 Hh1]
    · isplitl [HS0 HS1]
      · isplitl [HS0]
        · unfold owns; iexists _; isplitr
          swap; · iexact HS0
          ipureintro; exact hk _
        unfold owns; iexists _; isplitr
        swap; · iexact HS1
        ipureintro; exact hv _
      isplitl [Hg]; · iexact Hg
      isplitl [Hq0 Hq1]
      · isplitl [Hq0]; · iexact Hq0
        iexact Hq1
      isplitr; · iempintro
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact ho _
  · have hz : t.val ≠ 0 := by omega
    rw [PhiV_pos m c _ _ hz]
    by_cases h1 : t.val % 4 = 3
    · have hc0 : ¬cond0_0 (grid0.coords t) := fun h => h0 ((hcond0_0 t).mp h)
      have hc1 := (hcond0_1 t).mpr h1
      obtain ⟨hk, hv, ho, hwk, hwv⟩ := stepC m c t hc0 hc1 h0 h1 _ _ rfl rfl
      rw [← hwk, ← hwv]
      iintro ⟨⟨⟨HS0, HS1⟩, Hg, ⟨Hq0, Hq1⟩, -, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (((vrunC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (sk m c (t.val - 1)) (sv m c (t.val - 1)) (wk m c t.val) (wv m c t.val)).2.2.2.2.property) W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [Hq0]; · iexact Hq0
      isplitl [Hq1]; · iexact Hq1
      isplitl [Hh0]; · iexact Hh0
      isplitl [Hh1]; · iexact Hh1
      isplitl [HW]; · iexact HW
      iintro ⟨H0, H1, H2, H3, H4, H5, H6, H7, ⟨%e8, H8⟩, HS0, HS1, Hq0, Hq1, Hh0, Hh1, ⟨%W', HW'⟩⟩
      isplitl [HS0 HS1 Hg Hq0 Hq1 Hh0 Hh1]
      · isplitl [HS0 HS1]
        · isplitl [HS0]
          · unfold owns; iexists _; isplitr
            swap; · iexact HS0
            ipureintro; exact hk
          unfold owns; iexists _; isplitr
          swap; · iexact HS1
          ipureintro; exact hv
        isplitl [Hg]; · iexact Hg
        isplitl [Hq0 Hq1]
        · isplitl [Hq0]; · iexact Hq0
          iexact Hq1
        isplitr; · iempintro
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact ho _
    · have hc0 : ¬cond0_0 (grid0.coords t) := fun h => h0 ((hcond0_0 t).mp h)
      have hc1 : ¬cond0_1 (grid0.coords t) := fun h => h1 ((hcond0_1 t).mp h)
      obtain ⟨hk, hv, ho⟩ := stepB m c t hc0 hc1 h0 (wk m c t.val) (wv m c t.val)
      rw [wk_keep m c t h1, wv_keep m c t h1]
      iintro ⟨⟨⟨HS0, HS1⟩, Hg, ⟨Hq0, Hq1⟩, -, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (((vrunB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) hc0 hc1 (iblk m c 0 t) (iblk m c 1 t) (iblk m c 2 t) (iblk m c 3 t) (iblk m c 4 t) (iblk m c 5 t) (iblk m c 6 t) (iblk m c 7 t) (sk m c (t.val - 1)) (sv m c (t.val - 1)) (wk m c t.val) (wv m c t.val)).2.2.property) W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [Hq0]; · iexact Hq0
      isplitl [Hq1]; · iexact Hq1
      isplitl [Hh0]; · iexact Hh0
      isplitl [Hh1]; · iexact Hh1
      isplitl [HW]; · iexact HW
      iintro ⟨H0, H1, H2, H3, H4, H5, H6, H7, ⟨%e8, H8⟩, HS0, HS1, Hq0, Hq1, Hh0, Hh1, ⟨%W', HW'⟩⟩
      isplitl [HS0 HS1 Hg Hq0 Hq1 Hh0 Hh1]
      · isplitl [HS0 HS1]
        · isplitl [HS0]
          · unfold owns; iexists _; isplitr
            swap; · iexact HS0
            ipureintro; exact hk
          unfold owns; iexists _; isplitr
          swap; · iexact HS1
          ipureintro; exact hv
        isplitl [Hg]; · iexact Hg
        isplitl [Hq0 Hq1]
        · isplitl [Hq0]; · iexact Hq0
          iexact Hq1
        isplitr; · iempintro
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact ho _

theorem vobligation (c : Dev nD) : BodyObligation (vdats m 0 c) (defs₀ (F := Ideal)) Variants.none () Set.univ := fun t => by
  rw [bigSep_W0, bigSep_W0, defs₀_row]
  exact triple_restated (vbody m c t) rfl .rfl fun _ => .rfl

/-- What the two results written by the body's own copies hold at the end. -/
def G (c : Dev nD) (b : Ref sig .tc) : Buf (Elt Ideal) ((c.tc : Thread nD τ).loc b) :=
  if h : b = main_v98_1 then h ▸ wk m c 24 else if h : b = main_v98_2 then h ▸ wv m c 24 else V m c b

theorem G_k (c : Dev nD) : G m c main_v98_1 = wk m c 24 := by unfold G; rw [dif_pos rfl]
theorem G_v (c : Dev nD) : G m c main_v98_2 = wv m c 24 := by unfold G; rw [dif_neg (by decide), dif_pos rfl]

theorem vin (c : Dev nD) : Pipeline.ΦDRG osem0 spec0 H0 R0 (V m) (V m) c ⊢ (vdats m 0 c).Φ 0 := by
  rw [show (vdats m 0 c).Φ 0 = PhiV m c 0 (Nat.zero_le _) from rfl]
  exact Idealize.SL.BI.Entails.refl _

theorem vout (c : Dev nD) : (vdats m 0 c).Φ (Fin.last cfg0.N) ⊢ Pipeline.ΦDRG osem0 spec0 H0 R0 (V m) (G m) c := by
  have h24 : (Fin.last cfg0.N).val = 24 := N_0
  rw [show (vdats m 0 c).Φ (Fin.last cfg0.N) = PhiV m c (Fin.last cfg0.N).val (Nat.le_of_lt_succ (Fin.last cfg0.N).isLt) from rfl, PhiDRG0_eq, G_k, G_v]
  refine (PhiV_any m c _ _).trans ?_
  rw [h24]

-- the launch's implicit arguments are found by unifying its conclusion with this one
set_option backward.isDefEq.respectTransparency.types false in
/-- The launch: every array of the pipeline ends at what the proof data say, and the two results the body copies out at their sums. -/
theorem vrun : θ_run defs (onTc (τ := τ) (main (F := Ideal))) (s₀ m ρ) (Pipeline.FramePostRG cfgs (vdats m) 0 R0 (V m) (G m)) :=
  Pipeline.θ_run_frame_dmaRG (Q' := _) cfgs (vdats m) (0 : Fin 1) launch0 osem0 defs₀ Variants.none ownSemFacts0 H0 R0 H0_sub R0_sub m ρ main
    (hbody := fun c => (vobligation m c).loose) (hshare := fun c => (vdats m 0 c).share_full fun _ => rfl)
    (howed := fun _ _ => rfl) (V := V m) (hmain := hmain m Variants.none) (hA := vA_eq m) (G := G m)
    (hin := vin m) (hout := vout m)

end Cert.KernelIdeal.Val

end
-- ==== Proof.Arrays.lean ====
module

public import proofs.«01_k».proof.Proof.Launch
public import Idealize.ShloMosaic.Lib.Pipeline.ValueKit

@[expose] public section

set_option maxRecDepth 16384

noncomputable section

namespace Cert.KernelIdeal.Val

open Cert.KernelIdeal Cert.KernelIdeal.Gen Idealize.ShloMosaic Idealize.ShloMosaic.TcCoe Idealize.ShloMosaic.Tactic
open Idealize.SL.Sem
open Idealize.ShloMosaic.Pipeline (Dat Cfg Window)
open scoped BigOperators

variable (m : (ℓ : Loc nD τ sig) → Buf (Elt Ideal) ℓ) (ρ : Dev nD → PrngReg)

/-! ## The blocks of a point, read off the arrays the call was given -/

theorem idx0 : ∀ t : Fin cfg0.N, win0_0.index t = ![t.val % 4, t.val / 4] := (by decide +kernel : ∀ t : Fin grid0.N, _)
theorem idx1 : ∀ t : Fin cfg0.N, win0_1.index t = ![0, t.val / 4] := (by decide +kernel : ∀ t : Fin grid0.N, _)
theorem idx2 : ∀ t : Fin cfg0.N, win0_2.index t = ![0, t.val / 4] := (by decide +kernel : ∀ t : Fin grid0.N, _)
theorem idx3 : ∀ t : Fin cfg0.N, win0_3.index t = ![t.val % 4, t.val / 4] := (by decide +kernel : ∀ t : Fin grid0.N, _)
theorem idx4 : ∀ t : Fin cfg0.N, win0_4.index t = ![t.val % 4, t.val / 4] := (by decide +kernel : ∀ t : Fin grid0.N, _)
theorem idx5 : ∀ t : Fin cfg0.N, win0_5.index t = ![t.val % 4, t.val / 4] := (by decide +kernel : ∀ t : Fin grid0.N, _)
theorem idx6 : ∀ t : Fin cfg0.N, win0_6.index t = ![t.val % 4, 0] := (by decide +kernel : ∀ t : Fin grid0.N, _)
theorem idx7 : ∀ t : Fin cfg0.N, win0_7.index t = ![t.val % 4, 0] := (by decide +kernel : ∀ t : Fin grid0.N, _)
theorem idx8 : ∀ t : Fin cfg0.N, win0_8.index t = ![t.val % 4, t.val / 4] := (by decide +kernel : ∀ t : Fin grid0.N, _)

theorem tt_lt (n : ℕ) (h : n < 24) : (tt n).val = n := Nat.mod_eq_of_lt h

variable (c : Dev nD) (t : Fin cfg0.N)

theorem t_lt : t.val < 24 := Nat.lt_of_lt_of_eq t.isLt N_0

theorem emb0 (r : Fin 2048) (d : Fin 256) (R : Fin 8192) (D : Fin 1536) (hR : R.val = 2048 * (t.val % 4) + r.val) (hD : D.val = 256 * (t.val / 4) + d.val) :
    ((cfg0.win 0).blk t).view.emb (ix2 r d) = ix2 R D := by
  blk_ext [idx0 t]

theorem read0 (X : (c : Dev nD) → (b : Ref sig .tc) → Buf (Elt Ideal) ((c.tc : Thread nD τ).loc b)) (c : Dev nD) (t : Fin cfg0.N) (r : Fin 2048) (d : Fin 256) (R : Fin 8192) (D : Fin 1536) (hR : R.val = 2048 * (t.val % 4) + r.val) (hD : D.val = 256 * (t.val / 4) + d.val) :
    ((cfg0.win 0).blk t).view.read (Elt Ideal) (X c (Pipeline.arrRef spec0 0)) (ix2 r d) = X c main_v90 (ix2 R D) :=
  congrArg (X c main_v90) (emb0 t r d R D hR hD)

theorem blk0 (r : Fin 2048) (d : Fin 256) (R : Fin 8192) (D : Fin 1536) (hR : R.val = 2048 * (t.val % 4) + r.val) (hD : D.val = 256 * (t.val / 4) + d.val) :
    at2 (iblk m c 0 t) r.val d.val = V m c main_v90 (ix2 R D) := by
  rw [← at2_ix]
  exact read0 (V m) c t r d R D hR hD

theorem emb1 (r : Fin 8192) (d : Fin 256) (D : Fin 1536) (hD : D.val = 256 * (t.val / 4) + d.val) :
    ((cfg0.win 1).blk t).view.emb (ix2 r d) = ix2 r D := by
  blk_ext [idx1 t]

theorem read1 (X : (c : Dev nD) → (b : Ref sig .tc) → Buf (Elt Ideal) ((c.tc : Thread nD τ).loc b)) (c : Dev nD) (t : Fin cfg0.N) (r : Fin 8192) (d : Fin 256) (D : Fin 1536) (hD : D.val = 256 * (t.val / 4) + d.val) :
    ((cfg0.win 1).blk t).view.read (Elt Ideal) (X c (Pipeline.arrRef spec0 1)) (ix2 r d) = X c main_v93 (ix2 r D) :=
  congrArg (X c main_v93) (emb1 t r d D hD)

theorem blk1 (r : Fin 8192) (d : Fin 256) (D : Fin 1536) (hD : D.val = 256 * (t.val / 4) + d.val) :
    at2 (iblk m c 1 t) r.val d.val = V m c main_v93 (ix2 r D) := by
  rw [← at2_ix]
  exact read1 (V m) c t r d D hD

theorem emb2 (r : Fin 8192) (d : Fin 128) (D : Fin 768) (hD : D.val = 128 * (t.val / 4) + d.val) :
    ((cfg0.win 2).blk t).view.emb (ix2 r d) = ix2 r D := by
  blk_ext [idx2 t]

theorem read2 (X : (c : Dev nD) → (b : Ref sig .tc) → Buf (Elt Ideal) ((c.tc : Thread nD τ).loc b)) (c : Dev nD) (t : Fin cfg0.N) (r : Fin 8192) (d : Fin 128) (D : Fin 768) (hD : D.val = 128 * (t.val / 4) + d.val) :
    ((cfg0.win 2).blk t).view.read (Elt Ideal) (X c (Pipeline.arrRef spec0 2)) (ix2 r d) = X c main_v95 (ix2 r D) :=
  congrArg (X c main_v95) (emb2 t r d D hD)

theorem blk2 (r : Fin 8192) (d : Fin 128) (D : Fin 768) (hD : D.val = 128 * (t.val / 4) + d.val) :
    at2 (iblk m c 2 t) r.val d.val = V m c main_v95 (ix2 r D) := by
  rw [← at2_ix]
  exact read2 (V m) c t r d D hD

theorem emb3 (r : Fin 2048) (d : Fin 128) (R : Fin 8192) (D : Fin 2048) (hR : R.val = 2048 * (t.val % 4) + r.val) (hD : D.val = 128 * (t.val / 4) + d.val) :
    ((cfg0.win 3).blk t).view.emb (ix2 r d) = ix2 R D := by
  blk_ext [idx3 t]

theorem read3 (X : (c : Dev nD) → (b : Ref sig .tc) → Buf (Elt Ideal) ((c.tc : Thread nD τ).loc b)) (c : Dev nD) (t : Fin cfg0.N) (r : Fin 2048) (d : Fin 128) (R : Fin 8192) (D : Fin 2048) (hR : R.val = 2048 * (t.val % 4) + r.val) (hD : D.val = 128 * (t.val / 4) + d.val) :
    ((cfg0.win 3).blk t).view.read (Elt Ideal) (X c (Pipeline.arrRef spec0 3)) (ix2 r d) = X c main_arg4 (ix2 R D) :=
  congrArg (X c main_arg4) (emb3 t r d R D hR hD)

theorem blk3 (r : Fin 2048) (d : Fin 128) (R : Fin 8192) (D : Fin 2048) (hR : R.val = 2048 * (t.val % 4) + r.val) (hD : D.val = 128 * (t.val / 4) + d.val) :
    at2 (iblk m c 3 t) r.val d.val = V m c main_arg4 (ix2 R D) := by
  rw [← at2_ix]
  exact read3 (V m) c t r d R D hR hD

theorem emb4 (r : Fin 2048) (d : Fin 128) (R : Fin 8192) (D : Fin 2048) (hR : R.val = 2048 * (t.val % 4) + r.val) (hD : D.val = 128 * (t.val / 4) + d.val) :
    ((cfg0.win 4).blk t).view.emb (ix2 r d) = ix2 R D := by
  blk_ext [idx4 t]

theorem read4 (X : (c : Dev nD) → (b : Ref sig .tc) → Buf (Elt Ideal) ((c.tc : Thread nD τ).loc b)) (c : Dev nD) (t : Fin cfg0.N) (r : Fin 2048) (d : Fin 128) (R : Fin 8192) (D : Fin 2048) (hR : R.val = 2048 * (t.val % 4) + r.val) (hD : D.val = 128 * (t.val / 4) + d.val) :
    ((cfg0.win 4).blk t).view.read (Elt Ideal) (X c (Pipeline.arrRef spec0 4)) (ix2 r d) = X c main_v97 (ix2 R D) :=
  congrArg (X c main_v97) (emb4 t r d R D hR hD)

theorem blk4 (r : Fin 2048) (d : Fin 128) (R : Fin 8192) (D : Fin 2048) (hR : R.val = 2048 * (t.val % 4) + r.val) (hD : D.val = 128 * (t.val / 4) + d.val) :
    at2 (iblk m c 4 t) r.val d.val = V m c main_v97 (ix2 R D) := by
  rw [← at2_ix]
  exact read4 (V m) c t r d R D hR hD

theorem emb5 (r : Fin 2048) (d : Fin 128) (R : Fin 8192) (D : Fin 768) (hR : R.val = 2048 * (t.val % 4) + r.val) (hD : D.val = 128 * (t.val / 4) + d.val) :
    ((cfg0.win 5).blk t).view.emb (ix2 r d) = ix2 R D := by
  blk_ext [idx5 t]

theorem read5 (X : (c : Dev nD) → (b : Ref sig .tc) → Buf (Elt Ideal) ((c.tc : Thread nD τ).loc b)) (c : Dev nD) (t : Fin cfg0.N) (r : Fin 2048) (d : Fin 128) (R : Fin 8192) (D : Fin 768) (hR : R.val = 2048 * (t.val % 4) + r.val) (hD : D.val = 128 * (t.val / 4) + d.val) :
    ((cfg0.win 5).blk t).view.read (Elt Ideal) (X c (Pipeline.arrRef spec0 5)) (ix2 r d) = X c main_v85 (ix2 R D) :=
  congrArg (X c main_v85) (emb5 t r d R D hR hD)

theorem blk5 (r : Fin 2048) (d : Fin 128) (R : Fin 8192) (D : Fin 768) (hR : R.val = 2048 * (t.val % 4) + r.val) (hD : D.val = 128 * (t.val / 4) + d.val) :
    at2 (iblk m c 5 t) r.val d.val = V m c main_v85 (ix2 R D) := by
  rw [← at2_ix]
  exact read5 (V m) c t r d R D hR hD

theorem emb6 (r : Fin 2048) (d : Fin 128) (R : Fin 8192) (hR : R.val = 2048 * (t.val % 4) + r.val) :
    ((cfg0.win 6).blk t).view.emb (ix2 r d) = ix2 R d := by
  blk_ext [idx6 t]

theorem read6 (X : (c : Dev nD) → (b : Ref sig .tc) → Buf (Elt Ideal) ((c.tc : Thread nD τ).loc b)) (c : Dev nD) (t : Fin cfg0.N) (r : Fin 2048) (d : Fin 128) (R : Fin 8192) (hR : R.val = 2048 * (t.val % 4) + r.val) :
    ((cfg0.win 6).blk t).view.read (Elt Ideal) (X c (Pipeline.arrRef spec0 6)) (ix2 r d) = X c main_v19 (ix2 R d) :=
  congrArg (X c main_v19) (emb6 t r d R hR)

theorem blk6 (r : Fin 2048) (d : Fin 128) (R : Fin 8192) (hR : R.val = 2048 * (t.val % 4) + r.val) :
    at2 (iblk m c 6 t) r.val d.val = V m c main_v19 (ix2 R d) := by
  rw [← at2_ix]
  exact read6 (V m) c t r d R hR

theorem emb7 (r : Fin 2048) (d : Fin 128) (R : Fin 8192) (hR : R.val = 2048 * (t.val % 4) + r.val) :
    ((cfg0.win 7).blk t).view.emb (ix2 r d) = ix2 R d := by
  blk_ext [idx7 t]

theorem read7 (X : (c : Dev nD) → (b : Ref sig .tc) → Buf (Elt Ideal) ((c.tc : Thread nD τ).loc b)) (c : Dev nD) (t : Fin cfg0.N) (r : Fin 2048) (d : Fin 128) (R : Fin 8192) (hR : R.val = 2048 * (t.val % 4) + r.val) :
    ((cfg0.win 7).blk t).view.read (Elt Ideal) (X c (Pipeline.arrRef spec0 7)) (ix2 r d) = X c main_v21 (ix2 R d) :=
  congrArg (X c main_v21) (emb7 t r d R hR)

theorem blk7 (r : Fin 2048) (d : Fin 128) (R : Fin 8192) (hR : R.val = 2048 * (t.val % 4) + r.val) :
    at2 (iblk m c 7 t) r.val d.val = V m c main_v21 (ix2 R d) := by
  rw [← at2_ix]
  exact read7 (V m) c t r d R hR

/-! ## The arrays after the run -/

/-- The queries' gradient, whole: row `R`, column `C` comes from head `C / 256`'s point for row block `R / 2048`. -/
def dqOf : Vec Ideal S8192x1536 .bf16 := fun y =>
  (P m c (tt (4 * ((y 1).val / 256) + (y 0).val / 2048))).out (at2 (iblk m c 6 (tt (4 * ((y 1).val / 256) + (y 0).val / 2048))))
    (at2 (iblk m c 7 (tt (4 * ((y 1).val / 256) + (y 0).val / 2048)))) ((y 0).val % 2048) ((y 1).val % 256)

theorem dq_final : (vdats m 0 c).arrAt 8 cfg0.N = dqOf m c := by
  refine (vdats m 0 c).arrAt_eq_of_covers 8 _ (by decide +kernel) fun t _ y => ?_
  have ht := t_lt t
  rw [vafter_8]
  have e0 : ((((cfg0.win 8).blk t).view.emb y) 0).val = t.val % 4 * 2048 + (y 0).val := by blk_simp [idx8 t]
  have e1 : ((((cfg0.win 8).blk t).view.emb y) 1).val = t.val / 4 * 256 + (y 1).val := by blk_simp [idx8 t]
  have h0 : (y 0).val < 2048 := (y 0).isLt
  have h1 : (y 1).val < 256 := (y 1).isLt
  have eT : tt (4 * ((((cfg0.win 8).blk t).view.emb y 1).val / 256) + (((cfg0.win 8).blk t).view.emb y 0).val / 2048) = t := by
    rw [e0, e1]
    have : 4 * ((t.val / 4 * 256 + (y 1).val) / 256) + (t.val % 4 * 2048 + (y 0).val) / 2048 = t.val := by omega
    rw [this, tt_val]
  unfold dqOf
  rw [eT, e0, e1, show (t.val % 4 * 2048 + (y 0).val) % 2048 = (y 0).val by omega, show (t.val / 4 * 256 + (y 1).val) % 256 = (y 1).val by omega]
  rfl

theorem dk_final (H : Fin 6) (J : Fin 8192) (d : Fin 256) :
    wk m c 24 (ix3 H J d) = ∑ i ∈ Finset.range 4, (P m c (tt (4 * H.val + i))).ck J.val d.val := by
  have hH := H.isLt
  have h : (ix3 H J d 0).val < 24 / 4 := hH
  unfold wk
  rw [if_pos h]
  unfold sk
  show ∑ i ∈ Finset.range ((4 * H.val + 3) % 4 + 1), (P m c (tt (4 * ((4 * H.val + 3) / 4) + i))).ck J.val d.val = _
  rw [show (4 * H.val + 3) % 4 + 1 = 4 by omega, show (4 * H.val + 3) / 4 = H.val by omega]

theorem dv_final (H : Fin 6) (J : Fin 8192) (d : Fin 128) :
    wv m c 24 (ix3 H J d) = ∑ i ∈ Finset.range 4, (P m c (tt (4 * H.val + i))).cv J.val d.val := by
  have hH := H.isLt
  have h : (ix3 H J d 0).val < 24 / 4 := hH
  unfold wv
  rw [if_pos h]
  unfold sv
  show ∑ i ∈ Finset.range ((4 * H.val + 3) % 4 + 1), (P m c (tt (4 * ((4 * H.val + 3) / 4) + i))).cv J.val d.val = _
  rw [show (4 * H.val + 3) % 4 + 1 = 4 by omega, show (4 * H.val + 3) / 4 = H.val by omega]

/-- After the run: the three results in closed form, the arguments as launched. -/
theorem final_run : θ_run defs (onTc (τ := τ) (main (F := Ideal))) (s₀ m ρ) fun r => ∀ c : Dev nD,
      r.2.mem ((c : Thread nD τ).loc main_v98_0) = dqOf m c
      ∧ r.2.mem ((c : Thread nD τ).loc main_v98_1) = wk m c 24
      ∧ r.2.mem ((c : Thread nD τ).loc main_v98_2) = wv m c 24
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r hG c => by
    have h := hG.toR
    refine ⟨((h c).1 8).trans (dq_final m c), (hG.written c (b := main_v98_1) (by decide)).trans (G_k m c), (hG.written c (b := main_v98_2) (by decide)).trans (G_v m c), ?_, ?_, ?_, ?_, ?_⟩
    · exact ((h c).2 main_arg0 (Finset.mem_sdiff.mpr ⟨Pipeline.mem_restRefs_of main_arg0 (by decide) (by decide), by decide⟩)).trans (V_main_arg0 m c)
    · exact ((h c).2 main_arg1 (Finset.mem_sdiff.mpr ⟨Pipeline.mem_restRefs_of main_arg1 (by decide) (by decide), by decide⟩)).trans (V_main_arg1 m c)
    · exact ((h c).2 main_arg2 (Finset.mem_sdiff.mpr ⟨Pipeline.mem_restRefs_of main_arg2 (by decide) (by decide), by decide⟩)).trans (V_main_arg2 m c)
    · exact ((h c).2 main_arg3 (Finset.mem_sdiff.mpr ⟨Pipeline.mem_restRefs_of main_arg3 (by decide) (by decide), by decide⟩)).trans (V_main_arg3 m c)
    · exact ((h c).1 3).trans (((vdats m 0 c).arrAt_in 3 rfl _).trans ((vA_eq m c 3).trans (V_main_arg4 m c))))
    (vrun m ρ)

end Cert.KernelIdeal.Val
-- ==== Proof.Host.lean ====
module

public import proofs.«01_k».proof.Proof.Arrays
public import proofs.«01_k».proof.Proof.Gen.ReferenceIdeal.Read
public import Idealize.ShloMosaic.Lib.Claim

@[expose] public section

set_option maxRecDepth 16384

noncomputable section

namespace Cert.KernelIdeal.Val

open Cert.KernelIdeal Cert.KernelIdeal.Gen Idealize.ShloMosaic Idealize.ShloMosaic.TcCoe Idealize.ShloMosaic.Tactic

/-! ## What the host lines prepare, as functions of the arguments -/

/-- A row's largest logit. -/
def hM (L : FVec Ideal S6x8192x8192 .f32) : FVec Ideal S6x8192x1 .f32 :=
  broadcastInDim S6x8192x1 ![0, 1] bcast_S6x8192_S6x8192x1_0_1
    (Host.reduce FloatOps.maximumf L (constant S_ .f32 0xFF800000#32) reducesTo_S6x8192x8192_S6x8192_d2 h_S_ : FVec Ideal S6x8192 .f32)

/-- The exponentials of the logits less their row's largest. -/
def hE (L : FVec Ideal S6x8192x8192 .f32) : FVec Ideal S6x8192x8192 .f32 :=
  Host.exp (subf L (broadcastInDim S6x8192x8192 ![0, 1, 2] bcast_S6x8192x1_S6x8192x8192_0_1_2 (hM L)))

/-- A row's sum of exponentials. -/
def hS (L : FVec Ideal S6x8192x8192 .f32) : FVec Ideal S6x8192x1 .f32 :=
  broadcastInDim S6x8192x1 ![0, 1] bcast_S6x8192_S6x8192x1_0_1
    (Host.reduceAdd (hE L) (constant S_ .f32 0x00000000#32) reducesTo_S6x8192x8192_S6x8192_d2 h_S_ : FVec Ideal S6x8192 .f32)

/-- The attention's result, a head's features beside the next head's. -/
def hO (v : FVec Ideal S8192x6x128 .f32) (L : FVec Ideal S6x8192x8192 .f32) : FVec Ideal S8192x768 .f32 :=
  shapeCast S8192x768 (transpose S8192x6x128 [2, 0, 1]
    (Host.dotGeneral dot_S8192x6x128_S6x8192x8192_S6x128x8192_0_2_2_1_1_0 none v
      (Host.divf (hE L) (broadcastInDim S6x8192x8192 ![0, 1, 2] bcast_S6x8192x1_S6x8192x8192_0_1_2 (hS L))))
    transposes_S6x128x8192_S8192x6x128_2_0_1) shapeCasts_S8192x6x128_S8192x768

/-- A row's logarithm of the sum of exponentials, the same in all 128 lanes of its head. -/
def hL (L : FVec Ideal S6x8192x8192 .f32) : FVec Ideal S8192x768 .f32 :=
  shapeCast S8192x768 (broadcastInDim S8192x6x128 ![0, 1, 2] bcast_S8192x6x1_S8192x6x128_0_1_2
    (transpose S8192x6x1 [1, 0, 2] (addf (hM L) (Host.log (hS L))) transposes_S6x8192x1_S8192x6x1_1_0_2)) shapeCasts_S8192x6x128_S8192x768

/-- The rotated queries, padded, scaled and laid out. -/
def hQ (q : FVec Ideal S8192x6x192 .f32) : FVec Ideal S8192x1536 .bf16 :=
  truncf .bf16 (shapeCast S8192x1536 (mulf (pad S8192x6x256 ![0, 0, 0] ![0, 0, 64] ![0, 0, 0] q (sitofp .f32 (constantI S_ 32 0#32)) pads_S8192x6x192_S8192x6x256_000_000_0640 h_S_)
    (broadcastInDim S8192x6x256 ![] bcast_S_S8192x6x256 (constant S_ .f32 0x3D93CD3A#32))) shapeCasts_S8192x6x256_S8192x1536) bitsLt_bf16_f32

/-- The keys, padded and laid out. -/
def hK (k : FVec Ideal S8192x6x192 .f32) : FVec Ideal S8192x1536 .bf16 :=
  truncf .bf16 (shapeCast S8192x1536 (pad S8192x6x256 ![0, 0, 0] ![0, 0, 64] ![0, 0, 0] k (sitofp .f32 (constantI S_ 32 0#32)) pads_S8192x6x192_S8192x6x256_000_000_0640 h_S_) shapeCasts_S8192x6x256_S8192x1536) bitsLt_bf16_f32

/-- The values, laid out. -/
def hV (v : FVec Ideal S8192x6x128 .f32) : FVec Ideal S8192x768 .bf16 :=
  truncf .bf16 (shapeCast S8192x768 v shapeCasts_S8192x6x128_S8192x768) bitsLt_bf16_f32

/-- The angles, from the reference's lines. -/
abbrev rC (p : IVec S8192 32) : FVec Ideal S8192x32 .f32 := Cert.ReferenceIdeal.Read.val_main_v18 (F := Ideal) p
abbrev rS (p : IVec S8192 32) : FVec Ideal S8192x32 .f32 := Cert.ReferenceIdeal.Read.val_main_v19 (F := Ideal) p

/-- The rope's cosines, twice, and zeros. -/
def hC (p : IVec S8192 32) : FVec Ideal S8192x128 .f32 :=
  concatenate S8192x128 1 [⟨S8192x32, rC p⟩, ⟨S8192x32, rC p⟩, ⟨S8192x64, broadcastInDim S8192x64 ![] bcast_S_S8192x64 (constant (F := Ideal) S_ .f32 0x00000000#32)⟩] concatenates_S8192x32_S8192x32_S8192x64_S8192x128_d1

/-- The rope's sines, negated and as they are, and zeros. -/
def hN (p : IVec S8192 32) : FVec Ideal S8192x128 .f32 :=
  concatenate S8192x128 1 [⟨S8192x32, Host.negf (rS p)⟩, ⟨S8192x32, rS p⟩, ⟨S8192x64, broadcastInDim S8192x64 ![] bcast_S_S8192x64 (constant (F := Ideal) S_ .f32 0x00000000#32)⟩] concatenates_S8192x32_S8192x32_S8192x64_S8192x128_d1

variable (m : (ℓ : Loc nD τ sig) → Buf (Elt Ideal) ℓ) (c : Dev nD)

abbrev qA : FVec Ideal S8192x6x192 .f32 := m ((c.tc : Thread nD τ).loc main_arg0)
abbrev kA : FVec Ideal S8192x6x192 .f32 := m ((c.tc : Thread nD τ).loc main_arg1)
abbrev vA : FVec Ideal S8192x6x128 .f32 := m ((c.tc : Thread nD τ).loc main_arg2)
abbrev pA : IVec S8192 32 := m ((c.tc : Thread nD τ).loc main_arg3)
abbrev gA : FVec Ideal S8192x2048 .f32 := m ((c.tc : Thread nD τ).loc main_arg4)

/-- The masked logits, from the reference's lines. -/
abbrev logits : FVec Ideal S6x8192x8192 .f32 := Cert.ReferenceIdeal.Read.val_main_v48_0 (F := Ideal) (qA m c) (kA m c) (pA m c)

theorem V_c : V m c main_v19 = hC (pA m c) := by
  entry_read
  rfl

theorem V_s : V m c main_v21 = hN (pA m c) := by
  entry_read
  rfl

theorem V_k : V m c main_v93 = hK (kA m c) := by
  entry_read
  rfl

theorem V_v : V m c main_v95 = hV (vA m c) := by
  entry_read
  rfl

/-! ### The lines in three stretches, each read over whatever stands before it -/

theorem after_both (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

/-- The contents after the rotation of the queries and the rows' chunks. -/
def σ1 : Valuation τ sig (Elt Ideal) := StableHlo.after (List.flatten [hostOps0, hostOps0_1]) (fun b => m (c, b))

/-- The contents after the logits. -/
def σ2 : Valuation τ sig (Elt Ideal) := StableHlo.after (List.flatten [hostOps0_2, hostOps0_3]) (σ1 m c)

/-- The contents after the last lines, over the contents before them. -/
abbrev fin (σ : Valuation τ sig (Elt Ideal)) : Valuation τ sig (Elt Ideal) :=
  StableHlo.after hostOps0_8 (StableHlo.after hostOps0_7 (StableHlo.after hostOps0_6 (StableHlo.after hostOps0_5 (StableHlo.after hostOps0_4 σ))))

theorem V_split (b : Ref sig .tc) : V m c b = fin (σ2 m c) (Proc.devRef .tc b) := by
  show StableHlo.after (List.flatten [hostOps0, hostOps0_1, hostOps0_2, hostOps0_3, hostOps0_4, hostOps0_5, hostOps0_6, hostOps0_7, hostOps0_8]) (fun b => m (c, b)) (Proc.devRef .tc b) = _
  unfold fin σ2 σ1
  rw [← after_both, ← after_both, ← after_both, ← after_both, ← after_both, ← after_both]
  simp only [List.flatten_cons, List.flatten_nil, List.append_nil, List.append_assoc]

theorem σ1_q : σ1 m c (Proc.devRef .tc main_v57) = Cert.ReferenceIdeal.Read.val_main_v37 (F := Ideal) (qA m c) (pA m c) := by
  unfold σ1
  entry_read
  rfl

theorem σ1_k : σ1 m c (Proc.devRef .tc main_arg1) = kA m c := by
  unfold σ1
  entry_read
  rfl

theorem σ1_v : σ1 m c (Proc.devRef .tc main_arg2) = vA m c := by
  unfold σ1
  entry_read
  rfl

theorem σ1_c : σ1 m c (Proc.devRef .tc main_v59) = Cert.ReferenceIdeal.Read.val_main_v39 (F := Ideal) := by
  unfold σ1
  entry_read
  rfl

section
variable (σ : Valuation τ sig (Elt Ideal))

theorem mid_x : StableHlo.after (List.flatten [hostOps0_2, hostOps0_3]) σ (Proc.devRef .tc main_v68)
    = select (broadcastInDim S6x8192x8192 ![1, 2] bcast_S8192x8192_S6x8192x8192_1_2
        (cmpi .sle (broadcastInDim S8192x8192 ![0, 1] bcast_S1x8192_S8192x8192_0_1 (broadcastInDim S1x8192 ![1] bcast_S8192_S1x8192_1 (σ (Proc.devRef .tc main_v59) : IVec S8192 32)))
          (broadcastInDim S8192x8192 ![0, 1] bcast_S8192x1_S8192x8192_0_1 (broadcastInDim S8192x1 ![0] bcast_S8192_S8192x1_0 (σ (Proc.devRef .tc main_v59) : IVec S8192 32)))))
      (mulf (Host.dotGeneral (F := Ideal) (φ₁ := .f32) (φ₂ := .f32) dot_S8192x6x192_S8192x6x192_S6x8192x8192_2_2_0_0_1_1 none (σ (Proc.devRef .tc main_v57)) (σ (Proc.devRef .tc main_arg1)))
        (broadcastInDim S6x8192x8192 ![] bcast_S_S6x8192x8192 (constant (F := Ideal) S_ .f32 0x3D93CD3A#32)))
      (broadcastInDim S6x8192x8192 ![] bcast_S_S6x8192x8192 (constant (F := Ideal) S_ .f32 0xFF800000#32)) := by
  entry_read
  rfl

theorem mid_q : StableHlo.after (List.flatten [hostOps0_2, hostOps0_3]) σ (Proc.devRef .tc main_v57) = σ (Proc.devRef .tc main_v57) := by
  rfl

theorem mid_v : StableHlo.after (List.flatten [hostOps0_2, hostOps0_3]) σ (Proc.devRef .tc main_arg2) = σ (Proc.devRef .tc main_arg2) := by
  rfl

theorem end_l : fin σ (Proc.devRef .tc main_v85) = hL (σ (Proc.devRef .tc main_v68)) := by
  simp only [StableHlo.after_cons, StableHlo.after_nil]
  after_results_simp
  rfl

theorem end_q : fin σ (Proc.devRef .tc main_v90) = hQ (σ (Proc.devRef .tc main_v57)) := by
  simp only [StableHlo.after_cons, StableHlo.after_nil]
  after_results_simp
  rfl

theorem end_o : fin σ (Proc.devRef .tc main_v97)
    = concatenate S8192x2048 1 [⟨S8192x768, hO (σ (Proc.devRef .tc main_arg2)) (σ (Proc.devRef .tc main_v68))⟩, ⟨S8192x1280, broadcastInDim S8192x1280 ![] bcast_S_S8192x1280 (constant (F := Ideal) S_ .f32 0x00000000#32)⟩] concatenates_S8192x768_S8192x1280_S8192x2048_d1 := by
  simp only [StableHlo.after_cons, StableHlo.after_nil]
  after_results_simp
  after_results_loop
  rfl

end

theorem σ2_x : σ2 m c (Proc.devRef .tc main_v68) = logits m c := by
  unfold σ2
  rw [mid_x, σ1_q, σ1_k, σ1_c]
  rfl

theorem V_l : V m c main_v85 = hL (logits m c) := by
  rw [V_split, end_l, σ2_x]

theorem V_q : V m c main_v90 = hQ (Cert.ReferenceIdeal.Read.val_main_v37 (F := Ideal) (qA m c) (pA m c)) := by
  rw [V_split, end_q]
  unfold σ2
  rw [mid_q, σ1_q]

theorem V_o : V m c main_v97 = concatenate S8192x2048 1 [⟨S8192x768, hO (vA m c) (logits m c)⟩, ⟨S8192x1280, broadcastInDim S8192x1280 ![] bcast_S_S8192x1280 (constant (F := Ideal) S_ .f32 0x00000000#32)⟩] concatenates_S8192x768_S8192x1280_S8192x2048_d1 := by
  rw [V_split, end_o, σ2_x]
  unfold σ2
  rw [mid_v, σ1_v]

end Cert.KernelIdeal.Val
-- ==== Proof.KRead.lean ====
module

public import proofs.«01_k».proof.Proof.Host
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.ShloMosaic.Tactic
open scoped BigOperators

/-! ## The prepared arrays, read at an index -/

variable (L : FVec Ideal S6x8192x8192 .f32) (q : FVec Ideal S8192x6x192 .f32) (v : FVec Ideal S8192x6x128 .f32) (p : IVec S8192 32)
  (h : Fin 6) (R J : Fin 8192)

theorem hM_at : hM L (ix3 h R 0) = Finset.univ.fold max (Ideal.ofBits .f32 0xFF800000#32) (fun J : Fin 8192 => L (ix3 h R J)) := by
  pointwise [hM]

theorem hE_at : hE L (ix3 h R J) = Ideal.exp (L (ix3 h R J) - hM L (ix3 h R 0)) := by
  pointwise [hE]

theorem hS_at : hS L (ix3 h R 0) = ∑ J : Fin 8192, hE L (ix3 h R J) := by
  pointwise [hS]

theorem hO_gen (E : FVec Ideal S6x8192x8192 .f32) (S : FVec Ideal S6x8192x1 .f32) (d : Fin 128) (D : Fin 768) (hD : D.val = 128 * h.val + d.val) :
    (shapeCast S8192x768 (transpose S8192x6x128 [2, 0, 1]
    (Host.dotGeneral dot_S8192x6x128_S6x8192x8192_S6x128x8192_0_2_2_1_1_0 none v
      (Host.divf E (broadcastInDim S6x8192x8192 ![0, 1, 2] bcast_S6x8192x1_S6x8192x8192_0_1_2 S)))
    transposes_S6x128x8192_S8192x6x128_2_0_1) shapeCasts_S8192x6x128_S8192x768 : FVec Ideal S8192x768 .f32) (ix2 R D) =
      ∑ J : Fin 8192, v (ix3 J h d) * Ideal.div (E (ix3 h R J)) (S (ix3 h R 0)) := by
  have e1 : (⟨D.val / 128, by omega⟩ : Fin 6) = h := Fin.ext (by simp only; omega)
  have e2 : (⟨D.val % 128, by omega⟩ : Fin 128) = d := Fin.ext (by simp only; omega)
  pointwise
  exact congrArg₂ (fun (a : Fin 6) (b : Fin 128) => ∑ J : Fin 8192, v (ix3 J a b) * Ideal.div (E (ix3 a R J)) (S (ix3 a R 0))) e1 e2

theorem hO_at (d : Fin 128) (D : Fin 768) (hD : D.val = 128 * h.val + d.val) :
    hO v L (ix2 R D) = ∑ J : Fin 8192, v (ix3 J h d) * Ideal.div (hE L (ix3 h R J)) (hS L (ix3 h R 0)) :=
  hO_gen v h R (hE L) (hS L) d D hD

theorem hL_gen (M S : FVec Ideal S6x8192x1 .f32) (d : Fin 128) (D : Fin 768) (hD : D.val = 128 * h.val + d.val) :
    (shapeCast S8192x768 (broadcastInDim S8192x6x128 ![0, 1, 2] bcast_S8192x6x1_S8192x6x128_0_1_2
    (transpose S8192x6x1 [1, 0, 2] (addf M (Host.log S)) transposes_S6x8192x1_S8192x6x1_1_0_2)) shapeCasts_S8192x6x128_S8192x768
     : FVec Ideal S8192x768 .f32) (ix2 R D) = M (ix3 h R 0) + Ideal.log (S (ix3 h R 0)) := by
  have e1 : (⟨D.val / 128, by omega⟩ : Fin 6) = h := Fin.ext (by simp only; omega)
  pointwise
  exact congrArg (fun (a : Fin 6) => M (ix3 a R 0) + Ideal.log (S (ix3 a R 0))) e1

theorem hL_at (d : Fin 128) (D : Fin 768) (hD : D.val = 128 * h.val + d.val) :
    hL L (ix2 R D) = hM L (ix3 h R 0) + Ideal.log (hS L (ix3 h R 0)) :=
  hL_gen h R (hM L) (hS L) d D hD

theorem zero_word : (FloatOps.sitofp (F := Ideal) FTy.f32 (0#32 : BitVec 32)) = 0 := by
  show ((((0#32 : BitVec 32).toInt : ℝ)) : EReal) = 0
  simp

theorem pad_case (d : Fin 256) (D : Fin 1536) (hD : D.val = 256 * h.val + d.val) (z : EReal) :
    (if hh : D.val / 256 < 6 ∧ D.val % 256 < 192 then q (ix3 R ⟨D.val / 256, hh.1⟩ ⟨D.val % 256, hh.2⟩) else z)
      = if hd : d.val < 192 then q (ix3 R h ⟨d.val, hd⟩) else z := by
  have e1 : D.val / 256 = h.val := by omega
  have e2 : D.val % 256 = d.val := by omega
  have h6 := h.isLt
  by_cases hd : d.val < 192
  · rw [dif_pos hd, dif_pos ⟨by omega, by omega⟩]
    congr 2
    · exact Fin.ext e1
    · exact Fin.ext e2
  · rw [dif_neg hd, dif_neg (by omega)]

theorem hQ_at (d : Fin 256) (D : Fin 1536) (hD : D.val = 256 * h.val + d.val) :
    hQ q (ix2 R D) = (if hd : d.val < 192 then q (ix3 R h ⟨d.val, hd⟩) else 0) * scale := by
  have e := pad_case q h R d D hD (FloatOps.sitofp (F := Ideal) FTy.f32 (0#32 : BitVec 32))
  rw [← zero_word]
  pointwise [hQ]
  exact congrArg (· * _) e

theorem hK_at (d : Fin 256) (D : Fin 1536) (hD : D.val = 256 * h.val + d.val) :
    hK q (ix2 R D) = (if hd : d.val < 192 then q (ix3 R h ⟨d.val, hd⟩) else 0) := by
  have e := pad_case q h R d D hD (FloatOps.sitofp (F := Ideal) FTy.f32 (0#32 : BitVec 32))
  rw [← zero_word]
  pointwise [hK]
  exact e

theorem hV_at (d : Fin 128) (D : Fin 768) (hD : D.val = 128 * h.val + d.val) : hV v (ix2 R D) = v (ix3 R h d) := by
  have e1 : (⟨D.val / 128, by omega⟩ : Fin 6) = h := Fin.ext (by simp only; omega)
  have e2 : (⟨D.val % 128, by omega⟩ : Fin 128) = d := Fin.ext (by simp only; omega)
  pointwise [hV]
  exact congrArg₂ (fun (a : Fin 6) (b : Fin 128) => v (ix3 R a b)) e1 e2

theorem rope_case (a b : Fin 32 → EReal) (d : Fin 128) :
    (if h : d.val < 32 then a ⟨d.val, h⟩ else if h : d.val - 32 < 32 then b ⟨d.val - 32, h⟩ else 0)
      = if h1 : d.val < 32 then a ⟨d.val, h1⟩ else if h2 : d.val < 64 then b ⟨d.val - 32, by omega⟩ else 0 := by
  by_cases h1 : d.val < 32
  · rw [dif_pos h1, dif_pos h1]
  · rw [dif_neg h1, dif_neg h1]
    by_cases h2 : d.val < 64
    · rw [dif_pos h2, dif_pos (by omega)]
    · rw [dif_neg h2, dif_neg (by omega)]

theorem hC_at (d : Fin 128) : hC p (ix2 R d) = if h1 : d.val < 32 then rC p (ix2 R ⟨d.val, h1⟩) else if h2 : d.val < 64 then rC p (ix2 R ⟨d.val - 32, by omega⟩) else 0 := by
  pointwise [hC]
  exact rope_case (fun x => rC p (ix2 R x)) (fun x => rC p (ix2 R x)) d

theorem hN_at (d : Fin 128) : hN p (ix2 R d) = if h1 : d.val < 32 then -rS p (ix2 R ⟨d.val, h1⟩) else if h2 : d.val < 64 then rS p (ix2 R ⟨d.val - 32, by omega⟩) else 0 := by
  pointwise [hN]
  exact rope_case (fun x => -rS p (ix2 R x)) (fun x => rS p (ix2 R x)) d

theorem catO_at (o : FVec Ideal S8192x768 .f32) (D : Fin 2048) (hD : D.val < 768) :
    concatenate S8192x2048 1 [⟨S8192x768, o⟩, ⟨S8192x1280, broadcastInDim S8192x1280 ![] bcast_S_S8192x1280 (constant (F := Ideal) S_ .f32 0x00000000#32)⟩] concatenates_S8192x768_S8192x1280_S8192x2048_d1 (ix2 R D)
      = o (ix2 R ⟨D.val, hD⟩) := by
  pointwise
  rw [dif_pos hD]

end Cert.KernelIdeal.Val
-- ==== Proof.RMask.lean ====
module

public import proofs.«01_k».proof.Proof.Gen.ReferenceIdeal.Read
public import Idealize.ShloMosaic.Lib.Pointwise

@[expose] public section

set_option maxRecDepth 16384

noncomputable section

namespace Cert.ReferenceIdeal.Val

open Cert.ReferenceIdeal Cert.ReferenceIdeal.Gen Cert.ReferenceIdeal.Read Idealize.ShloMosaic Idealize.ShloMosaic.TcCoe Idealize.ShloMosaic.Tactic
open scoped BigOperators

variable (q k : FVec Ideal S8192x6x192 .f32) (v : FVec Ideal S8192x6x128 .f32) (p : IVec S8192 32) (g : FVec Ideal S8192x2048 .f32)
  (h : Fin 6) (R J : Fin 8192)

/-- The sign of a word. -/
def sgn (a : BitVec 32) : BitVec 32 := if a = 0 then 0 else if a.msb then -1 else 1

/-- Floor division by 64, as the reference computes it. -/
def cdiv (a : BitVec 32) : BitVec 32 :=
  Scalar.select (IntOp.andi (IntOp.cmpi .ne (sgn a) (sgn 64#32)) (IntOp.cmpi .ne (IntOp.remsi .host a 64#32) 0#32))
    (IntOp.subi (IntOp.divsi .host a 64#32) 1#32) (IntOp.divsi .host a 64#32)

theorem cdiv_eq : ∀ a : Fin 8192, cdiv (BitVec.ofNat 32 a.val) = BitVec.ofNat 32 (a.val / 64) := by decide +kernel

theorem call0_at (R : Fin 8192) : val_main_v39 (F := Ideal) (ix1 R) = cdiv (val_main_v38 (F := Ideal) (ix1 R)) := by
  pointwise [val_main_v39, val_main_call0_v13, val_main_call0_v12, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_c, val_main_call0_c, val_main_call0_c_0]
  generalize val_main_v38 (F := Ideal) (ix1 R) = w
  rfl

theorem v38_at (R : Fin 8192) : val_main_v38 (F := Ideal) (ix1 R) = BitVec.ofNat 32 R.val := rfl
theorem chunk_at : val_main_v39 (F := Ideal) (ix1 R) = BitVec.ofNat 32 (R.val / 64) := by
  rw [call0_at, v38_at]; exact cdiv_eq R

theorem sle_at : ∀ a b : Fin 128, (IntOp.cmpi .sle (BitVec.ofNat 32 a.val) (BitVec.ofNat 32 b.val) : BitVec 1) = if a.val ≤ b.val then 1#1 else 0#1 := by
  decide +kernel

theorem mask_at : val_main_v48_1 (F := Ideal) (ix3 h R J) = if J.val / 64 ≤ R.val / 64 then 1#1 else 0#1 := by
  have e : val_main_v48_1 (F := Ideal) (ix3 h R J) = IntOp.cmpi .sle (val_main_v39 (F := Ideal) (ix1 J)) (val_main_v39 (F := Ideal) (ix1 R)) := by
    pointwise [val_main_v48_1, val_main_v47, val_main_v45, val_main_v46, val_main_v43, val_main_v44]
  rw [e, chunk_at, chunk_at]
  exact sle_at ⟨J.val / 64, by omega⟩ ⟨R.val / 64, by omega⟩

theorem sel_if (c : Prop) [Decidable c] (a b : EReal) : (Scalar.select (if c then 1#1 else 0#1 : BitVec 1) a b : EReal) = if c then a else b := by
  by_cases h : c
  · rw [if_pos h, if_pos h]; rfl
  · rw [if_neg h, if_neg h]; rfl

end Cert.ReferenceIdeal.Val
-- ==== Proof.RRead.lean ====
module

public import proofs.«01_k».proof.Proof.Gen.ReferenceIdeal.Read
public import proofs.«01_k».proof.Proof.RMask

@[expose] public section

set_option maxRecDepth 16384

noncomputable section

namespace Cert.ReferenceIdeal.Val

open Cert.ReferenceIdeal Cert.ReferenceIdeal.Gen Cert.ReferenceIdeal.Read Idealize.ShloMosaic Idealize.ShloMosaic.TcCoe Idealize.ShloMosaic.Tactic
open scoped BigOperators

variable (q k : FVec Ideal S8192x6x192 .f32) (v : FVec Ideal S8192x6x128 .f32) (p : IVec S8192 32) (g : FVec Ideal S8192x2048 .f32)
  (h : Fin 6) (R J : Fin 8192)

theorem zero32 : Ideal.ofBits .f32 0x00000000#32 = 0 := by simp [Ideal.ofBits, Ideal.ieee]

theorem one32 : Ideal.ofBits .f32 0x3F800000#32 = 1 := by
  rw [show (1 : EReal) = ((1 : ℝ) : EReal) by norm_cast]
  simp [Ideal.ofBits, Ideal.ieee, -EReal.coe_mul]; norm_num

theorem zero_word : (FloatOps.sitofp (F := Ideal) FTy.f32 (0#32 : BitVec 32)) = 0 := by
  show ((((0#32 : BitVec 32).toInt : ℝ)) : EReal) = 0
  simp

theorem ninf : Ideal.ofBits .f32 0xFF800000#32 = ⊥ := by simp [Ideal.ofBits, Ideal.ieee]

/-- The scale of the logits. -/
abbrev sc : EReal := Ideal.ofBits .f32 0x3D93CD3A#32

theorem lg_at : val_main_v48_0 (F := Ideal) q k p (ix3 h R J)
    = if J.val / 64 ≤ R.val / 64 then (∑ x : Fin 192, val_main_v37 (F := Ideal) q p (ix3 R h x) * k (ix3 J h x)) * sc else ⊥ := by
  have e : val_main_v48_0 (F := Ideal) q k p (ix3 h R J) = Scalar.select (val_main_v48_1 (F := Ideal) (ix3 h R J))
      ((∑ x : Fin 192, val_main_v37 (F := Ideal) q p (ix3 R h x) * k (ix3 J h x)) * sc) (Ideal.ofBits .f32 0xFF800000#32) := by
    pointwise [val_main_v48_0, val_main_v42, val_main_v40, val_main_v41, val_main_cst_3, val_main_call1_v2, val_main_call1_v0, val_main_cst_4]
    rfl
  rw [e, mask_at, ninf]
  exact sel_if _ _ _

theorem qr_case (Q : Fin 192 → EReal) (C S : Fin 32 → EReal) (d : Fin 192) :
    (if h_1 : d.val < 128 then Q d
    else
      if h_2 : d.val - 128 < 32 then
        Q ⟨128 + (d.val - 128), by omega⟩ * C ⟨d.val - 128, h_2⟩ - Q ⟨128 + (32 + (d.val - 128)), by omega⟩ * S ⟨d.val - 128, h_2⟩
      else Q ⟨128 + (d.val - 128 - 32), by omega⟩ * S ⟨d.val - 128 - 32, by omega⟩ + Q ⟨128 + (32 + (d.val - 128 - 32)), by omega⟩ * C ⟨d.val - 128 - 32, by omega⟩) =
    if h1 : d.val < 128 then Q d
    else if h2 : d.val < 160 then Q d * C ⟨d.val - 128, by omega⟩ - Q ⟨d.val + 32, by omega⟩ * S ⟨d.val - 128, by omega⟩
    else Q ⟨d.val - 32, by omega⟩ * S ⟨d.val - 160, by omega⟩ + Q d * C ⟨d.val - 160, by omega⟩ := by
  by_cases h1 : d.val < 128
  · rw [dif_pos h1, dif_pos h1]
  · rw [dif_neg h1, dif_neg h1]
    by_cases h2 : d.val < 160
    · rw [dif_pos h2, dif_pos (by omega)]
      rw [show (⟨128 + (d.val - 128), by omega⟩ : Fin 192) = d from Fin.ext (by simp only; omega),
        show (⟨128 + (32 + (d.val - 128)), by omega⟩ : Fin 192) = ⟨d.val + 32, by omega⟩ from Fin.ext (by simp only; omega)]
    · rw [dif_neg h2, dif_neg (by omega)]
      rw [show (⟨128 + (d.val - 128 - 32), by omega⟩ : Fin 192) = ⟨d.val - 32, by omega⟩ from Fin.ext (by simp only; omega),
        show (⟨128 + (32 + (d.val - 128 - 32)), by omega⟩ : Fin 192) = d from Fin.ext (by simp only; omega),
        show (⟨d.val - 128 - 32, by omega⟩ : Fin 32) = ⟨d.val - 160, by omega⟩ from Fin.ext (by simp only; omega)]

theorem qr_at (d : Fin 192) : val_main_v37 (F := Ideal) q p (ix3 R h d) =
    if h1 : d.val < 128 then q (ix3 R h d)
    else if h2 : d.val < 160 then
      q (ix3 R h d) * val_main_v18 (F := Ideal) p (ix2 R ⟨d.val - 128, by omega⟩) - q (ix3 R h ⟨d.val + 32, by omega⟩) * val_main_v19 (F := Ideal) p (ix2 R ⟨d.val - 128, by omega⟩)
    else q (ix3 R h ⟨d.val - 32, by omega⟩) * val_main_v19 (F := Ideal) p (ix2 R ⟨d.val - 160, by omega⟩) + q (ix3 R h d) * val_main_v18 (F := Ideal) p (ix2 R ⟨d.val - 160, by omega⟩) := by
  pointwise [val_main_v37, val_main_v36, val_main_v30, val_main_v35, val_main_v20, val_main_v27, val_main_v29, val_main_v32, val_main_v34,
    val_main_v24, val_main_v25, val_main_v26, val_main_v28, val_main_v31, val_main_v33, val_main_v21, val_main_v22, val_main_v23]
  exact qr_case (fun x => q (ix3 R h x)) (fun x => val_main_v18 (F := Ideal) p (ix2 R x)) (fun x => val_main_v19 (F := Ideal) p (ix2 R x)) d

theorem ang (d : Fin 32) : val_main_v17 (F := Ideal) p (ix2 R d) = (FloatOps.sitofp (F := Ideal) .f32 (p (ix1 R)) : EReal) *
     Ideal.pow (Ideal.ofBits .f32 0x461C4000#32) (Ideal.div (-(Ideal.ofBits .f32 0x00000000#32 + Ideal.ofBits .f32 0x40000000#32 * val_main_v2 (F := Ideal) (ix1 d))) (Ideal.ofBits .f32 0x42800000#32)) := by
  pointwise [val_main_v17, val_main_v15, val_main_v16, val_main_v13, val_main_v14, val_main_v12, val_main_v11, val_main_v10, val_main_v9, val_main_v8, val_main_v7, val_main_v6, val_main_v5, val_main_v4, val_main_v3, val_main_cst, val_main_cst_0, val_main_cst_1, val_main_cst_2]

theorem iota_at (d : Fin 32) : val_main_v2 (F := Ideal) (ix1 d) = (FloatOps.sitofp (F := Ideal) .f32 (BitVec.ofNat 32 d.val) : EReal) := rfl

theorem red_gen (L : FVec Ideal S6x8192x8192 .f32) (z : FVec Ideal S_ .f32) : (Host.reduce FloatOps.maximumf L z reducesTo_S6x8192x8192_S6x8192_d2 h_S_ : FVec Ideal S6x8192 .f32) (ix2 h R)
    = Finset.univ.fold max (z (Shape.Idx.first h_S_)) (fun x : Fin 8192 => L (ix3 h R x)) := by
  pointwise

theorem v49_at : val_main_v49 (F := Ideal) q k p (ix2 h R) = Finset.univ.fold max ⊥ (fun x : Fin 8192 => val_main_v48_0 (F := Ideal) q k p (ix3 h R x)) := by
  refine (red_gen h R (val_main_v48_0 (F := Ideal) q k p) (val_main_cst_5 (F := Ideal))).trans ?_
  have e : val_main_cst_5 (F := Ideal) (Shape.Idx.first h_S_) = ⊥ := ninf
  rw [e]

theorem cast_gen (X : FVec Ideal S6x8192 .f32) :
    (broadcastInDim S6x8192x8192 ![0, 1, 2] bcast_S6x8192x1_S6x8192x8192_0_1_2 (broadcastInDim S6x8192x1 ![0, 1] bcast_S6x8192_S6x8192x1_0_1 X) : FVec Ideal S6x8192x8192 .f32) (ix3 h R J) = X (ix2 h R) := by
  pointwise

theorem v55_at : val_main_v55 (F := Ideal) (ix2 h R) = ⊥ := by
  have e : val_main_v55 (F := Ideal) (ix2 h R) = val_main_cst_7 (F := Ideal) ix0 := by pointwise [val_main_v55]
  exact e.trans ninf

theorem v67_at : val_main_v67 (F := Ideal) q k p (ix3 h R J) = val_main_v49 (F := Ideal) q k p (ix2 h R) := by
  refine (cast_gen h R J (val_main_v56 (F := Ideal) q k p)).trans ?_
  rw [val_main_v56_apply, v55_at]
  exact max_eq_right bot_le

theorem e_at : val_main_v69 (F := Ideal) q k p (ix3 h R J) = Ideal.exp (val_main_v48_0 (F := Ideal) q k p (ix3 h R J) - val_main_v49 (F := Ideal) q k p (ix2 h R)) := by
  have e2 : val_main_v69 (F := Ideal) q k p (ix3 h R J) = Ideal.exp (val_main_v48_0 (F := Ideal) q k p (ix3 h R J) - val_main_v67 (F := Ideal) q k p (ix3 h R J)) := by
    pointwise [val_main_v69, val_main_v68]
  rw [e2, v67_at]

theorem s_at : val_main_v71 (F := Ideal) q k p (ix3 h R 0) = ∑ x : Fin 8192, val_main_v69 (F := Ideal) q k p (ix3 h R x) := by
  have e : val_main_v71 (F := Ideal) q k p (ix3 h R 0) = Ideal.ofBits .f32 0x00000000#32 + ∑ x : Fin 8192, val_main_v69 (F := Ideal) q k p (ix3 h R x) := by
    pointwise [val_main_v71, val_main_v70, val_main_cst_13]
  rw [e, zero32, zero_add]

theorem a_at : val_main_v80 (F := Ideal) v g (ix3 h R J) = ∑ x : Fin 128, g (ix2 R ⟨h.val * 128 + x.val, by omega⟩) * v (ix3 J h x) := by
  pointwise [val_main_v80, val_main_v79, val_main_v1, val_main_v0]

theorem b_at : val_main_v94 (F := Ideal) q k v p g (ix3 h R J) =
    (Ideal.div (val_main_v80 (F := Ideal) v g (ix3 h R J)) (val_main_v71 (F := Ideal) q k p (ix3 h R 0))
      + -∑ x : Fin 8192, val_main_v80 (F := Ideal) v g (ix3 h R x) * Ideal.div 1 (val_main_v71 (F := Ideal) q k p (ix3 h R 0) * val_main_v71 (F := Ideal) q k p (ix3 h R 0)) * val_main_v69 (F := Ideal) q k p (ix3 h R x))
      * val_main_v69 (F := Ideal) q k p (ix3 h R J) := by
  have e : val_main_v88 (F := Ideal) q k v p g (ix3 h R 0) = -(Ideal.ofBits .f32 0x00000000#32 + ∑ x : Fin 8192, val_main_v80 (F := Ideal) v g (ix3 h R x) * Ideal.div (Ideal.ofBits .f32 0x3F800000#32) (val_main_v71 (F := Ideal) q k p (ix3 h R 0) * val_main_v71 (F := Ideal) q k p (ix3 h R 0)) * val_main_v69 (F := Ideal) q k p (ix3 h R x)) := by
    pointwise [val_main_v88, val_main_v87, val_main_v86, val_main_v85, val_main_v84, val_main_v83, val_main_v76, val_main_v75, val_main_v74, val_main_cst_14, val_main_cst_15]
  have e2 : val_main_v94 (F := Ideal) q k v p g (ix3 h R J) =
      (Ideal.div (val_main_v80 (F := Ideal) v g (ix3 h R J)) (val_main_v71 (F := Ideal) q k p (ix3 h R 0))
      + val_main_v88 (F := Ideal) q k v p g (ix3 h R 0)) * val_main_v69 (F := Ideal) q k p (ix3 h R J) := by
    pointwise [val_main_v94, val_main_v93, val_main_v90, val_main_v91, val_main_v92, val_main_v89, val_main_cst_16]
    rw [Fin.sum_univ_one]
  rw [e2, e, zero32, one32, zero_add]

theorem c_at : val_main_v97 (F := Ideal) q k v p g (ix3 h R J) = (if J.val / 64 ≤ R.val / 64 then val_main_v94 (F := Ideal) q k v p g (ix3 h R J) else 0) * sc := by
  have e : val_main_v97 (F := Ideal) q k v p g (ix3 h R J) = Scalar.select (val_main_v48_1 (F := Ideal) (ix3 h R J)) (val_main_v94 (F := Ideal) q k v p g (ix3 h R J)) (Ideal.ofBits .f32 0x00000000#32) * sc := by
    pointwise [val_main_v97, val_main_v96, val_main_v95, val_main_cst_17, val_main_call2_v0, val_main_call2_cst]
  rw [e, mask_at, zero32]
  exact congrArg (· * sc) (sel_if _ _ _)

theorem dv_at (d : Fin 128) : val_main_v128 (F := Ideal) q k p g (ix3 h J d) =
    ∑ x : Fin 8192, g (ix2 x ⟨h.val * 128 + d.val, by omega⟩) * Ideal.div (val_main_v69 (F := Ideal) q k p (ix3 h x J)) (val_main_v71 (F := Ideal) q k p (ix3 h x 0)) := by
  pointwise [val_main_v128, val_main_v82, val_main_v81, val_main_v79, val_main_v1, val_main_v0, val_main_v73, val_main_v72]

theorem dk_at (d : Fin 256) : val_main_v127 (F := Ideal) q k v p g (ix3 h J d) =
    if hd : d.val < 192 then ∑ x : Fin 8192, val_main_v97 (F := Ideal) q k v p g (ix3 h x J) * val_main_v37 (F := Ideal) q p (ix3 x h ⟨d.val, hd⟩) else 0 := by
  rw [← zero_word]
  pointwise [val_main_v127, val_main_v126, val_main_v99, val_main_v98, val_main_call4_v0, val_main_c_23]

theorem dr_at (d : Fin 192) : val_main_v101 (F := Ideal) q k v p g (ix3 R h d) = ∑ x : Fin 8192, val_main_v97 (F := Ideal) q k v p g (ix3 h R x) * k (ix3 x h d) := by
  pointwise [val_main_v101, val_main_v100]

theorem lo_at (d : Fin 32) : val_main_v116 (F := Ideal) q k v p g (ix3 R h d) =
    val_main_v101 (F := Ideal) q k v p g (ix3 R h ⟨128 + (32 + d.val), by omega⟩) * val_main_v19 (F := Ideal) p (ix2 R d) +
      val_main_v101 (F := Ideal) q k v p g (ix3 R h ⟨128 + d.val, by omega⟩) * val_main_v18 (F := Ideal) p (ix2 R d) := by
  pointwise [val_main_v116, val_main_v115, val_main_v114, val_main_v109, val_main_v108, val_main_v105, val_main_v104, val_main_v103, val_main_v22, val_main_v23]

theorem hi_at (d : Fin 32) : val_main_v113 (F := Ideal) q k v p g (ix3 R h d) =
    val_main_v101 (F := Ideal) q k v p g (ix3 R h ⟨128 + (32 + d.val), by omega⟩) * val_main_v18 (F := Ideal) p (ix2 R d) +
      -val_main_v101 (F := Ideal) q k v p g (ix3 R h ⟨128 + d.val, by omega⟩) * val_main_v19 (F := Ideal) p (ix2 R d) := by
  pointwise [val_main_v113, val_main_v112, val_main_v111, val_main_v110, val_main_v109, val_main_v108, val_main_v107, val_main_v106, val_main_v105, val_main_v104, val_main_v103, val_main_v22, val_main_v23]

theorem pad125 (X : FVec Ideal S8192x6x192 .f32) (z : FVec Ideal S_ .f32) (hz : z (Shape.Idx.first h_S_) = 0) (d : Fin 256) (D : Fin 1536) (hD : D.val = 256 * h.val + d.val) :
    (truncf .bf16 (shapeCast S8192x1536 (pad S8192x6x256 ![0, 0, 0] ![0, 0, 64] ![0, 0, 0] X z pads_S8192x6x192_S8192x6x256_000_000_0640 h_S_) shapeCasts_S8192x6x256_S8192x1536) bitsLt_bf16_f32 : FVec Ideal S8192x1536 .bf16) (ix2 R D)
      = if hd : d.val < 192 then X (ix3 R h ⟨d.val, hd⟩) else 0 := by
  have e : ∀ a b, a = h.val → b = d.val → (if hh : a < 6 ∧ b < 192 then X (ix3 R ⟨a, hh.1⟩ ⟨b, hh.2⟩) else z (Shape.Idx.first h_S_))
      = if hd : d.val < 192 then X (ix3 R h ⟨d.val, hd⟩) else 0 := by
    intro a b ha hb
    subst ha; subst hb
    have h6 := h.isLt
    by_cases hd : d.val < 192
    · rw [dif_pos hd, dif_pos ⟨h6, hd⟩]
    · rw [dif_neg hd, dif_neg (by omega), hz]
  pointwise
  exact e (D.val / 256) (D.val % 256) (by omega) (by omega)

theorem pad119 (X Y : FVec Ideal S8192x6x32 .f32) (z w : FVec Ideal S_ .f32) (hz : z (Shape.Idx.first h_S_) = 0) (hw : w (Shape.Idx.first h_S_) = 0) (d : Fin 64) :
    (addf (pad S8192x6x64 ![0, 0, 32] ![0, 0, 0] ![0, 0, 0] X z pads_S8192x6x32_S8192x6x64_000_000_3200 h_S_)
      (pad S8192x6x64 ![0, 0, 0] ![0, 0, 32] ![0, 0, 0] Y w pads_S8192x6x32_S8192x6x64_000_000_0320 h_S_) : FVec Ideal S8192x6x64 .f32) (ix3 R h d)
      = if hd : d.val < 32 then Y (ix3 R h ⟨d.val, hd⟩) else X (ix3 R h ⟨d.val - 32, by omega⟩) := by
  pointwise
  by_cases hd : d.val < 32
  · rw [dif_pos hd, dif_neg (by omega), dif_pos hd, hz, zero_add]
  · rw [dif_neg hd, dif_pos (by omega), dif_neg hd, hw, add_zero]

theorem pad122 (X : FVec Ideal S8192x6x64 .f32) (Y : FVec Ideal S8192x6x128 .f32) (z w : FVec Ideal S_ .f32) (hz : z (Shape.Idx.first h_S_) = 0) (hw : w (Shape.Idx.first h_S_) = 0) (d : Fin 192) :
    (addf (pad S8192x6x192 ![0, 0, 128] ![0, 0, 0] ![0, 0, 0] X z pads_S8192x6x64_S8192x6x192_000_000_12800 h_S_)
      (pad S8192x6x192 ![0, 0, 0] ![0, 0, 64] ![0, 0, 0] Y w pads_S8192x6x128_S8192x6x192_000_000_0640 h_S_) : FVec Ideal S8192x6x192 .f32) (ix3 R h d)
      = if hd : d.val < 128 then Y (ix3 R h ⟨d.val, hd⟩) else X (ix3 R h ⟨d.val - 128, by omega⟩) := by
  pointwise
  by_cases hd : d.val < 128
  · rw [dif_pos hd, dif_neg (by omega), dif_pos hd, hz, zero_add]
  · rw [dif_neg hd, dif_pos (by omega), dif_neg hd, hw, add_zero]

theorem lo102 (d : Fin 128) : val_main_v102 (F := Ideal) q k v p g (ix3 R h d) = val_main_v101 (F := Ideal) q k v p g (ix3 R h ⟨d.val, by omega⟩) := by
  pointwise [val_main_v102]

theorem dq_at (d : Fin 256) (D : Fin 1536) (hD : D.val = 256 * h.val + d.val) : val_main_v125 (F := Ideal) q k v p g (ix2 R D) =
    if h3 : d.val < 192 then
      if h1 : d.val < 128 then val_main_v101 (F := Ideal) q k v p g (ix3 R h ⟨d.val, by omega⟩)
      else if h2 : d.val - 128 < 32 then val_main_v116 (F := Ideal) q k v p g (ix3 R h ⟨d.val - 128, h2⟩)
      else val_main_v113 (F := Ideal) q k v p g (ix3 R h ⟨d.val - 128 - 32, by omega⟩)
    else 0 := by
  refine (pad125 h R (val_main_v122 (F := Ideal) q k v p g) (val_main_call3_v0 (F := Ideal)) zero_word d D hD).trans ?_
  by_cases h3 : d.val < 192
  · rw [dif_pos h3, dif_pos h3]
    refine (pad122 h R (val_main_v119 (F := Ideal) q k v p g) (val_main_v102 (F := Ideal) q k v p g) (val_main_cst_20 (F := Ideal)) (val_main_cst_21 (F := Ideal)) zero32 zero32 ⟨d.val, h3⟩).trans ?_
    simp only
    by_cases h1 : d.val < 128
    · rw [dif_pos h1, dif_pos h1, lo102]
    · rw [dif_neg h1, dif_neg h1]
      exact pad119 h R (val_main_v113 (F := Ideal) q k v p g) (val_main_v116 (F := Ideal) q k v p g) (val_main_cst_18 (F := Ideal)) (val_main_cst_19 (F := Ideal)) zero32 zero32 ⟨d.val - 128, by omega⟩
  · rw [dif_neg h3, dif_neg h3]

end Cert.ReferenceIdeal.Val
-- ==== Proof.RMath.lean ====
module

public import proofs.«01_k».proof.Proof.Out

@[expose] public section

noncomputable section

namespace Cert.KernelIdeal.Val

open Idealize.ShloMosaic
open scoped BigOperators

/-! ## One head of the attention over the reals -/

theorem csum {ι : Type} (s : Finset ι) (f : ι → ℝ) : ∑ x ∈ s, ((f x : ℝ) : EReal) = ((∑ x ∈ s, f x : ℝ) : EReal) := by
  classical
  induction s using Finset.induction_on with
  | empty => simp
  | insert a s h ih => rw [Finset.sum_insert h, Finset.sum_insert h, ih, EReal.coe_add]

/-- A sum over an initial segment of extended reals that are real. -/
theorem rsum {n : ℕ} (F : Fin n → EReal) (f : ℕ → ℝ) (h : ∀ x : Fin n, F x = ((f x.val : ℝ) : EReal)) :
    ∑ x : Fin n, F x = ((∑ x ∈ Finset.range n, f x : ℝ) : EReal) := by
  rw [Finset.sum_congr rfl (fun x _ => h x), csum, Fin.sum_univ_eq_sum_range]

/-- One head's rows: the rotated queries, the keys, the values, the gradient of the result, the scale, and a number taken off each row's logits. -/
structure Hd where
  q : ℕ → ℕ → ℝ
  k : ℕ → ℕ → ℝ
  v : ℕ → ℕ → ℝ
  g : ℕ → ℕ → ℝ
  sc : ℝ
  M : ℕ → ℝ

namespace Hd

variable (H : Hd)

/-- A logit. -/
def s (R J : ℕ) : ℝ := (∑ x ∈ Finset.range 192, H.q R x * H.k J x) * H.sc

/-- A masked exponential. -/
def e (R J : ℕ) : ℝ := if J / 64 ≤ R / 64 then Real.exp (H.s R J - H.M R) else 0

/-- A row's sum of exponentials. -/
def S (R : ℕ) : ℝ := ∑ J ∈ Finset.range 8192, H.e R J

/-- A probability's gradient. -/
def a (R J : ℕ) : ℝ := ∑ x ∈ Finset.range 128, H.g R x * H.v J x

/-- The attention's result. -/
def o (R d : ℕ) : ℝ := ∑ J ∈ Finset.range 8192, H.v J d * (H.e R J / H.S R)

/-- A row's product of the result and its gradient. -/
def D (R : ℕ) : ℝ := ∑ d ∈ Finset.range 128, H.g R d * H.o R d

/-- A logit's gradient, before the scale. -/
def l (R J : ℕ) : ℝ := H.e R J / H.S R * (H.a R J - H.D R)

/-- A query's gradient, before the scale and before the rotation is undone. -/
def dr (R d : ℕ) : ℝ := ∑ J ∈ Finset.range 8192, H.l R J * H.k J d

theorem e_nonneg (R J : ℕ) : 0 ≤ H.e R J := by
  unfold e; split
  · exact (Real.exp_pos _).le
  · exact le_refl _

theorem S_pos {R : ℕ} (hR : R < 8192) : 0 < H.S R := by
  refine Finset.sum_pos' (fun J _ => H.e_nonneg R J) ⟨R, Finset.mem_range.mpr hR, ?_⟩
  unfold e; rw [if_pos (le_refl _)]; exact Real.exp_pos _

theorem D_eq (R : ℕ) : H.D R = (∑ J ∈ Finset.range 8192, H.a R J * H.e R J) / H.S R := by
  unfold D o a
  simp only [Finset.mul_sum, Finset.sum_mul, Finset.sum_div]
  rw [Finset.sum_comm]
  refine Finset.sum_congr rfl fun J _ => Finset.sum_congr rfl fun d _ => ?_
  ring

/-- The gradient of a logit, as a plain derivative of the quotient gives it. -/
theorem ref_l {R : ℕ} (hR : R < 8192) (J : ℕ) :
    (H.a R J / H.S R + -∑ x ∈ Finset.range 8192, H.a R x * (1 / (H.S R * H.S R)) * H.e R x) * H.e R J = H.l R J := by
  have hS := (H.S_pos hR).ne'
  have e : ∑ x ∈ Finset.range 8192, H.a R x * (1 / (H.S R * H.S R)) * H.e R x = H.D R / H.S R := by
    rw [D_eq, Finset.sum_div, Finset.sum_div]
    refine Finset.sum_congr rfl fun x _ => ?_
    field_simp
  rw [e, l]
  field_simp
  ring

theorem l_masked (R J : ℕ) (h : ¬ J / 64 ≤ R / 64) : H.l R J = 0 := by
  unfold l e; rw [if_neg h, zero_div, zero_mul]

/-- A probability from the row's logarithm of its sum. -/
theorem prob {R J : ℕ} (hR : R < 8192) (h : J / 64 ≤ R / 64) :
    Real.exp (H.s R J - (H.M R + Real.log (H.S R))) = H.e R J / H.S R := by
  unfold e; rw [if_pos h, ← sub_sub, Real.exp_sub _ (Real.log _), Real.exp_log (H.S_pos hR)]

end Hd

/-- The 8192 rows, block by block. -/
theorem sum_blocks (f : ℕ → ℝ) : ∑ i ∈ Finset.range 4, ∑ r ∈ Finset.range 2048, f (2048 * i + r) = ∑ x ∈ Finset.range 8192, f x := by
  rw [show 8192 = 2048 + 2048 + 2048 + 2048 from rfl]
  simp only [Finset.sum_range_succ _ 3, Finset.sum_range_succ _ 2, Finset.sum_range_succ _ 1, Finset.sum_range_succ _ 0, Finset.sum_range_zero]
  rw [Finset.sum_range_add, Finset.sum_range_add, Finset.sum_range_add]
  simp

/-! ## A grid point whose blocks are a head's rows -/

structure Rep (D : Pt) (H : Hd) : Prop where
  B : D.B + 2048 ≤ 8192
  q : ∀ r < 2048, ∀ d < 256, D.q r d = ((H.q (D.B + r) d * H.sc : ℝ) : EReal)
  k : ∀ J < 8192, ∀ d < 256, D.k J d = ((H.k J d : ℝ) : EReal)
  v : ∀ J < 8192, ∀ d < 128, D.v J d = ((H.v J d : ℝ) : EReal)
  g : ∀ r < 2048, ∀ d < 128, D.g r d = ((H.g (D.B + r) d : ℝ) : EReal)
  lse : ∀ r < 2048, D.lse r = ((H.M (D.B + r) + Real.log (H.S (D.B + r)) : ℝ) : EReal)
  dlt : ∀ r < 2048, D.dlt r = ((H.D (D.B + r) : ℝ) : EReal)
  q0 : ∀ R d, 192 ≤ d → H.q R d = 0

namespace Rep

variable {D : Pt} {H : Hd} (C : Rep D H)
include C

theorem w {r J : ℕ} (hr : r < 2048) (hJ : J < 8192) : D.w r J = ((H.e (D.B + r) J / H.S (D.B + r) : ℝ) : EReal) := by
  have hB := C.B
  by_cases h : J / 64 ≤ (D.B + r) / 64
  · have e : ∑ d : Fin 256, D.q r d * D.k J d = ((H.s (D.B + r) J : ℝ) : EReal) := by
      rw [rsum _ (fun d => H.q (D.B + r) d * H.sc * H.k J d) (fun d => by rw [C.q r hr _ d.isLt, C.k J hJ _ d.isLt, ← EReal.coe_mul])]
      congr 1
      rw [Hd.s, Finset.sum_mul, show 256 = 192 + 64 from rfl, Finset.sum_range_add]
      have z : ∑ x ∈ Finset.range 64, H.q (D.B + r) (192 + x) * H.sc * H.k J (192 + x) = 0 :=
        Finset.sum_eq_zero fun x _ => by rw [C.q0 _ _ (by omega)]; ring
      rw [z, add_zero]
      exact Finset.sum_congr rfl fun x _ => by ring
    rw [Pt.w, if_pos h, e, C.lse r hr, ← EReal.coe_sub, Ideal.exp_coe, H.prob (by omega) h]
  · rw [Pt.w, if_neg h, Hd.e, if_neg h, zero_div, EReal.coe_zero]

theorem l {r J : ℕ} (hr : r < 2048) (hJ : J < 8192) : D.l r J = ((H.l (D.B + r) J : ℝ) : EReal) := by
  rw [Pt.l, C.w hr hJ, C.dlt r hr, rsum _ (fun d => H.g (D.B + r) d * H.v J d) (fun d => by rw [C.g r hr _ d.isLt, C.v J hJ _ d.isLt, ← EReal.coe_mul]),
    ← EReal.coe_sub, ← EReal.coe_mul]
  rfl

theorem ck {J d : ℕ} (hJ : J < 8192) (hd : d < 256) : D.ck J d = ((∑ r ∈ Finset.range 2048, H.l (D.B + r) J * (H.q (D.B + r) d * H.sc) : ℝ) : EReal) :=
  rsum _ (fun r => H.l (D.B + r) J * (H.q (D.B + r) d * H.sc)) (fun r => by rw [C.l r.isLt hJ, C.q _ r.isLt d hd, ← EReal.coe_mul])

theorem cv {J d : ℕ} (hJ : J < 8192) (hd : d < 128) : D.cv J d = ((∑ r ∈ Finset.range 2048, H.e (D.B + r) J / H.S (D.B + r) * H.g (D.B + r) d : ℝ) : EReal) :=
  rsum _ (fun r => H.e (D.B + r) J / H.S (D.B + r) * H.g (D.B + r) d) (fun r => by rw [C.w r.isLt hJ, C.g _ r.isLt d hd, ← EReal.coe_mul])

theorem cq {M r d : ℕ} (hM : D.B = 64 * M) (hr : r < 2048) (hd : d < 256) : D.cq (D.B + 2048) r d = ((H.dr (D.B + r) d : ℝ) : EReal) := by
  rw [D.cq_stop hM hr C.B, Pt.cq, Hd.dr, ← csum]
  exact Finset.sum_congr rfl fun J hJ => by
    rw [C.l hr (Finset.mem_range.mp hJ), C.k J (Finset.mem_range.mp hJ) d hd, ← EReal.coe_mul]

end Rep

/-- The gradient of the keys, block by block. -/
theorem dk_sum (P : ℕ → Pt) (H : Hd) (hP : ∀ i < 4, Rep (P i) H ∧ (P i).B = 2048 * i) {J d : ℕ} (hJ : J < 8192) (hd : d < 256) :
    ∑ i ∈ Finset.range 4, (P i).ck J d = ((∑ x ∈ Finset.range 8192, H.l x J * (H.q x d * H.sc) : ℝ) : EReal) := by
  rw [← sum_blocks (fun x => H.l x J * (H.q x d * H.sc)), ← csum]
  exact Finset.sum_congr rfl fun i hi => by
    obtain ⟨C, hB⟩ := hP i (Finset.mem_range.mp hi)
    rw [C.ck hJ hd, hB]

/-- The gradient of the values, block by block. -/
theorem dv_sum (P : ℕ → Pt) (H : Hd) (hP : ∀ i < 4, Rep (P i) H ∧ (P i).B = 2048 * i) {J d : ℕ} (hJ : J < 8192) (hd : d < 128) :
    ∑ i ∈ Finset.range 4, (P i).cv J d = ((∑ x ∈ Finset.range 8192, H.e x J / H.S x * H.g x d : ℝ) : EReal) := by
  rw [← sum_blocks (fun x => H.e x J / H.S x * H.g x d), ← csum]
  exact Finset.sum_congr rfl fun i hi => by
    obtain ⟨C, hB⟩ := hP i (Finset.mem_range.mp hi)
    rw [C.cv hJ hd, hB]

end Cert.KernelIdeal.Val
-- ==== Proof.RLift.lean ====
module

public import proofs.«01_k».proof.Proof.RRead
public import proofs.«01_k».proof.Proof.RMath

@[expose] public section

set_option maxRecDepth 16384

noncomputable section

namespace Cert.ReferenceIdeal.Val

open Cert.ReferenceIdeal Cert.ReferenceIdeal.Gen Cert.ReferenceIdeal.Read Idealize.ShloMosaic Idealize.ShloMosaic.TcCoe Idealize.ShloMosaic.Tactic
open Cert.KernelIdeal.Val (Hd csum rsum)
open scoped BigOperators

/-! ## Extended reals that are real -/

/-- An extended real that is a real number. -/
def IsR (x : EReal) : Prop := ∃ r : ℝ, x = (r : EReal)

theorem IsR.eq {x : EReal} (h : IsR x) : x = ((x.toReal : ℝ) : EReal) := by
  obtain ⟨r, rfl⟩ := h; rw [EReal.toReal_coe]

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.neg {x : EReal} (hx : IsR x) : IsR (-x) := by
  obtain ⟨a, rfl⟩ := hx; exact ⟨-a, (EReal.coe_neg a).symm⟩

theorem div_real (a b : ℝ) (hb : b ≠ 0) : Ideal.div (a : EReal) (b : EReal) = ((a / b : ℝ) : EReal) := by
  have h : (b : EReal) ≠ 0 := by exact_mod_cast hb
  rw [Ideal.div, if_neg h, div_eq_mul_inv, EReal.coe_mul, EReal.coe_inv]

theorem IsR.cos {x : EReal} (hx : IsR x) : IsR (Ideal.cos x) := by
  obtain ⟨a, rfl⟩ := hx; exact ⟨Real.cos a, rfl⟩

theorem IsR.sin {x : EReal} (hx : IsR x) : IsR (Ideal.sin x) := by
  obtain ⟨a, rfl⟩ := hx; exact ⟨Real.sin a, rfl⟩

theorem IsR.pow {x y : EReal} (hx : IsR x) (hy : IsR y) : IsR (Ideal.pow x y) := by
  obtain ⟨a, rfl⟩ := hx; obtain ⟨b, rfl⟩ := hy; exact ⟨_, rfl⟩

theorem sc_real : IsR sc := ⟨(9686330 : ℝ) * (2 ^ 27)⁻¹, by simp [Ideal.ofBits, Ideal.ieee, -EReal.coe_mul]⟩

theorem two_real : IsR (Ideal.ofBits .f32 0x40000000#32) := ⟨(2 : ℝ), by simp [Ideal.ofBits, Ideal.ieee, -EReal.coe_mul]; norm_num⟩

theorem base_real : IsR (Ideal.ofBits .f32 0x461C4000#32) := ⟨(10000 : ℝ), by simp [Ideal.ofBits, Ideal.ieee, -EReal.coe_mul]; norm_num⟩

theorem lanes_real : Ideal.ofBits .f32 0x42800000#32 = ((64 : ℝ) : EReal) := by simp [Ideal.ofBits, Ideal.ieee, -EReal.coe_mul]; norm_num

theorem word_real (x : BitVec 32) : IsR (FloatOps.sitofp (F := Ideal) .f32 x : EReal) := ⟨_, rfl⟩

/-- A maximum over real numbers and −∞ that is not −∞ is a real number. -/
theorem fold_real {ι : Type} (s : Finset ι) (f : ι → EReal) (hf : ∀ x, f x = ⊥ ∨ IsR (f x)) : s.fold max ⊥ f = ⊥ ∨ IsR (s.fold max ⊥ f) := by
  classical
  induction s using Finset.induction_on with
  | empty => exact Or.inl rfl
  | insert a s h ih =>
    rw [Finset.fold_insert h]
    rcases max_choice (f a) (s.fold max ⊥ f) with e | e <;> rw [e]
    · exact hf a
    · exact ih

/-! ## The reference's values as real numbers -/

variable (q k : FVec Ideal S8192x6x192 .f32) (v : FVec Ideal S8192x6x128 .f32) (p : IVec S8192 32) (g : FVec Ideal S8192x2048 .f32)

theorem ang_real (R : Fin 8192) (d : Fin 32) : IsR (val_main_v17 (F := Ideal) p (ix2 R d)) := by
  rw [ang, iota_at, lanes_real, zero32]
  refine (word_real _).mul (base_real.pow ?_)
  obtain ⟨a, ha⟩ := ((show IsR 0 from ⟨0, rfl⟩).add (two_real.mul (word_real (BitVec.ofNat 32 d.val)))).neg
  rw [ha, div_real _ _ (by norm_num)]
  exact ⟨_, rfl⟩

theorem cos_real (R : Fin 8192) (d : Fin 32) : IsR (val_main_v18 (F := Ideal) p (ix2 R d)) := by
  rw [val_main_v18_apply]; exact (ang_real p R d).cos

theorem sin_real (R : Fin 8192) (d : Fin 32) : IsR (val_main_v19 (F := Ideal) p (ix2 R d)) := by
  rw [val_main_v19_apply]; exact (ang_real p R d).sin

/-- One head's rows. -/
def hd (h : Fin 6) : Hd where
  q R d := if hh : R < 8192 ∧ d < 192 then (val_main_v37 (F := Ideal) q p (ix3 ⟨R, hh.1⟩ h ⟨d, hh.2⟩) : EReal).toReal else 0
  k R d := if hh : R < 8192 ∧ d < 192 then (k (ix3 ⟨R, hh.1⟩ h ⟨d, hh.2⟩) : EReal).toReal else 0
  v R d := if hh : R < 8192 ∧ d < 128 then (v (ix3 ⟨R, hh.1⟩ h ⟨d, hh.2⟩) : EReal).toReal else 0
  g R d := if hh : R < 8192 ∧ d < 128 then (g (ix2 ⟨R, hh.1⟩ ⟨h.val * 128 + d, by omega⟩) : EReal).toReal else 0
  sc := sc.toReal
  M R := if hh : R < 8192 then (val_main_v49 (F := Ideal) q k p (ix2 h ⟨R, hh⟩) : EReal).toReal else 0

/-- The arguments' entries that matter are real numbers. -/
structure Fin4 : Prop where
  q : ∀ R h d, IsR (q (ix3 R h d))
  k : ∀ R h d, IsR (k (ix3 R h d))
  v : ∀ R h d, IsR (v (ix3 R h d))
  g : ∀ R (D : Fin 2048), D.val < 768 → IsR (g (ix2 R D))

variable {q k v g} (A : Fin4 q k v g) (h : Fin 6) (R J : Fin 8192)
include A

theorem q_real (d : Fin 192) : val_main_v37 (F := Ideal) q p (ix3 R h d) = (((hd q k v p g h).q R.val d.val : ℝ) : EReal) := by
  have e : (hd q k v p g h).q R.val d.val = (val_main_v37 (F := Ideal) q p (ix3 R h d) : EReal).toReal := dif_pos ⟨R.isLt, d.isLt⟩
  rw [e]
  refine IsR.eq ?_
  rw [qr_at]
  split
  · exact A.q _ _ _
  · split
    · exact ((A.q _ _ _).mul (cos_real p _ _)).sub ((A.q _ _ _).mul (sin_real p _ _))
    · exact ((A.q _ _ _).mul (sin_real p _ _)).add ((A.q _ _ _).mul (cos_real p _ _))

theorem k_real (d : Fin 192) : k (ix3 R h d) = (((hd q k v p g h).k R.val d.val : ℝ) : EReal) := by
  have e : (hd q k v p g h).k R.val d.val = (k (ix3 R h d) : EReal).toReal := dif_pos ⟨R.isLt, d.isLt⟩
  rw [e]; exact (A.k _ _ _).eq

theorem v_real (d : Fin 128) : v (ix3 R h d) = (((hd q k v p g h).v R.val d.val : ℝ) : EReal) := by
  have e : (hd q k v p g h).v R.val d.val = (v (ix3 R h d) : EReal).toReal := dif_pos ⟨R.isLt, d.isLt⟩
  rw [e]; exact (A.v _ _ _).eq

theorem g_real (d : Fin 128) : g (ix2 R ⟨h.val * 128 + d.val, by omega⟩) = (((hd q k v p g h).g R.val d.val : ℝ) : EReal) := by
  have e : (hd q k v p g h).g R.val d.val = (g (ix2 R ⟨h.val * 128 + d.val, by omega⟩) : EReal).toReal := dif_pos ⟨R.isLt, d.isLt⟩
  rw [e]; exact (A.g _ _ (by simp only; omega)).eq

omit A in
theorem sc_eq : sc = (((hd q k v p g h).sc : ℝ) : EReal) := sc_real.eq

theorem lg_real : val_main_v48_0 (F := Ideal) q k p (ix3 h R J) = if J.val / 64 ≤ R.val / 64 then (((hd q k v p g h).s R.val J.val : ℝ) : EReal) else ⊥ := by
  rw [lg_at]
  by_cases hc : J.val / 64 ≤ R.val / 64
  · rw [if_pos hc, if_pos hc, rsum _ (fun x => (hd q k v p g h).q R.val x * (hd q k v p g h).k J.val x)
      (fun x => by rw [q_real p A, k_real p A, ← EReal.coe_mul]), sc_eq (k := k) (v := v) (g := g) p h, ← EReal.coe_mul]
    rfl
  · rw [if_neg hc, if_neg hc]

theorem M_real : val_main_v49 (F := Ideal) q k p (ix2 h R) = (((hd q k v p g h).M R.val : ℝ) : EReal) := by
  have e : (hd q k v p g h).M R.val = (val_main_v49 (F := Ideal) q k p (ix2 h R) : EReal).toReal := dif_pos R.isLt
  rw [e]
  refine IsR.eq ?_
  rw [v49_at]
  have hf : ∀ x : Fin 8192, val_main_v48_0 (F := Ideal) q k p (ix3 h R x) = ⊥ ∨ IsR (val_main_v48_0 (F := Ideal) q k p (ix3 h R x)) := fun x => by
    rw [lg_real p A]; split
    · exact Or.inr ⟨_, rfl⟩
    · exact Or.inl rfl
  rcases fold_real Finset.univ _ hf with hb | hr
  · exfalso
    have h1 : val_main_v48_0 (F := Ideal) q k p (ix3 h R R) ≤ Finset.univ.fold max ⊥ (fun x : Fin 8192 => val_main_v48_0 (F := Ideal) q k p (ix3 h R x)) :=
      (Finset.le_fold_max _).mpr (Or.inr ⟨R, Finset.mem_univ R, le_refl _⟩)
    rw [hb, lg_real p A, if_pos (le_refl _)] at h1
    exact EReal.coe_ne_bot _ (le_bot_iff.mp h1)
  · exact hr

theorem e_real : val_main_v69 (F := Ideal) q k p (ix3 h R J) = (((hd q k v p g h).e R.val J.val : ℝ) : EReal) := by
  rw [e_at, lg_real p A, M_real p A, Hd.e]
  split
  · rw [← EReal.coe_sub, Ideal.exp_coe]
  · rw [EReal.bot_sub, Ideal.exp_bot, EReal.coe_zero]

theorem S_real : val_main_v71 (F := Ideal) q k p (ix3 h R 0) = (((hd q k v p g h).S R.val : ℝ) : EReal) := by
  rw [s_at, rsum _ (fun x => (hd q k v p g h).e R.val x) (fun x => e_real p A h R x)]
  rfl

theorem a_real : val_main_v80 (F := Ideal) v g (ix3 h R J) = (((hd q k v p g h).a R.val J.val : ℝ) : EReal) := by
  rw [a_at, rsum _ (fun x => (hd q k v p g h).g R.val x * (hd q k v p g h).v J.val x) (fun x => by rw [g_real p A, v_real p A, ← EReal.coe_mul])]
  rfl

theorem l_real : val_main_v97 (F := Ideal) q k v p g (ix3 h R J) = (((hd q k v p g h).l R.val J.val * (hd q k v p g h).sc : ℝ) : EReal) := by
  have hS := ((hd q k v p g h).S_pos R.isLt).ne'
  rw [c_at, sc_eq (k := k) (v := v) (g := g) p h]
  by_cases hc : J.val / 64 ≤ R.val / 64
  · rw [if_pos hc, b_at, S_real p A, e_real p A, a_real p A, div_real _ _ hS, ← EReal.coe_mul,
      show (1 : EReal) = ((1 : ℝ) : EReal) from rfl, div_real _ _ (mul_ne_zero hS hS),
      rsum _ (fun x => (hd q k v p g h).a R.val x * (1 / ((hd q k v p g h).S R.val * (hd q k v p g h).S R.val)) * (hd q k v p g h).e R.val x)
        (fun x => by rw [a_real p A, e_real p A, ← EReal.coe_mul, ← EReal.coe_mul]),
      ← EReal.coe_neg, ← EReal.coe_add, ← EReal.coe_mul, ← EReal.coe_mul, Hd.ref_l _ R.isLt]
  · rw [if_neg hc, Hd.l_masked _ _ _ hc, zero_mul, zero_mul, EReal.coe_zero]

theorem dr_real (d : Fin 192) : val_main_v101 (F := Ideal) q k v p g (ix3 R h d) = (((hd q k v p g h).dr R.val d.val * (hd q k v p g h).sc : ℝ) : EReal) := by
  rw [dr_at, rsum _ (fun x => (hd q k v p g h).l R.val x * (hd q k v p g h).sc * (hd q k v p g h).k x d.val)
    (fun x => by rw [l_real p A, k_real p A, ← EReal.coe_mul]), Hd.dr, Finset.sum_mul]
  congr 1
  exact Finset.sum_congr rfl fun x _ => by ring

theorem dv_real (d : Fin 128) : val_main_v128 (F := Ideal) q k p g (ix3 h J d) =
    ((∑ x ∈ Finset.range 8192, (hd q k v p g h).e x J.val / (hd q k v p g h).S x * (hd q k v p g h).g x d.val : ℝ) : EReal) := by
  rw [dv_at, rsum _ (fun x => (hd q k v p g h).e x J.val / (hd q k v p g h).S x * (hd q k v p g h).g x d.val)]
  intro x
  rw [e_real p A, S_real p A, div_real _ _ ((hd q k v p g h).S_pos x.isLt).ne', g_real p A, ← EReal.coe_mul, mul_comm]

omit A in
theorem q_zero (R d : ℕ) (hd' : 192 ≤ d) : (hd q k v p g h).q R d = 0 := dif_neg (by omega)

theorem dk_real (d : Fin 256) : val_main_v127 (F := Ideal) q k v p g (ix3 h J d) =
    ((∑ x ∈ Finset.range 8192, (hd q k v p g h).l x J.val * ((hd q k v p g h).q x d.val * (hd q k v p g h).sc) : ℝ) : EReal) := by
  rw [dk_at]
  by_cases hd' : d.val < 192
  · rw [dif_pos hd', rsum _ (fun x => (hd q k v p g h).l x J.val * ((hd q k v p g h).q x d.val * (hd q k v p g h).sc))]
    intro x
    rw [l_real p A, q_real p A, ← EReal.coe_mul]
    congr 1; ring
  · rw [dif_neg hd', Finset.sum_eq_zero, EReal.coe_zero]
    intro x _
    rw [q_zero p h _ _ (by omega)]; ring

end Cert.ReferenceIdeal.Val
-- ==== Proof.KLift.lean ====
module

public import proofs.«01_k».proof.Proof.KRead
public import proofs.«01_k».proof.Proof.RLift

@[expose] public section

set_option maxRecDepth 16384

noncomputable section

namespace Cert.KernelIdeal.Val

open Cert.KernelIdeal Cert.KernelIdeal.Gen Idealize.ShloMosaic Idealize.ShloMosaic.TcCoe Idealize.ShloMosaic.Tactic
open Cert.ReferenceIdeal.Val (Fin4 IsR hd)
open scoped BigOperators

/-! ## The prepared arrays as real numbers -/

section Arrays

variable {q k : FVec Ideal S8192x6x192 .f32} {v : FVec Ideal S8192x6x128 .f32} (p : IVec S8192 32) {g : FVec Ideal S8192x2048 .f32}
  (A : Fin4 q k v g) (h : Fin 6) (R J : Fin 8192)

/-- The masked logits. -/
abbrev lgs (q k : FVec Ideal S8192x6x192 .f32) (p : IVec S8192 32) : FVec Ideal S6x8192x8192 .f32 := Cert.ReferenceIdeal.Read.val_main_v48_0 (F := Ideal) q k p

include A

theorem hM_real : hM (lgs q k p) (ix3 h R 0) = (((hd q k v p g h).M R.val : ℝ) : EReal) := by
  rw [hM_at, Cert.ReferenceIdeal.Val.ninf, ← Cert.ReferenceIdeal.Val.v49_at]
  exact Cert.ReferenceIdeal.Val.M_real p A h R

theorem hE_real : hE (lgs q k p) (ix3 h R J) = (((hd q k v p g h).e R.val J.val : ℝ) : EReal) := by
  rw [hE_at, hM_real p A, show lgs q k p (ix3 h R J) = _ from Cert.ReferenceIdeal.Val.lg_real p A h R J, Hd.e]
  split
  · rw [← EReal.coe_sub, Ideal.exp_coe]
  · rw [EReal.bot_sub, Ideal.exp_bot, EReal.coe_zero]

theorem hS_real : hS (lgs q k p) (ix3 h R 0) = (((hd q k v p g h).S R.val : ℝ) : EReal) := by
  rw [hS_at, rsum _ (fun x => (hd q k v p g h).e R.val x) (fun x => hE_real p A h R x)]
  rfl

theorem hO_real (d : Fin 128) (D : Fin 768) (hD : D.val = 128 * h.val + d.val) : hO v (lgs q k p) (ix2 R D) = (((hd q k v p g h).o R.val d.val : ℝ) : EReal) := by
  rw [hO_at _ _ h R d D hD, rsum _ (fun x => (hd q k v p g h).v x d.val * ((hd q k v p g h).e R.val x / (hd q k v p g h).S R.val))]
  · rfl
  · intro x
    rw [hE_real p A, hS_real p A, Cert.ReferenceIdeal.Val.div_real _ _ ((hd q k v p g h).S_pos R.isLt).ne', Cert.ReferenceIdeal.Val.v_real p A, ← EReal.coe_mul]

theorem hL_real (d : Fin 128) (D : Fin 768) (hD : D.val = 128 * h.val + d.val) :
    hL (lgs q k p) (ix2 R D) = (((hd q k v p g h).M R.val + Real.log ((hd q k v p g h).S R.val) : ℝ) : EReal) := by
  have hS := (hd q k v p g h).S_pos R.isLt
  have e : Ideal.log (((hd q k v p g h).S R.val : ℝ) : EReal) = ((Real.log ((hd q k v p g h).S R.val) : ℝ) : EReal) := by
    show (if (hd q k v p g h).S R.val ≤ 0 then (⊥ : EReal) else _) = _
    rw [if_neg (not_le.mpr hS)]
  rw [hL_at _ h R d D hD, hM_real p A, hS_real p A, e, ← EReal.coe_add]

theorem hQ_real (d : Fin 256) (D : Fin 1536) (hD : D.val = 256 * h.val + d.val) :
    hQ (Cert.ReferenceIdeal.Read.val_main_v37 (F := Ideal) q p) (ix2 R D) = (((hd q k v p g h).q R.val d.val * (hd q k v p g h).sc : ℝ) : EReal) := by
  rw [hQ_at _ h R d D hD]
  by_cases hd' : d.val < 192
  · rw [dif_pos hd', Cert.ReferenceIdeal.Val.q_real p A, EReal.coe_mul]
    exact congrArg (_ * ·) (Cert.ReferenceIdeal.Val.sc_eq p h)
  · rw [dif_neg hd', Cert.ReferenceIdeal.Val.q_zero p h _ _ (by omega), zero_mul, zero_mul, EReal.coe_zero]

theorem hK_real (d : Fin 256) (D : Fin 1536) (hD : D.val = 256 * h.val + d.val) :
    hK k (ix2 R D) = (((hd q k v p g h).k R.val d.val : ℝ) : EReal) := by
  rw [hK_at _ h R d D hD]
  by_cases hd' : d.val < 192
  · rw [dif_pos hd']; exact Cert.ReferenceIdeal.Val.k_real p A h R ⟨d.val, hd'⟩
  · rw [dif_neg hd', show (hd q k v p g h).k R.val d.val = 0 from dif_neg (by omega), EReal.coe_zero]

theorem hV_real (d : Fin 128) (D : Fin 768) (hD : D.val = 128 * h.val + d.val) :
    hV v (ix2 R D) = (((hd q k v p g h).v R.val d.val : ℝ) : EReal) := by
  rw [hV_at _ h R d D hD]; exact Cert.ReferenceIdeal.Val.v_real p A h R d

end Arrays

/-! ## A grid point's blocks are a head's rows -/

variable (m : (ℓ : Loc nD τ sig) → Buf (Elt Ideal) ℓ) (c : Dev nD) (A : Fin4 (qA m c) (kA m c) (vA m c) (gA m c))

/-- A head of the arguments. -/
abbrev hdm (h : Fin 6) : Hd := hd (qA m c) (kA m c) (vA m c) (pA m c) (gA m c) h

theorem P_B (n : ℕ) (hn : n < 24) : (P m c (tt n)).B = 2048 * (n % 4) := by
  show 2048 * (grid0.coords (tt n) 1).val = _
  rw [row_eq, tt_lt n hn]

include A

theorem rep (h : Fin 6) (i : ℕ) (hi : i < 4) : Rep (P m c (tt (4 * h.val + i))) (hdm m c h) := by
  have h6 := h.isLt
  have ht : (tt (4 * h.val + i)).val = 4 * h.val + i := tt_lt _ (by omega)
  have hB : (P m c (tt (4 * h.val + i))).B = 2048 * i := by rw [P_B m c _ (by omega)]; omega
  have hq : (tt (4 * h.val + i)).val / 4 = h.val := by omega
  have hr4 : (tt (4 * h.val + i)).val % 4 = i := by omega
  constructor
  · rw [hB]; omega
  · intro r hr d hd'
    rw [hB]
    refine (blk0 m c _ ⟨r, hr⟩ ⟨d, hd'⟩ ⟨2048 * i + r, by omega⟩ ⟨256 * h.val + d, by omega⟩ (by rw [hr4]) (by rw [hq])).trans ?_
    rw [V_q]
    exact hQ_real (pA m c) A h ⟨2048 * i + r, by omega⟩ ⟨d, hd'⟩ _ rfl
  · intro J hJ d hd'
    refine (blk1 m c _ ⟨J, hJ⟩ ⟨d, hd'⟩ ⟨256 * h.val + d, by omega⟩ (by rw [hq])).trans ?_
    rw [V_k]
    exact hK_real (pA m c) A h ⟨J, hJ⟩ ⟨d, hd'⟩ _ rfl
  · intro J hJ d hd'
    refine (blk2 m c _ ⟨J, hJ⟩ ⟨d, hd'⟩ ⟨128 * h.val + d, by omega⟩ (by rw [hq])).trans ?_
    rw [V_v]
    exact hV_real (pA m c) A h ⟨J, hJ⟩ ⟨d, hd'⟩ _ rfl
  · intro r hr d hd'
    rw [hB]
    refine (blk3 m c _ ⟨r, hr⟩ ⟨d, hd'⟩ ⟨2048 * i + r, by omega⟩ ⟨h.val * 128 + d, by omega⟩ (by rw [hr4]) (by rw [hq]; simp only; omega)).trans ?_
    rw [V_main_arg4]
    exact Cert.ReferenceIdeal.Val.g_real (pA m c) A h ⟨2048 * i + r, by omega⟩ ⟨d, hd'⟩
  · intro r hr
    rw [hB]
    refine (blk5 m c _ ⟨r, hr⟩ 0 ⟨2048 * i + r, by omega⟩ ⟨128 * h.val + 0, by omega⟩ (by rw [hr4]) (by rw [hq]; rfl)).trans ?_
    rw [V_l]
    exact hL_real (pA m c) A h ⟨2048 * i + r, by omega⟩ 0 _ rfl
  · intro r hr
    rw [hB]
    refine (rsum (fun d : Fin 128 => at2 (iblk m c 3 (tt (4 * h.val + i))) r d.val * at2 (iblk m c 4 (tt (4 * h.val + i))) r d.val)
      (fun d => (hdm m c h).g (2048 * i + r) d * (hdm m c h).o (2048 * i + r) d) (fun d => ?_))
    rw [blk3 m c _ ⟨r, hr⟩ d ⟨2048 * i + r, by omega⟩ ⟨h.val * 128 + d.val, by omega⟩ (by rw [hr4]) (by rw [hq]; simp only; omega),
      blk4 m c _ ⟨r, hr⟩ d ⟨2048 * i + r, by omega⟩ ⟨h.val * 128 + d.val, by omega⟩ (by rw [hr4]) (by rw [hq]; simp only; omega),
      V_main_arg4, V_o, EReal.coe_mul]
    exact congrArg₂ (· * ·) (Cert.ReferenceIdeal.Val.g_real (pA m c) A h ⟨2048 * i + r, by omega⟩ d)
      ((catO_at _ _ ⟨h.val * 128 + d.val, by omega⟩ (by simp only; omega)).trans (hO_real (pA m c) A h ⟨2048 * i + r, by omega⟩ d _ (by simp only; omega)))
  · intro R d hd'
    exact Cert.ReferenceIdeal.Val.q_zero (pA m c) h R d hd'

end Cert.KernelIdeal.Val
-- ==== Proof.Finite.lean ====
module

public import proofs.«01_k».proof.Proof.RLift
public import proofs.«01_k».proof.Proof.Gen.Pre_finite
public import Idealize.ShloMosaic.Lib.ReduceAll
public import Idealize.ShloMosaic.Lib.Pointwise

@[expose] public section

set_option maxRecDepth 16384

noncomputable section

namespace Cert.ReferenceIdeal.Val

open Idealize.ShloMosaic Idealize.ShloMosaic.TcCoe Idealize.ShloMosaic.Tactic

/-! ## The precondition, entry by entry -/

theorem inf : Ideal.ofBits .f32 0x7F800000#32 = ⊤ := by simp [Ideal.ofBits, Ideal.ieee]

theorem and_one : ∀ a b : BitVec 1, IntOp.andi a b = 1#1 → a = 1#1 ∧ b = 1#1 := by decide

/-- A number whose absolute value is less than +∞ is real. -/
theorem real_of_lt (x : EReal) (h : max x (-x) < ⊤) : IsR x := by
  induction x using EReal.rec with
  | bot => simp at h
  | coe r => exact ⟨r, rfl⟩
  | top => simp at h

theorem cmp_real (x : EReal) (h : Ideal.cmp .olt (max x (-x)) (Ideal.ofBits .f32 0x7F800000#32) = 1#1) : IsR x := by
  rw [inf] at h
  exact real_of_lt x ((Ideal.cmp_olt_eq_one (x := max x (-x)) (y := ⊤)).mp h)

variable (q k : FVec Ideal Cert.Pre_finite.S8192x6x192 .f32) (v : FVec Ideal Cert.Pre_finite.S8192x6x128 .f32) (p : IVec Cert.Pre_finite.S8192 32) (g : FVec Ideal Cert.Pre_finite.S8192x2048 .f32)

theorem finite_real (h : Cert.Pre_finite.fn (F := Ideal) q k v p g = (fun _ => 1#1)) : Fin4 q k v g := by
  have h0 := congrFun h ix0
  obtain ⟨h1, hg⟩ := and_one _ _ (show IntOp.andi _ _ = 1#1 from h0)
  obtain ⟨h2, hv⟩ := and_one _ _ (show IntOp.andi _ _ = 1#1 from h1)
  obtain ⟨hq, hk⟩ := and_one _ _ (show IntOp.andi _ _ = 1#1 from h2)
  haveI : Subsingleton Cert.Pre_finite.S_.Idx := ⟨fun a b => funext fun x => x.elim0⟩
  constructor
  · intro R a d
    exact cmp_real _ (Host.reduce_andi_all _ _ _ _ _ hq (ix3 R a d))
  · intro R a d
    exact cmp_real _ (Host.reduce_andi_all _ _ _ _ _ hk (ix3 R a d))
  · intro R a d
    exact cmp_real _ (Host.reduce_andi_all _ _ _ _ _ hv (ix3 R a d))
  · intro R D hD
    have e := Host.reduce_andi_all _ _ _ _ _ hg (ix2 R ⟨D.val, hD⟩)
    have e2 : extractStridedSlice Cert.Pre_finite.S8192x768 ![0, 0] g Cert.Pre_finite.Facts.slices_S8192x2048_S8192x768_0_0 (ix2 R ⟨D.val, hD⟩) = g (ix2 R D) := by pointwise
    refine cmp_real _ ?_
    rw [← e2]
    exact e

end Cert.ReferenceIdeal.Val
-- ==== Proof.Final.lean ====
module

public import proofs.«01_k».proof.Proof.KLift
public import proofs.«01_k».proof.Proof.Finite
public import proofs.«01_k».proof.Proof.Gen.ReferenceIdeal.Run
public import proofs.«01_k».proof.Defs

@[expose] public section

set_option maxRecDepth 16384

noncomputable section

namespace Cert.KernelIdeal.Val

open Cert.KernelIdeal Cert.KernelIdeal.Gen Idealize.ShloMosaic Idealize.ShloMosaic.TcCoe Idealize.ShloMosaic.Tactic
open Cert.ReferenceIdeal.Val (Fin4 IsR hd)
open scoped BigOperators

/-! ## The kernel's three results are the reference's -/

section Core

variable {q k : FVec Ideal S8192x6x192 .f32} {v : FVec Ideal S8192x6x128 .f32} (p : IVec S8192 32) {g : FVec Ideal S8192x2048 .f32}
  (A : Fin4 q k v g) (h : Fin 6) (R : Fin 8192)

include A

/-- One entry of the queries' gradient: the accumulated row, scaled and turned back, is the reference's. -/
theorem out_eq (D : Pt) (C : Rep D (hd q k v p g h)) (M : ℕ) (hM : D.B = 64 * M) (rc rs : ℕ → ℕ → EReal) (r : ℕ) (hr : r < 2048) (hR : R.val = D.B + r)
    (hc : ∀ j : Fin 128, rc r j.val = hC p (ix2 R j)) (hs : ∀ j : Fin 128, rs r j.val = hN p (ix2 R j)) (d : Fin 256) (W : Fin 1536) (hW : W.val = 256 * h.val + d.val) :
    D.out rc rs r d.val = Cert.ReferenceIdeal.Read.val_main_v125 (F := Ideal) q k v p g (ix2 R W) := by
  rw [Cert.ReferenceIdeal.Val.dq_at q k v p g h R d W hW, Pt.out]
  have hsc : scale = (((hd q k v p g h).sc : ℝ) : EReal) := Cert.ReferenceIdeal.Val.sc_eq p h
  have hcq : ∀ x, x < 256 → D.cq (D.B + 2048) r x = (((hd q k v p g h).dr R.val x : ℝ) : EReal) := fun x hx => by
    rw [C.cq hM hr hx, hR]
  have hdr := fun x => Cert.ReferenceIdeal.Val.dr_real p A h R x
  by_cases h1 : d.val < 128
  · rw [if_pos h1, dif_pos (by omega), dif_pos h1, hcq _ d.isLt, hsc, hdr, EReal.coe_mul]
  rw [if_neg h1, hcq _ d.isLt, hsc]
  by_cases h2 : d.val - 128 < 32
  · rw [dif_pos (by omega), dif_neg h1, dif_pos h2, Cert.ReferenceIdeal.Val.lo_at q k v p g h R ⟨d.val - 128, h2⟩, hdr, hdr]
    obtain ⟨x, hx⟩ := Cert.ReferenceIdeal.Val.cos_real p R ⟨d.val - 128, h2⟩
    obtain ⟨y, hy⟩ := Cert.ReferenceIdeal.Val.sin_real p R ⟨d.val - 128, h2⟩
    have ec := (hc ⟨d.val - 128, by omega⟩).trans ((hC_at p R _).trans (dif_pos h2))
    have es := (hs ⟨d.val - 128, by omega⟩).trans ((hN_at p R _).trans (dif_pos h2))
    simp only at ec es
    rw [ec, es, rot, if_pos h2, hcq _ (by omega)]
    show _ * Cert.ReferenceIdeal.Read.val_main_v18 (F := Ideal) p _ - _ * -Cert.ReferenceIdeal.Read.val_main_v19 (F := Ideal) p _ = _
    simp only
    rw [hx, hy]
    simp only [← EReal.coe_mul, ← EReal.coe_neg, ← EReal.coe_sub, ← EReal.coe_add]
    rw [show 128 + (d.val - 128) = d.val by omega, show 128 + (d.val - 128 + 32) = 128 + (32 + (d.val - 128)) by omega]
    congr 1
    ring
  by_cases h3 : d.val < 192
  · have h4 : d.val - 128 - 32 < 32 := by omega
    rw [dif_pos h3, dif_neg h1, dif_neg h2, Cert.ReferenceIdeal.Val.hi_at q k v p g h R ⟨d.val - 128 - 32, h4⟩, hdr, hdr]
    obtain ⟨x, hx⟩ := Cert.ReferenceIdeal.Val.cos_real p R ⟨d.val - 128 - 32, h4⟩
    obtain ⟨y, hy⟩ := Cert.ReferenceIdeal.Val.sin_real p R ⟨d.val - 128 - 32, h4⟩
    have ec := (hc ⟨d.val - 128, by omega⟩).trans ((hC_at p R _).trans ((dif_neg h2).trans (dif_pos (show d.val - 128 < 64 by omega))))
    have es := (hs ⟨d.val - 128, by omega⟩).trans ((hN_at p R _).trans ((dif_neg h2).trans (dif_pos (show d.val - 128 < 64 by omega))))
    simp only at ec es
    rw [ec, es, rot, if_neg h2, hcq _ (by omega)]
    show _ * Cert.ReferenceIdeal.Read.val_main_v18 (F := Ideal) p _ - _ * Cert.ReferenceIdeal.Read.val_main_v19 (F := Ideal) p _ = _
    simp only
    rw [hx, hy]
    simp only [← EReal.coe_mul, ← EReal.coe_neg, ← EReal.coe_sub, ← EReal.coe_add]
    rw [show 128 + (32 + (d.val - 128 - 32)) = d.val by omega]
    congr 1
    ring
  · have ec := (hc ⟨d.val - 128, by omega⟩).trans ((hC_at p R _).trans ((dif_neg h2).trans (dif_neg (show ¬ d.val - 128 < 64 by omega))))
    have es := (hs ⟨d.val - 128, by omega⟩).trans ((hN_at p R _).trans ((dif_neg h2).trans (dif_neg (show ¬ d.val - 128 < 64 by omega))))
    simp only at ec es
    rw [dif_neg h3, ec, es, mul_zero, mul_zero, sub_zero]

end Core

variable (m : (ℓ : Loc nD τ sig) → Buf (Elt Ideal) ℓ) (c : Dev nD) (A : Fin4 (qA m c) (kA m c) (vA m c) (gA m c))
include A

theorem dq_eq : dqOf m c = Cert.ReferenceIdeal.Read.val_main_v125 (F := Ideal) (qA m c) (kA m c) (vA m c) (pA m c) (gA m c) := by
  funext y
  obtain ⟨R, W, rfl⟩ := eq_ix2 y
  have hR := R.isLt
  have hW := W.isLt
  have h6 : W.val / 256 < 6 := by omega
  have h4 : R.val / 2048 < 4 := by omega
  have ht : (tt (4 * (W.val / 256) + R.val / 2048)).val = 4 * (W.val / 256) + R.val / 2048 := tt_lt _ (by omega)
  have hB : (P m c (tt (4 * (W.val / 256) + R.val / 2048))).B = 2048 * (R.val / 2048) := by rw [P_B m c _ (by omega)]; omega
  have hRr : R.val = 2048 * ((tt (4 * (W.val / 256) + R.val / 2048)).val % 4) + R.val % 2048 := by rw [ht]; omega
  refine out_eq (pA m c) A ⟨W.val / 256, h6⟩ R (P m c (tt (4 * (W.val / 256) + R.val / 2048))) (rep m c A ⟨W.val / 256, h6⟩ (R.val / 2048) h4)
    (32 * (R.val / 2048)) (by rw [hB]; omega) _ _ (R.val % 2048) (by omega) (by rw [hB]; omega) (fun j => ?_) (fun j => ?_) ⟨W.val % 256, by omega⟩ W
    (by simp only; omega)
  · refine (blk6 m c _ ⟨R.val % 2048, by omega⟩ j R hRr).trans ?_
    rw [V_c]
  · refine (blk7 m c _ ⟨R.val % 2048, by omega⟩ j R hRr).trans ?_
    rw [V_s]

theorem reps (h : Fin 6) : ∀ i < 4, Rep (P m c (tt (4 * h.val + i))) (hdm m c h) ∧ (P m c (tt (4 * h.val + i))).B = 2048 * i := fun i hi =>
  ⟨rep m c A h i hi, by have := h.isLt; rw [P_B m c _ (by omega)]; omega⟩

theorem dk_eq : wk m c 24 = Cert.ReferenceIdeal.Read.val_main_v127 (F := Ideal) (qA m c) (kA m c) (vA m c) (pA m c) (gA m c) := by
  funext y
  obtain ⟨h, J, d, rfl⟩ := eq_ix3 y
  refine (dk_final m c h J d).trans ?_
  refine (dk_sum (fun i => P m c (tt (4 * h.val + i))) (hdm m c h) (reps m c A h) J.isLt d.isLt).trans ?_
  exact (Cert.ReferenceIdeal.Val.dk_real (pA m c) A h J d).symm

theorem dv_eq : wv m c 24 = Cert.ReferenceIdeal.Read.val_main_v128 (F := Ideal) (qA m c) (kA m c) (pA m c) (gA m c) := by
  funext y
  obtain ⟨h, J, d, rfl⟩ := eq_ix3 y
  refine (dv_final m c h J d).trans ?_
  refine (dv_sum (fun i => P m c (tt (4 * h.val + i))) (hdm m c h) (reps m c A h) J.isLt d.isLt).trans ?_
  exact (Cert.ReferenceIdeal.Val.dv_real (pA m c) A h J d).symm

end Cert.KernelIdeal.Val

namespace Cert.ReferenceIdeal.Val

open Cert.ReferenceIdeal Cert.ReferenceIdeal.Gen Cert.ReferenceIdeal.Read Idealize.ShloMosaic Idealize.ShloMosaic.TcCoe

/-- The reference's run, its results written as the reference's stages of its arguments. -/
theorem run_read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v125) = val_main_v125 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v127) = val_main_v127 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v128) = val_main_v128 (F := Ideal) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨h0, h1, h2, ha⟩ := h c
    exact ⟨h0.trans (val_main_v125_eq (StableHlo.launchContents m c)), h1.trans (val_main_v127_eq (StableHlo.launchContents m c)),
      h2.trans (val_main_v128_eq (StableHlo.launchContents m c)), ha⟩)
    (Cert.ReferenceIdeal.Value.run (F := Ideal) m ρ)

end Cert.ReferenceIdeal.Val

namespace Cert.KernelIdeal.Val

open Cert.KernelIdeal Cert.KernelIdeal.Gen Idealize.ShloMosaic Idealize.ShloMosaic.TcCoe

/-- From finite arguments the idealized kernel and the reference end with equal results. -/
theorem algebraic : Cert.algebraic_KernelIdeal_ReferenceIdeal_pre_finite := by
  intro m ρ m' ρ' hpre hm
  have A := fun c => Cert.ReferenceIdeal.Val.finite_real _ _ _ _ _ (hpre c)
  refine ⟨fun c => dqOf m c, fun c => wk m c 24, fun c => wv m c 24, final_run m ρ, ?_⟩
  refine (θ_run Cert.ReferenceIdeal.defs _ _).mono (fun r h c => ?_) (Cert.ReferenceIdeal.Val.run_read m' ρ')
  obtain ⟨e0, e1, e2, e3, e4⟩ := hm c
  obtain ⟨r0, r1, r2, ha⟩ := h c
  rw [e0, e1, e2, e3, e4] at r0 r1
  rw [e0, e1, e3, e4] at r2
  exact ⟨r0.trans (dq_eq m c (A c)).symm, r1.trans (dk_eq m c (A c)).symm, r2.trans (dv_eq m c (A c)).symm, ha⟩

end Cert.KernelIdeal.Val
-- ==== Proof.Prod.lean ====
module

public import Idealize.ShloMosaic.Lib.Pipeline.ValueKit
public import Idealize.ShloMosaic.Lib.VecWindow
public import Idealize.ShloMosaic.Lib.WritesUnit
public import Idealize.ShloMosaic.Lib.KernelVsHost

@[expose] public section

set_option maxRecDepth 16384

noncomputable section

namespace Cert.Prod

open Idealize.ShloMosaic
open scoped BigOperators

/-! ## What the blocked products share: whole loads and stores, and a sum taken block by block -/

theorem ix2_of {m n : ℕ} (x : (⟨2, ![m, n]⟩ : Shape).Idx) : ∃ (a : Fin m) (b : Fin n), x = ix2 a b :=
  ⟨x 0, x 1, by
    funext a; match a with
      | ⟨0, _⟩ => rfl
      | ⟨1, _⟩ => rfl⟩

/-- A matrix read at natural positions, zero outside. -/
def at2 {m n : ℕ} (x : (⟨2, ![m, n]⟩ : Shape).Idx → EReal) (a b : ℕ) : EReal := if h : a < m ∧ b < n then x (ix2 ⟨a, h.1⟩ ⟨b, h.2⟩) else 0

theorem at2_ix {m n : ℕ} (x : (⟨2, ![m, n]⟩ : Shape).Idx → EReal) (a : Fin m) (b : Fin n) : at2 x a b = x (ix2 a b) := by
  unfold at2; rw [dif_pos ⟨a.isLt, b.isLt⟩]

theorem at2_of {m n : ℕ} (x : (⟨2, ![m, n]⟩ : Shape).Idx → EReal) {a b : ℕ} (ha : a < m) (hb : b < n) : at2 x a b = x (ix2 ⟨a, ha⟩ ⟨b, hb⟩) := by
  unfold at2; rw [dif_pos ⟨ha, hb⟩]

section
variable {sig : RefSig} {κ : Kind} {sp : Space} {e : EltTy} {m n : ℕ}

/-- A buffer stored whole, read back whole, is what was stored. -/
theorem stored (v : View sig κ sp ⟨2, ![m, n]⟩ e) (f : v.ty.Contents (Elt Ideal))
    (inb : ∀ a : Fin 2, (![0, 0] : Fin 2 → ℕ) a + (![m, n] : Fin 2 → ℕ) a ≤ (![m, n] : Fin 2 → ℕ) a) (w : Vec Ideal ⟨2, ![m, n]⟩ e) :
    v.read (Elt Ideal) (v.writes (Elt Ideal) f [⟨Rect.unit (s := ⟨2, ![m, n]⟩) ![0, 0] ![m, n] inb, w⟩]) = w := by
  funext y
  exact View.read_writes_cons_unit_of_mem v f inb w [] y y rfl (Fin.forall_fin_two.mpr ⟨(Nat.zero_add _).symm, (Nat.zero_add _).symm⟩)

/-- A buffer loaded whole is its contents. -/
theorem loaded (v : View sig κ sp ⟨2, ![m, n]⟩ e) (f : v.ty.Contents (Elt Ideal))
    (inb : ∀ a : Fin 2, (![0, 0] : Fin 2 → ℕ) a + (![m, n] : Fin 2 → ℕ) a ≤ (![m, n] : Fin 2 → ℕ) a) :
    v.readAt (Elt Ideal) (Rect.unit (s := ⟨2, ![m, n]⟩) ![0, 0] ![m, n] inb).toLoadRect f = v.read (Elt Ideal) f :=
  View.readAt_full v f (off := ![0, 0]) inb

end

/-- One more block of a sum taken block by block. -/
theorem block_succ (f : ℕ → EReal) (B j : ℕ) : ∑ k ∈ Finset.range (B * (j + 1)), f k = ∑ k ∈ Finset.range (B * j), f k + ∑ k : Fin B, f (B * j + k.val) := by
  rw [Nat.mul_succ, Finset.sum_range_add, Finset.sum_range (n := B)]

theorem block_one (f : ℕ → EReal) (B : ℕ) : ∑ k ∈ Finset.range (B * (0 + 1)), f k = ∑ k : Fin B, f (B * 0 + k.val) := by
  rw [block_succ]; simp

end Cert.Prod
-- ==== Proof.DwInVal.lean ====
module

public import proofs.«01_k».proof.Defs
public import proofs.«01_k».proof.Proof.Prod
public import proofs.«01_k».proof.Proof.Gen.DwInIdeal.Value
public import proofs.«01_k».proof.Proof.Gen.DwInRefIdeal.Run
public import proofs.«01_k».proof.Proof.Gen.DwInRefIdeal.Read

@[expose] public section

set_option maxRecDepth 16384

noncomputable section

namespace Cert.DwInIdeal.Val

open Cert.DwInIdeal Cert.DwInIdeal.Gen Cert.Prod Idealize.ShloMosaic Idealize.ShloMosaic.TcCoe Idealize.ShloMosaic.Tactic
open Idealize.SL.Sem
open Idealize.ShloMosaic.Pipeline (Dat Cfg Window)
open scoped BigOperators

/-! ## The payloads, entry by entry -/

theorem pay1_apply (x : Vec Ideal S2048x1024 .bf16) (y : Vec Ideal S2048x1152 .bf16) (r : Fin 1024) (d : Fin 1152) :
    k0_pay1 x y (ix2 r d) = ∑ k : Fin 2048, x (ix2 k r) * y (ix2 k d) := by
  pointwise [k0_pay1]

theorem pay2_apply (x : Vec Ideal S2048x1024 .bf16) (y : Vec Ideal S2048x1152 .bf16) : k0_pay2 x y = k0_pay1 x y := by
  unfold k0_pay2; exact shapeCast_id _ _

theorem pay3_apply (x : Vec Ideal S2048x1024 .bf16) (y : Vec Ideal S2048x1152 .bf16) (a : Vec Ideal S1024x1152 .f32) : k0_pay3 x y a = addf a (k0_pay1 x y) := by
  unfold k0_pay3; exact shapeCast_id _ _

/-! ## What a point leaves -/

section
variable (c : Dev nD) (i : grid0.Coords) (arg3 : Memref sig .tc .vmem S2048x1024 .bf16) (harg3 : arg3.IsWhole) (arg4 : Memref sig .tc .vmem S2048x1152 .bf16) (harg4 : arg4.IsWhole) (arg5 : Memref sig .tc .vmem S1024x1152 .f32) (harg5 : arg5.IsWhole) (arg6 : Memref sig .tc .vmem S1024x1152 .f32) (harg6 : arg6.IsWhole)
  (x0 : Vec Ideal S2048x1024 .bf16) (x1 : Vec Ideal S2048x1152 .bf16) (xs : Vec Ideal S1024x1152 .f32)

theorem sA (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  refine (stored VS0_0 _ _ _).trans ?_
  refine (pay2_apply _ _).trans ?_
  refine congrArg₂ k0_pay1 ((loaded arg3.view _ _).trans (harg3.read_unread x0)) ((loaded arg4.view _ _).trans (harg4.read_unread x1))

theorem sB (hc0 : ¬cond0_0 i) (hc1 : cond0_1 i) (hc2 : ¬cond0_2 i) :
    sout0_B_0 (F := Ideal) c i arg3 harg3 arg4 harg4 arg5 harg5 arg6 harg6 hc0 hc1 hc2 x0 x1 xs = addf xs (k0_pay1 x0 x1) := by
  refine (stored VS0_0 _ _ _).trans ?_
  refine (pay3_apply _ _ _).trans ?_
  refine congrArg₂ addf ((loaded arg6.view _ _).trans (harg6.read_unread xs))
    (congrArg₂ k0_pay1 ((loaded arg3.view _ _).trans (harg3.read_unread x0)) ((loaded arg4.view _ _).trans (harg4.read_unread x1)))

theorem sC (hc0 : ¬cond0_0 i) (hc1 : cond0_1 i) (hc2 : cond0_2 i) :
    sout0_C_0 (F := Ideal) c i arg3 harg3 arg4 harg4 arg5 harg5 arg6 harg6 hc0 hc1 hc2 x0 x1 xs = addf xs (k0_pay1 x0 x1) := by
  refine (stored VS0_0 _ _ _).trans ?_
  refine (pay3_apply _ _ _).trans ?_
  refine congrArg₂ addf ((loaded arg6.view _ _).trans (harg6.read_unread xs))
    (congrArg₂ k0_pay1 ((loaded arg3.view _ _).trans (harg3.read_unread x0)) ((loaded arg4.view _ _).trans (harg4.read_unread x1)))

theorem oC (hc0 : ¬cond0_0 i) (hc1 : cond0_1 i) (hc2 : cond0_2 i) :
    out0_C_2 (F := Ideal) c i arg3 harg3 arg4 harg4 arg5 harg5 arg6 harg6 hc0 hc1 hc2 x0 x1 xs = addf xs (k0_pay1 x0 x1) := by
  refine (stored VO0_2 _ _ _).trans ?_
  refine (loaded arg6.view _ _).trans ?_
  refine (stored arg6.view _ _ _).trans ?_
  refine (pay3_apply _ _ _).trans ?_
  refine congrArg₂ addf ((loaded arg6.view _ _).trans (harg6.read_unread xs))
    (congrArg₂ k0_pay1 ((loaded arg3.view _ _).trans (harg3.read_unread x0)) ((loaded arg4.view _ _).trans (harg4.read_unread x1)))

end

/-! ## The blocks, and the sum over the points of a run -/

variable (m : (ℓ : Loc nD τ sig) → Buf (Elt Ideal) ℓ) (ρ : Dev nD → PrngReg)

theorem idx0 : ∀ t : Fin cfg0.N, win0_0.index t = ![t.val % 4, t.val / 20] := (by decide +kernel : ∀ t : Fin grid0.N, _)
theorem idx1 : ∀ t : Fin cfg0.N, win0_1.index t = ![t.val % 4, t.val / 4 % 5] := (by decide +kernel : ∀ t : Fin grid0.N, _)

variable (c : Dev nD) (t : Fin cfg0.N)

theorem t_lt : t.val < 40 := Nat.lt_of_lt_of_eq t.isLt N_0

theorem emb0 (k : Fin 2048) (r : Fin 1024) (K : Fin 8192) (R : Fin 2048) (hK : K.val = 2048 * (t.val % 4) + k.val) (hR : R.val = 1024 * (t.val / 20) + r.val) :
    ((cfg0.win 0).blk t).view.emb (ix2 k r) = ix2 K R := by
  blk_ext [idx0 t]

theorem emb1 (k : Fin 2048) (d : Fin 1152) (K : Fin 8192) (D : Fin 5760) (hK : K.val = 2048 * (t.val % 4) + k.val) (hD : D.val = 1152 * (t.val / 4 % 5) + d.val) :
    ((cfg0.win 1).blk t).view.emb (ix2 k d) = ix2 K D := by
  blk_ext [idx1 t]

abbrev X : Vec Ideal S8192x2048 .f32 := m ((c.tc : Thread nD τ).loc main_arg0)
abbrev Y : Vec Ideal S8192x5760 .f32 := concatenate S8192x5760 1 [⟨S8192x512, m ((c.tc : Thread nD τ).loc main_arg1)⟩, ⟨S8192x256, m ((c.tc : Thread nD τ).loc main_arg2)⟩, ⟨S8192x256, m ((c.tc : Thread nD τ).loc main_arg3)⟩, ⟨S8192x512, m ((c.tc : Thread nD τ).loc main_arg4)⟩, ⟨S8192x512, m ((c.tc : Thread nD τ).loc main_arg5)⟩, ⟨S8192x512, m ((c.tc : Thread nD τ).loc main_arg6)⟩, ⟨S8192x512, m ((c.tc : Thread nD τ).loc main_arg7)⟩, ⟨S8192x512, m ((c.tc : Thread nD τ).loc main_arg8)⟩, ⟨S8192x2048, m ((c.tc : Thread nD τ).loc main_arg9)⟩, ⟨S8192x128, m ((c.tc : Thread nD τ).loc main_arg10)⟩] concatenates_S8192x512_S8192x256_S8192x256_S8192x512_S8192x512_S8192x512_S8192x512_S8192x512_S8192x2048_S8192x128_S8192x5760_d1

theorem V_v2 : (V m c main_v2 : Vec Ideal S8192x2048 .bf16) = X m c := by
  entry_read
  rfl

theorem V_Y : (V m c main_v1 : Vec Ideal S8192x5760 .bf16) = Y m c := by
  entry_read
  rfl

theorem blk0 (k : Fin 2048) (r : Fin 1024) : iblk m c 0 t (ix2 k r) = at2 (X m c) (2048 * (t.val % 4) + k.val) (1024 * (t.val / 20) + r.val) := by
  have ht := t_lt t
  rw [at2_of (X m c) (show 2048 * (t.val % 4) + k.val < 8192 by omega) (show 1024 * (t.val / 20) + r.val < 2048 by omega), ← V_v2 m c]
  exact congrArg (V m c main_v2) (emb0 t k r _ _ rfl rfl)

theorem blk1 (k : Fin 2048) (d : Fin 1152) : iblk m c 1 t (ix2 k d) = at2 (Y m c) (2048 * (t.val % 4) + k.val) (1152 * (t.val / 4 % 5) + d.val) := by
  have ht := t_lt t
  rw [at2_of (Y m c) (show 2048 * (t.val % 4) + k.val < 8192 by omega) (show 1152 * (t.val / 4 % 5) + d.val < 5760 by omega), ← V_Y m c]
  exact congrArg (V m c main_v1) (emb1 t k d _ _ rfl rfl)

/-- One term of the product at an entry of the block that the run of points numbered `q` works on. -/
def term (q r d k : ℕ) : EReal := at2 (X m c) k (1024 * (q / 5) + r) * at2 (Y m c) k (1152 * (q % 5) + d)

theorem prod_apply (r : Fin 1024) (d : Fin 1152) : k0_pay1 (iblk m c 0 t) (iblk m c 1 t) (ix2 r d) = ∑ k : Fin 2048, term m c (t.val / 4) r d (2048 * (t.val % 4) + k.val) := by
  rw [pay1_apply]
  refine Finset.sum_congr rfl fun k _ => ?_
  rw [blk0, blk1]
  unfold term
  rw [show t.val / 4 / 5 = t.val / 20 by omega]

abbrev prev (c : Dev nD) (t : Fin cfg0.N) : Vec Ideal S1024x1152 .f32 := (outsAt0 m c (t.val - 1) (Nat.lt_of_le_of_lt (Nat.sub_le _ _) t.isLt)).2

theorem stepA (h0 : t.val % 4 = 0) : (outsAt0 m c t.val t.isLt).2 = k0_pay1 (iblk m c 0 t) (iblk m c 1 t) := by
  have h1 : ¬1 ≤ t.val % 4 := by omega
  have h2 : ¬t.val % 4 = 3 := by omega
  refine (congrArg Prod.snd (outsAt0_A m c t h0 h1 h2)).trans ?_
  dsimp only
  exact sA c (grid0.coords t) (ms0_0 t) (hs0_0 t) (ms0_1 t) (hs0_1 t) (ms0_2 t) (hs0_2 t) scM0_0 (Memref.isWhole_whole _) (iblk m c 0 t) (iblk m c 1 t) _ _ _

theorem stepB (h0 : ¬t.val % 4 = 0) : (outsAt0 m c t.val t.isLt).2 = addf (F := Ideal) (prev m c t) (k0_pay1 (iblk m c 0 t) (iblk m c 1 t)) := by
  have h1 : 1 ≤ t.val % 4 := by omega
  by_cases h2 : t.val % 4 = 3
  · refine (congrArg Prod.snd (outsAt0_C m c t h0 h1 h2)).trans ?_
    dsimp only
    exact sC c (grid0.coords t) (ms0_0 t) (hs0_0 t) (ms0_1 t) (hs0_1 t) (ms0_2 t) (hs0_2 t) scM0_0 (Memref.isWhole_whole _) (iblk m c 0 t) (iblk m c 1 t) (prev m c t) _ _ _
  · refine (congrArg Prod.snd (outsAt0_B m c t h0 h1 h2)).trans ?_
    dsimp only
    exact sB c (grid0.coords t) (ms0_0 t) (hs0_0 t) (ms0_1 t) (hs0_1 t) (ms0_2 t) (hs0_2 t) scM0_0 (Memref.isWhole_whole _) (iblk m c 0 t) (iblk m c 1 t) (prev m c t) _ _ _

theorem stepO (h2 : t.val % 4 = 3) : (outsAt0 m c t.val t.isLt).1 = (outsAt0 m c t.val t.isLt).2 := by
  have h0 : ¬t.val % 4 = 0 := by omega
  have h1 : 1 ≤ t.val % 4 := by omega
  refine Eq.trans ?_ (stepB m c t h0).symm
  refine (congrArg Prod.fst (outsAt0_C m c t h0 h1 h2)).trans ?_
  dsimp only
  exact oC c (grid0.coords t) (ms0_0 t) (hs0_0 t) (ms0_1 t) (hs0_1 t) (ms0_2 t) (hs0_2 t) scM0_0 (Memref.isWhole_whole _) (iblk m c 0 t) (iblk m c 1 t) (prev m c t) _ _ _

/-- After a point the scratch holds the product's sum up to the point's last row of the operands. -/
theorem acc_eq (r : Fin 1024) (d : Fin 1152) (n : ℕ) : ∀ hn : n < cfg0.N, (outsAt0 m c n hn).2 (ix2 r d) = ∑ k ∈ Finset.range (2048 * (n % 4 + 1)), term m c (n / 4) r d k := by
  induction n with
  | zero =>
    intro hn
    refine (congrFun (stepA m c ⟨0, hn⟩ rfl) _).trans ((prod_apply m c ⟨0, hn⟩ r d).trans ?_)
    exact (block_one _ 2048).symm
  | succ n ih =>
    intro hn
    by_cases h0 : (n + 1) % 4 = 0
    · refine (congrFun (stepA m c ⟨n + 1, hn⟩ h0) _).trans ((prod_apply m c ⟨n + 1, hn⟩ r d).trans ?_)
      show ∑ k : Fin 2048, term m c ((n + 1) / 4) r d (2048 * ((n + 1) % 4) + k.val) = _
      rw [h0, block_one]
    · have e1 : (n + 1) / 4 = n / 4 := by omega
      have e2 : (n + 1) % 4 = n % 4 + 1 := by omega
      refine (congrFun (stepB m c ⟨n + 1, hn⟩ h0) _).trans ?_
      refine (congrArg₂ (· + ·) (ih (Nat.lt_of_succ_lt hn)) (prod_apply m c ⟨n + 1, hn⟩ r d)).trans ?_
      show _ + ∑ k : Fin 2048, term m c ((n + 1) / 4) r d (2048 * ((n + 1) % 4) + k.val) = _
      rw [e1, e2]
      exact (block_succ _ 2048 (n % 4 + 1)).symm

/-- At the last point of a run the block written back holds the whole product's entries. -/
theorem out_eq (r : Fin 1024) (d : Fin 1152) (n : ℕ) (hn : n < cfg0.N) (h : n % 4 = 3) : (outsAt0 m c n hn).1 (ix2 r d) = ∑ k : Fin 8192, term m c (n / 4) r d k := by
  refine (congrFun (stepO m c ⟨n, hn⟩ h) _).trans ((acc_eq m c r d n hn).trans ?_)
  rw [h]
  exact Finset.sum_range _

/-- The array after the run: the product. -/
theorem G_apply (R : Fin 2048) (D : Fin 5760) : Value.G2 m c (ix2 R D) = ∑ k : Fin 8192, X m c (ix2 k R) * Y m c (ix2 k D) := by
  have hR := R.isLt
  have hD := D.isLt
  have hp : Value.pt2Of (ix2 R D) = 4 * (5 * (R.val / 1024) + D.val / 1152) + 3 := by
    show 4 * (5 * (R.val / 1024 - 0) + 1 * (D.val / 1152 - 0)) + 3 = _
    omega
  have hlt : Value.pt2Of (ix2 R D) < cfg0.N := by rw [hp, show cfg0.N = 40 from N_0]; omega
  have hl : Value.loc2Of (ix2 R D) = ix2 ⟨R.val % 1024, Nat.mod_lt _ (by decide)⟩ ⟨D.val % 1152, Nat.mod_lt _ (by decide)⟩ := by
    funext a; match a with
      | ⟨0, _⟩ => rfl
      | ⟨1, _⟩ => rfl
  unfold Value.G2
  rw [dif_pos hlt, ← Value.outsAt0_sweep m c _ hlt, hl]
  refine (out_eq m c _ _ _ hlt (by rw [hp]; omega)).trans ?_
  refine Finset.sum_congr rfl fun k _ => ?_
  unfold term
  simp only
  rw [hp, show 1024 * ((4 * (5 * (R.val / 1024) + D.val / 1152) + 3) / 4 / 5) + R.val % 1024 = R.val by omega,
    show 1152 * ((4 * (5 * (R.val / 1024) + D.val / 1152) + 3) / 4 % 5) + D.val % 1152 = D.val by omega, at2_ix, at2_ix]

end Cert.DwInIdeal.Val

namespace Cert.DwInRefIdeal.Val

open Cert.DwInRefIdeal Cert.DwInRefIdeal.Gen Cert.DwInRefIdeal.Read Idealize.ShloMosaic Idealize.ShloMosaic.TcCoe Idealize.ShloMosaic.Tactic
open scoped BigOperators

theorem ref_apply (x : Vec Ideal S8192x2048 .f32) (x1 : Vec Ideal S8192x512 .f32) (x2 x3 : Vec Ideal S8192x256 .f32) (x4 x5 x6 x7 x8 : Vec Ideal S8192x512 .f32) (x9 : Vec Ideal S8192x2048 .f32) (x10 : Vec Ideal S8192x128 .f32)
    (y : Vec Ideal S8192x5760 .f32) (hy : val_main_v12 (F := Ideal) x1 x2 x3 x4 x5 x6 x7 x8 x9 x10 = y) (R : Fin 2048) (D : Fin 5760) :
    val_main_v14 (F := Ideal) x x1 x2 x3 x4 x5 x6 x7 x8 x9 x10 (ix2 R D) = ∑ k : Fin 8192, x (ix2 k R) * y (ix2 k D) := by
  rw [val_main_v14_apply, val_main_v13_apply, hy]
  refine Finset.sum_congr rfl fun k _ => ?_
  rw [mul_comm]
  refine congrArg₂ (· * ·) (congrArg x ?_) (congrArg y ?_)
  · funext a; match a with
      | ⟨0, _⟩ => rfl
      | ⟨1, _⟩ => rfl
  · funext a; match a with
      | ⟨0, _⟩ => rfl
      | ⟨1, _⟩ => rfl

end Cert.DwInRefIdeal.Val

namespace Cert.DwInIdeal.Val

open Cert.DwInIdeal Cert.DwInIdeal.Gen Cert.Prod Idealize.ShloMosaic Idealize.ShloMosaic.TcCoe Idealize.SL.Sem

theorem algebraic : Cert.algebraic_DwInIdeal_DwInRefIdeal := by
  intro m ρ m' ρ' _ hm
  refine ⟨fun c => Value.G2 m c, Value.run m ρ, ?_⟩
  refine (θ_run Cert.DwInRefIdeal.defs _ _).mono (fun r h c => ?_) (Cert.DwInRefIdeal.Value.run (F := Ideal) m' ρ')
  obtain ⟨e0, e1, e2, e3, e4, e5, e6, e7, e8, e9, e10⟩ := hm c
  obtain ⟨r0, ha⟩ := h c
  refine ⟨?_, ha⟩
  refine (r0.trans (Cert.DwInRefIdeal.Read.val_main_v14_eq _ _ _ _ _ _ _ _ _ _ _)).trans ?_
  rw [e0, e1, e2, e3, e4, e5, e6, e7, e8, e9, e10]
  funext i
  obtain ⟨R, D, rfl⟩ := ix2_of i
  exact (Cert.DwInRefIdeal.Val.ref_apply _ _ _ _ _ _ _ _ _ _ _ (Y m c) rfl R D).trans (G_apply m c R D).symm

end Cert.DwInIdeal.Val
-- ==== Proof.DInProjHost.lean ====
module

public import proofs.«01_k».proof.Defs
public import proofs.«01_k».proof.Proof.Prod
public import Idealize.ShloMosaic.Lib.StableHlo.RunRead
public import proofs.«01_k».proof.Proof.Gen.DInProjIdeal.Value

@[expose] public section

set_option maxRecDepth 16384

noncomputable section

namespace Cert.DInProjIdeal.Val

open Cert.DInProjIdeal Cert.DInProjIdeal.Gen Cert.Prod Idealize.ShloMosaic Idealize.ShloMosaic.TcCoe Idealize.ShloMosaic.Tactic
open scoped BigOperators

def joinA (p0 : FVec Ideal S8192x512 .f32) (p1 : FVec Ideal S8192x256 .f32) (p2 : FVec Ideal S8192x256 .f32) (p3 : FVec Ideal S8192x512 .f32) (p4 : FVec Ideal S8192x512 .f32) (p5 : FVec Ideal S8192x512 .f32) (p6 : FVec Ideal S8192x512 .f32) (p7 : FVec Ideal S8192x512 .f32) (p8 : FVec Ideal S8192x768 .f32) (p9 : FVec Ideal S8192x512 .f32) (p10 : FVec Ideal S8192x512 .f32) (p11 : FVec Ideal S8192x256 .f32) (p12 : FVec Ideal S8192x64 .f32) (p13 : FVec Ideal S8192x64 .f32) : FVec Ideal S8192x5760 .f32 :=
  concatenate S8192x5760 1 [⟨S8192x512, p0⟩, ⟨S8192x256, p1⟩, ⟨S8192x256, p2⟩, ⟨S8192x512, p3⟩, ⟨S8192x512, p4⟩, ⟨S8192x512, p5⟩, ⟨S8192x512, p6⟩, ⟨S8192x512, p7⟩, ⟨S8192x768, p8⟩, ⟨S8192x512, p9⟩, ⟨S8192x512, p10⟩, ⟨S8192x256, p11⟩, ⟨S8192x64, p12⟩, ⟨S8192x64, p13⟩]
    concatenates_S8192x512_S8192x256_S8192x256_S8192x512_S8192x512_S8192x512_S8192x512_S8192x512_S8192x768_S8192x512_S8192x512_S8192x256_S8192x64_S8192x64_S8192x5760_d1

def joinB (p0 : FVec Ideal S2048x512 .bf16) (p1 : FVec Ideal S2048x256 .bf16) (p2 : FVec Ideal S2048x256 .bf16) (p3 : FVec Ideal S2048x512 .bf16) (p4 : FVec Ideal S2048x512 .bf16) (p5 : FVec Ideal S2048x512 .bf16) (p6 : FVec Ideal S2048x512 .bf16) (p7 : FVec Ideal S2048x512 .bf16) (p8 : FVec Ideal S2048x768 .bf16) (p9 : FVec Ideal S2048x512 .bf16) (p10 : FVec Ideal S2048x512 .bf16) (p11 : FVec Ideal S2048x256 .bf16) (p12 : FVec Ideal S2048x64 .bf16) (p13 : FVec Ideal S2048x64 .bf16) : FVec Ideal S2048x5760 .bf16 :=
  concatenate S2048x5760 1 [⟨S2048x512, p0⟩, ⟨S2048x256, p1⟩, ⟨S2048x256, p2⟩, ⟨S2048x512, p3⟩, ⟨S2048x512, p4⟩, ⟨S2048x512, p5⟩, ⟨S2048x512, p6⟩, ⟨S2048x512, p7⟩, ⟨S2048x768, p8⟩, ⟨S2048x512, p9⟩, ⟨S2048x512, p10⟩, ⟨S2048x256, p11⟩, ⟨S2048x64, p12⟩, ⟨S2048x64, p13⟩]
    concatenates_S2048x512_S2048x256_S2048x256_S2048x512_S2048x512_S2048x512_S2048x512_S2048x512_S2048x768_S2048x512_S2048x512_S2048x256_S2048x64_S2048x64_S2048x5760_d1

def catA (a : FVec Ideal S8192x5696 .f32) : FVec Ideal S8192x5760 .f32 :=
  joinA
    (shapeCast S8192x512 (extractStridedSlice S1x8192x512 ![0, 0, 0] (broadcastInDim S1x8192x5696 ![1, 2] bcast_S8192x5696_S1x8192x5696_1_2 a) slices_S1x8192x5696_S1x8192x512_0_0_0) shapeCasts_S1x8192x512_S8192x512)
    (shapeCast S8192x256 (extractStridedSlice S1x8192x256 ![0, 0, 512] (broadcastInDim S1x8192x5696 ![1, 2] bcast_S8192x5696_S1x8192x5696_1_2 a) slices_S1x8192x5696_S1x8192x256_0_0_512) shapeCasts_S1x8192x256_S8192x256)
    (shapeCast S8192x256 (extractStridedSlice S1x8192x256 ![0, 0, 5184] (broadcastInDim S1x8192x5696 ![1, 2] bcast_S8192x5696_S1x8192x5696_1_2 a) slices_S1x8192x5696_S1x8192x256_0_0_5184) shapeCasts_S1x8192x256_S8192x256)
    (shapeCast S8192x512 (extractStridedSlice S1x8192x512 ![0, 0, 1600] (broadcastInDim S1x8192x5696 ![1, 2] bcast_S8192x5696_S1x8192x5696_1_2 a) slices_S1x8192x5696_S1x8192x512_0_0_1600) shapeCasts_S1x8192x512_S8192x512)
    (shapeCast S8192x512 (extractStridedSlice S1x8192x512 ![0, 0, 2112] (broadcastInDim S1x8192x5696 ![1, 2] bcast_S8192x5696_S1x8192x5696_1_2 a) slices_S1x8192x5696_S1x8192x512_0_0_2112) shapeCasts_S1x8192x512_S8192x512)
    (shapeCast S8192x512 (extractStridedSlice S1x8192x512 ![0, 0, 3136] (broadcastInDim S1x8192x5696 ![1, 2] bcast_S8192x5696_S1x8192x5696_1_2 a) slices_S1x8192x5696_S1x8192x512_0_0_3136) shapeCasts_S1x8192x512_S8192x512)
    (shapeCast S8192x512 (extractStridedSlice S1x8192x512 ![0, 0, 3648] (broadcastInDim S1x8192x5696 ![1, 2] bcast_S8192x5696_S1x8192x5696_1_2 a) slices_S1x8192x5696_S1x8192x512_0_0_3648) shapeCasts_S1x8192x512_S8192x512)
    (shapeCast S8192x512 (extractStridedSlice S1x8192x512 ![0, 0, 4160] (broadcastInDim S1x8192x5696 ![1, 2] bcast_S8192x5696_S1x8192x5696_1_2 a) slices_S1x8192x5696_S1x8192x512_0_0_4160) shapeCasts_S1x8192x512_S8192x512)
    (shapeCast S8192x768 (extractStridedSlice S1x8192x768 ![0, 0, 832] (broadcastInDim S1x8192x5696 ![1, 2] bcast_S8192x5696_S1x8192x5696_1_2 a) slices_S1x8192x5696_S1x8192x768_0_0_832) shapeCasts_S1x8192x768_S8192x768)
    (shapeCast S8192x512 (extractStridedSlice S1x8192x512 ![0, 0, 2624] (broadcastInDim S1x8192x5696 ![1, 2] bcast_S8192x5696_S1x8192x5696_1_2 a) slices_S1x8192x5696_S1x8192x512_0_0_2624) shapeCasts_S1x8192x512_S8192x512)
    (shapeCast S8192x512 (extractStridedSlice S1x8192x512 ![0, 0, 4672] (broadcastInDim S1x8192x5696 ![1, 2] bcast_S8192x5696_S1x8192x5696_1_2 a) slices_S1x8192x5696_S1x8192x512_0_0_4672) shapeCasts_S1x8192x512_S8192x512)
    (shapeCast S8192x256 (extractStridedSlice S1x8192x256 ![0, 0, 5440] (broadcastInDim S1x8192x5696 ![1, 2] bcast_S8192x5696_S1x8192x5696_1_2 a) slices_S1x8192x5696_S1x8192x256_0_0_5440) shapeCasts_S1x8192x256_S8192x256)
    (shapeCast S8192x64 (extractStridedSlice S1x8192x64 ![0, 0, 768] (broadcastInDim S1x8192x5696 ![1, 2] bcast_S8192x5696_S1x8192x5696_1_2 a) slices_S1x8192x5696_S1x8192x64_0_0_768) shapeCasts_S1x8192x64_S8192x64)
    (broadcastInDim S8192x64 ![] bcast_S_S8192x64 (constant (F := Ideal) S_ .f32 0x00000000#32))

def catB (a : FVec Ideal S2048x5696 .bf16) : FVec Ideal S2048x5760 .bf16 :=
  joinB
    (shapeCast S2048x512 (extractStridedSlice S1x2048x512 ![0, 0, 0] (broadcastInDim S1x2048x5696 ![1, 2] bcast_S2048x5696_S1x2048x5696_1_2 a) slices_S1x2048x5696_S1x2048x512_0_0_0) shapeCasts_S1x2048x512_S2048x512)
    (shapeCast S2048x256 (extractStridedSlice S1x2048x256 ![0, 0, 512] (broadcastInDim S1x2048x5696 ![1, 2] bcast_S2048x5696_S1x2048x5696_1_2 a) slices_S1x2048x5696_S1x2048x256_0_0_512) shapeCasts_S1x2048x256_S2048x256)
    (shapeCast S2048x256 (extractStridedSlice S1x2048x256 ![0, 0, 5184] (broadcastInDim S1x2048x5696 ![1, 2] bcast_S2048x5696_S1x2048x5696_1_2 a) slices_S1x2048x5696_S1x2048x256_0_0_5184) shapeCasts_S1x2048x256_S2048x256)
    (shapeCast S2048x512 (extractStridedSlice S1x2048x512 ![0, 0, 1600] (broadcastInDim S1x2048x5696 ![1, 2] bcast_S2048x5696_S1x2048x5696_1_2 a) slices_S1x2048x5696_S1x2048x512_0_0_1600) shapeCasts_S1x2048x512_S2048x512)
    (shapeCast S2048x512 (extractStridedSlice S1x2048x512 ![0, 0, 2112] (broadcastInDim S1x2048x5696 ![1, 2] bcast_S2048x5696_S1x2048x5696_1_2 a) slices_S1x2048x5696_S1x2048x512_0_0_2112) shapeCasts_S1x2048x512_S2048x512)
    (shapeCast S2048x512 (extractStridedSlice S1x2048x512 ![0, 0, 3136] (broadcastInDim S1x2048x5696 ![1, 2] bcast_S2048x5696_S1x2048x5696_1_2 a) slices_S1x2048x5696_S1x2048x512_0_0_3136) shapeCasts_S1x2048x512_S2048x512)
    (shapeCast S2048x512 (extractStridedSlice S1x2048x512 ![0, 0, 3648] (broadcastInDim S1x2048x5696 ![1, 2] bcast_S2048x5696_S1x2048x5696_1_2 a) slices_S1x2048x5696_S1x2048x512_0_0_3648) shapeCasts_S1x2048x512_S2048x512)
    (shapeCast S2048x512 (extractStridedSlice S1x2048x512 ![0, 0, 4160] (broadcastInDim S1x2048x5696 ![1, 2] bcast_S2048x5696_S1x2048x5696_1_2 a) slices_S1x2048x5696_S1x2048x512_0_0_4160) shapeCasts_S1x2048x512_S2048x512)
    (shapeCast S2048x768 (extractStridedSlice S1x2048x768 ![0, 0, 832] (broadcastInDim S1x2048x5696 ![1, 2] bcast_S2048x5696_S1x2048x5696_1_2 a) slices_S1x2048x5696_S1x2048x768_0_0_832) shapeCasts_S1x2048x768_S2048x768)
    (shapeCast S2048x512 (extractStridedSlice S1x2048x512 ![0, 0, 2624] (broadcastInDim S1x2048x5696 ![1, 2] bcast_S2048x5696_S1x2048x5696_1_2 a) slices_S1x2048x5696_S1x2048x512_0_0_2624) shapeCasts_S1x2048x512_S2048x512)
    (shapeCast S2048x512 (extractStridedSlice S1x2048x512 ![0, 0, 4672] (broadcastInDim S1x2048x5696 ![1, 2] bcast_S2048x5696_S1x2048x5696_1_2 a) slices_S1x2048x5696_S1x2048x512_0_0_4672) shapeCasts_S1x2048x512_S2048x512)
    (shapeCast S2048x256 (extractStridedSlice S1x2048x256 ![0, 0, 5440] (broadcastInDim S1x2048x5696 ![1, 2] bcast_S2048x5696_S1x2048x5696_1_2 a) slices_S1x2048x5696_S1x2048x256_0_0_5440) shapeCasts_S1x2048x256_S2048x256)
    (shapeCast S2048x64 (extractStridedSlice S1x2048x64 ![0, 0, 768] (broadcastInDim S1x2048x5696 ![1, 2] bcast_S2048x5696_S1x2048x5696_1_2 a) slices_S1x2048x5696_S1x2048x64_0_0_768) shapeCasts_S1x2048x64_S2048x64)
    (broadcastInDim S2048x64 ![] bcast_S_S2048x64 (constant (F := Ideal) S_ .bf16 0x0000#16))

variable (m : (ℓ : Loc nD τ sig) → Buf (Elt Ideal) ℓ) (c : Dev nD)
abbrev X : Vec Ideal S8192x5696 .f32 := m ((c.tc : Thread nD τ).loc main_arg0)
abbrev Y : Vec Ideal S2048x5696 .f32 := m ((c.tc : Thread nD τ).loc main_arg1)

open Idealize.ShloMosaic.StableHlo in
theorem V_X : (V m c main_v29 : Vec Ideal S8192x5760 .bf16) = catA (X m c) := by
  simp (disch := decide) only [readAfter, readUpto, unary_result', nary_result']
  show (joinA
      (upto hostOps0 (fun b => m (c, b)) 29 (Proc.devRef .tc main_v2) : Vec Ideal S8192x512 .f32)
      (upto hostOps0 (fun b => m (c, b)) 29 (Proc.devRef .tc main_v4) : Vec Ideal S8192x256 .f32)
      (upto hostOps0 (fun b => m (c, b)) 29 (Proc.devRef .tc main_v6) : Vec Ideal S8192x256 .f32)
      (upto hostOps0 (fun b => m (c, b)) 29 (Proc.devRef .tc main_v8) : Vec Ideal S8192x512 .f32)
      (upto hostOps0 (fun b => m (c, b)) 29 (Proc.devRef .tc main_v10) : Vec Ideal S8192x512 .f32)
      (upto hostOps0 (fun b => m (c, b)) 29 (Proc.devRef .tc main_v12) : Vec Ideal S8192x512 .f32)
      (upto hostOps0 (fun b => m (c, b)) 29 (Proc.devRef .tc main_v14) : Vec Ideal S8192x512 .f32)
      (upto hostOps0 (fun b => m (c, b)) 29 (Proc.devRef .tc main_v16) : Vec Ideal S8192x512 .f32)
      (upto hostOps0 (fun b => m (c, b)) 29 (Proc.devRef .tc main_v18) : Vec Ideal S8192x768 .f32)
      (upto hostOps0 (fun b => m (c, b)) 29 (Proc.devRef .tc main_v20) : Vec Ideal S8192x512 .f32)
      (upto hostOps0 (fun b => m (c, b)) 29 (Proc.devRef .tc main_v22) : Vec Ideal S8192x512 .f32)
      (upto hostOps0 (fun b => m (c, b)) 29 (Proc.devRef .tc main_v24) : Vec Ideal S8192x256 .f32)
      (upto hostOps0 (fun b => m (c, b)) 29 (Proc.devRef .tc main_v26) : Vec Ideal S8192x64 .f32)
      (upto hostOps0 (fun b => m (c, b)) 29 (Proc.devRef .tc main_v27) : Vec Ideal S8192x64 .f32) : Vec Ideal S8192x5760 .f32) = _
  simp (disch := decide) only [readAfter, readUpto, unary_result', reshape_result', nullary_result']
  rfl

open Idealize.ShloMosaic.StableHlo in
theorem V_Y : (V m c main_v59 : Vec Ideal S2048x5760 .bf16) = catB (Y m c) := by
  simp (disch := decide) only [readAfter, readUpto, nary_result']
  show (joinB
      (upto hostOps0 (fun b => m (c, b)) 61 (Proc.devRef .tc main_v33) : Vec Ideal S2048x512 .bf16)
      (upto hostOps0 (fun b => m (c, b)) 61 (Proc.devRef .tc main_v35) : Vec Ideal S2048x256 .bf16)
      (upto hostOps0 (fun b => m (c, b)) 61 (Proc.devRef .tc main_v37) : Vec Ideal S2048x256 .bf16)
      (upto hostOps0 (fun b => m (c, b)) 61 (Proc.devRef .tc main_v39) : Vec Ideal S2048x512 .bf16)
      (upto hostOps0 (fun b => m (c, b)) 61 (Proc.devRef .tc main_v41) : Vec Ideal S2048x512 .bf16)
      (upto hostOps0 (fun b => m (c, b)) 61 (Proc.devRef .tc main_v43) : Vec Ideal S2048x512 .bf16)
      (upto hostOps0 (fun b => m (c, b)) 61 (Proc.devRef .tc main_v45) : Vec Ideal S2048x512 .bf16)
      (upto hostOps0 (fun b => m (c, b)) 61 (Proc.devRef .tc main_v47) : Vec Ideal S2048x512 .bf16)
      (upto hostOps0 (fun b => m (c, b)) 61 (Proc.devRef .tc main_v49) : Vec Ideal S2048x768 .bf16)
      (upto hostOps0 (fun b => m (c, b)) 61 (Proc.devRef .tc main_v51) : Vec Ideal S2048x512 .bf16)
      (upto hostOps0 (fun b => m (c, b)) 61 (Proc.devRef .tc main_v53) : Vec Ideal S2048x512 .bf16)
      (upto hostOps0 (fun b => m (c, b)) 61 (Proc.devRef .tc main_v55) : Vec Ideal S2048x256 .bf16)
      (upto hostOps0 (fun b => m (c, b)) 61 (Proc.devRef .tc main_v57) : Vec Ideal S2048x64 .bf16)
      (upto hostOps0 (fun b => m (c, b)) 61 (Proc.devRef .tc main_v58) : Vec Ideal S2048x64 .bf16) : Vec Ideal S2048x5760 .bf16) = _
  simp (disch := decide) only [readAfter, readUpto, unary_result', reshape_result', nullary_result']
  rfl

/-- A row of the rearranged array at a position, of the row's entries by their own positions. -/
def perm (f : ℕ → EReal) (K : ℕ) : EReal :=
  if K < 512 then f (0 + (K - 0)) else
  if K < 768 then f (512 + (K - 512)) else
  if K < 1024 then f (5184 + (K - 768)) else
  if K < 1536 then f (1600 + (K - 1024)) else
  if K < 2048 then f (2112 + (K - 1536)) else
  if K < 2560 then f (3136 + (K - 2048)) else
  if K < 3072 then f (3648 + (K - 2560)) else
  if K < 3584 then f (4160 + (K - 3072)) else
  if K < 4352 then f (832 + (K - 3584)) else
  if K < 4864 then f (2624 + (K - 4352)) else
  if K < 5376 then f (4672 + (K - 4864)) else
  if K < 5632 then f (5440 + (K - 5376)) else
  if K < 5696 then f (768 + (K - 5632)) else
  0

theorem at2_val {n w : ℕ} (a : (⟨2, ![n, w]⟩ : Shape).Idx → EReal) (R : Fin n) (x y : ℕ) (hx : x < w) (e : x = y) : a (ix2 R ⟨x, hx⟩) = at2 a R.val y := by
  subst e
  exact (at2_ix a R ⟨x, hx⟩).symm

set_option maxHeartbeats 4000000 in
theorem catA_apply (a : FVec Ideal S8192x5696 .f32) (R : Fin 8192) (K : Fin 5760) : catA a (ix2 R K) = perm (at2 a R.val) K.val := by
  have hK := K.isLt
  pointwise [catA, joinA]
  unfold perm
  by_cases h0 : K.val < 512
  · rw [dif_pos (show K.val < 512 by omega), if_pos h0]
    exact at2_val a R _ _ _ (by omega)
  rw [dif_neg (show ¬K.val < 512 by omega), if_neg h0]
  by_cases h1 : K.val < 768
  · rw [dif_pos (show K.val - 512 < 256 by omega), if_pos h1]
    exact at2_val a R _ _ _ (by omega)
  rw [dif_neg (show ¬K.val - 512 < 256 by omega), if_neg h1]
  by_cases h2 : K.val < 1024
  · rw [dif_pos (show K.val - 512 - 256 < 256 by omega), if_pos h2]
    exact at2_val a R _ _ _ (by omega)
  rw [dif_neg (show ¬K.val - 512 - 256 < 256 by omega), if_neg h2]
  by_cases h3 : K.val < 1536
  · rw [dif_pos (show K.val - 512 - 256 - 256 < 512 by omega), if_pos h3]
    exact at2_val a R _ _ _ (by omega)
  rw [dif_neg (show ¬K.val - 512 - 256 - 256 < 512 by omega), if_neg h3]
  by_cases h4 : K.val < 2048
  · rw [dif_pos (show K.val - 512 - 256 - 256 - 512 < 512 by omega), if_pos h4]
    exact at2_val a R _ _ _ (by omega)
  rw [dif_neg (show ¬K.val - 512 - 256 - 256 - 512 < 512 by omega), if_neg h4]
  by_cases h5 : K.val < 2560
  · rw [dif_pos (show K.val - 512 - 256 - 256 - 512 - 512 < 512 by omega), if_pos h5]
    exact at2_val a R _ _ _ (by omega)
  rw [dif_neg (show ¬K.val - 512 - 256 - 256 - 512 - 512 < 512 by omega), if_neg h5]
  by_cases h6 : K.val < 3072
  · rw [dif_pos (show K.val - 512 - 256 - 256 - 512 - 512 - 512 < 512 by omega), if_pos h6]
    exact at2_val a R _ _ _ (by omega)
  rw [dif_neg (show ¬K.val - 512 - 256 - 256 - 512 - 512 - 512 < 512 by omega), if_neg h6]
  by_cases h7 : K.val < 3584
  · rw [dif_pos (show K.val - 512 - 256 - 256 - 512 - 512 - 512 - 512 < 512 by omega), if_pos h7]
    exact at2_val a R _ _ _ (by omega)
  rw [dif_neg (show ¬K.val - 512 - 256 - 256 - 512 - 512 - 512 - 512 < 512 by omega), if_neg h7]
  by_cases h8 : K.val < 4352
  · rw [dif_pos (show K.val - 512 - 256 - 256 - 512 - 512 - 512 - 512 - 512 < 768 by omega), if_pos h8]
    exact at2_val a R _ _ _ (by omega)
  rw [dif_neg (show ¬K.val - 512 - 256 - 256 - 512 - 512 - 512 - 512 - 512 < 768 by omega), if_neg h8]
  by_cases h9 : K.val < 4864
  · rw [dif_pos (show K.val - 512 - 256 - 256 - 512 - 512 - 512 - 512 - 512 - 768 < 512 by omega), if_pos h9]
    exact at2_val a R _ _ _ (by omega)
  rw [dif_neg (show ¬K.val - 512 - 256 - 256 - 512 - 512 - 512 - 512 - 512 - 768 < 512 by omega), if_neg h9]
  by_cases h10 : K.val < 5376
  · rw [dif_pos (show K.val - 512 - 256 - 256 - 512 - 512 - 512 - 512 - 512 - 768 - 512 < 512 by omega), if_pos h10]
    exact at2_val a R _ _ _ (by omega)
  rw [dif_neg (show ¬K.val - 512 - 256 - 256 - 512 - 512 - 512 - 512 - 512 - 768 - 512 < 512 by omega), if_neg h10]
  by_cases h11 : K.val < 5632
  · rw [dif_pos (show K.val - 512 - 256 - 256 - 512 - 512 - 512 - 512 - 512 - 768 - 512 - 512 < 256 by omega), if_pos h11]
    exact at2_val a R _ _ _ (by omega)
  rw [dif_neg (show ¬K.val - 512 - 256 - 256 - 512 - 512 - 512 - 512 - 512 - 768 - 512 - 512 < 256 by omega), if_neg h11]
  by_cases h12 : K.val < 5696
  · rw [dif_pos (show K.val - 512 - 256 - 256 - 512 - 512 - 512 - 512 - 512 - 768 - 512 - 512 - 256 < 64 by omega), if_pos h12]
    exact at2_val a R _ _ _ (by omega)
  rw [dif_neg (show ¬K.val - 512 - 256 - 256 - 512 - 512 - 512 - 512 - 512 - 768 - 512 - 512 - 256 < 64 by omega), if_neg h12]

set_option maxHeartbeats 4000000 in
theorem catB_apply (a : FVec Ideal S2048x5696 .bf16) (R : Fin 2048) (K : Fin 5760) : catB a (ix2 R K) = perm (at2 a R.val) K.val := by
  have hK := K.isLt
  pointwise [catB, joinB]
  unfold perm
  by_cases h0 : K.val < 512
  · rw [dif_pos (show K.val < 512 by omega), if_pos h0]
    exact at2_val a R _ _ _ (by omega)
  rw [dif_neg (show ¬K.val < 512 by omega), if_neg h0]
  by_cases h1 : K.val < 768
  · rw [dif_pos (show K.val - 512 < 256 by omega), if_pos h1]
    exact at2_val a R _ _ _ (by omega)
  rw [dif_neg (show ¬K.val - 512 < 256 by omega), if_neg h1]
  by_cases h2 : K.val < 1024
  · rw [dif_pos (show K.val - 512 - 256 < 256 by omega), if_pos h2]
    exact at2_val a R _ _ _ (by omega)
  rw [dif_neg (show ¬K.val - 512 - 256 < 256 by omega), if_neg h2]
  by_cases h3 : K.val < 1536
  · rw [dif_pos (show K.val - 512 - 256 - 256 < 512 by omega), if_pos h3]
    exact at2_val a R _ _ _ (by omega)
  rw [dif_neg (show ¬K.val - 512 - 256 - 256 < 512 by omega), if_neg h3]
  by_cases h4 : K.val < 2048
  · rw [dif_pos (show K.val - 512 - 256 - 256 - 512 < 512 by omega), if_pos h4]
    exact at2_val a R _ _ _ (by omega)
  rw [dif_neg (show ¬K.val - 512 - 256 - 256 - 512 < 512 by omega), if_neg h4]
  by_cases h5 : K.val < 2560
  · rw [dif_pos (show K.val - 512 - 256 - 256 - 512 - 512 < 512 by omega), if_pos h5]
    exact at2_val a R _ _ _ (by omega)
  rw [dif_neg (show ¬K.val - 512 - 256 - 256 - 512 - 512 < 512 by omega), if_neg h5]
  by_cases h6 : K.val < 3072
  · rw [dif_pos (show K.val - 512 - 256 - 256 - 512 - 512 - 512 < 512 by omega), if_pos h6]
    exact at2_val a R _ _ _ (by omega)
  rw [dif_neg (show ¬K.val - 512 - 256 - 256 - 512 - 512 - 512 < 512 by omega), if_neg h6]
  by_cases h7 : K.val < 3584
  · rw [dif_pos (show K.val - 512 - 256 - 256 - 512 - 512 - 512 - 512 < 512 by omega), if_pos h7]
    exact at2_val a R _ _ _ (by omega)
  rw [dif_neg (show ¬K.val - 512 - 256 - 256 - 512 - 512 - 512 - 512 < 512 by omega), if_neg h7]
  by_cases h8 : K.val < 4352
  · rw [dif_pos (show K.val - 512 - 256 - 256 - 512 - 512 - 512 - 512 - 512 < 768 by omega), if_pos h8]
    exact at2_val a R _ _ _ (by omega)
  rw [dif_neg (show ¬K.val - 512 - 256 - 256 - 512 - 512 - 512 - 512 - 512 < 768 by omega), if_neg h8]
  by_cases h9 : K.val < 4864
  · rw [dif_pos (show K.val - 512 - 256 - 256 - 512 - 512 - 512 - 512 - 512 - 768 < 512 by omega), if_pos h9]
    exact at2_val a R _ _ _ (by omega)
  rw [dif_neg (show ¬K.val - 512 - 256 - 256 - 512 - 512 - 512 - 512 - 512 - 768 < 512 by omega), if_neg h9]
  by_cases h10 : K.val < 5376
  · rw [dif_pos (show K.val - 512 - 256 - 256 - 512 - 512 - 512 - 512 - 512 - 768 - 512 < 512 by omega), if_pos h10]
    exact at2_val a R _ _ _ (by omega)
  rw [dif_neg (show ¬K.val - 512 - 256 - 256 - 512 - 512 - 512 - 512 - 512 - 768 - 512 < 512 by omega), if_neg h10]
  by_cases h11 : K.val < 5632
  · rw [dif_pos (show K.val - 512 - 256 - 256 - 512 - 512 - 512 - 512 - 512 - 768 - 512 - 512 < 256 by omega), if_pos h11]
    exact at2_val a R _ _ _ (by omega)
  rw [dif_neg (show ¬K.val - 512 - 256 - 256 - 512 - 512 - 512 - 512 - 512 - 768 - 512 - 512 < 256 by omega), if_neg h11]
  by_cases h12 : K.val < 5696
  · rw [dif_pos (show K.val - 512 - 256 - 256 - 512 - 512 - 512 - 512 - 512 - 768 - 512 - 512 - 256 < 64 by omega), if_pos h12]
    exact at2_val a R _ _ _ (by omega)
  rw [dif_neg (show ¬K.val - 512 - 256 - 256 - 512 - 512 - 512 - 512 - 512 - 768 - 512 - 512 - 256 < 64 by omega), if_neg h12]

/-! ## The sum over the rearranged positions -/

/-- A stretch of a sum over positions. -/
def seg (h : ℕ → EReal) (o n : ℕ) : EReal := ∑ k ∈ Finset.range n, h (o + k)

theorem seg_zero (h : ℕ → EReal) (n : ℕ) : ∑ K ∈ Finset.range n, h K = seg h 0 n := by
  unfold seg; simp only [Nat.zero_add]

theorem seg_add (h : ℕ → EReal) (o n : ℕ) : ∑ K ∈ Finset.range (o + n), h K = ∑ K ∈ Finset.range o, h K + seg h o n := Finset.sum_range_add h o n

theorem seg_perm (f g : ℕ → EReal) (o src n : ℕ) (H : ∀ (u : ℕ → EReal) (k : ℕ), k < n → perm u (o + k) = u (src + k)) :
    seg (fun K => perm f K * perm g K) o n = seg (fun K => f K * g K) src n := by
  unfold seg
  refine Finset.sum_congr rfl fun k hk => ?_
  have hk' := Finset.mem_range.mp hk
  show perm f (o + k) * perm g (o + k) = f (src + k) * g (src + k)
  rw [H f k hk', H g k hk']

theorem perm_0 (u : ℕ → EReal) (k : ℕ) (hk : k < 512) : perm u (0 + k) = u (0 + k) := by
  unfold perm
  rw [if_pos (show 0 + k < 512 by omega)]
  exact congrArg u (by omega)

theorem perm_1 (u : ℕ → EReal) (k : ℕ) (hk : k < 256) : perm u (512 + k) = u (512 + k) := by
  unfold perm
  rw [if_neg (show ¬512 + k < 512 by omega), if_pos (show 512 + k < 768 by omega)]
  exact congrArg u (by omega)

theorem perm_2 (u : ℕ → EReal) (k : ℕ) (hk : k < 256) : perm u (768 + k) = u (5184 + k) := by
  unfold perm
  rw [if_neg (show ¬768 + k < 512 by omega), if_neg (show ¬768 + k < 768 by omega), if_pos (show 768 + k < 1024 by omega)]
  exact congrArg u (by omega)

theorem perm_3 (u : ℕ → EReal) (k : ℕ) (hk : k < 512) : perm u (1024 + k) = u (1600 + k) := by
  unfold perm
  rw [if_neg (show ¬1024 + k < 512 by omega), if_neg (show ¬1024 + k < 768 by omega), if_neg (show ¬1024 + k < 1024 by omega), if_pos (show 1024 + k < 1536 by omega)]
  exact congrArg u (by omega)

theorem perm_4 (u : ℕ → EReal) (k : ℕ) (hk : k < 512) : perm u (1536 + k) = u (2112 + k) := by
  unfold perm
  rw [if_neg (show ¬1536 + k < 512 by omega), if_neg (show ¬1536 + k < 768 by omega), if_neg (show ¬1536 + k < 1024 by omega), if_neg (show ¬1536 + k < 1536 by omega), if_pos (show 1536 + k < 2048 by omega)]
  exact congrArg u (by omega)

theorem perm_5 (u : ℕ → EReal) (k : ℕ) (hk : k < 512) : perm u (2048 + k) = u (3136 + k) := by
  unfold perm
  rw [if_neg (show ¬2048 + k < 512 by omega), if_neg (show ¬2048 + k < 768 by omega), if_neg (show ¬2048 + k < 1024 by omega), if_neg (show ¬2048 + k < 1536 by omega), if_neg (show ¬2048 + k < 2048 by omega), if_pos (show 2048 + k < 2560 by omega)]
  exact congrArg u (by omega)

theorem perm_6 (u : ℕ → EReal) (k : ℕ) (hk : k < 512) : perm u (2560 + k) = u (3648 + k) := by
  unfold perm
  rw [if_neg (show ¬2560 + k < 512 by omega), if_neg (show ¬2560 + k < 768 by omega), if_neg (show ¬2560 + k < 1024 by omega), if_neg (show ¬2560 + k < 1536 by omega), if_neg (show ¬2560 + k < 2048 by omega), if_neg (show ¬2560 + k < 2560 by omega), if_pos (show 2560 + k < 3072 by omega)]
  exact congrArg u (by omega)

theorem perm_7 (u : ℕ → EReal) (k : ℕ) (hk : k < 512) : perm u (3072 + k) = u (4160 + k) := by
  unfold perm
  rw [if_neg (show ¬3072 + k < 512 by omega), if_neg (show ¬3072 + k < 768 by omega), if_neg (show ¬3072 + k < 1024 by omega), if_neg (show ¬3072 + k < 1536 by omega), if_neg (show ¬3072 + k < 2048 by omega), if_neg (show ¬3072 + k < 2560 by omega), if_neg (show ¬3072 + k < 3072 by omega), if_pos (show 3072 + k < 3584 by omega)]
  exact congrArg u (by omega)

theorem perm_8 (u : ℕ → EReal) (k : ℕ) (hk : k < 768) : perm u (3584 + k) = u (832 + k) := by
  unfold perm
  rw [if_neg (show ¬3584 + k < 512 by omega), if_neg (show ¬3584 + k < 768 by omega), if_neg (show ¬3584 + k < 1024 by omega), if_neg (show ¬3584 + k < 1536 by omega), if_neg (show ¬3584 + k < 2048 by omega), if_neg (show ¬3584 + k < 2560 by omega), if_neg (show ¬3584 + k < 3072 by omega), if_neg (show ¬3584 + k < 3584 by omega), if_pos (show 3584 + k < 4352 by omega)]
  exact congrArg u (by omega)

theorem perm_9 (u : ℕ → EReal) (k : ℕ) (hk : k < 512) : perm u (4352 + k) = u (2624 + k) := by
  unfold perm
  rw [if_neg (show ¬4352 + k < 512 by omega), if_neg (show ¬4352 + k < 768 by omega), if_neg (show ¬4352 + k < 1024 by omega), if_neg (show ¬4352 + k < 1536 by omega), if_neg (show ¬4352 + k < 2048 by omega), if_neg (show ¬4352 + k < 2560 by omega), if_neg (show ¬4352 + k < 3072 by omega), if_neg (show ¬4352 + k < 3584 by omega), if_neg (show ¬4352 + k < 4352 by omega), if_pos (show 4352 + k < 4864 by omega)]
  exact congrArg u (by omega)

theorem perm_10 (u : ℕ → EReal) (k : ℕ) (hk : k < 512) : perm u (4864 + k) = u (4672 + k) := by
  unfold perm
  rw [if_neg (show ¬4864 + k < 512 by omega), if_neg (show ¬4864 + k < 768 by omega), if_neg (show ¬4864 + k < 1024 by omega), if_neg (show ¬4864 + k < 1536 by omega), if_neg (show ¬4864 + k < 2048 by omega), if_neg (show ¬4864 + k < 2560 by omega), if_neg (show ¬4864 + k < 3072 by omega), if_neg (show ¬4864 + k < 3584 by omega), if_neg (show ¬4864 + k < 4352 by omega), if_neg (show ¬4864 + k < 4864 by omega), if_pos (show 4864 + k < 5376 by omega)]
  exact congrArg u (by omega)

theorem perm_11 (u : ℕ → EReal) (k : ℕ) (hk : k < 256) : perm u (5376 + k) = u (5440 + k) := by
  unfold perm
  rw [if_neg (show ¬5376 + k < 512 by omega), if_neg (show ¬5376 + k < 768 by omega), if_neg (show ¬5376 + k < 1024 by omega), if_neg (show ¬5376 + k < 1536 by omega), if_neg (show ¬5376 + k < 2048 by omega), if_neg (show ¬5376 + k < 2560 by omega), if_neg (show ¬5376 + k < 3072 by omega), if_neg (show ¬5376 + k < 3584 by omega), if_neg (show ¬5376 + k < 4352 by omega), if_neg (show ¬5376 + k < 4864 by omega), if_neg (show ¬5376 + k < 5376 by omega), if_pos (show 5376 + k < 5632 by omega)]
  exact congrArg u (by omega)

theorem perm_12 (u : ℕ → EReal) (k : ℕ) (hk : k < 64) : perm u (5632 + k) = u (768 + k) := by
  unfold perm
  rw [if_neg (show ¬5632 + k < 512 by omega), if_neg (show ¬5632 + k < 768 by omega), if_neg (show ¬5632 + k < 1024 by omega), if_neg (show ¬5632 + k < 1536 by omega), if_neg (show ¬5632 + k < 2048 by omega), if_neg (show ¬5632 + k < 2560 by omega), if_neg (show ¬5632 + k < 3072 by omega), if_neg (show ¬5632 + k < 3584 by omega), if_neg (show ¬5632 + k < 4352 by omega), if_neg (show ¬5632 + k < 4864 by omega), if_neg (show ¬5632 + k < 5376 by omega), if_neg (show ¬5632 + k < 5632 by omega), if_pos (show 5632 + k < 5696 by omega)]
  exact congrArg u (by omega)

theorem perm_pad (u : ℕ → EReal) (k : ℕ) : perm u (5696 + k) = 0 := by
  unfold perm
  rw [if_neg (show ¬5696 + k < 512 by omega), if_neg (show ¬5696 + k < 768 by omega), if_neg (show ¬5696 + k < 1024 by omega), if_neg (show ¬5696 + k < 1536 by omega), if_neg (show ¬5696 + k < 2048 by omega), if_neg (show ¬5696 + k < 2560 by omega), if_neg (show ¬5696 + k < 3072 by omega), if_neg (show ¬5696 + k < 3584 by omega), if_neg (show ¬5696 + k < 4352 by omega), if_neg (show ¬5696 + k < 4864 by omega), if_neg (show ¬5696 + k < 5376 by omega), if_neg (show ¬5696 + k < 5632 by omega), if_neg (show ¬5696 + k < 5696 by omega)]

theorem seg_pad (f g : ℕ → EReal) (n : ℕ) : seg (fun K => perm f K * perm g K) 5696 n = 0 := by
  unfold seg
  refine Finset.sum_eq_zero fun k _ => ?_
  show perm f (5696 + k) * perm g (5696 + k) = 0
  rw [perm_pad, zero_mul]

theorem split_new (h : ℕ → EReal) : ∑ K ∈ Finset.range 5760, h K = seg h 0 512 + seg h 512 256 + seg h 768 256 + seg h 1024 512 + seg h 1536 512 + seg h 2048 512 + seg h 2560 512 + seg h 3072 512 + seg h 3584 768 + seg h 4352 512 + seg h 4864 512 + seg h 5376 256 + seg h 5632 64 + seg h 5696 64 := by
  have e0 := seg_zero h 512
  have e1 := (seg_add h 512 256).trans (congrArg (· + seg h 512 256) e0)
  have e2 := (seg_add h 768 256).trans (congrArg (· + seg h 768 256) e1)
  have e3 := (seg_add h 1024 512).trans (congrArg (· + seg h 1024 512) e2)
  have e4 := (seg_add h 1536 512).trans (congrArg (· + seg h 1536 512) e3)
  have e5 := (seg_add h 2048 512).trans (congrArg (· + seg h 2048 512) e4)
  have e6 := (seg_add h 2560 512).trans (congrArg (· + seg h 2560 512) e5)
  have e7 := (seg_add h 3072 512).trans (congrArg (· + seg h 3072 512) e6)
  have e8 := (seg_add h 3584 768).trans (congrArg (· + seg h 3584 768) e7)
  have e9 := (seg_add h 4352 512).trans (congrArg (· + seg h 4352 512) e8)
  have e10 := (seg_add h 4864 512).trans (congrArg (· + seg h 4864 512) e9)
  have e11 := (seg_add h 5376 256).trans (congrArg (· + seg h 5376 256) e10)
  have e12 := (seg_add h 5632 64).trans (congrArg (· + seg h 5632 64) e11)
  have e13 := (seg_add h 5696 64).trans (congrArg (· + seg h 5696 64) e12)
  exact e13

theorem split_old (h : ℕ → EReal) : ∑ K ∈ Finset.range 5696, h K = seg h 0 512 + seg h 512 256 + seg h 768 64 + seg h 832 768 + seg h 1600 512 + seg h 2112 512 + seg h 2624 512 + seg h 3136 512 + seg h 3648 512 + seg h 4160 512 + seg h 4672 512 + seg h 5184 256 + seg h 5440 256 := by
  have e0 := seg_zero h 512
  have e1 := (seg_add h 512 256).trans (congrArg (· + seg h 512 256) e0)
  have e2 := (seg_add h 768 64).trans (congrArg (· + seg h 768 64) e1)
  have e3 := (seg_add h 832 768).trans (congrArg (· + seg h 832 768) e2)
  have e4 := (seg_add h 1600 512).trans (congrArg (· + seg h 1600 512) e3)
  have e5 := (seg_add h 2112 512).trans (congrArg (· + seg h 2112 512) e4)
  have e6 := (seg_add h 2624 512).trans (congrArg (· + seg h 2624 512) e5)
  have e7 := (seg_add h 3136 512).trans (congrArg (· + seg h 3136 512) e6)
  have e8 := (seg_add h 3648 512).trans (congrArg (· + seg h 3648 512) e7)
  have e9 := (seg_add h 4160 512).trans (congrArg (· + seg h 4160 512) e8)
  have e10 := (seg_add h 4672 512).trans (congrArg (· + seg h 4672 512) e9)
  have e11 := (seg_add h 5184 256).trans (congrArg (· + seg h 5184 256) e10)
  have e12 := (seg_add h 5440 256).trans (congrArg (· + seg h 5440 256) e11)
  exact e12

/-- The product's sum does not depend on the order of the columns, and the columns of zeros add nothing. -/
theorem perm_sum (f g : ℕ → EReal) : ∑ K ∈ Finset.range 5760, perm f K * perm g K = ∑ K ∈ Finset.range 5696, f K * g K := by
  rw [split_new (fun K => perm f K * perm g K), split_old (fun K => f K * g K), seg_pad,
    seg_perm f g 0 0 512 perm_0,
    seg_perm f g 512 512 256 perm_1,
    seg_perm f g 768 5184 256 perm_2,
    seg_perm f g 1024 1600 512 perm_3,
    seg_perm f g 1536 2112 512 perm_4,
    seg_perm f g 2048 3136 512 perm_5,
    seg_perm f g 2560 3648 512 perm_6,
    seg_perm f g 3072 4160 512 perm_7,
    seg_perm f g 3584 832 768 perm_8,
    seg_perm f g 4352 2624 512 perm_9,
    seg_perm f g 4864 4672 512 perm_10,
    seg_perm f g 5376 5440 256 perm_11,
    seg_perm f g 5632 768 64 perm_12]
  abel

end Cert.DInProjIdeal.Val
-- ==== Proof.DInProjVal.lean ====
module

public import proofs.«01_k».proof.Defs
public import proofs.«01_k».proof.Proof.DInProjHost
public import proofs.«01_k».proof.Proof.Gen.DInProjIdeal.Value
public import proofs.«01_k».proof.Proof.Gen.DInProjRefIdeal.Run
public import proofs.«01_k».proof.Proof.Gen.DInProjRefIdeal.Read

@[expose] public section

set_option maxRecDepth 16384

noncomputable section

namespace Cert.DInProjIdeal.Val

open Cert.DInProjIdeal Cert.DInProjIdeal.Gen Cert.Prod Idealize.ShloMosaic Idealize.ShloMosaic.TcCoe Idealize.ShloMosaic.Tactic
open Idealize.SL.Sem
open Idealize.ShloMosaic.Pipeline (Dat Cfg Window)
open scoped BigOperators

/-! ## The payloads, entry by entry -/

theorem pay1_apply (x y : Vec Ideal S1024x1920 .bf16) (r d : Fin 1024) :
    k0_pay1 x y (ix2 r d) = ∑ k : Fin 1920, x (ix2 r k) * y (ix2 d k) := by
  pointwise [k0_pay1]

theorem pay2_apply (x y : Vec Ideal S1024x1920 .bf16) : k0_pay2 x y = k0_pay1 x y := by
  unfold k0_pay2; exact shapeCast_id _ _

theorem pay3_apply (x y : Vec Ideal S1024x1920 .bf16) (a : Vec Ideal S1024x1024 .f32) : k0_pay3 x y a = addf a (k0_pay1 x y) := by
  unfold k0_pay3; exact shapeCast_id _ _

/-! ## What a point leaves -/

section
variable (c : Dev nD) (i : grid0.Coords) (arg3 : Memref sig .tc .vmem S1024x1920 .bf16) (harg3 : arg3.IsWhole) (arg4 : Memref sig .tc .vmem S1024x1920 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
  (x0 x1 : Vec Ideal S1024x1920 .bf16) (x2 xs : Vec Ideal S1024x1024 .f32)

theorem sA (hc0 : cond0_0 i) (hc1 : ¬cond0_1 i) (hc2 : ¬cond0_2 i) :
    sout0_A_0 (F := Ideal) c i arg3 harg3 arg4 harg4 arg5 harg5 arg6 harg6 arg7 harg7 hc0 hc1 hc2 x0 x1 x2 = k0_pay1 x0 x1 := by
  refine (stored VS0_0 _ _ _).trans ?_
  refine (pay2_apply _ _).trans ?_
  refine congrArg₂ k0_pay1 ((loaded arg3.view _ _).trans (harg3.read_unread x0)) ((loaded arg4.view _ _).trans (harg4.read_unread x1))

theorem sB (hc0 : ¬cond0_0 i) (hc1 : cond0_1 i) (hc2 : ¬cond0_2 i) :
    sout0_B_0 (F := Ideal) c i arg3 harg3 arg4 harg4 arg5 harg5 arg6 harg6 arg7 harg7 hc0 hc1 hc2 x0 x1 x2 xs = addf xs (k0_pay1 x0 x1) := by
  refine (stored VS0_0 _ _ _).trans ?_
  refine (pay3_apply _ _ _).trans ?_
  refine congrArg₂ addf ((loaded arg7.view _ _).trans (harg7.read_unread xs))
    (congrArg₂ k0_pay1 ((loaded arg3.view _ _).trans (harg3.read_unread x0)) ((loaded arg4.view _ _).trans (harg4.read_unread x1)))

theorem sC (hc0 : ¬cond0_0 i) (hc1 : cond0_1 i) (hc2 : cond0_2 i) :
    sout0_C_0 (F := Ideal) c i arg3 harg3 arg4 harg4 arg5 harg5 arg6 harg6 arg7 harg7 hc0 hc1 hc2 x0 x1 x2 xs = addf xs (k0_pay1 x0 x1) := by
  refine (stored VS0_0 _ _ _).trans ?_
  refine (pay3_apply _ _ _).trans ?_
  refine congrArg₂ addf ((loaded arg7.view _ _).trans (harg7.read_unread xs))
    (congrArg₂ k0_pay1 ((loaded arg3.view _ _).trans (harg3.read_unread x0)) ((loaded arg4.view _ _).trans (harg4.read_unread x1)))

theorem oC (hc0 : ¬cond0_0 i) (hc1 : cond0_1 i) (hc2 : cond0_2 i) :
    out0_C_3 (F := Ideal) c i arg3 harg3 arg4 harg4 arg5 harg5 arg6 harg6 arg7 harg7 hc0 hc1 hc2 x0 x1 x2 xs = k0_pay4 (addf xs (k0_pay1 x0 x1)) x2 := by
  refine (stored VO0_3 _ _ _).trans ?_
  refine congrArg₂ k0_pay4 ?_ ((loaded arg5.view _ _).trans (harg5.read_unread x2))
  refine (loaded arg7.view _ _).trans ?_
  refine (stored arg7.view _ _ _).trans ?_
  refine (pay3_apply _ _ _).trans ?_
  refine congrArg₂ addf ((loaded arg7.view _ _).trans (harg7.read_unread xs))
    (congrArg₂ k0_pay1 ((loaded arg3.view _ _).trans (harg3.read_unread x0)) ((loaded arg4.view _ _).trans (harg4.read_unread x1)))

end

/-! ## The blocks, and the sum over the points of a run -/

variable (m : (ℓ : Loc nD τ sig) → Buf (Elt Ideal) ℓ) (ρ : Dev nD → PrngReg)

theorem idx0 : ∀ t : Fin cfg0.N, win0_0.index t = ![t.val / 6, t.val % 3] := (by decide +kernel : ∀ t : Fin grid0.N, _)
theorem idx1 : ∀ t : Fin cfg0.N, win0_1.index t = ![t.val / 3 % 2, t.val % 3] := (by decide +kernel : ∀ t : Fin grid0.N, _)
theorem idx2 : ∀ t : Fin cfg0.N, win0_2.index t = ![t.val / 6, t.val / 3 % 2] := (by decide +kernel : ∀ t : Fin grid0.N, _)

variable (c : Dev nD) (t : Fin cfg0.N)

theorem t_lt : t.val < 48 := Nat.lt_of_lt_of_eq t.isLt N_0

theorem emb0 (r : Fin 1024) (k : Fin 1920) (R : Fin 8192) (K : Fin 5760) (hR : R.val = 1024 * (t.val / 6) + r.val) (hK : K.val = 1920 * (t.val % 3) + k.val) :
    ((cfg0.win 0).blk t).view.emb (ix2 r k) = ix2 R K := by
  blk_ext [idx0 t]

theorem emb1 (d : Fin 1024) (k : Fin 1920) (D : Fin 2048) (K : Fin 5760) (hD : D.val = 1024 * (t.val / 3 % 2) + d.val) (hK : K.val = 1920 * (t.val % 3) + k.val) :
    ((cfg0.win 1).blk t).view.emb (ix2 d k) = ix2 D K := by
  blk_ext [idx1 t]

theorem emb2 (r d : Fin 1024) (R : Fin 8192) (D : Fin 2048) (hR : R.val = 1024 * (t.val / 6) + r.val) (hD : D.val = 1024 * (t.val / 3 % 2) + d.val) :
    ((cfg0.win 2).blk t).view.emb (ix2 r d) = ix2 R D := by
  blk_ext [idx2 t]

abbrev Z : Vec Ideal S8192x2048 .f32 := m ((c.tc : Thread nD τ).loc main_arg2)

theorem V_Z : (V m c main_arg2 : Vec Ideal S8192x2048 .f32) = Z m c := V_main_arg2 m c

theorem blk0 (r : Fin 1024) (k : Fin 1920) : iblk m c 0 t (ix2 r k) = perm (at2 (X m c) (1024 * (t.val / 6) + r.val)) (1920 * (t.val % 3) + k.val) := by
  have ht := t_lt t
  refine (congrArg (V m c main_v29) (emb0 t r k ⟨1024 * (t.val / 6) + r.val, by omega⟩ ⟨1920 * (t.val % 3) + k.val, by omega⟩ rfl rfl)).trans ?_
  exact (congrFun (V_X m c) _).trans (catA_apply (X m c) _ _)

theorem blk1 (d : Fin 1024) (k : Fin 1920) : iblk m c 1 t (ix2 d k) = perm (at2 (Y m c) (1024 * (t.val / 3 % 2) + d.val)) (1920 * (t.val % 3) + k.val) := by
  have ht := t_lt t
  refine (congrArg (V m c main_v59) (emb1 t d k ⟨1024 * (t.val / 3 % 2) + d.val, by omega⟩ ⟨1920 * (t.val % 3) + k.val, by omega⟩ rfl rfl)).trans ?_
  exact (congrFun (V_Y m c) _).trans (catB_apply (Y m c) _ _)

theorem blk2 (r d : Fin 1024) : iblk m c 2 t (ix2 r d) = at2 (Z m c) (1024 * (t.val / 6) + r.val) (1024 * (t.val / 3 % 2) + d.val) := by
  have ht := t_lt t
  rw [at2_of (Z m c) (show 1024 * (t.val / 6) + r.val < 8192 by omega) (show 1024 * (t.val / 3 % 2) + d.val < 2048 by omega), ← V_Z m c]
  exact congrArg (V m c main_arg2) (emb2 t r d _ _ rfl rfl)

/-- One term of the product, over the rearranged columns, at an entry of the block that the run of points numbered `q` works on. -/
def term (q r d k : ℕ) : EReal := perm (at2 (X m c) (1024 * (q / 2) + r)) k * perm (at2 (Y m c) (1024 * (q % 2) + d)) k

theorem prod_apply (r d : Fin 1024) : k0_pay1 (iblk m c 0 t) (iblk m c 1 t) (ix2 r d) = ∑ k : Fin 1920, term m c (t.val / 3) r d (1920 * (t.val % 3) + k.val) := by
  rw [pay1_apply]
  refine Finset.sum_congr rfl fun k _ => ?_
  rw [blk0, blk1]
  unfold term
  rw [show t.val / 3 / 2 = t.val / 6 by omega]

abbrev prev (c : Dev nD) (t : Fin cfg0.N) : Vec Ideal S1024x1024 .f32 := (outsAt0 m c (t.val - 1) (Nat.lt_of_le_of_lt (Nat.sub_le _ _) t.isLt)).2

theorem stepA (h0 : t.val % 3 = 0) : (outsAt0 m c t.val t.isLt).2 = k0_pay1 (iblk m c 0 t) (iblk m c 1 t) := by
  have h1 : ¬1 ≤ t.val % 3 := by omega
  have h2 : ¬t.val % 3 = 2 := by omega
  refine (congrArg Prod.snd (outsAt0_A m c t h0 h1 h2)).trans ?_
  dsimp only
  exact sA c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) _ _ _

theorem stepB (h0 : ¬t.val % 3 = 0) : (outsAt0 m c t.val t.isLt).2 = addf (F := Ideal) (prev m c t) (k0_pay1 (iblk m c 0 t) (iblk m c 1 t)) := by
  have h1 : 1 ≤ t.val % 3 := by omega
  by_cases h2 : t.val % 3 = 2
  · refine (congrArg Prod.snd (outsAt0_C m c t h0 h1 h2)).trans ?_
    dsimp only
    exact sC c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (prev m c t) _ _ _
  · refine (congrArg Prod.snd (outsAt0_B m c t h0 h1 h2)).trans ?_
    dsimp only
    exact sB c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (prev m c t) _ _ _

theorem stepO (h2 : t.val % 3 = 2) : (outsAt0 m c t.val t.isLt).1 = k0_pay4 (F := Ideal) (outsAt0 m c t.val t.isLt).2 (iblk m c 2 t) := by
  have h0 : ¬t.val % 3 = 0 := by omega
  have h1 : 1 ≤ t.val % 3 := by omega
  refine Eq.trans ?_ (congrArg (fun a => k0_pay4 (F := Ideal) a (iblk m c 2 t)) (stepB m c t h0)).symm
  refine (congrArg Prod.fst (outsAt0_C m c t h0 h1 h2)).trans ?_
  dsimp only
  exact oC c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (prev m c t) _ _ _

/-- After a point the scratch holds the product's sum up to the point's last row of the operands. -/
theorem acc_eq (r d : Fin 1024) (n : ℕ) : ∀ hn : n < cfg0.N, (outsAt0 m c n hn).2 (ix2 r d) = ∑ k ∈ Finset.range (1920 * (n % 3 + 1)), term m c (n / 3) r d k := by
  induction n with
  | zero =>
    intro hn
    refine (congrFun (stepA m c ⟨0, hn⟩ rfl) _).trans ((prod_apply m c ⟨0, hn⟩ r d).trans ?_)
    exact (block_one _ 1920).symm
  | succ n ih =>
    intro hn
    by_cases h0 : (n + 1) % 3 = 0
    · refine (congrFun (stepA m c ⟨n + 1, hn⟩ h0) _).trans ((prod_apply m c ⟨n + 1, hn⟩ r d).trans ?_)
      show ∑ k : Fin 1920, term m c ((n + 1) / 3) r d (1920 * ((n + 1) % 3) + k.val) = _
      rw [h0, block_one]
    · have e1 : (n + 1) / 3 = n / 3 := by omega
      have e2 : (n + 1) % 3 = n % 3 + 1 := by omega
      refine (congrFun (stepB m c ⟨n + 1, hn⟩ h0) _).trans ?_
      refine (congrArg₂ (· + ·) (ih (Nat.lt_of_succ_lt hn)) (prod_apply m c ⟨n + 1, hn⟩ r d)).trans ?_
      show _ + ∑ k : Fin 1920, term m c ((n + 1) / 3) r d (1920 * ((n + 1) % 3) + k.val) = _
      rw [e1, e2]
      exact (block_succ _ 1920 (n % 3 + 1)).symm

/-- At the last point of a run the block written back holds the product's entries and the scaled third argument's added. -/
theorem out_eq (r d : Fin 1024) (n : ℕ) (hn : n < cfg0.N) (h : n % 3 = 2) :
    (outsAt0 m c n hn).1 (ix2 r d) = ∑ k ∈ Finset.range 5760, term m c (n / 3) r d k
      + FloatOps.ofBits (F := Ideal) .f32 0x3FD744FD#32 * at2 (Z m c) (1024 * (n / 6) + r.val) (1024 * (n / 3 % 2) + d.val) := by
  refine (congrFun (stepO m c ⟨n, hn⟩ h) _).trans ?_
  refine congrArg₂ (· + ·) ?_ (congrArg (FloatOps.ofBits (F := Ideal) .f32 0x3FD744FD#32 * ·) (blk2 m c ⟨n, hn⟩ r d))
  refine (acc_eq m c r d n hn).trans ?_
  rw [h]

/-- The array after the run: the product, and the scaled third argument added. -/
theorem G_apply (R : Fin 8192) (D : Fin 2048) :
    Value.G3 m c (ix2 R D) = ∑ k : Fin 5696, X m c (ix2 R k) * Y m c (ix2 D k) + FloatOps.ofBits (F := Ideal) .f32 0x3FD744FD#32 * Z m c (ix2 R D) := by
  have hR := R.isLt
  have hD := D.isLt
  have hp : Value.pt3Of (ix2 R D) = 3 * (2 * (R.val / 1024) + D.val / 1024) + 2 := by
    show 3 * (2 * (R.val / 1024 - 0) + 1 * (D.val / 1024 - 0)) + 2 = _
    omega
  have hlt : Value.pt3Of (ix2 R D) < cfg0.N := by rw [hp, show cfg0.N = 48 from N_0]; omega
  have hl : Value.loc3Of (ix2 R D) = ix2 ⟨R.val % 1024, Nat.mod_lt _ (by decide)⟩ ⟨D.val % 1024, Nat.mod_lt _ (by decide)⟩ := by
    funext a; match a with
      | ⟨0, _⟩ => rfl
      | ⟨1, _⟩ => rfl
  unfold Value.G3
  rw [dif_pos hlt, ← Value.outsAt0_sweep m c _ hlt, hl]
  refine (out_eq m c _ _ _ hlt (by rw [hp]; omega)).trans ?_
  have e0 : 1024 * (Value.pt3Of (ix2 R D) / 3 / 2) + R.val % 1024 = R.val := by rw [hp]; omega
  have e1 : 1024 * (Value.pt3Of (ix2 R D) / 3 % 2) + D.val % 1024 = D.val := by rw [hp]; omega
  have e2 : 1024 * (Value.pt3Of (ix2 R D) / 6) + R.val % 1024 = R.val := by rw [hp]; omega
  refine congrArg₂ (· + ·) ?_ ?_
  · unfold term
    dsimp only
    rw [e0, e1, perm_sum, Finset.sum_range]
    refine Finset.sum_congr rfl fun k _ => ?_
    rw [at2_ix, at2_ix]
  · dsimp only
    rw [e1, e2, at2_ix]

end Cert.DInProjIdeal.Val

namespace Cert.DInProjRefIdeal.Val

open Cert.DInProjRefIdeal Cert.DInProjRefIdeal.Gen Cert.DInProjRefIdeal.Read Idealize.ShloMosaic Idealize.ShloMosaic.TcCoe Idealize.ShloMosaic.Tactic
open scoped BigOperators

theorem ref_apply (x : Vec Ideal S8192x5696 .f32) (y : Vec Ideal S2048x5696 .f32) (z : Vec Ideal S8192x2048 .f32) (R : Fin 8192) (D : Fin 2048) :
    val_main_v7 (F := Ideal) x y z (ix2 R D) = ∑ k : Fin 5696, x (ix2 R k) * y (ix2 D k) + FloatOps.ofBits (F := Ideal) .f32 0x3FD744FD#32 * z (ix2 R D) := by
  rw [val_main_v7_apply, val_main_v4_apply, val_main_v6_apply, val_main_v5_apply, val_main_cst_1_apply]
  refine congrArg₂ (· + ·) ?_ rfl
  refine Finset.sum_congr rfl fun k _ => ?_
  refine congrArg₂ (· * ·) (congrArg x ?_) (congrArg y ?_)
  · funext a; match a with
      | ⟨0, _⟩ => rfl
      | ⟨1, _⟩ => rfl
  · funext a; match a with
      | ⟨0, _⟩ => rfl
      | ⟨1, _⟩ => rfl

end Cert.DInProjRefIdeal.Val

namespace Cert.DInProjIdeal.Val

open Cert.DInProjIdeal Cert.DInProjIdeal.Gen Cert.Prod Idealize.ShloMosaic Idealize.ShloMosaic.TcCoe Idealize.SL.Sem

theorem algebraic : Cert.algebraic_DInProjIdeal_DInProjRefIdeal := by
  intro m ρ m' ρ' _ hm
  refine ⟨fun c => Value.G3 m c, Value.run m ρ, ?_⟩
  refine (θ_run Cert.DInProjRefIdeal.defs _ _).mono (fun r h c => ?_) (Cert.DInProjRefIdeal.Value.run (F := Ideal) m' ρ')
  obtain ⟨e0, e1, e2⟩ := hm c
  obtain ⟨r0, ha⟩ := h c
  refine ⟨?_, ha⟩
  refine (r0.trans (Cert.DInProjRefIdeal.Read.val_main_v7_eq _ _ _)).trans ?_
  rw [e0, e1, e2]
  funext i
  obtain ⟨R, D, rfl⟩ := ix2_of i
  exact (Cert.DInProjRefIdeal.Val.ref_apply _ _ _ R D).trans (G_apply m c R D).symm

end Cert.DInProjIdeal.Val
-- ==== Proof.InProjVal.lean ====
module

public import proofs.«01_k».proof.Defs
public import proofs.«01_k».proof.Proof.Prod
public import proofs.«01_k».proof.Proof.Gen.InProjIdeal.Value
public import proofs.«01_k».proof.Proof.Gen.InProjRefIdeal.Run
public import proofs.«01_k».proof.Proof.Gen.InProjRefIdeal.Read

@[expose] public section

set_option maxRecDepth 16384

noncomputable section

namespace Cert.InProjIdeal.Val

open Cert.InProjIdeal Cert.InProjIdeal.Gen Cert.Prod Idealize.ShloMosaic Idealize.ShloMosaic.TcCoe Idealize.ShloMosaic.Tactic
open Idealize.SL.Sem
open Idealize.ShloMosaic.Pipeline (Dat Cfg Window)
open scoped BigOperators

/-! ## One point's product, and its blocks -/

theorem pay1_apply (x : Vec Ideal S1024x2048 .bf16) (y : Vec Ideal S2048x1152 .bf16) (r : Fin 1024) (d : Fin 1152) :
    k0_pay1 x y (ix2 r d) = ∑ k : Fin 2048, x (ix2 r k) * y (ix2 k d) := by
  pointwise [k0_pay1]

variable (m : (ℓ : Loc nD τ sig) → Buf (Elt Ideal) ℓ) (ρ : Dev nD → PrngReg)

theorem idx0 : ∀ t : Fin cfg0.N, win0_0.index t = ![t.val / 5, 0] := (by decide +kernel : ∀ t : Fin grid0.N, _)
theorem idx1 : ∀ t : Fin cfg0.N, win0_1.index t = ![0, t.val % 5] := (by decide +kernel : ∀ t : Fin grid0.N, _)
theorem idx2 : ∀ t : Fin cfg0.N, win0_2.index t = ![t.val / 5, t.val % 5] := (by decide +kernel : ∀ t : Fin grid0.N, _)

variable (c : Dev nD) (t : Fin cfg0.N)

theorem t_lt : t.val < 40 := Nat.lt_of_lt_of_eq t.isLt N_0

theorem emb0 (r : Fin 1024) (k : Fin 2048) (R : Fin 8192) (hR : R.val = 1024 * (t.val / 5) + r.val) :
    ((cfg0.win 0).blk t).view.emb (ix2 r k) = ix2 R k := by
  blk_ext [idx0 t]

theorem emb1 (k : Fin 2048) (d : Fin 1152) (D : Fin 5760) (hD : D.val = 1152 * (t.val % 5) + d.val) :
    ((cfg0.win 1).blk t).view.emb (ix2 k d) = ix2 k D := by
  blk_ext [idx1 t]

theorem emb2 (r : Fin 1024) (d : Fin 1152) (R : Fin 8192) (D : Fin 5760) (hR : R.val = 1024 * (t.val / 5) + r.val) (hD : D.val = 1152 * (t.val % 5) + d.val) :
    ((cfg0.win 2).blk t).view.emb (ix2 r d) = ix2 R D := by
  blk_ext [idx2 t]

abbrev X : Vec Ideal S8192x2048 .f32 := m ((c.tc : Thread nD τ).loc main_arg0)
abbrev Y : Vec Ideal S2048x5760 .f32 := m ((c.tc : Thread nD τ).loc main_arg1)

theorem V_X : (V m c main_v0 : Vec Ideal S8192x2048 .bf16) = X m c := by
  entry_read
  rfl

theorem V_Y : (V m c main_v1 : Vec Ideal S2048x5760 .bf16) = Y m c := by
  entry_read
  rfl

theorem blk0 (r : Fin 1024) (k : Fin 2048) (R : Fin 8192) (hR : R.val = 1024 * (t.val / 5) + r.val) : iblk m c 0 t (ix2 r k) = X m c (ix2 R k) := by
  rw [← V_X m c]
  exact congrArg (V m c main_v0) (emb0 t r k R hR)

theorem blk1 (k : Fin 2048) (d : Fin 1152) (D : Fin 5760) (hD : D.val = 1152 * (t.val % 5) + d.val) : iblk m c 1 t (ix2 k d) = Y m c (ix2 k D) := by
  rw [← V_Y m c]
  exact congrArg (V m c main_v1) (emb1 t k d D hD)

/-- The product of the two arguments. -/
def prod : Vec Ideal S8192x5760 .f32 := fun i => ∑ k : Fin 2048, X m c (ix2 (i 0) k) * Y m c (ix2 k (i 1))

theorem point_apply (r : Fin 1024) (d : Fin 1152) (R : Fin 8192) (D : Fin 5760) (hR : R.val = 1024 * (t.val / 5) + r.val) (hD : D.val = 1152 * (t.val % 5) + d.val) :
    k0_pay1 (iblk m c 0 t) (iblk m c 1 t) (ix2 r d) = prod m c (ix2 R D) := by
  rw [pay1_apply]
  refine Finset.sum_congr rfl fun k _ => ?_
  rw [blk0 m c t r k R hR, blk1 m c t k d D hD]
  rfl

/-- The array after the run: the product. -/
theorem final : (dats m 0 c).arrAt 2 cfg0.N = prod m c := by
  refine (dats m 0 c).arrAt_eq_of_covers 2 _ (by decide +kernel) fun t _ y => ?_
  have ht := t_lt t
  rw [after0_2]
  frame_out
  obtain ⟨r, d, rfl⟩ := ix2_of y
  rw [emb2 t r d ⟨1024 * (t.val / 5) + r.val, by omega⟩ ⟨1152 * (t.val % 5) + d.val, by omega⟩ rfl rfl]
  exact point_apply m c t r d _ _ rfl rfl

end Cert.InProjIdeal.Val

namespace Cert.InProjRefIdeal.Val

open Cert.InProjRefIdeal Cert.InProjRefIdeal.Gen Cert.InProjRefIdeal.Read Idealize.ShloMosaic Idealize.ShloMosaic.TcCoe Idealize.ShloMosaic.Tactic
open scoped BigOperators

theorem ref_apply (x : Vec Ideal S8192x2048 .f32) (y : Vec Ideal S2048x5760 .f32) (R : Fin 8192) (D : Fin 5760) :
    val_main_v0 (F := Ideal) x y (ix2 R D) = ∑ k : Fin 2048, x (ix2 R k) * y (ix2 k D) := by
  rw [val_main_v0_apply]
  refine Finset.sum_congr rfl fun k _ => ?_
  refine congrArg₂ (· * ·) (congrArg x ?_) (congrArg y ?_)
  · funext a; match a with
      | ⟨0, _⟩ => rfl
      | ⟨1, _⟩ => rfl
  · funext a; match a with
      | ⟨0, _⟩ => rfl
      | ⟨1, _⟩ => rfl

end Cert.InProjRefIdeal.Val

namespace Cert.InProjIdeal.Val

open Cert.InProjIdeal Cert.InProjIdeal.Gen Cert.Prod Idealize.ShloMosaic Idealize.ShloMosaic.TcCoe Idealize.SL.Sem

theorem algebraic : Cert.algebraic_InProjIdeal_InProjRefIdeal := by
  intro m ρ m' ρ' _ hm
  refine ⟨fun c => prod m c, (θ_run defs _ _).mono (fun r h c => ?_) (Value.run_blocks m ρ), ?_⟩
  · obtain ⟨r0, ha⟩ := h c
    exact ⟨r0.trans (final m c), ha⟩
  refine (θ_run Cert.InProjRefIdeal.defs _ _).mono (fun r h c => ?_) (Cert.InProjRefIdeal.Value.run (F := Ideal) m' ρ')
  obtain ⟨e0, e1⟩ := hm c
  obtain ⟨r0, ha⟩ := h c
  refine ⟨?_, ha⟩
  refine (r0.trans (Cert.InProjRefIdeal.Read.val_main_v0_eq _ _)).trans ?_
  rw [e0, e1]
  funext i
  obtain ⟨R, D, rfl⟩ := ix2_of i
  exact Cert.InProjRefIdeal.Val.ref_apply _ _ R D

end Cert.InProjIdeal.Val
-- ==== Proof.DwOutVal.lean ====
module

public import proofs.«01_k».proof.Defs
public import proofs.«01_k».proof.Proof.Prod
public import proofs.«01_k».proof.Proof.Gen.DwOutIdeal.Value
public import proofs.«01_k».proof.Proof.Gen.DwOutRefIdeal.Run
public import proofs.«01_k».proof.Proof.Gen.DwOutRefIdeal.Read

@[expose] public section

set_option maxRecDepth 16384

noncomputable section

namespace Cert.DwOutIdeal.Val

open Cert.DwOutIdeal Cert.DwOutIdeal.Gen Cert.Prod Idealize.ShloMosaic Idealize.ShloMosaic.TcCoe Idealize.ShloMosaic.Tactic
open Idealize.SL.Sem
open Idealize.ShloMosaic.Pipeline (Dat Cfg Window)
open scoped BigOperators

/-! ## The payloads, entry by entry -/

theorem pay1_apply (x : Vec Ideal S2048x1024 .bf16) (y : Vec Ideal S2048x1024 .f32) (r d : Fin 1024) :
    k0_pay1 x y (ix2 r d) = ∑ k : Fin 2048, x (ix2 k r) * y (ix2 k d) := by
  pointwise [k0_pay1]

theorem pay2_apply (x : Vec Ideal S2048x1024 .bf16) (y : Vec Ideal S2048x1024 .f32) : k0_pay2 x y = k0_pay1 x y := by
  unfold k0_pay2; exact shapeCast_id _ _

theorem pay3_apply (x : Vec Ideal S2048x1024 .bf16) (y : Vec Ideal S2048x1024 .f32) (a : Vec Ideal S1024x1024 .f32) : k0_pay3 x y a = addf a (k0_pay1 x y) := by
  unfold k0_pay3; exact shapeCast_id _ _

/-! ## What a point leaves -/

section
variable (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .f32) (harg5 : arg5.IsWhole) (arg6 : Memref sig .tc .vmem S1024x1024 .f32) (harg6 : arg6.IsWhole)
  (x0 : Vec Ideal S2048x1024 .bf16) (x1 : Vec Ideal S2048x1024 .f32) (xs : Vec Ideal S1024x1024 .f32)

theorem sA (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  refine (stored VS0_0 _ _ _).trans ?_
  refine (pay2_apply _ _).trans ?_
  refine congrArg₂ k0_pay1 ((loaded arg3.view _ _).trans (harg3.read_unread x0)) ((loaded arg4.view _ _).trans (harg4.read_unread x1))

theorem sB (hc0 : ¬cond0_0 i) (hc1 : cond0_1 i) (hc2 : ¬cond0_2 i) :
    sout0_B_0 (F := Ideal) c i arg3 harg3 arg4 harg4 arg5 harg5 arg6 harg6 hc0 hc1 hc2 x0 x1 xs = addf xs (k0_pay1 x0 x1) := by
  refine (stored VS0_0 _ _ _).trans ?_
  refine (pay3_apply _ _ _).trans ?_
  refine congrArg₂ addf ((loaded arg6.view _ _).trans (harg6.read_unread xs))
    (congrArg₂ k0_pay1 ((loaded arg3.view _ _).trans (harg3.read_unread x0)) ((loaded arg4.view _ _).trans (harg4.read_unread x1)))

theorem sC (hc0 : ¬cond0_0 i) (hc1 : cond0_1 i) (hc2 : cond0_2 i) :
    sout0_C_0 (F := Ideal) c i arg3 harg3 arg4 harg4 arg5 harg5 arg6 harg6 hc0 hc1 hc2 x0 x1 xs = addf xs (k0_pay1 x0 x1) := by
  refine (stored VS0_0 _ _ _).trans ?_
  refine (pay3_apply _ _ _).trans ?_
  refine congrArg₂ addf ((loaded arg6.view _ _).trans (harg6.read_unread xs))
    (congrArg₂ k0_pay1 ((loaded arg3.view _ _).trans (harg3.read_unread x0)) ((loaded arg4.view _ _).trans (harg4.read_unread x1)))

theorem oC (hc0 : ¬cond0_0 i) (hc1 : cond0_1 i) (hc2 : cond0_2 i) :
    out0_C_2 (F := Ideal) c i arg3 harg3 arg4 harg4 arg5 harg5 arg6 harg6 hc0 hc1 hc2 x0 x1 xs = addf xs (k0_pay1 x0 x1) := by
  refine (stored VO0_2 _ _ _).trans ?_
  refine (loaded arg6.view _ _).trans ?_
  refine (stored arg6.view _ _ _).trans ?_
  refine (pay3_apply _ _ _).trans ?_
  refine congrArg₂ addf ((loaded arg6.view _ _).trans (harg6.read_unread xs))
    (congrArg₂ k0_pay1 ((loaded arg3.view _ _).trans (harg3.read_unread x0)) ((loaded arg4.view _ _).trans (harg4.read_unread x1)))

end

/-! ## The blocks, and the sum over the points of a run -/

variable (m : (ℓ : Loc nD τ sig) → Buf (Elt Ideal) ℓ) (ρ : Dev nD → PrngReg)

theorem idx0 : ∀ t : Fin cfg0.N, win0_0.index t = ![t.val % 4, t.val / 8] := (by decide +kernel : ∀ t : Fin grid0.N, _)
theorem idx1 : ∀ t : Fin cfg0.N, win0_1.index t = ![t.val % 4, t.val / 4 % 2] := (by decide +kernel : ∀ t : Fin grid0.N, _)

variable (c : Dev nD) (t : Fin cfg0.N)

theorem t_lt : t.val < 16 := Nat.lt_of_lt_of_eq t.isLt N_0

theorem emb0 (k : Fin 2048) (r : Fin 1024) (K : Fin 8192) (R : Fin 2048) (hK : K.val = 2048 * (t.val % 4) + k.val) (hR : R.val = 1024 * (t.val / 8) + r.val) :
    ((cfg0.win 0).blk t).view.emb (ix2 k r) = ix2 K R := by
  blk_ext [idx0 t]

theorem emb1 (k : Fin 2048) (d : Fin 1024) (K : Fin 8192) (D : Fin 2048) (hK : K.val = 2048 * (t.val % 4) + k.val) (hD : D.val = 1024 * (t.val / 4 % 2) + d.val) :
    ((cfg0.win 1).blk t).view.emb (ix2 k d) = ix2 K D := by
  blk_ext [idx1 t]

abbrev X : Vec Ideal S8192x2048 .f32 := m ((c.tc : Thread nD τ).loc main_arg0)
abbrev Y : Vec Ideal S8192x2048 .f32 := m ((c.tc : Thread nD τ).loc main_arg1)

theorem V_v0 : (V m c main_v0 : Vec Ideal S8192x2048 .bf16) = X m c := by
  entry_read
  rfl

theorem V_Y : (V m c main_arg1 : Vec Ideal S8192x2048 .f32) = Y m c := V_main_arg1 m c

theorem blk0 (k : Fin 2048) (r : Fin 1024) : iblk m c 0 t (ix2 k r) = at2 (X m c) (2048 * (t.val % 4) + k.val) (1024 * (t.val / 8) + r.val) := by
  have ht := t_lt t
  rw [at2_of (X m c) (show 2048 * (t.val % 4) + k.val < 8192 by omega) (show 1024 * (t.val / 8) + r.val < 2048 by omega), ← V_v0 m c]
  exact congrArg (V m c main_v0) (emb0 t k r _ _ rfl rfl)

theorem blk1 (k : Fin 2048) (d : Fin 1024) : iblk m c 1 t (ix2 k d) = at2 (Y m c) (2048 * (t.val % 4) + k.val) (1024 * (t.val / 4 % 2) + d.val) := by
  have ht := t_lt t
  rw [at2_of (Y m c) (show 2048 * (t.val % 4) + k.val < 8192 by omega) (show 1024 * (t.val / 4 % 2) + d.val < 2048 by omega), ← V_Y m c]
  exact congrArg (V m c main_arg1) (emb1 t k d _ _ rfl rfl)

/-- One term of the product at an entry of the block that the run of points numbered `q` works on. -/
def term (q r d k : ℕ) : EReal := at2 (X m c) k (1024 * (q / 2) + r) * at2 (Y m c) k (1024 * (q % 2) + d)

theorem prod_apply (r d : Fin 1024) : k0_pay1 (iblk m c 0 t) (iblk m c 1 t) (ix2 r d) = ∑ k : Fin 2048, term m c (t.val / 4) r d (2048 * (t.val % 4) + k.val) := by
  rw [pay1_apply]
  refine Finset.sum_congr rfl fun k _ => ?_
  rw [blk0, blk1]
  unfold term
  rw [show t.val / 4 / 2 = t.val / 8 by omega]

abbrev prev (c : Dev nD) (t : Fin cfg0.N) : Vec Ideal S1024x1024 .f32 := (outsAt0 m c (t.val - 1) (Nat.lt_of_le_of_lt (Nat.sub_le _ _) t.isLt)).2

theorem stepA (h0 : t.val % 4 = 0) : (outsAt0 m c t.val t.isLt).2 = k0_pay1 (iblk m c 0 t) (iblk m c 1 t) := by
  have h1 : ¬1 ≤ t.val % 4 := by omega
  have h2 : ¬t.val % 4 = 3 := by omega
  refine (congrArg Prod.snd (outsAt0_A m c t h0 h1 h2)).trans ?_
  dsimp only
  exact sA c (grid0.coords t) (ms0_0 t) (hs0_0 t) (ms0_1 t) (hs0_1 t) (ms0_2 t) (hs0_2 t) scM0_0 (Memref.isWhole_whole _) (iblk m c 0 t) (iblk m c 1 t) _ _ _

theorem stepB (h0 : ¬t.val % 4 = 0) : (outsAt0 m c t.val t.isLt).2 = addf (F := Ideal) (prev m c t) (k0_pay1 (iblk m c 0 t) (iblk m c 1 t)) := by
  have h1 : 1 ≤ t.val % 4 := by omega
  by_cases h2 : t.val % 4 = 3
  · refine (congrArg Prod.snd (outsAt0_C m c t h0 h1 h2)).trans ?_
    dsimp only
    exact sC c (grid0.coords t) (ms0_0 t) (hs0_0 t) (ms0_1 t) (hs0_1 t) (ms0_2 t) (hs0_2 t) scM0_0 (Memref.isWhole_whole _) (iblk m c 0 t) (iblk m c 1 t) (prev m c t) _ _ _
  · refine (congrArg Prod.snd (outsAt0_B m c t h0 h1 h2)).trans ?_
    dsimp only
    exact sB c (grid0.coords t) (ms0_0 t) (hs0_0 t) (ms0_1 t) (hs0_1 t) (ms0_2 t) (hs0_2 t) scM0_0 (Memref.isWhole_whole _) (iblk m c 0 t) (iblk m c 1 t) (prev m c t) _ _ _

theorem stepO (h2 : t.val % 4 = 3) : (outsAt0 m c t.val t.isLt).1 = (outsAt0 m c t.val t.isLt).2 := by
  have h0 : ¬t.val % 4 = 0 := by omega
  have h1 : 1 ≤ t.val % 4 := by omega
  refine Eq.trans ?_ (stepB m c t h0).symm
  refine (congrArg Prod.fst (outsAt0_C m c t h0 h1 h2)).trans ?_
  dsimp only
  exact oC c (grid0.coords t) (ms0_0 t) (hs0_0 t) (ms0_1 t) (hs0_1 t) (ms0_2 t) (hs0_2 t) scM0_0 (Memref.isWhole_whole _) (iblk m c 0 t) (iblk m c 1 t) (prev m c t) _ _ _

/-- After a point the scratch holds the product's sum up to the point's last row of the operands. -/
theorem acc_eq (r d : Fin 1024) (n : ℕ) : ∀ hn : n < cfg0.N, (outsAt0 m c n hn).2 (ix2 r d) = ∑ k ∈ Finset.range (2048 * (n % 4 + 1)), term m c (n / 4) r d k := by
  induction n with
  | zero =>
    intro hn
    refine (congrFun (stepA m c ⟨0, hn⟩ rfl) _).trans ((prod_apply m c ⟨0, hn⟩ r d).trans ?_)
    exact (block_one _ 2048).symm
  | succ n ih =>
    intro hn
    by_cases h0 : (n + 1) % 4 = 0
    · refine (congrFun (stepA m c ⟨n + 1, hn⟩ h0) _).trans ((prod_apply m c ⟨n + 1, hn⟩ r d).trans ?_)
      show ∑ k : Fin 2048, term m c ((n + 1) / 4) r d (2048 * ((n + 1) % 4) + k.val) = _
      rw [h0, block_one]
    · have e1 : (n + 1) / 4 = n / 4 := by omega
      have e2 : (n + 1) % 4 = n % 4 + 1 := by omega
      refine (congrFun (stepB m c ⟨n + 1, hn⟩ h0) _).trans ?_
      refine (congrArg₂ (· + ·) (ih (Nat.lt_of_succ_lt hn)) (prod_apply m c ⟨n + 1, hn⟩ r d)).trans ?_
      show _ + ∑ k : Fin 2048, term m c ((n + 1) / 4) r d (2048 * ((n + 1) % 4) + k.val) = _
      rw [e1, e2]
      exact (block_succ _ 2048 (n % 4 + 1)).symm

/-- At the last point of a run the block written back holds the whole product's entries. -/
theorem out_eq (r d : Fin 1024) (n : ℕ) (hn : n < cfg0.N) (h : n % 4 = 3) : (outsAt0 m c n hn).1 (ix2 r d) = ∑ k : Fin 8192, term m c (n / 4) r d k := by
  refine (congrFun (stepO m c ⟨n, hn⟩ h) _).trans ((acc_eq m c r d n hn).trans ?_)
  rw [h]
  exact Finset.sum_range _

/-- The array after the run: the product. -/
theorem G_apply (R D : Fin 2048) : Value.G2 m c (ix2 R D) = ∑ k : Fin 8192, X m c (ix2 k R) * Y m c (ix2 k D) := by
  have hR := R.isLt
  have hD := D.isLt
  have hp : Value.pt2Of (ix2 R D) = 4 * (2 * (R.val / 1024) + D.val / 1024) + 3 := by
    show 4 * (2 * (R.val / 1024 - 0) + 1 * (D.val / 1024 - 0)) + 3 = _
    omega
  have hlt : Value.pt2Of (ix2 R D) < cfg0.N := by rw [hp, show cfg0.N = 16 from N_0]; omega
  have hl : Value.loc2Of (ix2 R D) = ix2 ⟨R.val % 1024, Nat.mod_lt _ (by decide)⟩ ⟨D.val % 1024, Nat.mod_lt _ (by decide)⟩ := by
    funext a; match a with
      | ⟨0, _⟩ => rfl
      | ⟨1, _⟩ => rfl
  unfold Value.G2
  rw [dif_pos hlt, ← Value.outsAt0_sweep m c _ hlt, hl]
  refine (out_eq m c _ _ _ hlt (by rw [hp]; omega)).trans ?_
  refine Finset.sum_congr rfl fun k _ => ?_
  unfold term
  simp only
  rw [hp, show 1024 * ((4 * (2 * (R.val / 1024) + D.val / 1024) + 3) / 4 / 2) + R.val % 1024 = R.val by omega,
    show 1024 * ((4 * (2 * (R.val / 1024) + D.val / 1024) + 3) / 4 % 2) + D.val % 1024 = D.val by omega, at2_ix, at2_ix]

end Cert.DwOutIdeal.Val

namespace Cert.DwOutRefIdeal.Val

open Cert.DwOutRefIdeal Cert.DwOutRefIdeal.Gen Cert.DwOutRefIdeal.Read Idealize.ShloMosaic Idealize.ShloMosaic.TcCoe Idealize.ShloMosaic.Tactic
open scoped BigOperators

theorem ref_apply (x y : Vec Ideal S8192x2048 .f32) (R D : Fin 2048) :
    val_main_v3 (F := Ideal) x y (ix2 R D) = ∑ k : Fin 8192, x (ix2 k R) * y (ix2 k D) := by
  rw [val_main_v3_apply, val_main_v2_apply]
  refine Finset.sum_congr rfl fun k _ => ?_
  rw [mul_comm]
  refine congrArg₂ (· * ·) (congrArg x ?_) (congrArg y ?_)
  · funext a; match a with
      | ⟨0, _⟩ => rfl
      | ⟨1, _⟩ => rfl
  · funext a; match a with
      | ⟨0, _⟩ => rfl
      | ⟨1, _⟩ => rfl

end Cert.DwOutRefIdeal.Val

namespace Cert.DwOutIdeal.Val

open Cert.DwOutIdeal Cert.DwOutIdeal.Gen Cert.Prod Idealize.ShloMosaic Idealize.ShloMosaic.TcCoe Idealize.SL.Sem

theorem algebraic : Cert.algebraic_DwOutIdeal_DwOutRefIdeal := by
  intro m ρ m' ρ' _ hm
  refine ⟨fun c => Value.G2 m c, Value.run m ρ, ?_⟩
  refine (θ_run Cert.DwOutRefIdeal.defs _ _).mono (fun r h c => ?_) (Cert.DwOutRefIdeal.Value.run (F := Ideal) m' ρ')
  obtain ⟨e0, e1⟩ := hm c
  obtain ⟨r0, ha⟩ := h c
  refine ⟨?_, ha⟩
  refine (r0.trans (Cert.DwOutRefIdeal.Read.val_main_v3_eq _ _)).trans ?_
  rw [e0, e1]
  funext i
  obtain ⟨R, D, rfl⟩ := ix2_of i
  exact (Cert.DwOutRefIdeal.Val.ref_apply _ _ R D).trans (G_apply m c R D).symm

end Cert.DwOutIdeal.Val
-- ==== Proof.GateOutVal.lean ====
module

public import proofs.«01_k».proof.Defs
public import proofs.«01_k».proof.Proof.Prod
public import proofs.«01_k».proof.Proof.Gen.GateOutIdeal.Value
public import proofs.«01_k».proof.Proof.Gen.GateOutRefIdeal.Run
public import proofs.«01_k».proof.Proof.Gen.GateOutRefIdeal.Read
public import Idealize.ShloMosaic.Lib.Pipeline.ReadBack

@[expose] public section

set_option maxRecDepth 16384

noncomputable section

namespace Cert.GateOutIdeal.Val

open Cert.GateOutIdeal Cert.GateOutIdeal.Gen Cert.Prod Idealize.ShloMosaic Idealize.ShloMosaic.TcCoe Idealize.ShloMosaic.Tactic
open Idealize.SL.Sem
open Idealize.ShloMosaic.Pipeline (Dat Cfg Window)
open scoped BigOperators

/-! ## Blocks side by side -/

section
variable {n : ℕ} {e : EltTy}

/-- Four blocks of 768, 512, 512 and 256 columns side by side: the four branches. -/
def side (a : Vec Ideal ⟨2, ![n, 768]⟩ e) (b g : Vec Ideal ⟨2, ![n, 512]⟩ e) (d : Vec Ideal ⟨2, ![n, 256]⟩ e) : Vec Ideal ⟨2, ![n, 2048]⟩ e := fun y =>
  if h0 : (y 1).val < 768 then a (ix2 (y 0) ⟨(y 1).val, h0⟩)
  else if h1 : (y 1).val < 1280 then b (ix2 (y 0) ⟨(y 1).val - 768, by omega⟩)
  else if h2 : (y 1).val < 1792 then g (ix2 (y 0) ⟨(y 1).val - 1280, by omega⟩)
  else d (ix2 (y 0) ⟨(y 1).val - 1792, by have h : (y 1).val < 2048 := (y 1).isLt; omega⟩)

variable (a : Vec Ideal ⟨2, ![n, 768]⟩ e) (b g : Vec Ideal ⟨2, ![n, 512]⟩ e) (d : Vec Ideal ⟨2, ![n, 256]⟩ e)

theorem side_0 (r : Fin n) (k : Fin 768) (K : Fin 2048) (hK : K.val = k.val) : side a b g d (ix2 r K) = a (ix2 r k) := by
  obtain ⟨K, hK'⟩ := K
  obtain rfl : K = k.val := hK
  exact dif_pos k.isLt

theorem side_1 (r : Fin n) (k : Fin 512) (K : Fin 2048) (hK : K.val = 768 + k.val) : side a b g d (ix2 r K) = b (ix2 r k) := by
  obtain ⟨K, hK'⟩ := K
  obtain rfl : K = 768 + k.val := hK
  refine (dif_neg (show ¬768 + k.val < 768 by omega)).trans ((dif_pos (show 768 + k.val < 1280 by omega)).trans ?_)
  exact congrArg b (congrArg (ix2 r) (Fin.ext (Nat.add_sub_cancel_left 768 k.val)))

theorem side_2 (r : Fin n) (k : Fin 512) (K : Fin 2048) (hK : K.val = 1280 + k.val) : side a b g d (ix2 r K) = g (ix2 r k) := by
  obtain ⟨K, hK'⟩ := K
  obtain rfl : K = 1280 + k.val := hK
  refine (dif_neg (show ¬1280 + k.val < 768 by omega)).trans ((dif_neg (show ¬1280 + k.val < 1280 by omega)).trans ((dif_pos (show 1280 + k.val < 1792 by omega)).trans ?_))
  exact congrArg g (congrArg (ix2 r) (Fin.ext (Nat.add_sub_cancel_left 1280 k.val)))

theorem side_3 (r : Fin n) (k : Fin 256) (K : Fin 2048) (hK : K.val = 1792 + k.val) : side a b g d (ix2 r K) = d (ix2 r k) := by
  obtain ⟨K, hK'⟩ := K
  obtain rfl : K = 1792 + k.val := hK
  refine (dif_neg (show ¬1792 + k.val < 768 by omega)).trans ((dif_neg (show ¬1792 + k.val < 1280 by omega)).trans ((dif_neg (show ¬1792 + k.val < 1792 by omega)).trans ?_))
  exact congrArg d (congrArg (ix2 r) (Fin.ext (Nat.add_sub_cancel_left 1792 k.val)))

/-- A column lies in one of the four blocks. -/
theorem col_cases (K : Fin 2048) : (∃ k : Fin 768, K.val = k.val) ∨ (∃ k : Fin 512, K.val = 768 + k.val) ∨ (∃ k : Fin 512, K.val = 1280 + k.val) ∨ ∃ k : Fin 256, K.val = 1792 + k.val := by
  have h := K.isLt
  by_cases h0 : K.val < 768
  · exact .inl ⟨⟨K.val, h0⟩, rfl⟩
  by_cases h1 : K.val < 1280
  · exact .inr (.inl ⟨⟨K.val - 768, by omega⟩, by show K.val = 768 + (K.val - 768); omega⟩)
  by_cases h2 : K.val < 1792
  · exact .inr (.inr (.inl ⟨⟨K.val - 1280, by omega⟩, by show K.val = 1280 + (K.val - 1280); omega⟩))
  · exact .inr (.inr (.inr ⟨⟨K.val - 1792, by omega⟩, by show K.val = 1792 + (K.val - 1792); omega⟩))

/-- An array that is the four blocks, each where it lies, is the four blocks side by side. -/
theorem side_eq (F : Vec Ideal ⟨2, ![n, 2048]⟩ e) (h0 : ∀ r (k : Fin 768) (K : Fin 2048), K.val = k.val → F (ix2 r K) = a (ix2 r k))
    (h1 : ∀ r (k : Fin 512) (K : Fin 2048), K.val = 768 + k.val → F (ix2 r K) = b (ix2 r k))
    (h2 : ∀ r (k : Fin 512) (K : Fin 2048), K.val = 1280 + k.val → F (ix2 r K) = g (ix2 r k))
    (h3 : ∀ r (k : Fin 256) (K : Fin 2048), K.val = 1792 + k.val → F (ix2 r K) = d (ix2 r k)) : F = side a b g d := by
  funext y
  obtain ⟨r, K, rfl⟩ := ix2_of y
  obtain ⟨k, hk⟩ | ⟨k, hk⟩ | ⟨k, hk⟩ | ⟨k, hk⟩ := col_cases K
  · rw [h0 r k K hk, side_0 a b g d r k K hk]
  · rw [h1 r k K hk, side_1 a b g d r k K hk]
  · rw [h2 r k K hk, side_2 a b g d r k K hk]
  · rw [h3 r k K hk, side_3 a b g d r k K hk]

/-- A column lies in one of four blocks of 512. -/
theorem quart_cases (K : Fin 2048) : ∃ k : Fin 512, K.val = k.val ∨ K.val = 512 + k.val ∨ K.val = 1024 + k.val ∨ K.val = 1536 + k.val := by
  have h := K.isLt
  exact ⟨⟨K.val % 512, Nat.mod_lt _ (by decide)⟩, by show K.val = K.val % 512 ∨ K.val = 512 + K.val % 512 ∨ K.val = 1024 + K.val % 512 ∨ K.val = 1536 + K.val % 512; omega⟩

end

/-! ## The stores of the branches and of the gated branches, read back -/

/-- A block stored at a column, where it holds an index. -/
theorem tile {n w o : ℕ} {e : EltTy} (p : Vec Ideal ⟨2, ![n, w]⟩ e) (r : Fin n) (K : Fin 2048) (v : Elt Ideal e)
    (h : ∀ k : Fin w, K.val = o + k.val → p (ix2 r k) = v) : View.TileAt (S := ⟨2, ![n, 2048]⟩) (Val := Elt Ideal) (e := e) (ix2 r K) ![0, o] ![n, w] p v := by
  intro x hx
  obtain ⟨r', k, rfl⟩ := ix2_of x
  have h0 : r.val = 0 + r'.val := hx 0
  have h1 : K.val = o + k.val := hx 1
  obtain rfl : r = r' := Fin.ext (h0.trans (Nat.zero_add _))
  exact h k h1

theorem hold {n w o : ℕ} (inb : ∀ a, (![0, o] : Fin 2 → ℕ) a + (![n, w] : Fin 2 → ℕ) a ≤ (⟨2, ![n, 2048]⟩ : Shape).size a) (r : Fin n) (K : Fin 2048) (h0 : o ≤ K.val) (h1 : K.val < o + w) :
    (ix2 r K : (⟨2, ![n, 2048]⟩ : Shape).Idx) ∈ (Rect.unit (s := ⟨2, ![n, 2048]⟩) ![0, o] ![n, w] inb).set :=
  Rect.mem_set_unit.mpr (Fin.forall_fin_two.mpr ⟨⟨Nat.zero_le _, by show r.val < 0 + n; omega⟩, ⟨h0, h1⟩⟩)

theorem canon12 (x0 : Vec Ideal S256x768 .f32) (x1 x2 : Vec Ideal S256x512 .f32) (x3 : Vec Ideal S256x256 .f32) :
    View.canon (Val := Elt Ideal) (s := S256x2048) (e := .f32) [⟨Rect.unit ![0, 1792] ![256, 256] inb_S256x2048_S256x256_0_1792, x3⟩,
      ⟨Rect.unit ![0, 1280] ![256, 512] inb_S256x2048_S256x512_0_1280, x2⟩, ⟨Rect.unit ![0, 768] ![256, 512] inb_S256x2048_S256x512_0_768, x1⟩,
      ⟨Rect.unit ![0, 0] ![256, 768] inb_S256x2048_S256x768_0_0, x0⟩] = side x0 x1 x2 x3 := by
  funext y
  obtain ⟨r, K, rfl⟩ := ix2_of y
  refine View.canon_eq_of_allAt _ _ _ ?_ ?_
  · obtain ⟨k, hk⟩ | ⟨k, hk⟩ | ⟨k, hk⟩ | ⟨k, hk⟩ := col_cases K
    · exact ⟨_, .tail _ (.tail _ (.tail _ (.head _))), hold inb_S256x2048_S256x768_0_0 r K (by omega) (by omega)⟩
    · exact ⟨_, .tail _ (.tail _ (.head _)), hold inb_S256x2048_S256x512_0_768 r K (by omega) (by omega)⟩
    · exact ⟨_, .tail _ (.head _), hold inb_S256x2048_S256x512_0_1280 r K (by omega) (by omega)⟩
    · exact ⟨_, .head _, hold inb_S256x2048_S256x256_0_1792 r K (by omega) (by omega)⟩
  · refine View.allAt_cons_unit _ _ _ _ _ (tile x3 r K _ fun k hk => (side_3 x0 x1 x2 x3 r k K hk).symm) ?_
    refine View.allAt_cons_unit _ _ _ _ _ (tile x2 r K _ fun k hk => (side_2 x0 x1 x2 x3 r k K hk).symm) ?_
    refine View.allAt_cons_unit _ _ _ _ _ (tile x1 r K _ fun k hk => (side_1 x0 x1 x2 x3 r k K hk).symm) ?_
    refine View.allAt_cons_unit _ _ _ _ _ (tile x0 r K _ fun k hk => (side_0 x0 x1 x2 x3 r k K (hk.trans (Nat.zero_add _))).symm) ?_
    exact View.allAt_nil _ _

theorem canon13 (p0 p1 p2 p3 : Vec Ideal S256x512 .bf16) (F : Vec Ideal S256x2048 .bf16)
    (h0 : ∀ r (k : Fin 512) (K : Fin 2048), K.val = k.val → p0 (ix2 r k) = F (ix2 r K))
    (h1 : ∀ r (k : Fin 512) (K : Fin 2048), K.val = 512 + k.val → p1 (ix2 r k) = F (ix2 r K))
    (h2 : ∀ r (k : Fin 512) (K : Fin 2048), K.val = 1024 + k.val → p2 (ix2 r k) = F (ix2 r K))
    (h3 : ∀ r (k : Fin 512) (K : Fin 2048), K.val = 1536 + k.val → p3 (ix2 r k) = F (ix2 r K)) :
    View.canon (Val := Elt Ideal) (s := S256x2048) (e := .bf16) [⟨Rect.unit ![0, 1536] ![256, 512] inb_S256x2048_S256x512_0_1536, p3⟩,
      ⟨Rect.unit ![0, 1024] ![256, 512] inb_S256x2048_S256x512_0_1024, p2⟩, ⟨Rect.unit ![0, 512] ![256, 512] inb_S256x2048_S256x512_0_512, p1⟩,
      ⟨Rect.unit ![0, 0] ![256, 512] inb_S256x2048_S256x512_0_0, p0⟩] = F := by
  funext y
  obtain ⟨r, K, rfl⟩ := ix2_of y
  refine View.canon_eq_of_allAt _ _ _ ?_ ?_
  · obtain ⟨k, hk | hk | hk | hk⟩ := quart_cases K
    · exact ⟨_, .tail _ (.tail _ (.tail _ (.head _))), hold inb_S256x2048_S256x512_0_0 r K (by omega) (by omega)⟩
    · exact ⟨_, .tail _ (.tail _ (.head _)), hold inb_S256x2048_S256x512_0_512 r K (by omega) (by omega)⟩
    · exact ⟨_, .tail _ (.head _), hold inb_S256x2048_S256x512_0_1024 r K (by omega) (by omega)⟩
    · exact ⟨_, .head _, hold inb_S256x2048_S256x512_0_1536 r K (by omega) (by omega)⟩
  · refine View.allAt_cons_unit _ _ _ _ _ (tile p3 r K _ fun k hk => h3 r k K hk) ?_
    refine View.allAt_cons_unit _ _ _ _ _ (tile p2 r K _ fun k hk => h2 r k K hk) ?_
    refine View.allAt_cons_unit _ _ _ _ _ (tile p1 r K _ fun k hk => h1 r k K hk) ?_
    refine View.allAt_cons_unit _ _ _ _ _ (tile p0 r K _ fun k hk => h0 r k K (hk.trans (Nat.zero_add _))) ?_
    exact View.allAt_nil _ _

/-! ## The payloads, entry by entry -/

theorem pay3_apply (g o : Vec Ideal S256x512 .f32) (i : S256x512.Idx) : k0_pay3 g o i = o i * (g i * Ideal.logistic (g i)) := by
  unfold k0_pay3; rw [shapeCast_id]; rfl
theorem pay4_apply (g o : Vec Ideal S256x512 .f32) (i : S256x512.Idx) : k0_pay4 g o i = o i * (g i * Ideal.logistic (g i)) := by
  unfold k0_pay4; rw [shapeCast_id]; rfl
theorem pay5_apply (g o : Vec Ideal S256x512 .f32) (i : S256x512.Idx) : k0_pay5 g o i = o i * (g i * Ideal.logistic (g i)) := by
  unfold k0_pay5; rw [shapeCast_id]; rfl
theorem pay6_apply (g o : Vec Ideal S256x512 .f32) (i : S256x512.Idx) : k0_pay6 g o i = o i * (g i * Ideal.logistic (g i)) := by
  unfold k0_pay6; rw [shapeCast_id]; rfl

theorem pay7_apply (x : Vec Ideal S256x2048 .f32) (y : Vec Ideal S256x2048 .bf16) (w : Vec Ideal S2048x2048 .bf16) (r : Fin 256) (d : Fin 2048) :
    k0_pay7 x y w (ix2 r d) = Ideal.ofBits .f32 0x3FD744FD#32 * x (ix2 r d) + ∑ k : Fin 2048, y (ix2 r k) * w (ix2 k d) := by
  pointwise [k0_pay7]

/-- A row less its mean. -/
def cen (f : Fin 2048 → EReal) (d : Fin 2048) : EReal := f d - Ideal.div (∑ k, f k) (Ideal.ofBits .f32 0x45000000#32)

/-- A row less its mean, over its deviation, scaled and shifted. -/
def nrm (f : Fin 2048 → EReal) (g h : EReal) (d : Fin 2048) : EReal :=
  cen f d * Ideal.rsqrt (Ideal.div (∑ k, cen f k * cen f k) (Ideal.ofBits .f32 0x45000000#32) + Ideal.ofBits .f32 0x3727C5AC#32) * g + h

theorem pay8_apply (x : Vec Ideal S256x2048 .f32) (y : Vec Ideal S256x2048 .bf16) (w : Vec Ideal S2048x2048 .bf16) (r : Fin 256) (d : Fin 2048) :
    k0_pay8 x y w (ix2 r d) = cen (fun k => k0_pay7 x y w (ix2 r k)) d := by
  unfold k0_pay8 cen
  generalize k0_pay7 x y w = p
  pointwise

theorem norm_apply (a b : FVec Ideal S256x2048 .f32) (g h : Vec Ideal S1x2048 .f32) (r : Fin 256) (d : Fin 2048) :
    k0_pay1 a b g h (ix2 r d) = a (ix2 r d) * Ideal.rsqrt (Ideal.div (∑ k : Fin 2048, b (ix2 r k)) (Ideal.ofBits .f32 0x45000000#32) + Ideal.ofBits .f32 0x3727C5AC#32) * g (ix2 0 d) + h (ix2 0 d) := by
  pointwise [k0_pay1]

theorem pay1_apply (x : Vec Ideal S256x2048 .f32) (y : Vec Ideal S256x2048 .bf16) (w : Vec Ideal S2048x2048 .bf16) (g h : Vec Ideal S1x2048 .f32) (r : Fin 256) (d : Fin 2048) :
    k0_pay1 (k0_pay8 x y w) (k0_pay9 x y w) g h (ix2 r d) = nrm (fun k => k0_pay7 x y w (ix2 r k)) (g (ix2 0 d)) (h (ix2 0 d)) d := by
  rw [norm_apply, pay8_apply]
  unfold nrm
  refine congrArg (fun s => cen (fun k => k0_pay7 x y w (ix2 r k)) d * Ideal.rsqrt (Ideal.div s (Ideal.ofBits .f32 0x45000000#32) + Ideal.ofBits .f32 0x3727C5AC#32) * g (ix2 0 d) + h (ix2 0 d)) ?_
  refine Finset.sum_congr rfl fun k _ => ?_
  rw [← pay8_apply]
  rfl

/-! ## The blocks that a point reads -/

variable (m : (ℓ : Loc nD τ sig) → Buf (Elt Ideal) ℓ) (ρ : Dev nD → PrngReg)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 7] := (by decide +kernel : ∀ t : Fin grid0.N, _)
theorem idx5 : ∀ t : Fin cfg0.N, win0_5.index t = ![t.val, 8] := (by decide +kernel : ∀ t : Fin grid0.N, _)
theorem idx6 : ∀ t : Fin cfg0.N, win0_6.index t = ![t.val, 9] := (by decide +kernel : ∀ t : Fin grid0.N, _)
theorem idx7 : ∀ t : Fin cfg0.N, win0_7.index t = ![t.val, 10] := (by decide +kernel : ∀ t : Fin grid0.N, _)
theorem idx9 : ∀ t : Fin cfg0.N, win0_9.index t = ![t.val, 0] := (by decide +kernel : ∀ t : Fin grid0.N, _)
theorem idx8 : ∀ t : Fin cfg0.N, win0_8.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)

variable (c : Dev nD) (t : Fin cfg0.N)

theorem t_lt : t.val < 32 := Nat.lt_of_lt_of_eq t.isLt N_0

/-- The row of the whole array that a block's row is. -/
abbrev row (r : Fin 256) : Fin 8192 := ⟨256 * t.val + r.val, by have := t_lt t; omega⟩

/-- The four branches, the state, the output projection's weight, the residual, the norm's gain and bias. -/
abbrev OA : Vec Ideal S8192x768 .f32 := m ((c.tc : Thread nD τ).loc main_arg0)
abbrev OB : Vec Ideal S8192x512 .f32 := m ((c.tc : Thread nD τ).loc main_arg1)
abbrev OC : Vec Ideal S8192x512 .f32 := m ((c.tc : Thread nD τ).loc main_arg2)
abbrev OM : Vec Ideal S8192x256 .f32 := m ((c.tc : Thread nD τ).loc main_arg3)
abbrev H : Vec Ideal S8192x5760 .f32 := m ((c.tc : Thread nD τ).loc main_arg4)
abbrev W : Vec Ideal S2048x2048 .f32 := m ((c.tc : Thread nD τ).loc main_arg5)
abbrev X : Vec Ideal S8192x2048 .f32 := m ((c.tc : Thread nD τ).loc main_arg6)
abbrev G : Vec Ideal S2048 .f32 := m ((c.tc : Thread nD τ).loc main_arg7)
abbrev B : Vec Ideal S2048 .f32 := m ((c.tc : Thread nD τ).loc main_arg8)

theorem V_W : (V m c main_v0 : Vec Ideal S2048x2048 .bf16) = W m c := by
  entry_read
  rfl

theorem V_G (d : Fin 2048) : (V m c main_v1 : Vec Ideal S1x2048 .f32) (ix2 0 d) = G m c (ix1 d) := by
  entry_read
  pointwise

theorem V_B (d : Fin 2048) : (V m c main_v2 : Vec Ideal S1x2048 .f32) (ix2 0 d) = B m c (ix1 d) := by
  entry_read
  pointwise

theorem blk0 (r : Fin 256) (k : Fin 768) : iblk m c 0 t (ix2 r k) = OA m c (ix2 (row t r) k) := by
  unfold OA
  rw [← V_main_arg0 m c]
  exact congrArg (V m c main_arg0) (by blk_ext [idx0 t])

theorem blk1 (r : Fin 256) (k : Fin 512) : iblk m c 1 t (ix2 r k) = OB m c (ix2 (row t r) k) := by
  unfold OB
  rw [← V_main_arg1 m c]
  exact congrArg (V m c main_arg1) (by blk_ext [idx1 t])

theorem blk2 (r : Fin 256) (k : Fin 512) : iblk m c 2 t (ix2 r k) = OC m c (ix2 (row t r) k) := by
  unfold OC
  rw [← V_main_arg2 m c]
  exact congrArg (V m c main_arg2) (by blk_ext [idx2 t])

theorem blk3 (r : Fin 256) (k : Fin 256) : iblk m c 3 t (ix2 r k) = OM m c (ix2 (row t r) k) := by
  unfold OM
  rw [← V_main_arg3 m c]
  exact congrArg (V m c main_arg3) (by blk_ext [idx3 t])

theorem blk9 (r : Fin 256) (k : Fin 2048) : iblk m c 9 t (ix2 r k) = X m c (ix2 (row t r) k) := by
  unfold X
  rw [← V_main_arg6 m c]
  exact congrArg (V m c main_arg6) (by blk_ext [idx9 t])

theorem blk8 (k d : Fin 2048) : iblk m c 8 t (ix2 k d) = W m c (ix2 k d) := by
  rw [← V_W m c]
  exact congrArg (V m c main_v0) (by blk_ext [idx8 t])

theorem blk10 (d : Fin 2048) : iblk m c 10 t (ix2 0 d) = G m c (ix1 d) := by
  rw [← V_G m c]
  exact congrArg (V m c main_v1) (by blk_ext [idx10 t])

theorem blk11 (d : Fin 2048) : iblk m c 11 t (ix2 0 d) = B m c (ix1 d) := by
  rw [← V_B m c]
  exact congrArg (V m c main_v2) (by blk_ext [idx11 t])

theorem emb4 (r : Fin 256) (k : Fin 512) (D : Fin 5760) (hD : D.val = 3584 + k.val)
    (y : ((cfg0.win 4).xblock (cfg0.grid.coords t)).Idx) (h0 : (y 0).val = r.val) (h1 : (y 1).val = k.val) :
    ((cfg0.win 4).blk t).view.emb y = ix2 (row t r) D := by
  blk_ext [idx4 t]

theorem emb5 (r : Fin 256) (k : Fin 512) (D : Fin 5760) (hD : D.val = 4096 + k.val)
    (y : ((cfg0.win 5).xblock (cfg0.grid.coords t)).Idx) (h0 : (y 0).val = r.val) (h1 : (y 1).val = k.val) :
    ((cfg0.win 5).blk t).view.emb y = ix2 (row t r) D := by
  blk_ext [idx5 t]

theorem emb6 (r : Fin 256) (k : Fin 512) (D : Fin 5760) (hD : D.val = 4608 + k.val)
    (y : ((cfg0.win 6).xblock (cfg0.grid.coords t)).Idx) (h0 : (y 0).val = r.val) (h1 : (y 1).val = k.val) :
    ((cfg0.win 6).blk t).view.emb y = ix2 (row t r) D := by
  blk_ext [idx6 t]

theorem emb7 (r : Fin 256) (k : Fin 512) (D : Fin 5760) (hD : D.val = 5120 + k.val)
    (y : ((cfg0.win 7).xblock (cfg0.grid.coords t)).Idx) (h0 : (y 0).val = r.val) (h1 : (y 1).val = k.val) :
    ((cfg0.win 7).blk t).view.emb y = ix2 (row t r) D := by
  blk_ext [idx7 t]

theorem gat4 (r : Fin 256) (k : Fin 512) (D : Fin 5760) (hD : D.val = 3584 + k.val) : X0_4 m c t (ix2 r k) = H m c (ix2 (row t r) D) := by
  unfold H
  rw [← V_main_arg4 m c]
  unfold X0_4 Window.fill
  rw [dif_pos (moved0_4 t (ix2 r k))]
  exact congrArg (V m c main_arg4) (emb4 t r k D hD _ rfl rfl)

theorem gat5 (r : Fin 256) (k : Fin 512) (D : Fin 5760) (hD : D.val = 4096 + k.val) : X0_5 m c t (ix2 r k) = H m c (ix2 (row t r) D) := by
  unfold H
  rw [← V_main_arg4 m c]
  unfold X0_5 Window.fill
  rw [dif_pos (moved0_5 t (ix2 r k))]
  exact congrArg (V m c main_arg4) (emb5 t r k D hD _ rfl rfl)

theorem gat6 (r : Fin 256) (k : Fin 512) (D : Fin 5760) (hD : D.val = 4608 + k.val) : X0_6 m c t (ix2 r k) = H m c (ix2 (row t r) D) := by
  unfold H
  rw [← V_main_arg4 m c]
  unfold X0_6 Window.fill
  rw [dif_pos (moved0_6 t (ix2 r k))]
  exact congrArg (V m c main_arg4) (emb6 t r k D hD _ rfl rfl)

theorem gat7 (r : Fin 256) (k : Fin 512) (D : Fin 5760) (hD : D.val = 5120 + k.val) : X0_7 m c t (ix2 r k) = H m c (ix2 (row t r) D) := by
  unfold H
  rw [← V_main_arg4 m c]
  unfold X0_7 Window.fill
  rw [dif_pos (moved0_7 t (ix2 r k))]
  exact congrArg (V m c main_arg4) (emb7 t r k D hD _ rfl rfl)

/-! ## What a point leaves -/

/-- The gate's column in the state. -/
abbrev col (D : Fin 2048) : Fin 5760 := ⟨3584 + D.val, by omega⟩

/-- The branches side by side, gated. -/
def gated (cat : Vec Ideal S8192x2048 .f32) (h : Vec Ideal S8192x5760 .f32) (R : Fin 8192) (D : Fin 2048) : EReal :=
  cat (ix2 R D) * (h (ix2 R (col D)) * Ideal.logistic (h (ix2 R (col D))))

/-- The residual and the output projection. -/
def resid (y : Fin 2048 → EReal) (w : Vec Ideal S2048x2048 .f32) (x : Vec Ideal S8192x2048 .f32) (R : Fin 8192) (D : Fin 2048) : EReal :=
  Ideal.ofBits .f32 0x3FD744FD#32 * x (ix2 R D) + ∑ k, y k * w (ix2 k D)

abbrev cat : Vec Ideal S8192x2048 .f32 := side (OA m c) (OB m c) (OC m c) (OM m c)

/-- The branches' rows of a point, side by side. -/
abbrev catB : Vec Ideal S256x2048 .f32 := side (iblk m c 0 t : Vec Ideal S256x768 .f32) (iblk m c 1 t : Vec Ideal S256x512 .f32) (iblk m c 2 t : Vec Ideal S256x512 .f32) (iblk m c 3 t : Vec Ideal S256x256 .f32)

theorem catB_apply (r : Fin 256) (K : Fin 2048) : catB m c t (ix2 r K) = cat m c (ix2 (row t r) K) := by
  obtain ⟨k, hk⟩ | ⟨k, hk⟩ | ⟨k, hk⟩ | ⟨k, hk⟩ := col_cases K
  · exact (side_0 _ _ _ _ r k K hk).trans ((blk0 m c t r k).trans (side_0 _ _ _ _ (row t r) k K hk).symm)
  · exact (side_1 _ _ _ _ r k K hk).trans ((blk1 m c t r k).trans (side_1 _ _ _ _ (row t r) k K hk).symm)
  · exact (side_2 _ _ _ _ r k K hk).trans ((blk2 m c t r k).trans (side_2 _ _ _ _ (row t r) k K hk).symm)
  · exact (side_3 _ _ _ _ r k K hk).trans ((blk3 m c t r k).trans (side_3 _ _ _ _ (row t r) k K hk).symm)

/-- The gated rows of a point. -/
def yB : Vec Ideal S256x2048 .bf16 := fun i => gated (cat m c) (H m c) (row t (i 0)) (i 1)

theorem out12 : (outsAt0 m c t).1 = catB m c t := by
  unfold outsAt0
  dsimp only
  frame_out
  exact canon12 _ _ _ _

theorem at_col {o : ℕ} (inb : ∀ a, (![0, o] : Fin 2 → ℕ) a + (![256, 512] : Fin 2 → ℕ) a ≤ S256x2048.size a) (r : Fin 256) (k : Fin 512) (K : Fin 2048) (hK : K.val = o + k.val) :
    (Rect.unit (s := S256x2048) ![0, o] ![256, 512] inb).idx (ix2 r k) = ix2 r K := by
  funext a
  match a with
    | ⟨0, _⟩ => exact Fin.ext (by show 0 + 1 * r.val = r.val; omega)
    | ⟨1, _⟩ => exact Fin.ext (by show o + 1 * k.val = K.val; omega)

/-- The four stores of the gated branches, read back. -/
theorem yg_eq : View.canon (Val := Elt Ideal) (s := S256x2048) (e := .bf16) [⟨Rect.unit ![0, 1536] ![256, 512] inb_S256x2048_S256x512_0_1536, k0_pay6 (X0_7 m c t) fun j => catB m c t ((Rect.unit (s := S256x2048) ![0, 1536] ![256, 512] inb_S256x2048_S256x512_0_1536).idx j)⟩,
      ⟨Rect.unit ![0, 1024] ![256, 512] inb_S256x2048_S256x512_0_1024, k0_pay5 (X0_6 m c t) fun j => catB m c t ((Rect.unit (s := S256x2048) ![0, 1024] ![256, 512] inb_S256x2048_S256x512_0_1024).idx j)⟩,
      ⟨Rect.unit ![0, 512] ![256, 512] inb_S256x2048_S256x512_0_512, k0_pay4 (X0_5 m c t) fun j => catB m c t ((Rect.unit (s := S256x2048) ![0, 512] ![256, 512] inb_S256x2048_S256x512_0_512).idx j)⟩,
      ⟨Rect.unit ![0, 0] ![256, 512] inb_S256x2048_S256x512_0_0, k0_pay3 (X0_4 m c t) fun j => catB m c t ((Rect.unit (s := S256x2048) ![0, 0] ![256, 512] inb_S256x2048_S256x512_0_0).idx j)⟩] = yB m c t := by
  refine canon13 _ _ _ _ _ (fun r k K hK => ?_) (fun r k K hK => ?_) (fun r k K hK => ?_) (fun r k K hK => ?_)
  · rw [pay3_apply, at_col _ r k K (hK.trans (Nat.zero_add _).symm), catB_apply, gat4 m c t r k (col K) (by show 3584 + K.val = _; omega)]
    rfl
  · rw [pay4_apply, at_col _ r k K hK, catB_apply, gat5 m c t r k (col K) (by show 3584 + K.val = _; omega)]
    rfl
  · rw [pay5_apply, at_col _ r k K hK, catB_apply, gat6 m c t r k (col K) (by show 3584 + K.val = _; omega)]
    rfl
  · rw [pay6_apply, at_col _ r k K hK, catB_apply, gat7 m c t r k (col K) (by show 3584 + K.val = _; omega)]
    rfl

theorem whole (f : Vec Ideal S256x2048 .bf16) : (fun j => f ((Rect.unit (s := S256x2048) ![0, 0] ![256, 2048] inb_S256x2048_S256x2048_0_0).idx j)) = f := by
  funext j
  refine congrArg f ?_
  funext a
  match a with
    | ⟨0, _⟩ => exact Fin.ext (by show 0 + 1 * (j 0).val = (j 0).val; omega)
    | ⟨1, _⟩ => exact Fin.ext (by show 0 + 1 * (j 1).val = (j 1).val; omega)

theorem reread {Y : Vec Ideal S256x2048 .bf16} (hY : Y = yB m c t) : (fun j => Y ((Rect.unit (s := S256x2048) ![0, 0] ![256, 2048] inb_S256x2048_S256x2048_0_0).idx j)) = yB m c t := by
  rw [hY]; exact whole _

theorem out13 : (outsAt0 m c t).2.1 = yB m c t := by
  unfold outsAt0
  dsimp only
  frame_open
  simp only [View.readCov_eq_canon']
  frame_out
  simp only [canon12]
  exact yg_eq m c t

theorem out16 : (outsAt0 m c t).2.2.2.2 = k0_pay7 (iblk m c 9 t) (yB m c t) (iblk m c 8 t) := by
  unfold outsAt0
  dsimp only
  frame_open
  simp only [View.readCov_eq_canon']
  frame_out
  simp only [canon12]
  exact congrArg (fun p => k0_pay7 (iblk m c 9 t) p (iblk m c 8 t)) (reread m c t (yg_eq m c t))

theorem out14 : (outsAt0 m c t).2.2.1 = k0_pay1 (k0_pay8 (iblk m c 9 t) (yB m c t) (iblk m c 8 t)) (k0_pay9 (iblk m c 9 t) (yB m c t) (iblk m c 8 t)) (iblk m c 10 t) (iblk m c 11 t) := by
  unfold outsAt0
  dsimp only
  frame_open
  simp only [View.readCov_eq_canon']
  frame_out
  simp only [canon12]
  exact congrArg (fun p => k0_pay1 (k0_pay8 (iblk m c 9 t) p (iblk m c 8 t)) (k0_pay9 (iblk m c 9 t) p (iblk m c 8 t)) (iblk m c 10 t) (iblk m c 11 t)) (reread m c t (yg_eq m c t))

theorem out15 : (outsAt0 m c t).2.2.2.1 = k0_pay2 (k0_pay8 (iblk m c 9 t) (yB m c t) (iblk m c 8 t)) (k0_pay9 (iblk m c 9 t) (yB m c t) (iblk m c 8 t)) (iblk m c 10 t) (iblk m c 11 t) := by
  unfold outsAt0
  dsimp only
  frame_open
  simp only [View.readCov_eq_canon']
  frame_out
  simp only [canon12]
  exact congrArg (fun p => k0_pay2 (k0_pay8 (iblk m c 9 t) p (iblk m c 8 t)) (k0_pay9 (iblk m c 9 t) p (iblk m c 8 t)) (iblk m c 10 t) (iblk m c 11 t)) (reread m c t (yg_eq m c t))

/-! ## The five arrays after the run -/

abbrev res (R : Fin 8192) (D : Fin 2048) : EReal := resid (gated (cat m c) (H m c) R) (W m c) (X m c) R D

theorem res_apply (r : Fin 256) (D : Fin 2048) : k0_pay7 (iblk m c 9 t) (yB m c t) (iblk m c 8 t) (ix2 r D) = res m c (row t r) D := by
  rw [pay7_apply, blk9]
  refine congrArg (_ + ·) (Finset.sum_congr rfl fun k _ => ?_)
  exact congrArg (_ * ·) (blk8 m c t k D)

def xoV : Vec Ideal S8192x2048 .f32 := fun i => nrm (res m c (i 0)) (G m c (ix1 (i 1))) (B m c (ix1 (i 1))) (i 1)

theorem xo_apply (r : Fin 256) (D : Fin 2048) :
    k0_pay1 (k0_pay8 (iblk m c 9 t) (yB m c t) (iblk m c 8 t)) (k0_pay9 (iblk m c 9 t) (yB m c t) (iblk m c 8 t)) (iblk m c 10 t) (iblk m c 11 t) (ix2 r D) = xoV m c (ix2 (row t r) D) := by
  rw [pay1_apply, blk10, blk11, funext fun k => res_apply m c t r k]
  rfl

theorem emb12 (r : Fin 256) (D : Fin 2048) : ((cfg0.win 12).blk t).view.emb (ix2 r D) = ix2 (row t r) D := by blk_ext [idx12 t]
theorem emb13 (r : Fin 256) (D : Fin 2048) : ((cfg0.win 13).blk t).view.emb (ix2 r D) = ix2 (row t r) D := by blk_ext [idx13 t]
theorem emb14 (r : Fin 256) (D : Fin 2048) : ((cfg0.win 14).blk t).view.emb (ix2 r D) = ix2 (row t r) D := by blk_ext [idx14 t]
theorem emb15 (r : Fin 256) (D : Fin 2048) : ((cfg0.win 15).blk t).view.emb (ix2 r D) = ix2 (row t r) D := by blk_ext [idx15 t]
theorem emb16 (r : Fin 256) (D : Fin 2048) : ((cfg0.win 16).blk t).view.emb (ix2 r D) = ix2 (row t r) D := by blk_ext [idx16 t]

theorem final12 : (dats m 0 c).arrAt 12 cfg0.N = cat m c := by
  refine (dats m 0 c).arrAt_eq_of_covers 12 _ (by decide +kernel) fun t _ y => ?_
  rw [after0_12, out12]
  obtain ⟨r, d, rfl⟩ := ix2_of y
  rw [emb12 t r d]
  exact catB_apply m c t r d

theorem final13 : (dats m 0 c).arrAt 13 cfg0.N = (fun i => gated (cat m c) (H m c) (i 0) (i 1) : Vec Ideal S8192x2048 .bf16) := by
  refine (dats m 0 c).arrAt_eq_of_covers 13 _ (by decide +kernel) fun t _ y => ?_
  rw [after0_13, out13]
  obtain ⟨r, d, rfl⟩ := ix2_of y
  rw [emb13 t r d]
  rfl

theorem final14 : (dats m 0 c).arrAt 14 cfg0.N = xoV m c := by
  refine (dats m 0 c).arrAt_eq_of_covers 14 _ (by decide +kernel) fun t _ y => ?_
  rw [after0_14, out14]
  obtain ⟨r, d, rfl⟩ := ix2_of y
  rw [emb14 t r d]
  exact xo_apply m c t r d

theorem final15 : (dats m 0 c).arrAt 15 cfg0.N = (xoV m c : Vec Ideal S8192x2048 .bf16) := by
  refine (dats m 0 c).arrAt_eq_of_covers 15 _ (by decide +kernel) fun t _ y => ?_
  rw [after0_15, out15]
  obtain ⟨r, d, rfl⟩ := ix2_of y
  rw [emb15 t r d]
  refine Eq.trans ?_ (xo_apply m c t r d)
  unfold k0_pay2
  rfl

theorem final16 : (dats m 0 c).arrAt 16 cfg0.N = (fun i => res m c (i 0) (i 1) : Vec Ideal S8192x2048 .f32) := by
  refine (dats m 0 c).arrAt_eq_of_covers 16 _ (by decide +kernel) fun t _ y => ?_
  rw [after0_16, out16]
  obtain ⟨r, d, rfl⟩ := ix2_of y
  rw [emb16 t r d]
  exact res_apply m c t r d

end Cert.GateOutIdeal.Val

namespace Cert.GateOutRefIdeal.Val

open Cert.GateOutRefIdeal Cert.GateOutRefIdeal.Gen Cert.GateOutRefIdeal.Read Idealize.ShloMosaic Idealize.ShloMosaic.TcCoe Idealize.ShloMosaic.Tactic
open Cert.GateOutIdeal.Val (side side_0 side_1 side_2 side_3 side_eq col_cases col gated resid cen nrm)
open scoped BigOperators

/-! ## The reference, entry by entry -/

theorem one_bits : Ideal.ofBits .f32 0x3F800000#32 = 1 := by
  rw [show (1 : EReal) = ((1 : ℝ) : EReal) by norm_cast]
  simp [Ideal.ofBits, Ideal.ieee, -EReal.coe_mul]; norm_num

theorem zero_bits : Ideal.ofBits .f32 0x00000000#32 = 0 := by
  simp [Ideal.ofBits, Ideal.ieee]

/-- Blocks of 768, 512, 512 and 256 columns joined along the columns lie side by side. -/
theorem join_eq (x0 : Vec Ideal S8192x768 .f32) (x1 x2 : Vec Ideal S8192x512 .f32) (x3 : Vec Ideal S8192x256 .f32) :
    concatenate S8192x2048 1 [⟨S8192x768, x0⟩, ⟨S8192x512, x1⟩, ⟨S8192x512, x2⟩, ⟨S8192x256, x3⟩] concatenates_S8192x768_S8192x512_S8192x512_S8192x256_S8192x2048_d1 = side x0 x1 x2 x3 := by
  refine side_eq _ _ _ _ _ (fun r k K hK => ?_) (fun r k K hK => ?_) (fun r k K hK => ?_) (fun r k K hK => ?_)
  · pointwise
    rw [dif_pos (show K.val < 768 by omega)]
    exact congrArg x0 (congrArg (ix2 r) (Fin.ext hK))
  · pointwise
    rw [dif_neg (show ¬K.val < 768 by omega), dif_pos (show K.val - 768 < 512 by omega)]
    exact congrArg x1 (congrArg (ix2 r) (Fin.ext (by show K.val - 768 = k.val; omega)))
  · pointwise
    rw [dif_neg (show ¬K.val < 768 by omega), dif_neg (show ¬K.val - 768 < 512 by omega), dif_pos (show K.val - 768 - 512 < 512 by omega)]
    exact congrArg x2 (congrArg (ix2 r) (Fin.ext (by show K.val - 768 - 512 = k.val; omega)))
  · pointwise
    rw [dif_neg (show ¬K.val < 768 by omega), dif_neg (show ¬K.val - 768 < 512 by omega), dif_neg (show ¬K.val - 768 - 512 < 512 by omega)]
    exact congrArg x3 (congrArg (ix2 r) (Fin.ext (by show K.val - 768 - 512 - 512 = k.val; omega)))

section
variable (x0 : Vec Ideal S8192x768 .f32) (x1 x2 : Vec Ideal S8192x512 .f32) (x3 : Vec Ideal S8192x256 .f32) (h : Vec Ideal S8192x5760 .f32)
  (w : Vec Ideal S2048x2048 .f32) (x : Vec Ideal S8192x2048 .f32) (g b : Vec Ideal S2048 .f32) (R : Fin 8192) (D : Fin 2048)

theorem ix2_ext {a b : ℕ} {i : (⟨2, ![a, b]⟩ : Shape).Idx} {r : Fin a} {k : Fin b} (h0 : (i 0).val = r.val) (h1 : (i 1).val = k.val) : i = ix2 r k := by
  funext a
  match a with
    | ⟨0, _⟩ => exact Fin.ext h0
    | ⟨1, _⟩ => exact Fin.ext h1

/-- The sigmoid as the reference writes it. -/
theorem silu_eq (v : EReal) : v * Ideal.div (Ideal.ofBits .f32 0x3F800000#32) (Ideal.ofBits .f32 0x3F800000#32 + Ideal.exp (-v)) = v * Ideal.logistic v := by
  rw [one_bits]
  rfl

theorem v6_apply (k : Fin 768) (K : Fin 5760) (hK : K.val = 3584 + k.val) : val_main_v6 (F := Ideal) h (ix2 R k) = h (ix2 R K) * Ideal.logistic (h (ix2 R K)) := by
  rw [val_main_v6_apply, val_main_call0_v5_apply, val_main_call0_v4_apply, val_main_call0_v3_apply, val_main_call0_v2_apply, val_main_call0_v1_apply, val_main_call0_v0_apply,
    val_main_call0_cst_apply, val_main_call0_cst_0_apply, val_main_v2_apply, val_main_v1_apply,
    ix2_ext (i := idx_main_v1 (idx_main_v2 (ix2 R k))) (r := R) (k := K) rfl (show 3584 + k.val = K.val by omega)]
  exact silu_eq _

theorem v8_apply (k : Fin 512) (K : Fin 5760) (hK : K.val = 4352 + k.val) : val_main_v8 (F := Ideal) h (ix2 R k) = h (ix2 R K) * Ideal.logistic (h (ix2 R K)) := by
  rw [val_main_v8_apply, val_main_call1_v5_apply, val_main_call1_v4_apply, val_main_call1_v3_apply, val_main_call1_v2_apply, val_main_call1_v1_apply, val_main_call1_v0_apply,
    val_main_call1_cst_apply, val_main_call1_cst_0_apply, val_main_v3_apply, val_main_v1_apply,
    ix2_ext (i := idx_main_v1 (idx_main_v3 (ix2 R k))) (r := R) (k := K) rfl (show 3584 + (768 + k.val) = K.val by omega)]
  exact silu_eq _

theorem v10_apply (k : Fin 512) (K : Fin 5760) (hK : K.val = 4864 + k.val) : val_main_v10 (F := Ideal) h (ix2 R k) = h (ix2 R K) * Ideal.logistic (h (ix2 R K)) := by
  rw [val_main_v10_apply, val_main_call2_v5_apply, val_main_call2_v4_apply, val_main_call2_v3_apply, val_main_call2_v2_apply, val_main_call2_v1_apply, val_main_call2_v0_apply,
    val_main_call2_cst_apply, val_main_call2_cst_0_apply, val_main_v4_apply, val_main_v1_apply,
    ix2_ext (i := idx_main_v1 (idx_main_v4 (ix2 R k))) (r := R) (k := K) rfl (show 3584 + (1280 + k.val) = K.val by omega)]
  exact silu_eq _

theorem v12_apply (k : Fin 256) (K : Fin 5760) (hK : K.val = 5376 + k.val) : val_main_v12 (F := Ideal) h (ix2 R k) = h (ix2 R K) * Ideal.logistic (h (ix2 R K)) := by
  rw [val_main_v12_apply, val_main_call3_v5_apply, val_main_call3_v4_apply, val_main_call3_v3_apply, val_main_call3_v2_apply, val_main_call3_v1_apply, val_main_call3_v0_apply,
    val_main_call3_cst_apply, val_main_call3_cst_0_apply, val_main_v5_apply, val_main_v1_apply,
    ix2_ext (i := idx_main_v1 (idx_main_v5 (ix2 R k))) (r := R) (k := K) rfl (show 3584 + (1792 + k.val) = K.val by omega)]
  exact silu_eq _

theorem cat_eq : val_main_v0 (F := Ideal) x0 x1 x2 x3 = side x0 x1 x2 x3 := join_eq x0 x1 x2 x3

theorem gated_apply : val_main_v14 (F := Ideal) x0 x1 x2 x3 h (ix2 R D) = gated (side x0 x1 x2 x3) h R D := by
  refine (congrFun (join_eq (val_main_v7 (F := Ideal) x0 h) (val_main_v9 (F := Ideal) x1 h) (val_main_v11 (F := Ideal) x2 h) (val_main_v13 (F := Ideal) x3 h)) (ix2 R D)).trans ?_
  unfold gated
  obtain ⟨k, hk⟩ | ⟨k, hk⟩ | ⟨k, hk⟩ | ⟨k, hk⟩ := col_cases D
  · rw [side_0 _ _ _ _ R k D hk, side_0 x0 x1 x2 x3 R k D hk, val_main_v7_apply, v6_apply h R k (col D) (by show 3584 + D.val = _; omega)]
    rfl
  · rw [side_1 _ _ _ _ R k D hk, side_1 x0 x1 x2 x3 R k D hk, val_main_v9_apply, v8_apply h R k (col D) (by show 3584 + D.val = _; omega)]
    rfl
  · rw [side_2 _ _ _ _ R k D hk, side_2 x0 x1 x2 x3 R k D hk, val_main_v11_apply, v10_apply h R k (col D) (by show 3584 + D.val = _; omega)]
    rfl
  · rw [side_3 _ _ _ _ R k D hk, side_3 x0 x1 x2 x3 R k D hk, val_main_v13_apply, v12_apply h R k (col D) (by show 3584 + D.val = _; omega)]
    rfl

abbrev rs (R : Fin 8192) (D : Fin 2048) : EReal := resid (gated (side x0 x1 x2 x3) h R) w x R D

theorem v18_apply : val_main_v18 (F := Ideal) x0 x1 x2 x3 h w x (ix2 R D) = rs x0 x1 x2 x3 h w x R D := by
  rw [val_main_v18_apply, val_main_v16_apply, val_main_v15_apply, val_main_cst_apply, val_main_v17_apply]
  refine congrArg (_ + ·) (Finset.sum_congr rfl fun k _ => ?_)
  rw [ix2_ext (i := lidx_main_v17 (ix2 R D) k) (r := R) (k := k) rfl rfl, ix2_ext (i := ridx_main_v17 (ix2 R D) k) (r := k) (k := D) rfl rfl, gated_apply]

theorem v24_apply : val_main_v24 (F := Ideal) x0 x1 x2 x3 h w x (ix2 R D) = cen (rs x0 x1 x2 x3 h w x R) D := by
  rw [val_main_v24_apply, val_main_v23_apply, val_main_v22_apply, val_main_v21_apply, val_main_cst_1_apply, val_main_v20_apply, val_main_v19_apply, val_main_cst_0_apply, v18_apply]
  show _ - Ideal.div (Ideal.ofBits .f32 0x00000000#32 + _) _ = _
  rw [zero_bits, zero_add]
  refine congrArg (fun s => rs x0 x1 x2 x3 h w x R D - Ideal.div s (Ideal.ofBits .f32 0x45000000#32)) (Finset.sum_congr rfl fun k _ => ?_)
  exact (congrArg _ (ix2_ext (r := R) (k := k) rfl rfl)).trans (v18_apply x0 x1 x2 x3 h w x R k)

theorem v33_apply : val_main_v33 (F := Ideal) x0 x1 x2 x3 h w x (ix2 R D)
    = Ideal.rsqrt (Ideal.div (∑ k, cen (rs x0 x1 x2 x3 h w x R) k * cen (rs x0 x1 x2 x3 h w x R) k) (Ideal.ofBits .f32 0x45000000#32) + Ideal.ofBits .f32 0x3727C5AC#32) := by
  rw [val_main_v33_apply, val_main_v32_apply, val_main_v31_apply, val_main_v30_apply, val_main_cst_4_apply, val_main_v29_apply, val_main_v28_apply, val_main_cst_3_apply, val_main_v27_apply, val_main_v26_apply, val_main_cst_2_apply]
  show Ideal.rsqrt (Ideal.div (Ideal.ofBits .f32 0x00000000#32 + _) _ + _) = _
  rw [zero_bits, zero_add]
  refine congrArg (fun s => Ideal.rsqrt (Ideal.div s (Ideal.ofBits .f32 0x45000000#32) + Ideal.ofBits .f32 0x3727C5AC#32)) (Finset.sum_congr rfl fun k _ => ?_)
  refine (congrArg _ (ix2_ext (r := R) (k := k) rfl rfl)).trans ?_
  rw [val_main_v25_apply, v24_apply]
  rfl

theorem v40_apply : val_main_v40 (F := Ideal) x0 x1 x2 x3 h w x g b (ix2 R D) = nrm (rs x0 x1 x2 x3 h w x R) (g (ix1 D)) (b (ix1 D)) D := by
  rw [val_main_v40_apply, val_main_v39_apply, val_main_v38_apply, val_main_v37_apply, val_main_v36_apply, val_main_v35_apply, val_main_v34_apply, v33_apply, v24_apply]
  refine congrArg₂ (fun p q => _ * p + q) (congrArg g ?_) (congrArg b ?_)
  · funext a; match a with
      | ⟨0, _⟩ => rfl
  · funext a; match a with
      | ⟨0, _⟩ => rfl

end

end Cert.GateOutRefIdeal.Val

namespace Cert.GateOutIdeal.Val

open Cert.GateOutIdeal Cert.GateOutIdeal.Gen Cert.Prod Idealize.ShloMosaic Idealize.ShloMosaic.TcCoe Idealize.SL.Sem

theorem algebraic : Cert.algebraic_GateOutIdeal_GateOutRefIdeal := by
  intro m ρ m' ρ' hpre hm
  refine ⟨fun c => cat m c, fun c => (fun i => gated (cat m c) (H m c) (i 0) (i 1) : Vec Ideal S8192x2048 .bf16), fun c => xoV m c, fun c => xoV m c,
    fun c => (fun i => res m c (i 0) (i 1) : Vec Ideal S8192x2048 .f32), (θ_run defs _ _).mono (fun r h c => ?_) (Value.run_blocks m ρ), ?_⟩
  · obtain ⟨r0, r1, r2, r3, r4, ha⟩ := h c
    exact ⟨r0.trans (final12 m c), r1.trans (final13 m c), r2.trans (final14 m c), r3.trans (final15 m c), r4.trans (final16 m c), ha⟩
  refine (θ_run Cert.GateOutRefIdeal.defs _ _).mono (fun r h c => ?_) (Cert.GateOutRefIdeal.Value.run (F := Ideal) m' ρ')
  obtain ⟨e0, e1, e2, e3, e4, e5, e6, e7, e8⟩ := hm c
  obtain ⟨r0, r1, r2, r3, r4, ha⟩ := h c
  refine ⟨?_, ?_, ?_, ?_, ?_, ha⟩
  · refine (r0.trans (Cert.GateOutRefIdeal.Read.val_main_v0_eq _ _ _ _)).trans ?_
    rw [e0, e1, e2, e3]
    exact Cert.GateOutRefIdeal.Val.cat_eq _ _ _ _
  · refine (r1.trans (Cert.GateOutRefIdeal.Read.val_main_v41_eq _ _ _ _ _)).trans ?_
    rw [e0, e1, e2, e3, e4]
    funext i
    obtain ⟨R, D, rfl⟩ := ix2_of i
    rw [Cert.GateOutRefIdeal.Read.val_main_v41_apply]
    exact Cert.GateOutRefIdeal.Val.gated_apply _ _ _ _ _ R D
  · refine (r2.trans (Cert.GateOutRefIdeal.Read.val_main_v40_eq m' c)).trans ?_
    rw [e0, e1, e2, e3, e4, e5, e6, e7, e8]
    funext i
    obtain ⟨R, D, rfl⟩ := ix2_of i
    exact Cert.GateOutRefIdeal.Val.v40_apply _ _ _ _ _ _ _ _ _ R D
  · refine (r3.trans (Cert.GateOutRefIdeal.Read.val_main_v42_eq m' c)).trans ?_
    rw [e0, e1, e2, e3, e4, e5, e6, e7, e8]
    funext i
    obtain ⟨R, D, rfl⟩ := ix2_of i
    rw [Cert.GateOutRefIdeal.Read.val_main_v42_apply]
    exact Cert.GateOutRefIdeal.Val.v40_apply _ _ _ _ _ _ _ _ _ R D
  · refine (r4.trans (Cert.GateOutRefIdeal.Read.val_main_v18_eq _ _ _ _ _ _ _)).trans ?_
    rw [e0, e1, e2, e3, e4, e5, e6]
    funext i
    obtain ⟨R, D, rfl⟩ := ix2_of i
    exact Cert.GateOutRefIdeal.Val.v18_apply _ _ _ _ _ _ _ R D

end Cert.GateOutIdeal.Val
-- ==== Proof.DGateVal.lean ====
module

public import proofs.«01_k».proof.Defs
public import proofs.«01_k».proof.Proof.Prod
public import proofs.«01_k».proof.Proof.Finite
public import proofs.«01_k».proof.Proof.Gen.Pre_finite_gate
public import proofs.«01_k».proof.Proof.Gen.DGateIdeal.Value
public import proofs.«01_k».proof.Proof.Gen.DGateRefIdeal.Run
public import proofs.«01_k».proof.Proof.Gen.DGateRefIdeal.Read

@[expose] public section

set_option maxRecDepth 16384

noncomputable section

namespace Cert.DGateIdeal.Val

open Cert.DGateIdeal Cert.DGateIdeal.Gen Cert.Prod Idealize.ShloMosaic Idealize.ShloMosaic.TcCoe Idealize.ShloMosaic.Tactic
open Idealize.SL.Sem
open Idealize.ShloMosaic.Pipeline (Dat Cfg Window)
open Cert.ReferenceIdeal.Val (IsR)
open scoped BigOperators

/-! ## The payloads, entry by entry -/

theorem one_bits : Ideal.ofBits .f32 0x3F800000#32 = 1 := by
  rw [show (1 : EReal) = ((1 : ℝ) : EReal) by norm_cast]
  simp [Ideal.ofBits, Ideal.ieee, -EReal.coe_mul]; norm_num

theorem pay1_eq (x : Vec Ideal S1024x2048 .f32) : k0_pay1 x = x := by
  unfold k0_pay1; exact shapeCast_id _ _

theorem pay2_apply (x : Vec Ideal S1024x2048 .bf16) (w : Vec Ideal S512x2048 .bf16) (r : Fin 1024) (d : Fin 512) :
    k0_pay2 x w (ix2 r d) = ∑ k : Fin 2048, x (ix2 r k) * w (ix2 d k) := by
  pointwise [k0_pay2]

theorem pay4_apply (x : Vec Ideal S1024x2048 .bf16) (w : Vec Ideal S512x2048 .bf16) (g : Vec Ideal S1024x512 .f32) (r : Fin 1024) (d : Fin 512) :
    k0_pay4 x w g (ix2 r d) = (∑ k : Fin 2048, x (ix2 r k) * w (ix2 d k)) * (g (ix2 r d) * Ideal.logistic (g (ix2 r d))) := by
  rw [← pay2_apply]; rfl

theorem pay5_apply (x : Vec Ideal S1024x2048 .bf16) (w : Vec Ideal S512x2048 .bf16) (g o : Vec Ideal S1024x512 .f32) (r : Fin 1024) (d : Fin 512) :
    k0_pay5 x w g o (ix2 r d) = (∑ k : Fin 2048, x (ix2 r k) * w (ix2 d k)) * o (ix2 r d) * (Ideal.logistic (g (ix2 r d)) * (1 + g (ix2 r d) * (1 - Ideal.logistic (g (ix2 r d))))) := by
  rw [← pay2_apply, ← one_bits]; rfl

/-! ## What a point leaves -/

section
variable (c : Dev nD) (i : grid0.Coords) (arg2 : Memref sig .tc .vmem S1024x2048 .f32) (harg2 : arg2.IsWhole) (arg3 : Memref sig .tc .vmem S512x2048 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x2048 .bf16) (harg8 : arg8.IsWhole)
  (x0 : Vec Ideal S1024x2048 .f32) (x1 : Vec Ideal S512x2048 .bf16) (x2 x3 : Vec Ideal S1024x512 .f32) (xs : Vec Ideal S1024x2048 .bf16)

theorem sA (hc0 : cond0_0 i) :
    sout0_A_0 (F := Ideal) c i arg2 harg2 arg3 harg3 arg4 harg4 arg5 harg5 arg6 harg6 arg7 harg7 arg8 harg8 hc0 x0 x1 x2 x3 = x0 := by
  refine (stored VS0_0 _ _ _).trans ?_
  refine (pay1_eq _).trans ?_
  exact (loaded arg2.view _ _).trans (harg2.read_unread x0)

theorem congr3 {α β γ δ : Type*} (f : α → β → γ → δ) {a a' : α} {b b' : β} {g g' : γ} (ha : a = a') (hb : b = b') (hg : g = g') : f a b g = f a' b' g' := by
  rw [ha, hb, hg]

theorem o4A (hc0 : cond0_0 i) :
    out0_A_4 (F := Ideal) c i arg2 harg2 arg3 harg3 arg4 harg4 arg5 harg5 arg6 harg6 arg7 harg7 arg8 harg8 hc0 x0 x1 x2 x3 = k0_pay4 x0 x1 x3 := by
  refine (stored VO0_4 _ _ _).trans ?_
  exact congr3 k0_pay4 ((loaded arg8.view _ _).trans ((stored arg8.view _ _ _).trans ((pay1_eq _).trans ((loaded arg2.view _ _).trans (harg2.read_unread x0)))))
    ((loaded arg3.view _ _).trans (harg3.read_unread x1)) ((loaded arg5.view _ _).trans (harg5.read_unread x3))

theorem o5A (hc0 : cond0_0 i) :
    out0_A_5 (F := Ideal) c i arg2 harg2 arg3 harg3 arg4 harg4 arg5 harg5 arg6 harg6 arg7 harg7 arg8 harg8 hc0 x0 x1 x2 x3 = k0_pay5 x0 x1 x3 x2 := by
  refine (stored VO0_5 _ _ _).trans ?_
  refine congr (congr3 k0_pay5 ((loaded arg8.view _ _).trans ((stored arg8.view _ _ _).trans ((pay1_eq _).trans ((loaded arg2.view _ _).trans (harg2.read_unread x0)))))
    ((loaded arg3.view _ _).trans (harg3.read_unread x1)) ((loaded arg5.view _ _).trans (harg5.read_unread x3))) ((loaded arg4.view _ _).trans (harg4.read_unread x2))

theorem sB (hc0 : ¬cond0_0 i) :
    sout0_B_0 (F := Ideal) c i arg2 harg2 arg3 harg3 arg4 harg4 arg5 harg5 arg6 harg6 arg7 harg7 arg8 harg8 hc0 x0 x1 x2 x3 xs = xs := by
  unfold sout0_B_0
  first | rfl | exact harg8.read_unread xs

theorem o4B (hc0 : ¬cond0_0 i) :
    out0_B_4 (F := Ideal) c i arg2 harg2 arg3 harg3 arg4 harg4 arg5 harg5 arg6 harg6 arg7 harg7 arg8 harg8 hc0 x0 x1 x2 x3 xs = k0_pay4 xs x1 x3 := by
  refine (stored VO0_4 _ _ _).trans ?_
  exact congr3 k0_pay4 ((loaded arg8.view _ _).trans (harg8.read_unread xs)) ((loaded arg3.view _ _).trans (harg3.read_unread x1)) ((loaded arg5.view _ _).trans (harg5.read_unread x3))

theorem o5B (hc0 : ¬cond0_0 i) :
    out0_B_5 (F := Ideal) c i arg2 harg2 arg3 harg3 arg4 harg4 arg5 harg5 arg6 harg6 arg7 harg7 arg8 harg8 hc0 x0 x1 x2 x3 xs = k0_pay5 xs x1 x3 x2 := by
  refine (stored VO0_5 _ _ _).trans ?_
  exact congr (congr3 k0_pay5 ((loaded arg8.view _ _).trans (harg8.read_unread xs)) ((loaded arg3.view _ _).trans (harg3.read_unread x1)) ((loaded arg5.view _ _).trans (harg5.read_unread x3))) ((loaded arg4.view _ _).trans (harg4.read_unread x2))

end

variable (m : (ℓ : Loc nD τ sig) → Buf (Elt Ideal) ℓ) (ρ : Dev nD → PrngReg)

theorem idx0 : ∀ t : Fin cfg0.N, win0_0.index t = ![t.val / 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![t.val / 4, 7 + t.val % 4] := (by decide +kernel : ∀ t : Fin grid0.N, _)
theorem idx4 : ∀ t : Fin cfg0.N, win0_4.index t = ![t.val / 4, t.val % 4] := (by decide +kernel : ∀ t : Fin grid0.N, _)
theorem idx5 : ∀ t : Fin cfg0.N, win0_5.index t = ![t.val / 4, t.val % 4] := (by decide +kernel : ∀ t : Fin grid0.N, _)

variable (c : Dev nD) (t : Fin cfg0.N)

theorem t_lt : t.val < 32 := Nat.lt_of_lt_of_eq t.isLt N_0

theorem emb0 (r : Fin 1024) (k : Fin 2048) (R : Fin 8192) (hR : R.val = 1024 * (t.val / 4) + r.val) :
    ((cfg0.win 0).blk t).view.emb (ix2 r k) = ix2 R k := by
  blk_ext [idx0 t]

theorem emb1 (d : Fin 512) (k D : Fin 2048) (hD : D.val = 512 * (t.val % 4) + d.val) :
    ((cfg0.win 1).blk t).view.emb (ix2 d k) = ix2 D k := by
  blk_ext [idx1 t]

theorem emb2 (r : Fin 1024) (d : Fin 512) (R : Fin 8192) (D : Fin 2048) (hR : R.val = 1024 * (t.val / 4) + r.val) (hD : D.val = 512 * (t.val % 4) + d.val) :
    ((cfg0.win 2).blk t).view.emb (ix2 r d) = ix2 R D := by
  blk_ext [idx2 t]

theorem emb3 (r : Fin 1024) (d : Fin 512) (R : Fin 8192) (D : Fin 5760) (hR : R.val = 1024 * (t.val / 4) + r.val) (hD : D.val = 3584 + (512 * (t.val % 4) + d.val))
    (y : ((cfg0.win 3).xblock (cfg0.grid.coords t)).Idx) (h0 : (y 0).val = r.val) (h1 : (y 1).val = d.val) :
    ((cfg0.win 3).blk t).view.emb y = ix2 R D := by
  blk_ext [idx3 t]

theorem emb4 (r : Fin 1024) (d : Fin 512) (R : Fin 8192) (D : Fin 2048) (hR : R.val = 1024 * (t.val / 4) + r.val) (hD : D.val = 512 * (t.val % 4) + d.val) :
    ((cfg0.win 4).blk t).view.emb (ix2 r d) = ix2 R D := by
  blk_ext [idx4 t]

theorem emb5 (r : Fin 1024) (d : Fin 512) (R : Fin 8192) (D : Fin 2048) (hR : R.val = 1024 * (t.val / 4) + r.val) (hD : D.val = 512 * (t.val % 4) + d.val) :
    ((cfg0.win 5).blk t).view.emb (ix2 r d) = ix2 R D := by
  blk_ext [idx5 t]

/-- The gradient that comes in, the output projection's weight, the branches and the state. -/
abbrev X : Vec Ideal S8192x2048 .f32 := m ((c.tc : Thread nD τ).loc main_arg0)
abbrev W : Vec Ideal S2048x2048 .f32 := m ((c.tc : Thread nD τ).loc main_arg1)
abbrev O : Vec Ideal S8192x2048 .f32 := m ((c.tc : Thread nD τ).loc main_arg2)
abbrev H : Vec Ideal S8192x5760 .f32 := m ((c.tc : Thread nD τ).loc main_arg3)

theorem V_W : (V m c main_v0 : Vec Ideal S2048x2048 .bf16) = W m c := by
  entry_read
  rfl

theorem blk0 (r : Fin 1024) (k : Fin 2048) (R : Fin 8192) (hR : R.val = 1024 * (t.val / 4) + r.val) : iblk m c 0 t (ix2 r k) = X m c (ix2 R k) := by
  unfold X
  rw [← V_main_arg0 m c]
  exact congrArg (V m c main_arg0) (emb0 t r k R hR)

theorem blk1 (d : Fin 512) (k D : Fin 2048) (hD : D.val = 512 * (t.val % 4) + d.val) : iblk m c 1 t (ix2 d k) = W m c (ix2 D k) := by
  rw [← V_W m c]
  exact congrArg (V m c main_v0) (emb1 t d k D hD)

theorem blk2 (r : Fin 1024) (d : Fin 512) (R : Fin 8192) (D : Fin 2048) (hR : R.val = 1024 * (t.val / 4) + r.val) (hD : D.val = 512 * (t.val % 4) + d.val) :
    iblk m c 2 t (ix2 r d) = O m c (ix2 R D) := by
  unfold O
  rw [← V_main_arg2 m c]
  exact congrArg (V m c main_arg2) (emb2 t r d R D hR hD)

/-- The block of the state that a point reads: the gate's columns begin at 3584. -/
theorem blk3 (r : Fin 1024) (d : Fin 512) (R : Fin 8192) (D : Fin 5760) (hR : R.val = 1024 * (t.val / 4) + r.val) (hD : D.val = 3584 + (512 * (t.val % 4) + d.val)) :
    X0_3 m c t (ix2 r d) = H m c (ix2 R D) := by
  unfold H
  rw [← V_main_arg3 m c]
  unfold X0_3 Window.fill
  rw [dif_pos (moved0_3 t (ix2 r d))]
  exact congrArg (V m c main_arg3) (emb3 t r d R D hR hD _ rfl rfl)

/-! ## The scratch keeps the rows of the incoming gradient, and what each point writes -/

abbrev kept (c : Dev nD) (t : Fin cfg0.N) : Vec Ideal S1024x2048 .bf16 := (outsAt0 m c t.val t.isLt).2.2
abbrev prev (c : Dev nD) (t : Fin cfg0.N) : Vec Ideal S1024x2048 .bf16 := (outsAt0 m c (t.val - 1) (Nat.lt_of_le_of_lt (Nat.sub_le _ _) t.isLt)).2.2

theorem keptA (h0 : t.val % 4 = 0) : kept m c t = iblk m c 0 t := by
  refine (congrArg (fun p => p.2.2) (outsAt0_A m c t h0)).trans ?_
  dsimp only
  exact sA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (X0_3 m c t) _

theorem keptB (h0 : ¬t.val % 4 = 0) : kept m c t = prev m c t := by
  refine (congrArg (fun p => p.2.2) (outsAt0_B m c t h0)).trans ?_
  dsimp only
  exact sB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (X0_3 m c t) (prev m c t) _

theorem out4 : (outsAt0 m c t.val t.isLt).1 = k0_pay4 (kept m c t) (iblk m c 1 t) (X0_3 m c t) := by
  by_cases h0 : t.val % 4 = 0
  · rw [keptA m c t h0]
    refine (congrArg (fun p => p.1) (outsAt0_A m c t h0)).trans ?_
    dsimp only
    exact o4A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (X0_3 m c t) _
  · rw [keptB m c t h0]
    refine (congrArg (fun p => p.1) (outsAt0_B m c t h0)).trans ?_
    dsimp only
    exact o4B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (X0_3 m c t) (prev m c t) _

theorem out5 : (outsAt0 m c t.val t.isLt).2.1 = k0_pay5 (kept m c t) (iblk m c 1 t) (X0_3 m c t) (iblk m c 2 t) := by
  by_cases h0 : t.val % 4 = 0
  · rw [keptA m c t h0]
    refine (congrArg (fun p => p.2.1) (outsAt0_A m c t h0)).trans ?_
    dsimp only
    exact o5A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (X0_3 m c t) _
  · rw [keptB m c t h0]
    refine (congrArg (fun p => p.2.1) (outsAt0_B m c t h0)).trans ?_
    dsimp only
    exact o5B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (X0_3 m c t) (prev m c t) _

theorem kept_apply (r : Fin 1024) (k : Fin 2048) (R : Fin 8192) (n : ℕ) : ∀ (hn : n < cfg0.N) (hR : R.val = 1024 * (n / 4) + r.val), kept m c ⟨n, hn⟩ (ix2 r k) = X m c (ix2 R k) := by
  induction n with
  | zero =>
    intro hn hR
    rw [keptA m c ⟨0, hn⟩ rfl]
    exact blk0 m c ⟨0, hn⟩ r k R hR
  | succ n ih =>
    intro hn hR
    by_cases h0 : (n + 1) % 4 = 0
    · rw [keptA m c ⟨n + 1, hn⟩ h0]
      exact blk0 m c ⟨n + 1, hn⟩ r k R hR
    · rw [keptB m c ⟨n + 1, hn⟩ h0]
      exact ih (Nat.lt_of_succ_lt hn) (by rw [hR]; congr 2; omega)

/-! ## The two arrays after the run -/

/-- The gate's column in the state. -/
abbrev col (D : Fin 2048) : Fin 5760 := ⟨3584 + D.val, by omega⟩

/-- The gradient that passes the output projection. -/
def dy (x : Vec Ideal S8192x2048 .f32) (w : Vec Ideal S2048x2048 .f32) (R : Fin 8192) (D : Fin 2048) : EReal := ∑ k : Fin 2048, x (ix2 R k) * w (ix2 D k)

def dO : Vec Ideal S8192x2048 .f32 := fun i => dy (X m c) (W m c) (i 0) (i 1) * (H m c (ix2 (i 0) (col (i 1))) * Ideal.logistic (H m c (ix2 (i 0) (col (i 1)))))

def dG : Vec Ideal S8192x2048 .f32 := fun i => dy (X m c) (W m c) (i 0) (i 1) * O m c (ix2 (i 0) (i 1)) *
  (Ideal.logistic (H m c (ix2 (i 0) (col (i 1)))) * (1 + H m c (ix2 (i 0) (col (i 1))) * (1 - Ideal.logistic (H m c (ix2 (i 0) (col (i 1)))))))

theorem sum_apply (r : Fin 1024) (d : Fin 512) (R : Fin 8192) (D : Fin 2048) (hR : R.val = 1024 * (t.val / 4) + r.val) (hD : D.val = 512 * (t.val % 4) + d.val) :
    ∑ k : Fin 2048, kept m c t (ix2 r k) * (iblk m c 1 t : Vec Ideal S512x2048 .bf16) (ix2 d k) = dy (X m c) (W m c) R D := by
  refine Finset.sum_congr rfl fun k _ => ?_
  exact congrArg₂ (· * ·) (kept_apply m c r k R t.val t.isLt hR) (blk1 m c t d k D hD)

theorem final4 : (dats m 0 c).arrAt 4 cfg0.N = dO m c := by
  refine (dats m 0 c).arrAt_eq_of_covers 4 _ (by decide +kernel) fun t _ y => ?_
  have ht := t_lt t
  rw [after0_4, out4]
  obtain ⟨r, d, rfl⟩ := ix2_of y
  rw [emb4 t r d ⟨1024 * (t.val / 4) + r.val, by omega⟩ ⟨512 * (t.val % 4) + d.val, by omega⟩ rfl rfl]
  refine (pay4_apply _ _ _ r d).trans ?_
  rw [sum_apply m c t r d ⟨1024 * (t.val / 4) + r.val, by omega⟩ ⟨512 * (t.val % 4) + d.val, by omega⟩ rfl rfl, blk3 m c t r d ⟨1024 * (t.val / 4) + r.val, by omega⟩ ⟨3584 + (512 * (t.val % 4) + d.val), by omega⟩ rfl rfl]
  rfl

theorem final5 : (dats m 0 c).arrAt 5 cfg0.N = dG m c := by
  refine (dats m 0 c).arrAt_eq_of_covers 5 _ (by decide +kernel) fun t _ y => ?_
  have ht := t_lt t
  rw [after0_5, out5]
  obtain ⟨r, d, rfl⟩ := ix2_of y
  rw [emb5 t r d ⟨1024 * (t.val / 4) + r.val, by omega⟩ ⟨512 * (t.val % 4) + d.val, by omega⟩ rfl rfl]
  refine (pay5_apply _ _ _ _ r d).trans ?_
  rw [sum_apply m c t r d ⟨1024 * (t.val / 4) + r.val, by omega⟩ ⟨512 * (t.val % 4) + d.val, by omega⟩ rfl rfl, blk3 m c t r d ⟨1024 * (t.val / 4) + r.val, by omega⟩ ⟨3584 + (512 * (t.val % 4) + d.val), by omega⟩ rfl rfl,
    blk2 m c t r d ⟨1024 * (t.val / 4) + r.val, by omega⟩ ⟨512 * (t.val % 4) + d.val, by omega⟩ rfl rfl]
  rfl

end Cert.DGateIdeal.Val

namespace Cert.DGateRefIdeal.Val

open Cert.DGateRefIdeal Cert.DGateRefIdeal.Gen Cert.DGateRefIdeal.Read Idealize.ShloMosaic Idealize.ShloMosaic.TcCoe Idealize.ShloMosaic.Tactic
open Cert.ReferenceIdeal.Val (IsR)
open Cert.DGateIdeal.Val (col dy one_bits)
open scoped BigOperators

/-! ## The reference, entry by entry -/

variable (x : Vec Ideal S8192x2048 .f32) (w : Vec Ideal S2048x2048 .f32) (o : Vec Ideal S8192x2048 .f32) (h : Vec Ideal S8192x5760 .f32) (R : Fin 8192) (D : Fin 2048)

theorem gate_apply : val_main_v0 (F := Ideal) h (ix2 R D) = h (ix2 R (col D)) := by
  rw [val_main_v0_apply]
  refine congrArg h ?_
  funext a; match a with
    | ⟨0, _⟩ => rfl
    | ⟨1, _⟩ => rfl

theorem sig_apply : val_main_v1_2 (F := Ideal) h (ix2 R D) = Ideal.logistic (h (ix2 R (col D))) := by
  rw [val_main_v1_2_apply, val_main_call0_v4_apply, val_main_call0_v3_apply, val_main_call0_v2_apply, val_main_call0_v1_apply, val_main_call0_v0_apply,
    val_main_call0_cst_apply, val_main_call0_cst_0_apply, gate_apply]
  show Ideal.div (Ideal.ofBits .f32 0x3F800000#32) (Ideal.ofBits .f32 0x3F800000#32 + Ideal.exp (-h (ix2 R (col D)))) = _
  rw [one_bits]
  rfl

theorem dy_apply : val_main_v4 (F := Ideal) x w (ix2 R D) = dy x w R D := by
  rw [val_main_v4_apply]
  refine Finset.sum_congr rfl fun k _ => ?_
  refine congrArg₂ (· * ·) (congrArg x ?_) (congrArg w ?_)
  · funext a; match a with
      | ⟨0, _⟩ => rfl
      | ⟨1, _⟩ => rfl
  · funext a; match a with
      | ⟨0, _⟩ => rfl
      | ⟨1, _⟩ => rfl

theorem do_apply : val_main_v6 (F := Ideal) x w h (ix2 R D) = dy x w R D * (h (ix2 R (col D)) * Ideal.logistic (h (ix2 R (col D)))) := by
  rw [val_main_v6_apply, val_main_v1_0_apply, dy_apply, sig_apply, gate_apply]
  rfl

theorem dg_apply : val_main_v7 (F := Ideal) x w o h (ix2 R D) = o (ix2 R D) * dy x w R D * Ideal.logistic (h (ix2 R (col D)))
    + h (ix2 R (col D)) * (o (ix2 R D) * dy x w R D) * (Ideal.logistic (h (ix2 R (col D))) * (1 - Ideal.logistic (h (ix2 R (col D))))) := by
  rw [val_main_v7_apply, val_main_call1_v1_apply, val_main_call1_v2_apply, val_main_call1_v0_apply, val_main_v5_apply, val_main_v1_1_apply,
    val_main_call0_v7_apply, val_main_call0_v6_apply, val_main_call0_cst_1_apply, dy_apply, sig_apply, gate_apply]
  show _ + _ * (_ * (Ideal.ofBits .f32 0x3F800000#32 - _)) = _
  rw [one_bits]
  rfl

/-- The two ways of writing the gate's derivative agree at a real factor, the gate being any extended real. -/
theorem gate_grad (a g : EReal) (ha : IsR a) : a * Ideal.logistic g + g * a * (Ideal.logistic g * (1 - Ideal.logistic g)) = a * (Ideal.logistic g * (1 + g * (1 - Ideal.logistic g))) := by
  obtain ⟨r, rfl⟩ := ha
  induction g using EReal.rec with
  | bot => simp
  | coe y =>
    rw [Ideal.logistic_coe]
    norm_cast
    ring
  | top =>
    have e : (1 : EReal) - 1 = 0 := EReal.sub_self (EReal.coe_ne_top 1) (EReal.coe_ne_bot 1)
    rw [Ideal.logistic_top, e]
    simp

/-- A finite sum of reals is real. -/
theorem sum_real {n : ℕ} (f : Fin n → EReal) (hf : ∀ k, IsR (f k)) : IsR (∑ k, f k) := by
  refine Finset.sum_induction f IsR (fun _ _ => IsR.add) ⟨0, rfl⟩ (fun k _ => hf k)

theorem real_of (g : FVec Ideal S8192x5760 .f32) (hp : Cert.Pre_finite_gate.fn (F := Ideal) x w o g = (fun _ => 1#1)) :
    (∀ R k, IsR (x (ix2 R k))) ∧ (∀ D k, IsR (w (ix2 D k))) ∧ ∀ R D, IsR (o (ix2 R D)) := by
  have h0 := congrFun hp ix0
  obtain ⟨h1, ho⟩ := Cert.ReferenceIdeal.Val.and_one _ _ (show IntOp.andi _ _ = 1#1 from h0)
  obtain ⟨hx, hw⟩ := Cert.ReferenceIdeal.Val.and_one _ _ (show IntOp.andi _ _ = 1#1 from h1)
  haveI : Subsingleton Cert.Pre_finite_gate.S_.Idx := ⟨fun a b => funext fun x => x.elim0⟩
  refine ⟨fun R k => ?_, fun D k => ?_, fun R D => ?_⟩
  · exact Cert.ReferenceIdeal.Val.cmp_real _ (Host.reduce_andi_all _ _ _ _ _ hx (ix2 R k))
  · exact Cert.ReferenceIdeal.Val.cmp_real _ (Host.reduce_andi_all _ _ _ _ _ hw (ix2 D k))
  · exact Cert.ReferenceIdeal.Val.cmp_real _ (Host.reduce_andi_all _ _ _ _ _ ho (ix2 R D))

end Cert.DGateRefIdeal.Val

namespace Cert.DGateIdeal.Val

open Cert.DGateIdeal Cert.DGateIdeal.Gen Cert.Prod Idealize.ShloMosaic Idealize.ShloMosaic.TcCoe Idealize.SL.Sem
open Cert.ReferenceIdeal.Val (IsR)

theorem algebraic : Cert.algebraic_DGateIdeal_DGateRefIdeal_pre_finite_gate := by
  intro m ρ m' ρ' hpre hm
  refine ⟨fun c => dO m c, fun c => dG m c, (θ_run defs _ _).mono (fun r h c => ?_) (Value.run_blocks m ρ), ?_⟩
  · obtain ⟨r0, r1, ha⟩ := h c
    exact ⟨r0.trans (final4 m c), r1.trans (final5 m c), ha⟩
  refine (θ_run Cert.DGateRefIdeal.defs _ _).mono (fun r h c => ?_) (Cert.DGateRefIdeal.Value.run (F := Ideal) m' ρ')
  obtain ⟨e0, e1, e2, e3⟩ := hm c
  obtain ⟨r0, r1, ha⟩ := h c
  obtain ⟨fx, fw, fo⟩ := Cert.DGateRefIdeal.Val.real_of _ _ _ _ (hpre c)
  refine ⟨?_, ?_, ha⟩
  · refine (r0.trans (Cert.DGateRefIdeal.Read.val_main_v6_eq _ _ _)).trans ?_
    rw [e0, e1, e3]
    funext i
    obtain ⟨R, D, rfl⟩ := ix2_of i
    exact Cert.DGateRefIdeal.Val.do_apply _ _ _ R D
  · refine (r1.trans (Cert.DGateRefIdeal.Read.val_main_v7_eq _ _ _ _)).trans ?_
    rw [e0, e1, e2, e3]
    funext i
    obtain ⟨R, D, rfl⟩ := ix2_of i
    refine (Cert.DGateRefIdeal.Val.dg_apply _ _ _ _ R D).trans ?_
    have hr : IsR (O m c (ix2 R D) * dy (X m c) (W m c) R D) :=
      (fo R D).mul (Cert.DGateRefIdeal.Val.sum_real _ fun k => (fx R k).mul (fw D k))
    refine (Cert.DGateRefIdeal.Val.gate_grad _ _ hr).trans ?_
    rw [mul_comm (O m c (ix2 R D))]
    rfl

end Cert.DGateIdeal.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite
public import proofs.«01_k».proof.Proof.Final
public import proofs.«01_k».proof.Proof.Gen.GateOut
public import proofs.«01_k».proof.Proof.Gen.GateOut.Skeleton
public import proofs.«01_k».proof.Proof.Gen.GateOut.Launch
public import proofs.«01_k».proof.Proof.Gen.GateOut.Points
public import proofs.«01_k».proof.Proof.Gen.GateOut.Frame
public import proofs.«01_k».proof.Proof.Gen.GateOutIdeal
public import proofs.«01_k».proof.Proof.Gen.GateOutIdeal.Skeleton
public import proofs.«01_k».proof.Proof.Gen.GateOutIdeal.Launch
public import proofs.«01_k».proof.Proof.Gen.GateOutIdeal.Points
public import proofs.«01_k».proof.Proof.Gen.GateOutIdeal.Frame
public import proofs.«01_k».proof.Proof.Gen.GateOutIdeal.Value
public import proofs.«01_k».proof.Proof.Gen.GateOutRefIdeal
public import proofs.«01_k».proof.Proof.Gen.GateOutRefIdeal.Run
public import proofs.«01_k».proof.Proof.Gen.GateOutRefIdeal.Read
public import proofs.«01_k».proof.Proof.Gen.DGate
public import proofs.«01_k».proof.Proof.Gen.DGate.Skeleton
public import proofs.«01_k».proof.Proof.Gen.DGate.Launch
public import proofs.«01_k».proof.Proof.Gen.DGate.Points
public import proofs.«01_k».proof.Proof.Gen.DGate.Frame
public import proofs.«01_k».proof.Proof.Gen.DGateIdeal
public import proofs.«01_k».proof.Proof.Gen.DGateIdeal.Skeleton
public import proofs.«01_k».proof.Proof.Gen.DGateIdeal.Launch
public import proofs.«01_k».proof.Proof.Gen.DGateIdeal.Points
public import proofs.«01_k».proof.Proof.Gen.DGateIdeal.Frame
public import proofs.«01_k».proof.Proof.Gen.DGateIdeal.Value
public import proofs.«01_k».proof.Proof.Gen.DGateRefIdeal
public import proofs.«01_k».proof.Proof.Gen.DGateRefIdeal.Run
public import proofs.«01_k».proof.Proof.Gen.DGateRefIdeal.Read
public import proofs.«01_k».proof.Proof.Gen.Pre_finite_gate
public import proofs.«01_k».proof.Proof.DwInVal
public import proofs.«01_k».proof.Proof.DInProjVal
public import proofs.«01_k».proof.Proof.InProjVal
public import proofs.«01_k».proof.Proof.DwOutVal
public import proofs.«01_k».proof.Proof.GateOutVal
public import proofs.«01_k».proof.Proof.DGateVal
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwInRefIdeal.Read
public import proofs.«01_k».proof.Proof.Gen.DInProj
public import proofs.«01_k».proof.Proof.Gen.DInProj.Skeleton
public import proofs.«01_k».proof.Proof.Gen.DInProj.Launch
public import proofs.«01_k».proof.Proof.Gen.DInProj.Points
public import proofs.«01_k».proof.Proof.Gen.DInProj.Frame
public import proofs.«01_k».proof.Proof.Gen.DInProjIdeal
public import proofs.«01_k».proof.Proof.Gen.DInProjIdeal.Skeleton
public import proofs.«01_k».proof.Proof.Gen.DInProjIdeal.Launch
public import proofs.«01_k».proof.Proof.Gen.DInProjIdeal.Points
public import proofs.«01_k».proof.Proof.Gen.DInProjIdeal.Frame
public import proofs.«01_k».proof.Proof.Gen.DInProjIdeal.Value
public import proofs.«01_k».proof.Proof.Gen.DInProjRefIdeal
public import proofs.«01_k».proof.Proof.Gen.DInProjRefIdeal.Run
public import proofs.«01_k».proof.Proof.Gen.DInProjRefIdeal.Read
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import Idealize.ShloMosaic.Adequacy
public import Idealize.ShloMosaic.Init

@[expose] public section

noncomputable section

namespace Cert.Proof

open Idealize.ShloMosaic Idealize.SL.Sem Cert.Kernel

/-- The kernel's frame: it terminates without a fault, leaves its arguments as they were and every counter at zero. -/
theorem frame_p : Cert.quiescent_Kernel := fun m ρ _ => Cert.Kernel.Gen.frame m ρ

/-- The idealized kernel's frame. -/
theorem frame_pi : Cert.quiescent_KernelIdeal := fun m ρ _ => Cert.KernelIdeal.Gen.frame m ρ

/-- The reference's frame: its run read at its arguments; it declares no semaphore. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The literal -1e30 of the kernel's mask, named as minus infinity. -/
theorem preserves : Cert.preserves_Kernel_KernelIdeal :=
  IdealRules.named_const.statement Cert.KernelIdeal.κ "mask" .f32 0xF149F2CA#32 ⊥ rfl

/-- The frame of the input projection's weight gradient. -/
theorem frame_DwIn : Cert.quiescent_DwIn := fun m ρ _ => Cert.DwIn.Gen.frame m ρ

theorem frame_DwInIdeal : Cert.quiescent_DwInIdeal := fun m ρ _ => Cert.DwInIdeal.Gen.frame m ρ

theorem frame_DwInRefIdeal : Cert.quiescent_DwInRefIdeal := fun m ρ _ =>
  (θ_run Cert.DwInRefIdeal.defs _ _).mono (fun r h => ⟨fun c => (h c).2,
      Idealize.ShloMosaic.sem_eq_zero_of_no_sems (by decide) r.2⟩)
    (Cert.DwInRefIdeal.Value.run (F := Ideal) m ρ)

/-- The frame of the input projection's input gradient. -/
theorem frame_DInProj : Cert.quiescent_DInProj := fun m ρ _ => Cert.DInProj.Gen.frame m ρ

theorem frame_DInProjIdeal : Cert.quiescent_DInProjIdeal := fun m ρ _ => Cert.DInProjIdeal.Gen.frame m ρ

theorem frame_DInProjRefIdeal : Cert.quiescent_DInProjRefIdeal := fun m ρ _ =>
  (θ_run Cert.DInProjRefIdeal.defs _ _).mono (fun r h => ⟨fun c => (h c).2,
      Idealize.ShloMosaic.sem_eq_zero_of_no_sems (by decide) r.2⟩)
    (Cert.DInProjRefIdeal.Value.run (F := Ideal) m ρ)

/-- The frame of the input projection. -/
theorem frame_InProj : Cert.quiescent_InProj := fun m ρ _ => Cert.InProj.Gen.frame m ρ

theorem frame_InProjIdeal : Cert.quiescent_InProjIdeal := fun m ρ _ => Cert.InProjIdeal.Gen.frame m ρ

theorem frame_InProjRefIdeal : Cert.quiescent_InProjRefIdeal := fun m ρ _ =>
  (θ_run Cert.InProjRefIdeal.defs _ _).mono (fun r h => ⟨fun c => (h c).2,
      Idealize.ShloMosaic.sem_eq_zero_of_no_sems (by decide) r.2⟩)
    (Cert.InProjRefIdeal.Value.run (F := Ideal) m ρ)

/-- The frame of the output projection's weight gradient. -/
theorem frame_DwOut : Cert.quiescent_DwOut := fun m ρ _ => Cert.DwOut.Gen.frame m ρ

theorem frame_DwOutIdeal : Cert.quiescent_DwOutIdeal := fun m ρ _ => Cert.DwOutIdeal.Gen.frame m ρ

theorem frame_DwOutRefIdeal : Cert.quiescent_DwOutRefIdeal := fun m ρ _ =>
  (θ_run Cert.DwOutRefIdeal.defs _ _).mono (fun r h => ⟨fun c => (h c).2,
      Idealize.ShloMosaic.sem_eq_zero_of_no_sems (by decide) r.2⟩)
    (Cert.DwOutRefIdeal.Value.run (F := Ideal) m ρ)

/-- The frame of the gate, the output projection and the layer norm. -/
theorem frame_GateOut : Cert.quiescent_GateOut := fun m ρ _ => Cert.GateOut.Gen.frame m ρ

theorem frame_GateOutIdeal : Cert.quiescent_GateOutIdeal := fun m ρ _ => Cert.GateOutIdeal.Gen.frame m ρ

theorem frame_GateOutRefIdeal : Cert.quiescent_GateOutRefIdeal := fun m ρ _ =>
  (θ_run Cert.GateOutRefIdeal.defs _ _).mono (fun r h => ⟨fun c => (h c).2.2.2.2.2,
      Idealize.ShloMosaic.sem_eq_zero_of_no_sems (by decide) r.2⟩)
    (Cert.GateOutRefIdeal.Value.run (F := Ideal) m ρ)

/-- The frame of the gate's and the output projection's input gradient. -/
theorem frame_DGate : Cert.quiescent_DGate := fun m ρ _ => Cert.DGate.Gen.frame m ρ

theorem frame_DGateIdeal : Cert.quiescent_DGateIdeal := fun m ρ _ => Cert.DGateIdeal.Gen.frame m ρ

theorem frame_DGateRefIdeal : Cert.quiescent_DGateRefIdeal := fun m ρ _ =>
  (θ_run Cert.DGateRefIdeal.defs _ _).mono (fun r h => ⟨fun c => (h c).2.2,
      Idealize.ShloMosaic.sem_eq_zero_of_no_sems (by decide) r.2⟩)
    (Cert.DGateRefIdeal.Value.run (F := Ideal) m ρ)

/-- Everything claimed: the frames, the named literal, the attention's three gradients' equality from finite arguments,
    the equality of the four products of the projections and of the gated output projection with its layer norm from any arguments,
    and the equality of the gate's gradients from a finite gradient, weight and branch output. -/
theorem claim : Cert.Claim := ⟨Cert.Kernel.Gen.facts, Cert.KernelIdeal.Gen.facts, Cert.ReferenceIdeal.Gen.facts, Cert.DwIn.Gen.facts, Cert.DwInIdeal.Gen.facts, Cert.DwInRefIdeal.Gen.facts, Cert.DInProj.Gen.facts, Cert.DInProjIdeal.Gen.facts, Cert.DInProjRefIdeal.Gen.facts, Cert.InProj.Gen.facts, Cert.InProjIdeal.Gen.facts, Cert.InProjRefIdeal.Gen.facts, Cert.DwOut.Gen.facts, Cert.DwOutIdeal.Gen.facts, Cert.DwOutRefIdeal.Gen.facts, Cert.GateOut.Gen.facts, Cert.GateOutIdeal.Gen.facts, Cert.GateOutRefIdeal.Gen.facts, Cert.DGate.Gen.facts, Cert.DGateIdeal.Gen.facts, Cert.DGateRefIdeal.Gen.facts, Cert.Pre_finite.Gen.facts, Cert.Pre_finite_gate.Gen.facts,
  frame_p, frame_pi, fun m ρ _ => frame_pi m ρ trivial, frame_ri, fun m ρ _ => frame_ri m ρ trivial,
  frame_DwIn, frame_DwInIdeal, frame_DwInRefIdeal, frame_DInProj, frame_DInProjIdeal, frame_DInProjRefIdeal, frame_InProj, frame_InProjIdeal, frame_InProjRefIdeal, frame_DwOut, frame_DwOutIdeal, frame_DwOutRefIdeal, frame_GateOut, frame_GateOutIdeal, frame_GateOutRefIdeal, frame_DGate, frame_DGateIdeal, fun m ρ _ => frame_DGateIdeal m ρ trivial, frame_DGateRefIdeal, fun m ρ _ => frame_DGateRefIdeal m ρ trivial,
  preserves, Cert.KernelIdeal.Val.algebraic, trivial, Cert.DwInIdeal.Val.algebraic, trivial, Cert.DInProjIdeal.Val.algebraic, trivial, Cert.InProjIdeal.Val.algebraic, trivial, Cert.DwOutIdeal.Val.algebraic, trivial, Cert.GateOutIdeal.Val.algebraic, trivial, Cert.DGateIdeal.Val.algebraic⟩

end Cert.Proof

end
